-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7)
      ∧ r.2.mem ((c.tc : Thread Cert.Grad.nD Cert.Grad.τ).loc Cert.Grad.main_arg8) = m ((c.tc : Thread Cert.Grad.nD Cert.Grad.τ).loc Cert.Grad.main_arg8)
      ∧ r.2.mem ((c.tc : Thread Cert.Grad.nD Cert.Grad.τ).loc Cert.Grad.main_arg9) = m ((c.tc : Thread Cert.Grad.nD Cert.Grad.τ).loc Cert.Grad.main_arg9)
      ∧ r.2.mem ((c.tc : Thread Cert.Grad.nD Cert.Grad.τ).loc Cert.Grad.main_arg10) = m ((c.tc : Thread Cert.Grad.nD Cert.Grad.τ).loc Cert.Grad.main_arg10)
      ∧ r.2.mem ((c.tc : Thread Cert.Grad.nD Cert.Grad.τ).loc Cert.Grad.main_arg11) = m ((c.tc : Thread Cert.Grad.nD Cert.Grad.τ).loc Cert.Grad.main_arg11)
      ∧ r.2.mem ((c.tc : Thread Cert.Grad.nD Cert.Grad.τ).loc Cert.Grad.main_arg12) = m ((c.tc : Thread Cert.Grad.nD Cert.Grad.τ).loc Cert.Grad.main_arg12))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
      ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
      ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
      ∧ r.2.mem ((c.tc : Thread Cert.GradIdeal.nD Cert.GradIdeal.τ).loc Cert.GradIdeal.main_arg12) = m ((c.tc : Thread Cert.GradIdeal.nD Cert.GradIdeal.τ).loc Cert.GradIdeal.main_arg12))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2)
      ∧ r.2.mem ((c.tc : Thread Cert.GradReferenceIdeal.nD Cert.GradReferenceIdeal.τ).loc Cert.GradReferenceIdeal.main_arg3) = m ((c.tc : Thread Cert.GradReferenceIdeal.nD Cert.GradReferenceIdeal.τ).loc Cert.GradReferenceIdeal.main_arg3)
      ∧ r.2.mem ((c.tc : Thread Cert.GradReferenceIdeal.nD Cert.GradReferenceIdeal.τ).loc Cert.GradReferenceIdeal.main_arg4) = m ((c.tc : Thread Cert.GradReferenceIdeal.nD Cert.GradReferenceIdeal.τ).loc Cert.GradReferenceIdeal.main_arg4)
      ∧ r.2.mem ((c.tc : Thread Cert.GradReferenceIdeal.nD Cert.GradReferenceIdeal.τ).loc Cert.GradReferenceIdeal.main_arg5) = m ((c.tc : Thread Cert.GradReferenceIdeal.nD Cert.GradReferenceIdeal.τ).loc Cert.GradReferenceIdeal.main_arg5)
      ∧ r.2.mem ((c.tc : Thread Cert.GradReferenceIdeal.nD Cert.GradReferenceIdeal.τ).loc Cert.GradReferenceIdeal.main_arg6) = m ((c.tc : Thread Cert.GradReferenceIdeal.nD Cert.GradReferenceIdeal.τ).loc Cert.GradReferenceIdeal.main_arg6)
      ∧ r.2.mem ((c.tc : Thread Cert.GradReferenceIdeal.nD Cert.GradReferenceIdeal.τ).loc Cert.GradReferenceIdeal.main_arg7) = m ((c.tc : Thread Cert.GradReferenceIdeal.nD Cert.GradReferenceIdeal.τ).loc Cert.GradReferenceIdeal.main_arg7)
      ∧ r.2.mem ((c.tc : Thread Cert.GradReferenceIdeal.nD Cert.GradReferenceIdeal.τ).loc Cert.GradReferenceIdeal.main_arg8) = m ((c.tc : Thread Cert.GradReferenceIdeal.nD Cert.GradReferenceIdeal.τ).loc Cert.GradReferenceIdeal.main_arg8)
      ∧ r.2.mem ((c.tc : Thread Cert.GradReferenceIdeal.nD Cert.GradReferenceIdeal.τ).loc Cert.GradReferenceIdeal.main_arg9) = m ((c.tc : Thread Cert.GradReferenceIdeal.nD Cert.GradReferenceIdeal.τ).loc Cert.GradReferenceIdeal.main_arg9)
      ∧ r.2.mem ((c.tc : Thread Cert.GradReferenceIdeal.nD Cert.GradReferenceIdeal.τ).loc Cert.GradReferenceIdeal.main_arg10) = m ((c.tc : Thread Cert.GradReferenceIdeal.nD Cert.GradReferenceIdeal.τ).loc Cert.GradReferenceIdeal.main_arg10)
      ∧ r.2.mem ((c.tc : Thread Cert.GradReferenceIdeal.nD Cert.GradReferenceIdeal.τ).loc Cert.GradReferenceIdeal.main_arg11) = m ((c.tc : Thread Cert.GradReferenceIdeal.nD Cert.GradReferenceIdeal.τ).loc Cert.GradReferenceIdeal.main_arg11)
      ∧ r.2.mem ((c.tc : Thread Cert.GradReferenceIdeal.nD Cert.GradReferenceIdeal.τ).loc Cert.GradReferenceIdeal.main_arg12) = m ((c.tc : Thread Cert.GradReferenceIdeal.nD Cert.GradReferenceIdeal.τ).loc Cert.GradReferenceIdeal.main_arg12))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v75) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v22)) (v1 : (c : Dev Cert.ProjIdeal.nD) → Buf (Elt Ideal) ((c.tc : Thread Cert.ProjIdeal.nD Cert.ProjIdeal.τ).loc Cert.ProjIdeal.main_v23)) (v2 : (c : Dev Cert.ProjIdeal.nD) → Buf (Elt Ideal) ((c.tc : Thread Cert.ProjIdeal.nD Cert.ProjIdeal.τ).loc Cert.ProjIdeal.main_v24)) (v3 : (c : Dev Cert.ProjIdeal.nD) → Buf (Elt Ideal) ((c.tc : Thread Cert.ProjIdeal.nD Cert.ProjIdeal.τ).loc Cert.ProjIdeal.main_v21)) (v4 : (c : Dev Cert.ProjIdeal.nD) → Buf (Elt Ideal) ((c.tc : Thread Cert.ProjIdeal.nD Cert.ProjIdeal.τ).loc Cert.ProjIdeal.main_v25)) (v5 : (c : Dev Cert.ProjIdeal.nD) → Buf (Elt Ideal) ((c.tc : Thread Cert.ProjIdeal.nD Cert.ProjIdeal.τ).loc Cert.ProjIdeal.main_v26)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v22) = v0 c
          ∧ r.2.mem ((c.tc : Thread Cert.ProjIdeal.nD Cert.ProjIdeal.τ).loc Cert.ProjIdeal.main_v23) = v1 c
          ∧ r.2.mem ((c.tc : Thread Cert.ProjIdeal.nD Cert.ProjIdeal.τ).loc Cert.ProjIdeal.main_v24) = v2 c
          ∧ r.2.mem ((c.tc : Thread Cert.ProjIdeal.nD Cert.ProjIdeal.τ).loc Cert.ProjIdeal.main_v21) = v3 c
          ∧ r.2.mem ((c.tc : Thread Cert.ProjIdeal.nD Cert.ProjIdeal.τ).loc Cert.ProjIdeal.main_v25) = v4 c
          ∧ r.2.mem ((c.tc : Thread Cert.ProjIdeal.nD Cert.ProjIdeal.τ).loc Cert.ProjIdeal.main_v26) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v14) = v0 c
          ∧ r.2.mem ((c.tc : Thread Cert.ProjReferenceIdeal.nD Cert.ProjReferenceIdeal.τ).loc Cert.ProjReferenceIdeal.main_v15) = v1 c
          ∧ r.2.mem ((c.tc : Thread Cert.ProjReferenceIdeal.nD Cert.ProjReferenceIdeal.τ).loc Cert.ProjReferenceIdeal.main_v16) = v2 c
          ∧ r.2.mem ((c.tc : Thread Cert.ProjReferenceIdeal.nD Cert.ProjReferenceIdeal.τ).loc Cert.ProjReferenceIdeal.main_v17) = v3 c
          ∧ r.2.mem ((c.tc : Thread Cert.ProjReferenceIdeal.nD Cert.ProjReferenceIdeal.τ).loc Cert.ProjReferenceIdeal.main_v18) = v4 c
          ∧ r.2.mem ((c.tc : Thread Cert.ProjReferenceIdeal.nD Cert.ProjReferenceIdeal.τ).loc Cert.ProjReferenceIdeal.main_v19) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Grad_GradIdeal : Prop :=
  True

def algebraic_GradIdeal_GradReferenceIdeal [hGradIdeal : Cert.GradIdeal.Facts] [hGradReferenceIdeal : Cert.GradReferenceIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradIdeal m →
    (∀ c : Dev Cert.GradIdeal.nD,
      m' ((c.tc : Thread Cert.GradReferenceIdeal.nD Cert.GradReferenceIdeal.τ).loc Cert.GradReferenceIdeal.main_arg0) = m ((c.tc : Thread Cert.GradIdeal.nD Cert.GradIdeal.τ).loc Cert.GradIdeal.main_arg0)
      ∧ m' ((c.tc : Thread Cert.GradReferenceIdeal.nD Cert.GradReferenceIdeal.τ).loc Cert.GradReferenceIdeal.main_arg1) = m ((c.tc : Thread Cert.GradIdeal.nD Cert.GradIdeal.τ).loc Cert.GradIdeal.main_arg1)
      ∧ m' ((c.tc : Thread Cert.GradReferenceIdeal.nD Cert.GradReferenceIdeal.τ).loc Cert.GradReferenceIdeal.main_arg2) = m ((c.tc : Thread Cert.GradIdeal.nD Cert.GradIdeal.τ).loc Cert.GradIdeal.main_arg2)
      ∧ m' ((c.tc : Thread Cert.GradReferenceIdeal.nD Cert.GradReferenceIdeal.τ).loc Cert.GradReferenceIdeal.main_arg3) = m ((c.tc : Thread Cert.GradIdeal.nD Cert.GradIdeal.τ).loc Cert.GradIdeal.main_arg3)
      ∧ m' ((c.tc : Thread Cert.GradReferenceIdeal.nD Cert.GradReferenceIdeal.τ).loc Cert.GradReferenceIdeal.main_arg4) = m ((c.tc : Thread Cert.GradIdeal.nD Cert.GradIdeal.τ).loc Cert.GradIdeal.main_arg4)
      ∧ m' ((c.tc : Thread Cert.GradReferenceIdeal.nD Cert.GradReferenceIdeal.τ).loc Cert.GradReferenceIdeal.main_arg5) = m ((c.tc : Thread Cert.GradIdeal.nD Cert.GradIdeal.τ).loc Cert.GradIdeal.main_arg5)
      ∧ m' ((c.tc : Thread Cert.GradReferenceIdeal.nD Cert.GradReferenceIdeal.τ).loc Cert.GradReferenceIdeal.main_arg6) = m ((c.tc : Thread Cert.GradIdeal.nD Cert.GradIdeal.τ).loc Cert.GradIdeal.main_arg6)
      ∧ m' ((c.tc : Thread Cert.GradReferenceIdeal.nD Cert.GradReferenceIdeal.τ).loc Cert.GradReferenceIdeal.main_arg7) = m ((c.tc : Thread Cert.GradIdeal.nD Cert.GradIdeal.τ).loc Cert.GradIdeal.main_arg7)
      ∧ m' ((c.tc : Thread Cert.GradReferenceIdeal.nD Cert.GradReferenceIdeal.τ).loc Cert.GradReferenceIdeal.main_arg8) = m ((c.tc : Thread Cert.GradIdeal.nD Cert.GradIdeal.τ).loc Cert.GradIdeal.main_arg8)
      ∧ m' ((c.tc : Thread Cert.GradReferenceIdeal.nD Cert.GradReferenceIdeal.τ).loc Cert.GradReferenceIdeal.main_arg9) = m ((c.tc : Thread Cert.GradIdeal.nD Cert.GradIdeal.τ).loc Cert.GradIdeal.main_arg9)
      ∧ m' ((c.tc : Thread Cert.GradReferenceIdeal.nD Cert.GradReferenceIdeal.τ).loc Cert.GradReferenceIdeal.main_arg10) = m ((c.tc : Thread Cert.GradIdeal.nD Cert.GradIdeal.τ).loc Cert.GradIdeal.main_arg10)
      ∧ m' ((c.tc : Thread Cert.GradReferenceIdeal.nD Cert.GradReferenceIdeal.τ).loc Cert.GradReferenceIdeal.main_arg11) = m ((c.tc : Thread Cert.GradIdeal.nD Cert.GradIdeal.τ).loc Cert.GradIdeal.main_arg11)
      ∧ m' ((c.tc : Thread Cert.GradReferenceIdeal.nD Cert.GradReferenceIdeal.τ).loc Cert.GradReferenceIdeal.main_arg12) = m ((c.tc : Thread Cert.GradIdeal.nD Cert.GradIdeal.τ).loc Cert.GradIdeal.main_arg12)) →
    ∃ (v0 : (c : Dev Cert.GradIdeal.nD) → Buf (Elt Ideal) ((c.tc : Thread Cert.GradIdeal.nD Cert.GradIdeal.τ).loc Cert.GradIdeal.main_v49)) (v1 : (c : Dev Cert.GradIdeal.nD) → Buf (Elt Ideal) ((c.tc : Thread Cert.GradIdeal.nD Cert.GradIdeal.τ).loc Cert.GradIdeal.main_v51)) (v2 : (c : Dev Cert.GradIdeal.nD) → Buf (Elt Ideal) ((c.tc : Thread Cert.GradIdeal.nD Cert.GradIdeal.τ).loc Cert.GradIdeal.main_v47)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v49) = v0 c
          ∧ r.2.mem ((c.tc : Thread Cert.GradIdeal.nD Cert.GradIdeal.τ).loc Cert.GradIdeal.main_v51) = v1 c
          ∧ r.2.mem ((c.tc : Thread Cert.GradIdeal.nD Cert.GradIdeal.τ).loc Cert.GradIdeal.main_v47) = v2 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
          ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
          ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
          ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
          ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
          ∧ r.2.mem ((c.tc : Thread Cert.GradIdeal.nD Cert.GradIdeal.τ).loc Cert.GradIdeal.main_arg12) = m ((c.tc : Thread Cert.GradIdeal.nD Cert.GradIdeal.τ).loc Cert.GradIdeal.main_arg12))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v55) = v0 c
          ∧ r.2.mem ((c.tc : Thread Cert.GradReferenceIdeal.nD Cert.GradReferenceIdeal.τ).loc Cert.GradReferenceIdeal.main_v39) = v1 c
          ∧ r.2.mem ((c.tc : Thread Cert.GradReferenceIdeal.nD Cert.GradReferenceIdeal.τ).loc Cert.GradReferenceIdeal.main_v32) = v2 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2)
          ∧ r.2.mem ((c.tc : Thread Cert.GradReferenceIdeal.nD Cert.GradReferenceIdeal.τ).loc Cert.GradReferenceIdeal.main_arg3) = m' ((c.tc : Thread Cert.GradReferenceIdeal.nD Cert.GradReferenceIdeal.τ).loc Cert.GradReferenceIdeal.main_arg3)
          ∧ r.2.mem ((c.tc : Thread Cert.GradReferenceIdeal.nD Cert.GradReferenceIdeal.τ).loc Cert.GradReferenceIdeal.main_arg4) = m' ((c.tc : Thread Cert.GradReferenceIdeal.nD Cert.GradReferenceIdeal.τ).loc Cert.GradReferenceIdeal.main_arg4)
          ∧ r.2.mem ((c.tc : Thread Cert.GradReferenceIdeal.nD Cert.GradReferenceIdeal.τ).loc Cert.GradReferenceIdeal.main_arg5) = m' ((c.tc : Thread Cert.GradReferenceIdeal.nD Cert.GradReferenceIdeal.τ).loc Cert.GradReferenceIdeal.main_arg5)
          ∧ r.2.mem ((c.tc : Thread Cert.GradReferenceIdeal.nD Cert.GradReferenceIdeal.τ).loc Cert.GradReferenceIdeal.main_arg6) = m' ((c.tc : Thread Cert.GradReferenceIdeal.nD Cert.GradReferenceIdeal.τ).loc Cert.GradReferenceIdeal.main_arg6)
          ∧ r.2.mem ((c.tc : Thread Cert.GradReferenceIdeal.nD Cert.GradReferenceIdeal.τ).loc Cert.GradReferenceIdeal.main_arg7) = m' ((c.tc : Thread Cert.GradReferenceIdeal.nD Cert.GradReferenceIdeal.τ).loc Cert.GradReferenceIdeal.main_arg7)
          ∧ r.2.mem ((c.tc : Thread Cert.GradReferenceIdeal.nD Cert.GradReferenceIdeal.τ).loc Cert.GradReferenceIdeal.main_arg8) = m' ((c.tc : Thread Cert.GradReferenceIdeal.nD Cert.GradReferenceIdeal.τ).loc Cert.GradReferenceIdeal.main_arg8)
          ∧ r.2.mem ((c.tc : Thread Cert.GradReferenceIdeal.nD Cert.GradReferenceIdeal.τ).loc Cert.GradReferenceIdeal.main_arg9) = m' ((c.tc : Thread Cert.GradReferenceIdeal.nD Cert.GradReferenceIdeal.τ).loc Cert.GradReferenceIdeal.main_arg9)
          ∧ r.2.mem ((c.tc : Thread Cert.GradReferenceIdeal.nD Cert.GradReferenceIdeal.τ).loc Cert.GradReferenceIdeal.main_arg10) = m' ((c.tc : Thread Cert.GradReferenceIdeal.nD Cert.GradReferenceIdeal.τ).loc Cert.GradReferenceIdeal.main_arg10)
          ∧ r.2.mem ((c.tc : Thread Cert.GradReferenceIdeal.nD Cert.GradReferenceIdeal.τ).loc Cert.GradReferenceIdeal.main_arg11) = m' ((c.tc : Thread Cert.GradReferenceIdeal.nD Cert.GradReferenceIdeal.τ).loc Cert.GradReferenceIdeal.main_arg11)
          ∧ r.2.mem ((c.tc : Thread Cert.GradReferenceIdeal.nD Cert.GradReferenceIdeal.τ).loc Cert.GradReferenceIdeal.main_arg12) = m' ((c.tc : Thread Cert.GradReferenceIdeal.nD Cert.GradReferenceIdeal.τ).loc Cert.GradReferenceIdeal.main_arg12))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hGrad : Cert.Grad.Facts) (hGradIdeal : Cert.GradIdeal.Facts) (hGradReferenceIdeal : Cert.GradReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ quiescent_Grad (hGrad := hGrad)
    ∧ quiescent_GradIdeal (hGradIdeal := hGradIdeal)
    ∧ quiescent_GradReferenceIdeal (hGradReferenceIdeal := hGradReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_Grad_GradIdeal
    ∧ algebraic_GradIdeal_GradReferenceIdeal (hGradIdeal := hGradIdeal) (hGradReferenceIdeal := hGradReferenceIdeal)
-- ==== Pre_finite.lean ====
abbrev S1x8x16400x96 : Shape := ⟨4, ![1, 8, 16400, 96]⟩
abbrev S1x8x16400x64 : Shape := ⟨4, ![1, 8, 16400, 64]⟩
abbrev S_ : Shape := ⟨0, ![]⟩

class Facts : Prop where
  bcast_S_S1x8x16400x96 : S_.BroadcastsInDim S1x8x16400x96 (![] : Fin 0 → Fin S1x8x16400x96.rank)
  reducesTo_S1x8x16400x96_S_d0_1_2_3 : S1x8x16400x96.ReducesTo [0, 1, 2, 3] S_
  h_S_ : 0 < S_.numel
  bcast_S_S1x8x16400x64 : S_.BroadcastsInDim S1x8x16400x64 (![] : Fin 0 → Fin S1x8x16400x64.rank)
  reducesTo_S1x8x16400x64_S_d0_1_2_3 : S1x8x16400x64.ReducesTo [0, 1, 2, 3] S_

variable [Facts]

def fn_part1 {F : FTy → Type} [FloatOps F] (main_v13 : IVec S_ 1) (main_v16 : IVec S1x8x16400x64 1) : IVec S_ 1 :=
  let main_c_5 : IVec S_ 1 := constantI S_ 1 1#1
  let main_v17 : IVec S_ 1 := (fun x v => Host.reduce IntOp.andi x v reducesTo_S1x8x16400x64_S_d0_1_2_3 h_S_) main_v16 main_c_5
  let main_v18 : IVec S_ 1 := andi main_v13 main_v17
  main_v18

def fn {F : FTy → Type} [FloatOps F] (main_arg0 : FVec F S1x8x16400x96 .f32) (main_arg1 : FVec F S1x8x16400x96 .f32) (main_arg2 : FVec F S1x8x16400x64 .f32) (main_arg3 : FVec F S1x8x16400x64 .f32) : IVec S_ 1 :=
  let main_v0 : FVec F S1x8x16400x96 .f32 := Host.absf main_arg0
  let main_cst : FVec F S_ .f32 := constant S_ .f32 0x7F800000#32
  let main_v1 : FVec F S1x8x16400x96 .f32 := broadcastInDim S1x8x16400x96 ![] bcast_S_S1x8x16400x96 main_cst
  let main_v2 : IVec S1x8x16400x96 1 := cmpf .olt main_v0 main_v1
  let main_c : IVec S_ 1 := constantI S_ 1 1#1
  let main_v3 : IVec S_ 1 := (fun x v => Host.reduce IntOp.andi x v reducesTo_S1x8x16400x96_S_d0_1_2_3 h_S_) main_v2 main_c
  let main_v4 : FVec F S1x8x16400x96 .f32 := Host.absf main_arg1
  let main_cst_0 : FVec F S_ .f32 := constant S_ .f32 0x7F800000#32
  let main_v5 : FVec F S1x8x16400x96 .f32 := broadcastInDim S1x8x16400x96 ![] bcast_S_S1x8x16400x96 main_cst_0
  let main_v6 : IVec S1x8x16400x96 1 := cmpf .olt main_v4 main_v5
  let main_c_1 : IVec S_ 1 := constantI S_ 1 1#1
  let main_v7 : IVec S_ 1 := (fun x v => Host.reduce IntOp.andi x v reducesTo_S1x8x16400x96_S_d0_1_2_3 h_S_) main_v6 main_c_1
  let main_v8 : IVec S_ 1 := andi main_v3 main_v7
  let main_v9 : FVec F S1x8x16400x64 .f32 := Host.absf main_arg2
  let main_cst_2 : FVec F S_ .f32 := constant S_ .f32 0x7F800000#32
  let main_v10 : FVec F S1x8x16400x64 .f32 := broadcastInDim S1x8x16400x64 ![] bcast_S_S1x8x16400x64 main_cst_2
  let main_v11 : IVec S1x8x16400x64 1 := cmpf .olt main_v9 main_v10
  let main_c_3 : IVec S_ 1 := constantI S_ 1 1#1
  let main_v12 : IVec S_ 1 := (fun x v => Host.reduce IntOp.andi x v reducesTo_S1x8x16400x64_S_d0_1_2_3 h_S_) main_v11 main_c_3
  let main_v13 : IVec S_ 1 := andi main_v8 main_v12
  let main_v14 : FVec F S1x8x16400x64 .f32 := Host.absf main_arg3
  let main_cst_4 : FVec F S_ .f32 := constant S_ .f32 0x7F800000#32
  let main_v15 : FVec F S1x8x16400x64 .f32 := broadcastInDim S1x8x16400x64 ![] bcast_S_S1x8x16400x64 main_cst_4
  let main_v16 : IVec S1x8x16400x64 1 := cmpf .olt main_v14 main_v15
  fn_part1 (F := F) main_v13 main_v16
-- ==== Kernel.lean ====
abbrev S1x8x16400x96 : Shape := ⟨4, ![1, 8, 16400, 96]⟩
abbrev S1x8x16400x64 : Shape := ⟨4, ![1, 8, 16400, 64]⟩
abbrev S8x16400x96 : Shape := ⟨3, ![8, 16400, 96]⟩
abbrev S_ : Shape := ⟨0, ![]⟩
abbrev S8x16640x96 : Shape := ⟨3, ![8, 16640, 96]⟩
abbrev S8x16400x64 : Shape := ⟨3, ![8, 16400, 64]⟩
abbrev S8x16640x64 : Shape := ⟨3, ![8, 16640, 64]⟩
abbrev S8x16640x16400 : Shape := ⟨3, ![8, 16640, 16400]⟩
abbrev S8x16640 : Shape := ⟨2, ![8, 16640]⟩
abbrev S8x16640x1 : Shape := ⟨3, ![8, 16640, 1]⟩
abbrev S8x16640x16640 : Shape := ⟨3, ![8, 16640, 16640]⟩
abbrev S8x13x1280x65x256 : Shape := ⟨5, ![8, 13, 1280, 65, 256]⟩
abbrev S8x13x65x256x1280 : Shape := ⟨5, ![8, 13, 65, 256, 1280]⟩
abbrev S8x1x16640 : Shape := ⟨3, ![8, 1, 16640]⟩
abbrev S8x13x1x1x1280 : Shape := ⟨5, ![8, 13, 1, 1, 1280]⟩
abbrev S8x13x65x1x1280 : Shape := ⟨5, ![8, 13, 65, 1, 1280]⟩
abbrev S8x96x16640 : Shape := ⟨3, ![8, 96, 16640]⟩
abbrev S768x16640 : Shape := ⟨2, ![768, 16640]⟩
abbrev S8x64x16640 : Shape := ⟨3, ![8, 64, 16640]⟩
abbrev S512x16640 : Shape := ⟨2, ![512, 16640]⟩
abbrev S16640x1024 : Shape := ⟨2, ![16640, 1024]⟩
abbrev S16640x8x64 : Shape := ⟨3, ![16640, 8, 64]⟩
abbrev S16640x8x128 : Shape := ⟨3, ![16640, 8, 128]⟩
abbrev S1280x128 : Shape := ⟨2, ![1280, 128]⟩
abbrev S96x1280 : Shape := ⟨2, ![96, 1280]⟩
abbrev S64x1280 : Shape := ⟨2, ![64, 1280]⟩
abbrev S1x1x1280 : Shape := ⟨3, ![1, 1, 1280]⟩
abbrev S1x1x65x1x1280 : Shape := ⟨5, ![1, 1, 65, 1, 1280]⟩
abbrev S16640x128 : Shape := ⟨2, ![16640, 128]⟩
abbrev S96x16640 : Shape := ⟨2, ![96, 16640]⟩
abbrev S64x16640 : Shape := ⟨2, ![64, 16640]⟩
abbrev S3x5x256x1280 : Shape := ⟨4, ![3, 5, 256, 1280]⟩
abbrev S3 : Shape := ⟨1, ![3]⟩
abbrev S1 : Shape := ⟨1, ![1]⟩
abbrev S1x1x256x1280 : Shape := ⟨4, ![1, 1, 256, 1280]⟩
abbrev S256x1280 : Shape := ⟨2, ![256, 1280]⟩
abbrev S1x1x1x256x1280 : Shape := ⟨5, ![1, 1, 1, 256, 1280]⟩
abbrev S1x1280 : Shape := ⟨2, ![1, 1280]⟩
abbrev S256x128 : Shape := ⟨2, ![256, 128]⟩
abbrev S256x256 : Shape := ⟨2, ![256, 256]⟩
abbrev S1x1x1x1x1280 : Shape := ⟨5, ![1, 1, 1, 1, 1280]⟩
abbrev S1x256 : Shape := ⟨2, ![1, 256]⟩
abbrev S64x256 : Shape := ⟨2, ![64, 256]⟩
abbrev S96x256 : Shape := ⟨2, ![96, 256]⟩
abbrev S32x1280 : Shape := ⟨2, ![32, 1280]⟩
abbrev S128x1280 : Shape := ⟨2, ![128, 1280]⟩
abbrev S16400x8x96 : Shape := ⟨3, ![16400, 8, 96]⟩
abbrev S8x96x16400 : Shape := ⟨3, ![8, 96, 16400]⟩
abbrev S8x64x16400 : Shape := ⟨3, ![8, 64, 16400]⟩

abbrev nBuf : Space → Nat
  | .hbm => 103
  | .vmem => 24
  | .smem => 0
  | _ => 0

abbrev bufTy : (tb : Table) → Fin (tcTables nBuf tb) → BufTy
  | .hbm, ⟨0, _⟩ => ⟨S1x8x16400x96, .f32⟩
  | .hbm, ⟨1, _⟩ => ⟨S1x8x16400x96, .f32⟩
  | .hbm, ⟨2, _⟩ => ⟨S1x8x16400x64, .f32⟩
  | .hbm, ⟨3, _⟩ => ⟨S1x8x16400x64, .f32⟩
  | .hbm, ⟨4, _⟩ => ⟨S8x16400x96, .f32⟩
  | .hbm, ⟨5, _⟩ => ⟨S_, .i32⟩
  | .hbm, ⟨6, _⟩ => ⟨S_, .f32⟩
  | .hbm, ⟨7, _⟩ => ⟨S8x16640x96, .f32⟩
  | .hbm, ⟨8, _⟩ => ⟨S8x16400x96, .f32⟩
  | .hbm, ⟨9, _⟩ => ⟨S_, .i32⟩
  | .hbm, ⟨10, _⟩ => ⟨S_, .f32⟩
  | .hbm, ⟨11, _⟩ => ⟨S8x16640x96, .f32⟩
  | .hbm, ⟨12, _⟩ => ⟨S8x16400x64, .f32⟩
  | .hbm, ⟨13, _⟩ => ⟨S_, .i32⟩
  | .hbm, ⟨14, _⟩ => ⟨S_, .f32⟩
  | .hbm, ⟨15, _⟩ => ⟨S8x16640x64, .f32⟩
  | .hbm, ⟨16, _⟩ => ⟨S8x16400x64, .f32⟩
  | .hbm, ⟨17, _⟩ => ⟨S_, .i32⟩
  | .hbm, ⟨18, _⟩ => ⟨S_, .f32⟩
  | .hbm, ⟨19, _⟩ => ⟨S8x16640x64, .f32⟩
  | .hbm, ⟨20, _⟩ => ⟨S_, .f32⟩
  | .hbm, ⟨21, _⟩ => ⟨S8x16640x96, .f32⟩
  | .hbm, ⟨22, _⟩ => ⟨S8x16640x96, .f32⟩
  | .hbm, ⟨23, _⟩ => ⟨S8x16400x96, .f32⟩
  | .hbm, ⟨24, _⟩ => ⟨S8x16640x16400, .f32⟩
  | .hbm, ⟨25, _⟩ => ⟨S_, .f32⟩
  | .hbm, ⟨26, _⟩ => ⟨S8x16640, .f32⟩
  | .hbm, ⟨27, _⟩ => ⟨S8x16640x1, .f32⟩
  | .hbm, ⟨28, _⟩ => ⟨S8x16640x16400, .f32⟩
  | .hbm, ⟨29, _⟩ => ⟨S8x16640x16400, .f32⟩
  | .hbm, ⟨30, _⟩ => ⟨S8x16640x16400, .f32⟩
  | .hbm, ⟨31, _⟩ => ⟨S_, .f32⟩
  | .hbm, ⟨32, _⟩ => ⟨S8x16640, .f32⟩
  | .hbm, ⟨33, _⟩ => ⟨S8x16400x64, .f32⟩
  | .hbm, ⟨34, _⟩ => ⟨S8x16640x64, .f32⟩
  | .hbm, ⟨35, _⟩ => ⟨S8x16640x1, .f32⟩
  | .hbm, ⟨36, _⟩ => ⟨S8x16640x64, .f32⟩
  | .hbm, ⟨37, _⟩ => ⟨S8x16640x64, .f32⟩
  | .hbm, ⟨38, _⟩ => ⟨S8x16640x64, .f32⟩
  | .hbm, ⟨39, _⟩ => ⟨S_, .f32⟩
  | .hbm, ⟨40, _⟩ => ⟨S8x16640, .f32⟩
  | .hbm, ⟨41, _⟩ => ⟨S_, .i32⟩
  | .hbm, ⟨42, _⟩ => ⟨S_, .f32⟩
  | .hbm, ⟨43, _⟩ => ⟨S8x16640x16640, .f32⟩
  | .hbm, ⟨44, _⟩ => ⟨S8x13x1280x65x256, .f32⟩
  | .hbm, ⟨45, _⟩ => ⟨S8x13x65x256x1280, .f32⟩
  | .hbm, ⟨46, _⟩ => ⟨S8x13x65x256x1280, .bf16⟩
  | .hbm, ⟨47, _⟩ => ⟨S_, .f32⟩
  | .hbm, ⟨48, _⟩ => ⟨S_, .f32⟩
  | .hbm, ⟨49, _⟩ => ⟨S8x16640, .f32⟩
  | .hbm, ⟨50, _⟩ => ⟨S8x16640, .f32⟩
  | .hbm, ⟨51, _⟩ => ⟨S8x1x16640, .f32⟩
  | .hbm, ⟨52, _⟩ => ⟨S8x16640, .f32⟩
  | .hbm, ⟨53, _⟩ => ⟨S8x16640, .f32⟩
  | .hbm, ⟨54, _⟩ => ⟨S8x16640, .f32⟩
  | .hbm, ⟨55, _⟩ => ⟨S8x1x16640, .f32⟩
  | .hbm, ⟨56, _⟩ => ⟨S8x1x16640, .f32⟩
  | .hbm, ⟨57, _⟩ => ⟨S8x13x1x1x1280, .f32⟩
  | .hbm, ⟨58, _⟩ => ⟨S8x13x65x1x1280, .f32⟩
  | .hbm, ⟨59, _⟩ => ⟨S8x16640x96, .f32⟩
  | .hbm, ⟨60, _⟩ => ⟨S8x16640x96, .f32⟩
  | .hbm, ⟨61, _⟩ => ⟨S8x96x16640, .f32⟩
  | .hbm, ⟨62, _⟩ => ⟨S768x16640, .f32⟩
  | .hbm, ⟨63, _⟩ => ⟨S768x16640, .bf16⟩
  | .hbm, ⟨64, _⟩ => ⟨S8x96x16640, .f32⟩
  | .hbm, ⟨65, _⟩ => ⟨S768x16640, .f32⟩
  | .hbm, ⟨66, _⟩ => ⟨S768x16640, .bf16⟩
  | .hbm, ⟨67, _⟩ => ⟨S8x64x16640, .f32⟩
  | .hbm, ⟨68, _⟩ => ⟨S512x16640, .f32⟩
  | .hbm, ⟨69, _⟩ => ⟨S512x16640, .bf16⟩
  | .hbm, ⟨70, _⟩ => ⟨S_, .bf16⟩
  | .hbm, ⟨71, _⟩ => ⟨S16640x1024, .bf16⟩
  | .hbm, ⟨72, _⟩ => ⟨S16640x8x64, .f32⟩
  | .hbm, ⟨73, _⟩ => ⟨S_, .i32⟩
  | .hbm, ⟨74, _⟩ => ⟨S_, .f32⟩
  | .hbm, ⟨75, _⟩ => ⟨S16640x8x128, .f32⟩
  | .hbm, ⟨76, _⟩ => ⟨S16640x1024, .f32⟩
  | .hbm, ⟨77, _⟩ => ⟨S16640x1024, .bf16⟩
  | .hbm, ⟨78, _⟩ => ⟨S16640x8x64, .f32⟩
  | .hbm, ⟨79, _⟩ => ⟨S_, .i32⟩
  | .hbm, ⟨80, _⟩ => ⟨S_, .f32⟩
  | .hbm, ⟨81, _⟩ => ⟨S16640x8x128, .f32⟩
  | .hbm, ⟨82, _⟩ => ⟨S16640x1024, .f32⟩
  | .hbm, ⟨83, _⟩ => ⟨S16640x1024, .bf16⟩
  | .hbm, ⟨84, _⟩ => ⟨S8x1x16640, .f32⟩
  | .hbm, ⟨85, _⟩ => ⟨S16640x1024, .f32⟩
  | .hbm, ⟨86, _⟩ => ⟨S768x16640, .f32⟩
  | .hbm, ⟨87, _⟩ => ⟨S512x16640, .f32⟩
  | .hbm, ⟨88, _⟩ => ⟨S_, .f32⟩
  | .hbm, ⟨89, _⟩ => ⟨S16640x1024, .f32⟩
  | .hbm, ⟨90, _⟩ => ⟨S16640x1024, .f32⟩
  | .hbm, ⟨91, _⟩ => ⟨S16640x8x128, .f32⟩
  | .hbm, ⟨92, _⟩ => ⟨S16400x8x96, .f32⟩
  | .hbm, ⟨93, _⟩ => ⟨S8x16400x96, .f32⟩
  | .hbm, ⟨94, _⟩ => ⟨S1x8x16400x96, .f32⟩
  | .hbm, ⟨95, _⟩ => ⟨S8x96x16640, .f32⟩
  | .hbm, ⟨96, _⟩ => ⟨S8x96x16400, .f32⟩
  | .hbm, ⟨97, _⟩ => ⟨S8x16400x96, .f32⟩
  | .hbm, ⟨98, _⟩ => ⟨S1x8x16400x96, .f32⟩
  | .hbm, ⟨99, _⟩ => ⟨S8x64x16640, .f32⟩
  | .hbm, ⟨100, _⟩ => ⟨S8x64x16400, .f32⟩
  | .hbm, ⟨101, _⟩ => ⟨S8x16400x64, .f32⟩
  | .hbm, ⟨102, _⟩ => ⟨S1x8x16400x64, .f32⟩
  | .local _ .vmem, ⟨0, _⟩ => ⟨S1280x128, .bf16⟩
  | .local _ .vmem, ⟨1, _⟩ => ⟨S1280x128, .bf16⟩
  | .local _ .vmem, ⟨2, _⟩ => ⟨S96x1280, .bf16⟩
  | .local _ .vmem, ⟨3, _⟩ => ⟨S96x1280, .bf16⟩
  | .local _ .vmem, ⟨4, _⟩ => ⟨S64x1280, .bf16⟩
  | .local _ .vmem, ⟨5, _⟩ => ⟨S64x1280, .bf16⟩
  | .local _ .vmem, ⟨6, _⟩ => ⟨S1x1x1280, .f32⟩
  | .local _ .vmem, ⟨7, _⟩ => ⟨S1x1x1280, .f32⟩
  | .local _ .vmem, ⟨8, _⟩ => ⟨S1x1x1280, .f32⟩
  | .local _ .vmem, ⟨9, _⟩ => ⟨S1x1x1280, .f32⟩
  | .local _ .vmem, ⟨10, _⟩ => ⟨S1x1x65x1x1280, .f32⟩
  | .local _ .vmem, ⟨11, _⟩ => ⟨S1x1x65x1x1280, .f32⟩
  | .local _ .vmem, ⟨12, _⟩ => ⟨S16640x128, .bf16⟩
  | .local _ .vmem, ⟨13, _⟩ => ⟨S16640x128, .bf16⟩
  | .local _ .vmem, ⟨14, _⟩ => ⟨S96x16640, .bf16⟩
  | .local _ .vmem, ⟨15, _⟩ => ⟨S96x16640, .bf16⟩
  | .local _ .vmem, ⟨16, _⟩ => ⟨S1280x128, .f32⟩
  | .local _ .vmem, ⟨17, _⟩ => ⟨S1280x128, .f32⟩
  | .local _ .vmem, ⟨18, _⟩ => ⟨S96x16640, .f32⟩
  | .local _ .vmem, ⟨19, _⟩ => ⟨S96x16640, .f32⟩
  | .local _ .vmem, ⟨20, _⟩ => ⟨S64x16640, .f32⟩
  | .local _ .vmem, ⟨21, _⟩ => ⟨S64x16640, .f32⟩
  | .local _ .vmem, ⟨22, _⟩ => ⟨S96x1280, .f32⟩
  | .local _ .vmem, ⟨23, _⟩ => ⟨S3x5x256x1280, .bf16⟩
  | _, _ => ⟨S1x8x16400x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_c_6 : Ref sig .tc := ⟨.hbm, 41, rfl⟩
abbrev main_call4_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_call5_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_call6_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev main_v61_2 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 13], ![false, false]⟩

def k0_off1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_5 : BitVec 32 := 0#32
  let c0_i32_6 : BitVec 32 := 0#32
  ![arg0.toNat, arg1.toNat, 0, 0, 0]
def k0_off2 (i : grid0.Coords) : Fin 5 → Nat :=
  let arg0 : BitVec 32 := BitVec.ofNat 32 (i 0).val
  let arg1 : BitVec 32 := BitVec.ofNat 32 (i 1).val
  let c1_i32 : BitVec 32 := 1#32
  let c0_i32_12 : BitVec 32 := 0#32
  let c0_i32_13 : BitVec 32 := 0#32
  ![arg0.toNat, arg1.toNat, 1, 0, 0]
def k0_off3 (i : grid0.Coords) : Fin 5 → Nat :=
  let arg0 : BitVec 32 := BitVec.ofNat 32 (i 0).val
  let arg1 : BitVec 32 := BitVec.ofNat 32 (i 1).val
  let c2_i32 : BitVec 32 := 2#32
  let c0_i32_19 : BitVec 32 := 0#32
  let c0_i32_20 : BitVec 32 := 0#32
  ![arg0.toNat, arg1.toNat, 2, 0, 0]
def k0_off4 (i : grid0.Coords) : Fin 5 → Nat :=
  let arg0 : BitVec 32 := BitVec.ofNat 32 (i 0).val
  let arg1 : BitVec 32 := BitVec.ofNat 32 (i 1).val
  let c3_i32 : BitVec 32 := 3#32
  let c0_i32_26 : BitVec 32 := 0#32
  let c0_i32_27 : BitVec 32 := 0#32
  ![arg0.toNat, arg1.toNat, 3, 0, 0]
def k0_off5 (i : grid0.Coords) : Fin 5 → Nat :=
  let arg0 : BitVec 32 := BitVec.ofNat 32 (i 0).val
  let arg1 : BitVec 32 := BitVec.ofNat 32 (i 1).val
  let c4_i32 : BitVec 32 := 4#32
  let c0_i32_33 : BitVec 32 := 0#32
  let c0_i32_34 : BitVec 32 := 0#32
  ![arg0.toNat, arg1.toNat, 4, 0, 0]
def k0_off6 (i : grid0.Coords) : Fin 5 → Nat :=
  let arg0 : BitVec 32 := BitVec.ofNat 32 (i 0).val
  let arg1 : BitVec 32 := BitVec.ofNat 32 (i 1).val
  let c5_i32 : BitVec 32 := 5#32
  let c0_i32_40 : BitVec 32 := 0#32
  let c0_i32_41 : BitVec 32 := 0#32
  ![arg0.toNat, arg1.toNat, 5, 0, 0]
def k0_off7 (i : grid0.Coords) : Fin 5 → Nat :=
  let arg0 : BitVec 32 := BitVec.ofNat 32 (i 0).val
  let arg1 : BitVec 32 := BitVec.ofNat 32 (i 1).val
  let c6_i32 : BitVec 32 := 6#32
  let c0_i32_47 : BitVec 32 := 0#32
  let c0_i32_48 : BitVec 32 := 0#32
  ![arg0.toNat, arg1.toNat, 6, 0, 0]
def k0_off8 (i : grid0.Coords) : Fin 5 → Nat :=
  let arg0 : BitVec 32 := BitVec.ofNat 32 (i 0).val
  let arg1 : BitVec 32 := BitVec.ofNat 32 (i 1).val
  let c7_i32 : BitVec 32 := 7#32
  let c0_i32_54 : BitVec 32 := 0#32
  let c0_i32_55 : BitVec 32 := 0#32
  ![arg0.toNat, arg1.toNat, 7, 0, 0]
def k0_off9 (i : grid0.Coords) : Fin 5 → Nat :=
  let arg0 : BitVec 32 := BitVec.ofNat 32 (i 0).val
  let arg1 : BitVec 32 := BitVec.ofNat 32 (i 1).val
  let c8_i32 : BitVec 32 := 8#32
  let c0_i32_61 : BitVec 32 := 0#32
  let c0_i32_62 : BitVec 32 := 0#32
  ![arg0.toNat, arg1.toNat, 8, 0, 0]
def k0_off10 (i : grid0.Coords) : Fin 5 → Nat :=
  let arg0 : BitVec 32 := BitVec.ofNat 32 (i 0).val
  let arg1 : BitVec 32 := BitVec.ofNat 32 (i 1).val
  let c9_i32 : BitVec 32 := 9#32
  let c0_i32_68 : BitVec 32 := 0#32
  let c0_i32_69 : BitVec 32 := 0#32
  ![arg0.toNat, arg1.toNat, 9, 0, 0]
@[reducible] def k0_t1_loop : Scf.Loop 32 :=
  let c0_i32_83 : BitVec 32 := 0#32
  let c13_i32 : BitVec 32 := 13#32
  let v75 : BitVec 32 := Scalar.addi c0_i32_83 c13_i32
  let c1_i32_84 : BitVec 32 := 1#32
  ⟨c0_i32_83, v75, c1_i32_84⟩
def k0_mult1 (k0_t1 : Fin k0_t1_loop.trips) : BitVec 32 :=
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  v81
def k0_off11 (k0_t1 : Fin k0_t1_loop.trips) : Fin 1 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  ![v92.toNat]
def k0_off12 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let c0_i32_107 : BitVec 32 := 0#32
  let c0_i32_108 : BitVec 32 := 0#32
  let c0_i32_109 : BitVec 32 := 0#32
  ![v92.toNat, 0, 0, 0]
def k0_off13 (i : grid0.Coords) (k0_t1 : Fin k0_t1_loop.trips) (c0_i32_98 : BitVec 32) : Fin 5 → Nat :=
  let arg0 : BitVec 32 := BitVec.ofNat 32 (i 0).val
  let arg1 : BitVec 32 := BitVec.ofNat 32 (i 1).val
  let c0_i32_83 : BitVec 32 := 0#32
  let c1_i32_84 : BitVec 32 := 1#32
  let arg17 : BitVec 32 := Scf.iv c0_i32_83 c1_i32_84 k0_t1
  let c5_i32_97 : BitVec 32 := 5#32
  let v93 : BitVec 32 := Scalar.muli arg17 c5_i32_97
  let v94 : BitVec 32 := Scalar.addi v93 c0_i32_98
  let c0_i32_110 : BitVec 32 := 0#32
  let c0_i32_111 : BitVec 32 := 0#32
  ![arg0.toNat, arg1.toNat, v94.toNat, 0, 0]
def k0_off14 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let c1_i32_112 : BitVec 32 := 1#32
  let c0_i32_113 : BitVec 32 := 0#32
  let c0_i32_114 : BitVec 32 := 0#32
  ![v92.toNat, 1, 0, 0]
def k0_off15 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let c2_i32_117 : BitVec 32 := 2#32
  let c0_i32_118 : BitVec 32 := 0#32
  let c0_i32_119 : BitVec 32 := 0#32
  ![v92.toNat, 2, 0, 0]
def k0_off16 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let c3_i32_122 : BitVec 32 := 3#32
  let c0_i32_123 : BitVec 32 := 0#32
  let c0_i32_124 : BitVec 32 := 0#32
  ![v92.toNat, 3, 0, 0]
def k0_off17 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let c4_i32_127 : BitVec 32 := 4#32
  let c0_i32_128 : BitVec 32 := 0#32
  let c0_i32_129 : BitVec 32 := 0#32
  ![v92.toNat, 4, 0, 0]
def k0_cond2 (k0_t1 : Fin k0_t1_loop.trips) : BitVec 1 :=
  let c0_i32_83 : BitVec 32 := 0#32
  let c1_i32_84 : BitVec 32 := 1#32
  let arg17 : BitVec 32 := Scf.iv c0_i32_83 c1_i32_84 k0_t1
  let c2_i32_132 : BitVec 32 := 2#32
  let v133 : BitVec 32 := Scalar.addi arg17 c2_i32_132
  let c13_i32_133 : BitVec 32 := 13#32
  let v134 : BitVec 1 := Scalar.cmpi .slt v133 c13_i32_133
  let v135 : BitVec 32 := Scalar.extui v134
  let c0_i32_134 : BitVec 32 := 0#32
  let v136 : BitVec 1 := Scalar.cmpi .ne v135 c0_i32_134
  v136

def k0_off18 (k0_t1 : Fin k0_t1_loop.trips) : Fin 1 → Nat :=
  let c0_i32_83 : BitVec 32 := 0#32
  let c1_i32_84 : BitVec 32 := 1#32
  let arg17 : BitVec 32 := Scf.iv c0_i32_83 c1_i32_84 k0_t1
  let c2_i32_283 : BitVec 32 := 2#32
  let v518 : BitVec 32 := Scalar.addi arg17 c2_i32_283
  let c3_i32_284 : BitVec 32 := 3#32
  let c0_i32_285 : BitVec 32 := 0#32
  let v519 : BitVec 1 := Scalar.cmpi .eq c3_i32_284 c0_i32_285
  let c1_i32_286 : BitVec 32 := 1#32
  let v520 : BitVec 32 := Scalar.select v519 c1_i32_286 c3_i32_284
  let v521 : BitVec 32 := Scalar.remsi v518 v520
  let c0_i32_288 : BitVec 32 := 0#32
  let v523 : BitVec 1 := Scalar.cmpi .slt v521 c0_i32_288
  let c0_i32_289 : BitVec 32 := 0#32
  let v524 : BitVec 1 := Scalar.cmpi .slt v520 c0_i32_289
  let v525 : BitVec 1 := Scalar.xori v523 v524
  let c0_i32_287 : BitVec 32 := 0#32
  let v522 : BitVec 1 := Scalar.cmpi .ne v521 c0_i32_287
  let v526 : BitVec 1 := Scalar.andi v525 v522
  let v527 : BitVec 32 := Scalar.addi v521 v520
  let v528 : BitVec 32 := Scalar.select v526 v527 v521
  ![v528.toNat]
def k0_off19 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c2_i32_283 : BitVec 32 := 2#32
  let v518 : BitVec 32 := Scalar.addi arg17 c2_i32_283
  let c3_i32_284 : BitVec 32 := 3#32
  let c0_i32_285 : BitVec 32 := 0#32
  let v519 : BitVec 1 := Scalar.cmpi .eq c3_i32_284 c0_i32_285
  let c1_i32_286 : BitVec 32 := 1#32
  let v520 : BitVec 32 := Scalar.select v519 c1_i32_286 c3_i32_284
  let v521 : BitVec 32 := Scalar.remsi v518 v520
  let c0_i32_288 : BitVec 32 := 0#32
  let v523 : BitVec 1 := Scalar.cmpi .slt v521 c0_i32_288
  let c0_i32_289 : BitVec 32 := 0#32
  let v524 : BitVec 1 := Scalar.cmpi .slt v520 c0_i32_289
  let v525 : BitVec 1 := Scalar.xori v523 v524
  let c0_i32_287 : BitVec 32 := 0#32
  let v522 : BitVec 1 := Scalar.cmpi .ne v521 c0_i32_287
  let v526 : BitVec 1 := Scalar.andi v525 v522
  let v527 : BitVec 32 := Scalar.addi v521 v520
  let v528 : BitVec 32 := Scalar.select v526 v527 v521
  let c0_i32_300 : BitVec 32 := 0#32
  let c0_i32_301 : BitVec 32 := 0#32
  let c0_i32_302 : BitVec 32 := 0#32
  ![v528.toNat, 0, 0, 0]
def k0_off20 (i : grid0.Coords) (k0_t1 : Fin k0_t1_loop.trips) (c0_i32_291 : BitVec 32) : Fin 5 → Nat :=
  let arg0 : BitVec 32 := BitVec.ofNat 32 (i 0).val
  let arg1 : BitVec 32 := BitVec.ofNat 32 (i 1).val
  let c0_i32_83 : BitVec 32 := 0#32
  let c1_i32_84 : BitVec 32 := 1#32
  let arg17 : BitVec 32 := Scf.iv c0_i32_83 c1_i32_84 k0_t1
  let c2_i32_282 : BitVec 32 := 2#32
  let v517 : BitVec 32 := Scalar.addi arg17 c2_i32_282
  let c5_i32_290 : BitVec 32 := 5#32
  let v529 : BitVec 32 := Scalar.muli v517 c5_i32_290
  let v530 : BitVec 32 := Scalar.addi v529 c0_i32_291
  let c0_i32_303 : BitVec 32 := 0#32
  let c0_i32_304 : BitVec 32 := 0#32
  ![arg0.toNat, arg1.toNat, v530.toNat, 0, 0]
def k0_off21 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c2_i32_283 : BitVec 32 := 2#32
  let v518 : BitVec 32 := Scalar.addi arg17 c2_i32_283
  let c3_i32_284 : BitVec 32 := 3#32
  let c0_i32_285 : BitVec 32 := 0#32
  let v519 : BitVec 1 := Scalar.cmpi .eq c3_i32_284 c0_i32_285
  let c1_i32_286 : BitVec 32 := 1#32
  let v520 : BitVec 32 := Scalar.select v519 c1_i32_286 c3_i32_284
  let v521 : BitVec 32 := Scalar.remsi v518 v520
  let c0_i32_288 : BitVec 32 := 0#32
  let v523 : BitVec 1 := Scalar.cmpi .slt v521 c0_i32_288
  let c0_i32_289 : BitVec 32 := 0#32
  let v524 : BitVec 1 := Scalar.cmpi .slt v520 c0_i32_289
  let v525 : BitVec 1 := Scalar.xori v523 v524
  let c0_i32_287 : BitVec 32 := 0#32
  let v522 : BitVec 1 := Scalar.cmpi .ne v521 c0_i32_287
  let v526 : BitVec 1 := Scalar.andi v525 v522
  let v527 : BitVec 32 := Scalar.addi v521 v520
  let v528 : BitVec 32 := Scalar.select v526 v527 v521
  let c1_i32_305 : BitVec 32 := 1#32
  let c0_i32_306 : BitVec 32 := 0#32
  let c0_i32_307 : BitVec 32 := 0#32
  ![v528.toNat, 1, 0, 0]
def k0_off22 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c2_i32_283 : BitVec 32 := 2#32
  let v518 : BitVec 32 := Scalar.addi arg17 c2_i32_283
  let c3_i32_284 : BitVec 32 := 3#32
  let c0_i32_285 : BitVec 32 := 0#32
  let v519 : BitVec 1 := Scalar.cmpi .eq c3_i32_284 c0_i32_285
  let c1_i32_286 : BitVec 32 := 1#32
  let v520 : BitVec 32 := Scalar.select v519 c1_i32_286 c3_i32_284
  let v521 : BitVec 32 := Scalar.remsi v518 v520
  let c0_i32_288 : BitVec 32 := 0#32
  let v523 : BitVec 1 := Scalar.cmpi .slt v521 c0_i32_288
  let c0_i32_289 : BitVec 32 := 0#32
  let v524 : BitVec 1 := Scalar.cmpi .slt v520 c0_i32_289
  let v525 : BitVec 1 := Scalar.xori v523 v524
  let c0_i32_287 : BitVec 32 := 0#32
  let v522 : BitVec 1 := Scalar.cmpi .ne v521 c0_i32_287
  let v526 : BitVec 1 := Scalar.andi v525 v522
  let v527 : BitVec 32 := Scalar.addi v521 v520
  let v528 : BitVec 32 := Scalar.select v526 v527 v521
  let c2_i32_310 : BitVec 32 := 2#32
  let c0_i32_311 : BitVec 32 := 0#32
  let c0_i32_312 : BitVec 32 := 0#32
  ![v528.toNat, 2, 0, 0]
def k0_off23 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c2_i32_283 : BitVec 32 := 2#32
  let v518 : BitVec 32 := Scalar.addi arg17 c2_i32_283
  let c3_i32_284 : BitVec 32 := 3#32
  let c0_i32_285 : BitVec 32 := 0#32
  let v519 : BitVec 1 := Scalar.cmpi .eq c3_i32_284 c0_i32_285
  let c1_i32_286 : BitVec 32 := 1#32
  let v520 : BitVec 32 := Scalar.select v519 c1_i32_286 c3_i32_284
  let v521 : BitVec 32 := Scalar.remsi v518 v520
  let c0_i32_288 : BitVec 32 := 0#32
  let v523 : BitVec 1 := Scalar.cmpi .slt v521 c0_i32_288
  let c0_i32_289 : BitVec 32 := 0#32
  let v524 : BitVec 1 := Scalar.cmpi .slt v520 c0_i32_289
  let v525 : BitVec 1 := Scalar.xori v523 v524
  let c0_i32_287 : BitVec 32 := 0#32
  let v522 : BitVec 1 := Scalar.cmpi .ne v521 c0_i32_287
  let v526 : BitVec 1 := Scalar.andi v525 v522
  let v527 : BitVec 32 := Scalar.addi v521 v520
  let v528 : BitVec 32 := Scalar.select v526 v527 v521
  let c3_i32_315 : BitVec 32 := 3#32
  let c0_i32_316 : BitVec 32 := 0#32
  let c0_i32_317 : BitVec 32 := 0#32
  ![v528.toNat, 3, 0, 0]
def k0_off24 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c2_i32_283 : BitVec 32 := 2#32
  let v518 : BitVec 32 := Scalar.addi arg17 c2_i32_283
  let c3_i32_284 : BitVec 32 := 3#32
  let c0_i32_285 : BitVec 32 := 0#32
  let v519 : BitVec 1 := Scalar.cmpi .eq c3_i32_284 c0_i32_285
  let c1_i32_286 : BitVec 32 := 1#32
  let v520 : BitVec 32 := Scalar.select v519 c1_i32_286 c3_i32_284
  let v521 : BitVec 32 := Scalar.remsi v518 v520
  let c0_i32_288 : BitVec 32 := 0#32
  let v523 : BitVec 1 := Scalar.cmpi .slt v521 c0_i32_288
  let c0_i32_289 : BitVec 32 := 0#32
  let v524 : BitVec 1 := Scalar.cmpi .slt v520 c0_i32_289
  let v525 : BitVec 1 := Scalar.xori v523 v524
  let c0_i32_287 : BitVec 32 := 0#32
  let v522 : BitVec 1 := Scalar.cmpi .ne v521 c0_i32_287
  let v526 : BitVec 1 := Scalar.andi v525 v522
  let v527 : BitVec 32 := Scalar.addi v521 v520
  let v528 : BitVec 32 := Scalar.select v526 v527 v521
  let c4_i32_320 : BitVec 32 := 4#32
  let c0_i32_321 : BitVec 32 := 0#32
  let c0_i32_322 : BitVec 32 := 0#32
  ![v528.toNat, 4, 0, 0]
def k0_mult2 (k0_t1 : Fin k0_t1_loop.trips) : BitVec 32 :=
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let c0_i32_139 : BitVec 32 := 0#32
  let v140 : BitVec 32 := Scalar.addi v82 c0_i32_139
  v140
def k0_off25 (k0_t1 : Fin k0_t1_loop.trips) (c0_i32_139 : BitVec 32) : Fin 2 → Nat :=
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let v140 : BitVec 32 := Scalar.addi v82 c0_i32_139
  let v141 : BitVec 32 := v140
  let v142 : Index := Scalar.indexCast v141
  let c0_140 : Index := 0#32
  ![v142.toNat, 0]
def k0_off26 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let v160 : Index := Scalar.indexCast v92
  let c0_152 : Index := 0#32
  let c0_153 : Index := 0#32
  let c0_154 : Index := 0#32
  ![v160.toNat, 0, 0, 0]
def k0_off27 (k0_t1 : Fin k0_t1_loop.trips) (c0_i32_138 : BitVec 32) : Fin 5 → Nat :=
  let c0_155 : Index := 0#32
  let c0_156 : Index := 0#32
  let c0_i32_83 : BitVec 32 := 0#32
  let c1_i32_84 : BitVec 32 := 1#32
  let arg17 : BitVec 32 := Scf.iv c0_i32_83 c1_i32_84 k0_t1
  let c5_i32_137 : BitVec 32 := 5#32
  let v138 : BitVec 32 := Scalar.muli arg17 c5_i32_137
  let v139 : BitVec 32 := Scalar.addi v138 c0_i32_138
  let v164 : Index := Scalar.indexCast v139
  let c0_157 : Index := 0#32
  let c0_158 : Index := 0#32
  ![0, 0, v164.toNat, 0, 0]
def k0_off28 (k0_t1 : Fin k0_t1_loop.trips) (c0_i32_139 : BitVec 32) : Fin 2 → Nat :=
  let c0_161 : Index := 0#32
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let v140 : BitVec 32 := Scalar.addi v82 c0_i32_139
  let v141 : BitVec 32 := v140
  let v205 : Index := Scalar.indexCast v141
  ![0, v205.toNat]
def k0_mult3 (k0_t1 : Fin k0_t1_loop.trips) : BitVec 32 :=
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let c256_i32 : BitVec 32 := 256#32
  let v212 : BitVec 32 := Scalar.addi v82 c256_i32
  v212
def k0_off29 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let v232 : Index := Scalar.indexCast v92
  let c1 : Index := 1#32
  let c0_181 : Index := 0#32
  let c0_182 : Index := 0#32
  ![v232.toNat, 1, 0, 0]
def k0_mult4 (k0_t1 : Fin k0_t1_loop.trips) : BitVec 32 :=
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let c512_i32 : BitVec 32 := 512#32
  let v284 : BitVec 32 := Scalar.addi v82 c512_i32
  v284
def k0_off30 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let v304 : Index := Scalar.indexCast v92
  let c2 : Index := 2#32
  let c0_209 : Index := 0#32
  let c0_210 : Index := 0#32
  ![v304.toNat, 2, 0, 0]
def k0_mult5 (k0_t1 : Fin k0_t1_loop.trips) : BitVec 32 :=
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let c768_i32 : BitVec 32 := 768#32
  let v356 : BitVec 32 := Scalar.addi v82 c768_i32
  v356
def k0_off31 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let v376 : Index := Scalar.indexCast v92
  let c3 : Index := 3#32
  let c0_237 : Index := 0#32
  let c0_238 : Index := 0#32
  ![v376.toNat, 3, 0, 0]
def k0_mult6 (k0_t1 : Fin k0_t1_loop.trips) : BitVec 32 :=
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let c1024_i32 : BitVec 32 := 1024#32
  let v428 : BitVec 32 := Scalar.addi v82 c1024_i32
  v428
def k0_off32 (k0_t1 : Fin k0_t1_loop.trips) : Fin 4 → Nat :=
  let c0_i32_83 : BitVec 32 := 0#32
  let c1_i32_84 : BitVec 32 := 1#32
  let arg17 : BitVec 32 := Scf.iv c0_i32_83 c1_i32_84 k0_t1
  let c3_i32_91 : BitVec 32 := 3#32
  let c0_i32_92 : BitVec 32 := 0#32
  let v83 : BitVec 1 := Scalar.cmpi .eq c3_i32_91 c0_i32_92
  let c1_i32_93 : BitVec 32 := 1#32
  let v84 : BitVec 32 := Scalar.select v83 c1_i32_93 c3_i32_91
  let v85 : BitVec 32 := Scalar.remsi arg17 v84
  let c0_i32_95 : BitVec 32 := 0#32
  let v87 : BitVec 1 := Scalar.cmpi .slt v85 c0_i32_95
  let c0_i32_96 : BitVec 32 := 0#32
  let v88 : BitVec 1 := Scalar.cmpi .slt v84 c0_i32_96
  let v89 : BitVec 1 := Scalar.xori v87 v88
  let c0_i32_94 : BitVec 32 := 0#32
  let v86 : BitVec 1 := Scalar.cmpi .ne v85 c0_i32_94
  let v90 : BitVec 1 := Scalar.andi v89 v86
  let v91 : BitVec 32 := Scalar.addi v85 v84
  let v92 : BitVec 32 := Scalar.select v90 v91 v85
  let v448 : Index := Scalar.indexCast v92
  let c4 : Index := 4#32
  let c0_265 : Index := 0#32
  let c0_266 : Index := 0#32
  ![v448.toNat, 4, 0, 0]
def k0_off33 (k0_t1 : Fin k0_t1_loop.trips) : Fin 2 → Nat :=
  let c0_277 : Index := 0#32
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let v501 : Index := Scalar.indexCast v82
  ![0, v501.toNat]
def k0_off34 (k0_t1 : Fin k0_t1_loop.trips) : Fin 2 → Nat :=
  let c0_279 : Index := 0#32
  let c0_i32_83 : BitVec 32 := 0#32
  let c1_i32_84 : BitVec 32 := 1#32
  let arg17 : BitVec 32 := Scf.iv c0_i32_83 c1_i32_84 k0_t1
  let c1280_i32 : BitVec 32 := 1280#32
  let v81 : BitVec 32 := Scalar.muli arg17 c1280_i32
  let v82 : BitVec 32 := v81
  let v508 : Index := Scalar.indexCast v82
  ![0, v508.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S96x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x65x1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16640x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S96x16640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1280x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S96x16640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x16640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S1x8x16400x96 : Shape := ⟨4, ![1, 8, 16400, 96]⟩
abbrev S1x8x16400x64 : Shape := ⟨4, ![1, 8, 16400, 64]⟩
abbrev S1x8x16400x16400 : Shape := ⟨4, ![1, 8, 16400, 16400]⟩
abbrev S_ : Shape := ⟨0, ![]⟩
abbrev S1x8x16400 : Shape := ⟨3, ![1, 8, 16400]⟩
abbrev S1x8x16400x1 : Shape := ⟨4, ![1, 8, 16400, 1]⟩
abbrev S1x8x64x16400 : Shape := ⟨4, ![1, 8, 64, 16400]⟩
abbrev S8x16400 : Shape := ⟨2, ![8, 16400]⟩

abbrev nBuf : Space → Nat
  | .hbm => 70
  | .vmem => 0
  | .smem => 0
  | _ => 0

abbrev bufTy : (tb : Table) → Fin (tcTables nBuf tb) → BufTy
  | .hbm, ⟨0, _⟩ => ⟨S1x8x16400x96, .f32⟩
  | .hbm, ⟨1, _⟩ => ⟨S1x8x16400x96, .f32⟩
  | .hbm, ⟨2, _⟩ => ⟨S1x8x16400x64, .f32⟩
  | .hbm, ⟨3, _⟩ => ⟨S1x8x16400x64, .f32⟩
  | .hbm, ⟨4, _⟩ => ⟨S1x8x16400x16400, .f32⟩
  | .hbm, ⟨5, _⟩ => ⟨S_, .f32⟩
  | .hbm, ⟨6, _⟩ => ⟨S1x8x16400x16400, .f32⟩
  | .hbm, ⟨7, _⟩ => ⟨S1x8x16400x16400, .f32⟩
  | .hbm, ⟨8, _⟩ => ⟨S_, .f32⟩
  | .hbm, ⟨9, _⟩ => ⟨S1x8x16400, .f32⟩
  | .hbm, ⟨10, _⟩ => ⟨S1x8x16400x1, .f32⟩
  | .hbm, ⟨11, _⟩ => ⟨S1x8x16400x16400, .f32⟩
  | .hbm, ⟨12, _⟩ => ⟨S1x8x16400x16400, .i1⟩
  | .hbm, ⟨13, _⟩ => ⟨S1x8x16400x16400, .f32⟩
  | .hbm, ⟨14, _⟩ => ⟨S_, .f32⟩
  | .hbm, ⟨15, _⟩ => ⟨S1x8x16400, .f32⟩
  | .hbm, ⟨16, _⟩ => ⟨S_, .f32⟩
  | .hbm, ⟨17, _⟩ => ⟨S1x8x16400, .f32⟩
  | .hbm, ⟨18, _⟩ => ⟨S1x8x16400, .f32⟩
  | .hbm, ⟨19, _⟩ => ⟨S_, .f32⟩
  | .hbm, ⟨20, _⟩ => ⟨S1x8x16400, .f32⟩
  | .hbm, ⟨21, _⟩ => ⟨S1x8x16400, .i1⟩
  | .hbm, ⟨22, _⟩ => ⟨S_, .f32⟩
  | .hbm, ⟨23, _⟩ => ⟨S1x8x16400, .f32⟩
  | .hbm, ⟨24, _⟩ => ⟨S1x8x16400, .i1⟩
  | .hbm, ⟨25, _⟩ => ⟨S_, .f32⟩
  | .hbm, ⟨26, _⟩ => ⟨S1x8x16400, .f32⟩
  | .hbm, ⟨27, _⟩ => ⟨S_, .f32⟩
  | .hbm, ⟨28, _⟩ => ⟨S1x8x16400, .f32⟩
  | .hbm, ⟨29, _⟩ => ⟨S_, .f32⟩
  | .hbm, ⟨30, _⟩ => ⟨S1x8x16400, .f32⟩
  | .hbm, ⟨31, _⟩ => ⟨S1x8x16400, .f32⟩
  | .hbm, ⟨32, _⟩ => ⟨S1x8x16400, .f32⟩
  | .hbm, ⟨33, _⟩ => ⟨S1x8x16400x1, .f32⟩
  | .hbm, ⟨34, _⟩ => ⟨S1x8x16400x16400, .f32⟩
  | .hbm, ⟨35, _⟩ => ⟨S1x8x16400x16400, .f32⟩
  | .hbm, ⟨36, _⟩ => ⟨S1x8x16400x16400, .f32⟩
  | .hbm, ⟨37, _⟩ => ⟨S_, .f32⟩
  | .hbm, ⟨38, _⟩ => ⟨S1x8x16400, .f32⟩
  | .hbm, ⟨39, _⟩ => ⟨S1x8x16400x1, .f32⟩
  | .hbm, ⟨40, _⟩ => ⟨S1x8x16400x16400, .f32⟩
  | .hbm, ⟨41, _⟩ => ⟨S1x8x16400x16400, .f32⟩
  | .hbm, ⟨42, _⟩ => ⟨S1x8x16400x1, .f32⟩
  | .hbm, ⟨43, _⟩ => ⟨S_, .f32⟩
  | .hbm, ⟨44, _⟩ => ⟨S1x8x16400x1, .f32⟩
  | .hbm, ⟨45, _⟩ => ⟨S1x8x16400x1, .f32⟩
  | .hbm, ⟨46, _⟩ => ⟨S1x8x16400x64, .f32⟩
  | .hbm, ⟨47, _⟩ => ⟨S1x8x64x16400, .f32⟩
  | .hbm, ⟨48, _⟩ => ⟨S1x8x16400x64, .f32⟩
  | .hbm, ⟨49, _⟩ => ⟨S1x8x16400x16400, .f32⟩
  | .hbm, ⟨50, _⟩ => ⟨S1x8x16400x16400, .f32⟩
  | .hbm, ⟨51, _⟩ => ⟨S1x8x16400x16400, .f32⟩
  | .hbm, ⟨52, _⟩ => ⟨S1x8x16400x16400, .f32⟩
  | .hbm, ⟨53, _⟩ => ⟨S_, .f32⟩
  | .hbm, ⟨54, _⟩ => ⟨S1x8x16400, .f32⟩
  | .hbm, ⟨55, _⟩ => ⟨S1x8x16400x1, .f32⟩
  | .hbm, ⟨56, _⟩ => ⟨S1x8x16400x1, .f32⟩
  | .hbm, ⟨57, _⟩ => ⟨S1x8x16400x16400, .f32⟩
  | .hbm, ⟨58, _⟩ => ⟨S1x8x16400x16400, .f32⟩
  | .hbm, ⟨59, _⟩ => ⟨S_, .f32⟩
  | .hbm, ⟨60, _⟩ => ⟨S8x16400, .f32⟩
  | .hbm, ⟨61, _⟩ => ⟨S1x8x16400, .f32⟩
  | .hbm, ⟨62, _⟩ => ⟨S1x8x16400x16400, .f32⟩
  | .hbm, ⟨63, _⟩ => ⟨S1x8x16400x16400, .f32⟩
  | .hbm, ⟨64, _⟩ => ⟨S1x8x16400x16400, .f32⟩
  | .hbm, ⟨65, _⟩ => ⟨S_, .f32⟩
  | .hbm, ⟨66, _⟩ => ⟨S1x8x16400x16400, .f32⟩
  | .hbm, ⟨67, _⟩ => ⟨S1x8x16400x16400, .f32⟩
  | .hbm, ⟨68, _⟩ => ⟨S1x8x16400x96, .f32⟩
  | .hbm, ⟨69, _⟩ => ⟨S1x8x16400x96, .f32⟩
  | _, _ => ⟨S1x8x16400x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Proj.lean ====
abbrev S1x16400x1024 : Shape := ⟨3, ![1, 16400, 1024]⟩
abbrev S1024 : Shape := ⟨1, ![1024]⟩
abbrev S1024x1952 : Shape := ⟨2, ![1024, 1952]⟩
abbrev S1024x32 : Shape := ⟨2, ![1024, 32]⟩
abbrev S_ : Shape := ⟨0, ![]⟩
abbrev S1024x128 : Shape := ⟨2, ![1024, 128]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x256 : Shape := ⟨2, ![1024, 256]⟩
abbrev S1024x2560 : Shape := ⟨2, ![1024, 2560]⟩
abbrev S16400x1024 : Shape := ⟨2, ![16400, 1024]⟩
abbrev S16640x1024 : Shape := ⟨2, ![16640, 1024]⟩
abbrev S1x1024 : Shape := ⟨2, ![1, 1024]⟩
abbrev S16640x2560 : Shape := ⟨2, ![16640, 2560]⟩
abbrev S640x1024 : Shape := ⟨2, ![640, 1024]⟩
abbrev S640x2560 : Shape := ⟨2, ![640, 2560]⟩
abbrev S640 : Shape := ⟨1, ![640]⟩
abbrev S640x1 : Shape := ⟨2, ![640, 1]⟩
abbrev S16400x2560 : Shape := ⟨2, ![16400, 2560]⟩
abbrev S1x16400x2560 : Shape := ⟨3, ![1, 16400, 2560]⟩
abbrev S1x16400x8x128 : Shape := ⟨4, ![1, 16400, 8, 128]⟩
abbrev S1x16400x8x64 : Shape := ⟨4, ![1, 16400, 8, 64]⟩
abbrev S1x16400x512 : Shape := ⟨3, ![1, 16400, 512]⟩
abbrev S1x16400x256 : Shape := ⟨3, ![1, 16400, 256]⟩
abbrev S1x16400x128 : Shape := ⟨3, ![1, 16400, 128]⟩
abbrev S1x16400x32 : Shape := ⟨3, ![1, 16400, 32]⟩

abbrev nBuf : Space → Nat
  | .hbm => 36
  | .vmem => 6
  | .smem => 0
  | _ => 0

abbrev bufTy : (tb : Table) → Fin (tcTables nBuf tb) → BufTy
  | .hbm, ⟨0, _⟩ => ⟨S1x16400x1024, .f32⟩
  | .hbm, ⟨1, _⟩ => ⟨S1024, .f32⟩
  | .hbm, ⟨2, _⟩ => ⟨S1024x1952, .f32⟩
  | .hbm, ⟨3, _⟩ => ⟨S1024x32, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x512, .f32⟩
  | .hbm, ⟨8, _⟩ => ⟨S1024x8x64, .f32⟩
  | .hbm, ⟨9, _⟩ => ⟨S_, .i32⟩
  | .hbm, ⟨10, _⟩ => ⟨S_, .f32⟩
  | .hbm, ⟨11, _⟩ => ⟨S1024x8x128, .f32⟩
  | .hbm, ⟨12, _⟩ => ⟨S1024x1024, .f32⟩
  | .hbm, ⟨13, _⟩ => ⟨S1024x512, .f32⟩
  | .hbm, ⟨14, _⟩ => ⟨S1024x512, .f32⟩
  | .hbm, ⟨15, _⟩ => ⟨S1024x256, .f32⟩
  | .hbm, ⟨16, _⟩ => ⟨S1024x128, .f32⟩
  | .hbm, ⟨17, _⟩ => ⟨S1024x2560, .f32⟩
  | .hbm, ⟨18, _⟩ => ⟨S16400x1024, .f32⟩
  | .hbm, ⟨19, _⟩ => ⟨S_, .i32⟩
  | .hbm, ⟨20, _⟩ => ⟨S_, .f32⟩
  | .hbm, ⟨21, _⟩ => ⟨S16640x1024, .f32⟩
  | .hbm, ⟨22, _⟩ => ⟨S1x1024, .f32⟩
  | .hbm, ⟨23, _⟩ => ⟨S1024x2560, .bf16⟩
  | .hbm, ⟨24, _⟩ => ⟨S16640x2560, .f32⟩
  | .hbm, ⟨25, _⟩ => ⟨S16400x2560, .f32⟩
  | .hbm, ⟨26, _⟩ => ⟨S1x16400x2560, .f32⟩
  | .hbm, ⟨27, _⟩ => ⟨S1x16400x1024, .f32⟩
  | .hbm, ⟨28, _⟩ => ⟨S1x16400x8x128, .f32⟩
  | .hbm, ⟨29, _⟩ => ⟨S1x16400x8x64, .f32⟩
  | .hbm, ⟨30, _⟩ => ⟨S1x16400x512, .f32⟩
  | .hbm, ⟨31, _⟩ => ⟨S1x16400x256, .f32⟩
  | .hbm, ⟨32, _⟩ => ⟨S1x16400x128, .f32⟩
  | .hbm, ⟨33, _⟩ => ⟨S1x16400x32, .f32⟩
  | .hbm, ⟨34, _⟩ => ⟨S1x16400x512, .f32⟩
  | .hbm, ⟨35, _⟩ => ⟨S1x16400x512, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x2560, .bf16⟩
  | .local _ .vmem, ⟨4, _⟩ => ⟨S640x2560, .f32⟩
  | .local _ .vmem, ⟨5, _⟩ => ⟨S640x2560, .f32⟩
  | _, _ => ⟨S1x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjReferenceIdeal.lean ====
abbrev S1x16400x1024 : Shape := ⟨3, ![1, 16400, 1024]⟩
abbrev S1024 : Shape := ⟨1, ![1024]⟩
abbrev S1024x1952 : Shape := ⟨2, ![1024, 1952]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x16400x1952 : Shape := ⟨3, ![1, 16400, 1952]⟩
abbrev S1x16400x256 : Shape := ⟨3, ![1, 16400, 256]⟩
abbrev S1x16400x128 : Shape := ⟨3, ![1, 16400, 128]⟩
abbrev S1x16400x32 : Shape := ⟨3, ![1, 16400, 32]⟩
abbrev S1x16400x512 : Shape := ⟨3, ![1, 16400, 512]⟩

abbrev nBuf : Space → Nat
  | .hbm => 26
  | .vmem => 0
  | .smem => 0
  | _ => 0

abbrev bufTy : (tb : Table) → Fin (tcTables nBuf tb) → BufTy
  | .hbm, ⟨0, _⟩ => ⟨S1x16400x1024, .f32⟩
  | .hbm, ⟨1, _⟩ => ⟨S1024, .f32⟩
  | .hbm, ⟨2, _⟩ => ⟨S1024x1952, .f32⟩
  | .hbm, ⟨3, _⟩ => ⟨S1x16400x1024, .f32⟩
  | .hbm, ⟨4, _⟩ => ⟨S_, .f32⟩
  | .hbm, ⟨5, _⟩ => ⟨S1x16400, .f32⟩
  | .hbm, ⟨6, _⟩ => ⟨S1x16400x1, .f32⟩
  | .hbm, ⟨7, _⟩ => ⟨S_, .f32⟩
  | .hbm, ⟨8, _⟩ => ⟨S1x16400x1, .f32⟩
  | .hbm, ⟨9, _⟩ => ⟨S1x16400x1, .f32⟩
  | .hbm, ⟨10, _⟩ => ⟨S_, .f32⟩
  | .hbm, ⟨11, _⟩ => ⟨S1x16400x1, .f32⟩
  | .hbm, ⟨12, _⟩ => ⟨S1x16400x1, .f32⟩
  | .hbm, ⟨13, _⟩ => ⟨S1x16400x1, .f32⟩
  | .hbm, ⟨14, _⟩ => ⟨S1x16400x1024, .f32⟩
  | .hbm, ⟨15, _⟩ => ⟨S1x16400x1024, .f32⟩
  | .hbm, ⟨16, _⟩ => ⟨S1x1x1024, .f32⟩
  | .hbm, ⟨17, _⟩ => ⟨S1x16400x1024, .f32⟩
  | .hbm, ⟨18, _⟩ => ⟨S1x16400x1024, .f32⟩
  | .hbm, ⟨19, _⟩ => ⟨S1x16400x1952, .f32⟩
  | .hbm, ⟨20, _⟩ => ⟨S1x16400x256, .f32⟩
  | .hbm, ⟨21, _⟩ => ⟨S1x16400x128, .f32⟩
  | .hbm, ⟨22, _⟩ => ⟨S1x16400x32, .f32⟩
  | .hbm, ⟨23, _⟩ => ⟨S1x16400x512, .f32⟩
  | .hbm, ⟨24, _⟩ => ⟨S1x16400x512, .f32⟩
  | .hbm, ⟨25, _⟩ => ⟨S1x16400x512, .f32⟩
  | _, _ => ⟨S1x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Grad.lean ====
abbrev S1x16400x1024 : Shape := ⟨3, ![1, 16400, 1024]⟩
abbrev S1024 : Shape := ⟨1, ![1024]⟩
abbrev S1024x1952 : Shape := ⟨2, ![1024, 1952]⟩
abbrev S512 : Shape := ⟨1, ![512]⟩
abbrev S1x16400x256 : Shape := ⟨3, ![1, 16400, 256]⟩
abbrev S1x16400x128 : Shape := ⟨3, ![1, 16400, 128]⟩
abbrev S1x16400x32 : Shape := ⟨3, ![1, 16400, 32]⟩
abbrev S1x16400x512 : Shape := ⟨3, ![1, 16400, 512]⟩
abbrev S16400x512 : Shape := ⟨2, ![16400, 512]⟩
abbrev S16400x8x64 : Shape := ⟨3, ![16400, 8, 64]⟩
abbrev S_ : Shape := ⟨0, ![]⟩
abbrev S16640x8x128 : Shape := ⟨3, ![16640, 8, 128]⟩
abbrev S16640x1024 : Shape := ⟨2, ![16640, 1024]⟩
abbrev S16400x32 : Shape := ⟨2, ![16400, 32]⟩
abbrev S16640x128 : Shape := ⟨2, ![16640, 128]⟩
abbrev S16400x1024 : Shape := ⟨2, ![16400, 1024]⟩
abbrev S1x1024 : Shape := ⟨2, ![1, 1024]⟩
abbrev S16640x512 : Shape := ⟨2, ![16640, 512]⟩
abbrev S1x512 : Shape := ⟨2, ![1, 512]⟩
abbrev S16400x256 : Shape := ⟨2, ![16400, 256]⟩
abbrev S16640x256 : Shape := ⟨2, ![16640, 256]⟩
abbrev S16400x128 : Shape := ⟨2, ![16400, 128]⟩
abbrev S1024x32 : Shape := ⟨2, ![1024, 32]⟩
abbrev S1024x128 : Shape := ⟨2, ![1024, 128]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x256 : Shape := ⟨2, ![1024, 256]⟩
abbrev S1024x2560 : Shape := ⟨2, ![1024, 2560]⟩
abbrev S2560x1024 : Shape := ⟨2, ![2560, 1024]⟩
abbrev S8x1024 : Shape := ⟨2, ![8, 1024]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S128x1024 : Shape := ⟨2, ![128, 1024]⟩

abbrev nBuf : Space → Nat
  | .hbm => 91
  | .vmem => 27
  | .smem => 0
  | _ => 0

abbrev bufTy : (tb : Table) → Fin (tcTables nBuf tb) → BufTy
  | .hbm, ⟨0, _⟩ => ⟨S1x16400x1024, .f32⟩
  | .hbm, ⟨1, _⟩ => ⟨S1024, .f32⟩
  | .hbm, ⟨2, _⟩ => ⟨S1024x1952, .f32⟩
  | .hbm, ⟨3, _⟩ => ⟨S512, .f32⟩
  | .hbm, ⟨4, _⟩ => ⟨S1x16400x1024, .f32⟩
  | .hbm, ⟨5, _⟩ => ⟨S1x16400x256, .f32⟩
  | .hbm, ⟨6, _⟩ => ⟨S1x16400x128, .f32⟩
  | .hbm, ⟨7, _⟩ => ⟨S1x16400x32, .f32⟩
  | .hbm, ⟨8, _⟩ => ⟨S1x16400x512, .f32⟩
  | .hbm, ⟨9, _⟩ => ⟨S1x16400x512, .f32⟩
  | .hbm, ⟨10, _⟩ => ⟨S1x16400x512, .f32⟩
  | .hbm, ⟨11, _⟩ => ⟨S1x16400x512, .f32⟩
  | .hbm, ⟨12, _⟩ => ⟨S1x16400x512, .f32⟩
  | .hbm, ⟨13, _⟩ => ⟨S16400x512, .f32⟩
  | .hbm, ⟨14, _⟩ => ⟨S16400x8x64, .f32⟩
  | .hbm, ⟨15, _⟩ => ⟨S_, .i32⟩
  | .hbm, ⟨16, _⟩ => ⟨S_, .f32⟩
  | .hbm, ⟨17, _⟩ => ⟨S16640x8x128, .f32⟩
  | .hbm, ⟨18, _⟩ => ⟨S16640x1024, .f32⟩
  | .hbm, ⟨19, _⟩ => ⟨S16400x32, .f32⟩
  | .hbm, ⟨20, _⟩ => ⟨S_, .i32⟩
  | .hbm, ⟨21, _⟩ => ⟨S_, .f32⟩
  | .hbm, ⟨22, _⟩ => ⟨S16640x128, .f32⟩
  | .hbm, ⟨23, _⟩ => ⟨S16400x1024, .f32⟩
  | .hbm, ⟨24, _⟩ => ⟨S_, .i32⟩
  | .hbm, ⟨25, _⟩ => ⟨S_, .f32⟩
  | .hbm, ⟨26, _⟩ => ⟨S16640x1024, .f32⟩
  | .hbm, ⟨27, _⟩ => ⟨S1x1024, .f32⟩
  | .hbm, ⟨28, _⟩ => ⟨S16400x1024, .f32⟩
  | .hbm, ⟨29, _⟩ => ⟨S_, .i32⟩
  | .hbm, ⟨30, _⟩ => ⟨S_, .f32⟩
  | .hbm, ⟨31, _⟩ => ⟨S16640x1024, .f32⟩
  | .hbm, ⟨32, _⟩ => ⟨S16400x512, .f32⟩
  | .hbm, ⟨33, _⟩ => ⟨S_, .i32⟩
  | .hbm, ⟨34, _⟩ => ⟨S_, .f32⟩
  | .hbm, ⟨35, _⟩ => ⟨S16640x512, .f32⟩
  | .hbm, ⟨36, _⟩ => ⟨S16400x512, .f32⟩
  | .hbm, ⟨37, _⟩ => ⟨S_, .i32⟩
  | .hbm, ⟨38, _⟩ => ⟨S_, .f32⟩
  | .hbm, ⟨39, _⟩ => ⟨S16640x512, .f32⟩
  | .hbm, ⟨40, _⟩ => ⟨S16400x512, .f32⟩
  | .hbm, ⟨41, _⟩ => ⟨S_, .i32⟩
  | .hbm, ⟨42, _⟩ => ⟨S_, .f32⟩
  | .hbm, ⟨43, _⟩ => ⟨S16640x512, .f32⟩
  | .hbm, ⟨44, _⟩ => ⟨S1x512, .f32⟩
  | .hbm, ⟨45, _⟩ => ⟨S16400x512, .f32⟩
  | .hbm, ⟨46, _⟩ => ⟨S_, .i32⟩
  | .hbm, ⟨47, _⟩ => ⟨S_, .f32⟩
  | .hbm, ⟨48, _⟩ => ⟨S16640x512, .f32⟩
  | .hbm, ⟨49, _⟩ => ⟨S16400x256, .f32⟩
  | .hbm, ⟨50, _⟩ => ⟨S_, .i32⟩
  | .hbm, ⟨51, _⟩ => ⟨S_, .f32⟩
  | .hbm, ⟨52, _⟩ => ⟨S16640x256, .f32⟩
  | .hbm, ⟨53, _⟩ => ⟨S16400x128, .f32⟩
  | .hbm, ⟨54, _⟩ => ⟨S_, .i32⟩
  | .hbm, ⟨55, _⟩ => ⟨S_, .f32⟩
  | .hbm, ⟨56, _⟩ => ⟨S16640x128, .f32⟩
  | .hbm, ⟨57, _⟩ => ⟨S1024x32, .f32⟩
  | .hbm, ⟨58, _⟩ => ⟨S_, .i32⟩
  | .hbm, ⟨59, _⟩ => ⟨S_, .f32⟩
  | .hbm, ⟨60, _⟩ => ⟨S1024x128, .f32⟩
  | .hbm, ⟨61, _⟩ => ⟨S1024x512, .f32⟩
  | .hbm, ⟨62, _⟩ => ⟨S1024x8x64, .f32⟩
  | .hbm, ⟨63, _⟩ => ⟨S_, .i32⟩
  | .hbm, ⟨64, _⟩ => ⟨S_, .f32⟩
  | .hbm, ⟨65, _⟩ => ⟨S1024x8x128, .f32⟩
  | .hbm, ⟨66, _⟩ => ⟨S1024x1024, .f32⟩
  | .hbm, ⟨67, _⟩ => ⟨S1024x512, .f32⟩
  | .hbm, ⟨68, _⟩ => ⟨S1024x512, .f32⟩
  | .hbm, ⟨69, _⟩ => ⟨S1024x256, .f32⟩
  | .hbm, ⟨70, _⟩ => ⟨S1024x128, .f32⟩
  | .hbm, ⟨71, _⟩ => ⟨S1024x2560, .f32⟩
  | .hbm, ⟨72, _⟩ => ⟨S1024x2560, .bf16⟩
  | .hbm, ⟨73, _⟩ => ⟨S2560x1024, .bf16⟩
  | .hbm, ⟨74, _⟩ => ⟨S16640x1024, .f32⟩
  | .hbm, ⟨75, _⟩ => ⟨S1024x2560, .f32⟩
  | .hbm, ⟨76, _⟩ => ⟨S8x1024, .f32⟩
  | .hbm, ⟨77, _⟩ => ⟨S1024x256, .f32⟩
  | .hbm, ⟨78, _⟩ => ⟨S1024x128, .f32⟩
  | .hbm, ⟨79, _⟩ => ⟨S1024x32, .f32⟩
  | .hbm, ⟨80, _⟩ => ⟨S1024x1024, .f32⟩
  | .hbm, ⟨81, _⟩ => ⟨S1024x8x128, .f32⟩
  | .hbm, ⟨82, _⟩ => ⟨S1024x8x64, .f32⟩
  | .hbm, ⟨83, _⟩ => ⟨S1024x512, .f32⟩
  | .hbm, ⟨84, _⟩ => ⟨S1024x512, .f32⟩
  | .hbm, ⟨85, _⟩ => ⟨S1024x512, .f32⟩
  | .hbm, ⟨86, _⟩ => ⟨S1024x1952, .f32⟩
  | .hbm, ⟨87, _⟩ => ⟨S16400x1024, .f32⟩
  | .hbm, ⟨88, _⟩ => ⟨S1x16400x1024, .f32⟩
  | .hbm, ⟨89, _⟩ => ⟨S1x1024, .f32⟩
  | .hbm, ⟨90, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | .local _ .vmem, ⟨16, _⟩ => ⟨S256x256, .f32⟩
  | .local _ .vmem, ⟨17, _⟩ => ⟨S256x256, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S2560x1024, .bf16⟩
  | .local _ .vmem, ⟨23, _⟩ => ⟨S256x1024, .f32⟩
  | .local _ .vmem, ⟨24, _⟩ => ⟨S256x1024, .f32⟩
  | .local _ .vmem, ⟨25, _⟩ => ⟨S1024x2560, .f32⟩
  | .local _ .vmem, ⟨26, _⟩ => ⟨S8x1024, .f32⟩
  | _, _ => ⟨S1x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_call2_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_call3_v0 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_call4_v0 : Ref sig .tc := ⟨.hbm, 34, rfl⟩
abbrev main_v12 : Ref sig .tc := ⟨.hbm, 35, rfl⟩
abbrev main_v13 : Ref sig .tc := ⟨.hbm, 36, rfl⟩
abbrev main_c_4 : Ref sig .tc := ⟨.hbm, 37, rfl⟩
abbrev main_call5_v0 : Ref sig .tc := ⟨.hbm, 38, rfl⟩
abbrev main_v14 : Ref sig .tc := ⟨.hbm, 39, rfl⟩
abbrev main_v15 : Ref sig .tc := ⟨.hbm, 40, rfl⟩
abbrev main_c_5 : Ref sig .tc := ⟨.hbm, 41, rfl⟩
abbrev main_call6_v0 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_6 : Ref sig .tc := ⟨.hbm, 46, rfl⟩
abbrev main_call7_v0 : Ref sig .tc := ⟨.hbm, 47, rfl⟩
abbrev main_v19 : Ref sig .tc := ⟨.hbm, 48, rfl⟩
abbrev main_v20 : Ref sig .tc := ⟨.hbm, 49, rfl⟩
abbrev main_c_7 : Ref sig .tc := ⟨.hbm, 50, rfl⟩
abbrev main_call8_v0 : Ref sig .tc := ⟨.hbm, 51, rfl⟩
abbrev main_v21 : Ref sig .tc := ⟨.hbm, 52, rfl⟩
abbrev main_v22 : Ref sig .tc := ⟨.hbm, 53, rfl⟩
abbrev main_c_8 : Ref sig .tc := ⟨.hbm, 54, rfl⟩
abbrev main_call9_v0 : Ref sig .tc := ⟨.hbm, 55, rfl⟩
abbrev main_v23 : Ref sig .tc := ⟨.hbm, 56, rfl⟩
abbrev main_v24 : Ref sig .tc := ⟨.hbm, 57, rfl⟩
abbrev main_c_9 : Ref sig .tc := ⟨.hbm, 58, rfl⟩
abbrev main_call10_v0 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_10 : Ref sig .tc := ⟨.hbm, 63, rfl⟩
abbrev main_call11_v0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37_0 : Ref sig .tc := ⟨.hbm, 74, rfl⟩
abbrev main_v37_1 : Ref sig .tc := ⟨.hbm, 75, rfl⟩
abbrev main_v37_2 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2560x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x2560 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GradReferenceIdeal.lean ====
abbrev S1x16400x1024 : Shape := ⟨3, ![1, 16400, 1024]⟩
abbrev S1024 : Shape := ⟨1, ![1024]⟩
abbrev S1024x1952 : Shape := ⟨2, ![1024, 1952]⟩
abbrev S512 : Shape := ⟨1, ![512]⟩
abbrev S1x16400x256 : Shape := ⟨3, ![1, 16400, 256]⟩
abbrev S1x16400x128 : Shape := ⟨3, ![1, 16400, 128]⟩
abbrev S1x16400x32 : Shape := ⟨3, ![1, 16400, 32]⟩
abbrev S1x16400x512 : Shape := ⟨3, ![1, 16400, 512]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x16400x1952 : Shape := ⟨3, ![1, 16400, 1952]⟩
abbrev S1x1x512 : Shape := ⟨3, ![1, 1, 512]⟩
abbrev S1952x1024 : Shape := ⟨2, ![1952, 1024]⟩
abbrev S1x1024 : Shape := ⟨2, ![1, 1024]⟩
abbrev S16400 : Shape := ⟨1, ![16400]⟩

abbrev nBuf : Space → Nat
  | .hbm => 78
  | .vmem => 0
  | .smem => 0
  | _ => 0

abbrev bufTy : (tb : Table) → Fin (tcTables nBuf tb) → BufTy
  | .hbm, ⟨0, _⟩ => ⟨S1x16400x1024, .f32⟩
  | .hbm, ⟨1, _⟩ => ⟨S1024, .f32⟩
  | .hbm, ⟨2, _⟩ => ⟨S1024x1952, .f32⟩
  | .hbm, ⟨3, _⟩ => ⟨S512, .f32⟩
  | .hbm, ⟨4, _⟩ => ⟨S1x16400x1024, .f32⟩
  | .hbm, ⟨5, _⟩ => ⟨S1x16400x256, .f32⟩
  | .hbm, ⟨6, _⟩ => ⟨S1x16400x128, .f32⟩
  | .hbm, ⟨7, _⟩ => ⟨S1x16400x32, .f32⟩
  | .hbm, ⟨8, _⟩ => ⟨S1x16400x512, .f32⟩
  | .hbm, ⟨9, _⟩ => ⟨S1x16400x512, .f32⟩
  | .hbm, ⟨10, _⟩ => ⟨S1x16400x512, .f32⟩
  | .hbm, ⟨11, _⟩ => ⟨S1x16400x512, .f32⟩
  | .hbm, ⟨12, _⟩ => ⟨S1x16400x512, .f32⟩
  | .hbm, ⟨13, _⟩ => ⟨S1x16400x1024, .f32⟩
  | .hbm, ⟨14, _⟩ => ⟨S_, .f32⟩
  | .hbm, ⟨15, _⟩ => ⟨S1x16400, .f32⟩
  | .hbm, ⟨16, _⟩ => ⟨S1x16400x1, .f32⟩
  | .hbm, ⟨17, _⟩ => ⟨S_, .f32⟩
  | .hbm, ⟨18, _⟩ => ⟨S1x16400x1, .f32⟩
  | .hbm, ⟨19, _⟩ => ⟨S1x16400x1, .f32⟩
  | .hbm, ⟨20, _⟩ => ⟨S_, .f32⟩
  | .hbm, ⟨21, _⟩ => ⟨S1x16400x1, .f32⟩
  | .hbm, ⟨22, _⟩ => ⟨S1x16400x1, .f32⟩
  | .hbm, ⟨23, _⟩ => ⟨S1x16400x1, .f32⟩
  | .hbm, ⟨24, _⟩ => ⟨S1x16400x1, .f32⟩
  | .hbm, ⟨25, _⟩ => ⟨S_, .f32⟩
  | .hbm, ⟨26, _⟩ => ⟨S1x16400x1, .f32⟩
  | .hbm, ⟨27, _⟩ => ⟨S1x16400x1, .f32⟩
  | .hbm, ⟨28, _⟩ => ⟨S1x16400x1024, .f32⟩
  | .hbm, ⟨29, _⟩ => ⟨S1x16400x1024, .f32⟩
  | .hbm, ⟨30, _⟩ => ⟨S1x1x1024, .f32⟩
  | .hbm, ⟨31, _⟩ => ⟨S1x16400x1024, .f32⟩
  | .hbm, ⟨32, _⟩ => ⟨S1x16400x1024, .f32⟩
  | .hbm, ⟨33, _⟩ => ⟨S1x16400x1952, .f32⟩
  | .hbm, ⟨34, _⟩ => ⟨S1x16400x256, .f32⟩
  | .hbm, ⟨35, _⟩ => ⟨S1x16400x128, .f32⟩
  | .hbm, ⟨36, _⟩ => ⟨S1x16400x32, .f32⟩
  | .hbm, ⟨37, _⟩ => ⟨S1x16400x512, .f32⟩
  | .hbm, ⟨38, _⟩ => ⟨S1x16400x512, .f32⟩
  | .hbm, ⟨39, _⟩ => ⟨S1x16400x512, .f32⟩
  | .hbm, ⟨40, _⟩ => ⟨S1x1x512, .f32⟩
  | .hbm, ⟨41, _⟩ => ⟨S1x16400x512, .f32⟩
  | .hbm, ⟨42, _⟩ => ⟨S1x16400x512, .f32⟩
  | .hbm, ⟨43, _⟩ => ⟨S1x16400x512, .f32⟩
  | .hbm, ⟨44, _⟩ => ⟨S1x16400x512, .f32⟩
  | .hbm, ⟨45, _⟩ => ⟨S1x16400x512, .f32⟩
  | .hbm, ⟨46, _⟩ => ⟨S1x16400x512, .f32⟩
  | .hbm, ⟨47, _⟩ => ⟨S1x16400x1952, .f32⟩
  | .hbm, ⟨48, _⟩ => ⟨S1952x1024, .f32⟩
  | .hbm, ⟨49, _⟩ => ⟨S1024x1952, .f32⟩
  | .hbm, ⟨50, _⟩ => ⟨S1x16400x1024, .f32⟩
  | .hbm, ⟨51, _⟩ => ⟨S1x16400x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x16400x1024, .f32⟩
  | .hbm, ⟨56, _⟩ => ⟨S1x16400x1024, .f32⟩
  | .hbm, ⟨57, _⟩ => ⟨S_, .f32⟩
  | .hbm, ⟨58, _⟩ => ⟨S1024, .f32⟩
  | .hbm, ⟨59, _⟩ => ⟨S1x16400x1024, .f32⟩
  | .hbm, ⟨60, _⟩ => ⟨S_, .f32⟩
  | .hbm, ⟨61, _⟩ => ⟨S1x16400, .f32⟩
  | .hbm, ⟨62, _⟩ => ⟨S1x16400x1, .f32⟩
  | .hbm, ⟨63, _⟩ => ⟨S1x16400x1024, .f32⟩
  | .hbm, ⟨64, _⟩ => ⟨S1x16400x1024, .f32⟩
  | .hbm, ⟨65, _⟩ => ⟨S1x16400x1024, .f32⟩
  | .hbm, ⟨66, _⟩ => ⟨S1x16400x1, .f32⟩
  | .hbm, ⟨67, _⟩ => ⟨S_, .f32⟩
  | .hbm, ⟨68, _⟩ => ⟨S1x16400x1, .f32⟩
  | .hbm, ⟨69, _⟩ => ⟨S1x16400x1, .f32⟩
  | .hbm, ⟨70, _⟩ => ⟨S_, .f32⟩
  | .hbm, ⟨71, _⟩ => ⟨S16400, .f32⟩
  | .hbm, ⟨72, _⟩ => ⟨S1x16400, .f32⟩
  | .hbm, ⟨73, _⟩ => ⟨S1x16400x1024, .f32⟩
  | .hbm, ⟨74, _⟩ => ⟨S1x16400x1024, .f32⟩
  | .hbm, ⟨75, _⟩ => ⟨S1x16400x1024, .f32⟩
  | .hbm, ⟨76, _⟩ => ⟨S1x16400x1024, .f32⟩
  | .hbm, ⟨77, _⟩ => ⟨S1x16400x1024, .f32⟩
  | _, _ => ⟨S1x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.Ring.lean ====
/- The ring through which the kernel streams the forward pass's exponentials: three slots of five blocks, two groups
   ahead. Here: the offsets the body computes in closed form, and one name for each window the body slices. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Ring
public import Idealize.ShloMosaic.Lib.Batch
public import Idealize.ShloMosaic.Lib.Tactic
public import Idealize.ShloMosaic.Lib.Pipeline.Kit

@[expose] public section

noncomputable section

namespace Cert.Proof.KernelIdeal

open Cert.KernelIdeal Cert.KernelIdeal.Gen
open Idealize.ShloMosaic Idealize.ShloMosaic.TcCoe Idealize.ShloMosaic.Tactic

/-! ## Windows by name -/

/-- The array of exponentials in main memory. -/
abbrev pM : Memref sig .tc .hbm S8x13x65x256x1280 .bf16 := Memref.whole main_v28
/-- The three slots of five blocks. -/
abbrev bufM : Memref sig .tc .vmem S3x5x256x1280 .bf16 := Memref.whole cc0_scratch1

/-- Slot `s`, block `u`. -/
def boxOff (s : Fin 3) (u : Fin 5) : Fin 4 → Nat := ![s.val, u.val, 0, 0]
theorem boxOff_inb (s : Fin 3) (u : Fin 5) : ∀ a, boxOff s u a + S1x1x256x1280.size a ≤ S3x5x256x1280.size a := by
  have := s.isLt; have := u.isLt; intro a; fin_cases a
  · show s.val + 1 ≤ 3; omega
  · show u.val + 1 ≤ 5; omega
  · show 0 + 256 ≤ 256; omega
  · show 0 + 1280 ≤ 1280; omega
/-- Block `u` of group `b` of the row of the grid point `i`. -/
abbrev blkOff (i : grid0.Coords) (b : Fin 13) (u : Fin 5) : Fin 5 → Nat := ![(i 0).val, (i 1).val, 5 * b.val + u.val, 0, 0]
theorem blkOff_inb (i : grid0.Coords) (b : Fin 13) (u : Fin 5) :
    ∀ a, blkOff i b u a + S1x1x1x256x1280.size a ≤ S8x13x65x256x1280.size a := by
  have h0 : (i 0).val < 8 := (i 0).isLt
  have h1 : (i 1).val < 13 := (i 1).isLt
  have := b.isLt; have := u.isLt; intro a; fin_cases a
  · show (i 0).val + 1 ≤ 8; omega
  · show (i 1).val + 1 ≤ 13; omega
  · show 5 * b.val + u.val + 1 ≤ 65; omega
  · show 0 + 256 ≤ 256; omega
  · show 0 + 1280 ≤ 1280; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Block `u` of slot `s`, as the body slices and squeezes it. -/
def box (s : Fin 3) (u : Fin 5) : Memref sig .tc .vmem S256x1280 .bf16 :=
  (bufM.slice (Rect.unit (s := S3x5x256x1280) (boxOff s u) S1x1x256x1280.size (boxOff_inb s u)) (fun _ => rfl)).squeeze S256x1280 squeezes_S1x1x256x1280_S256x1280
/-- Block `u` of group `b` of point `i`'s row, as the body slices and squeezes it. -/
def blk (i : grid0.Coords) (b : Fin 13) (u : Fin 5) : Memref sig .tc .hbm S256x1280 .bf16 :=
  (pM.slice (Rect.unit (s := S8x13x65x256x1280) (blkOff i b u) S1x1x1x256x1280.size (blkOff_inb i b u)) (fun _ => rfl)).squeeze S256x1280 squeezes_S1x1x1x256x1280_S256x1280
/-- Slot `s`'s semaphore. -/
def csm (s : Fin 3) : DmaSems sig S_ :=
  (cc0_scratch2.slice (Rect.unit (s := S3) (semOff s) S1.size (semOff_inb s))).squeeze S_ squeezes_S1_S_

instance (s : Fin 3) (u : Fin 5) : ClosedOff (boxOff s u) := ⟨![s.val, u.val, 0, 0], rfl⟩
instance (i : grid0.Coords) (b : Fin 13) (u : Fin 5) : ClosedOff (blkOff i b u) := ⟨blkOff i b u, rfl⟩

/-! ## The body's offsets in closed form -/

theorem trips13 : k0_t1_loop.trips = 13 := by decide
theorem cond2_iff : ∀ k : Fin k0_t1_loop.trips, k0_cond2 k = 1#1 ↔ k.val + 2 < 13 := by decide +kernel
theorem off11_eq : ∀ k : Fin k0_t1_loop.trips, k0_off11 k = semOff (Ring.sl 3 k.val) := by decide +kernel
theorem off18_eq : ∀ k : Fin k0_t1_loop.trips, k0_off18 k = semOff (Ring.sl 3 (k.val + 2)) := by decide +kernel
theorem off12_eq : ∀ k : Fin k0_t1_loop.trips, k0_off12 k = boxOff (Ring.sl 3 k.val) 0 := by decide +kernel
theorem off14_eq : ∀ k : Fin k0_t1_loop.trips, k0_off14 k = boxOff (Ring.sl 3 k.val) 1 := by decide +kernel
theorem off15_eq : ∀ k : Fin k0_t1_loop.trips, k0_off15 k = boxOff (Ring.sl 3 k.val) 2 := by decide +kernel
theorem off16_eq : ∀ k : Fin k0_t1_loop.trips, k0_off16 k = boxOff (Ring.sl 3 k.val) 3 := by decide +kernel
theorem off17_eq : ∀ k : Fin k0_t1_loop.trips, k0_off17 k = boxOff (Ring.sl 3 k.val) 4 := by decide +kernel
theorem off19_eq : ∀ k : Fin k0_t1_loop.trips, k0_off19 k = boxOff (Ring.sl 3 (k.val + 2)) 0 := by decide +kernel
theorem off21_eq : ∀ k : Fin k0_t1_loop.trips, k0_off21 k = boxOff (Ring.sl 3 (k.val + 2)) 1 := by decide +kernel
theorem off22_eq : ∀ k : Fin k0_t1_loop.trips, k0_off22 k = boxOff (Ring.sl 3 (k.val + 2)) 2 := by decide +kernel
theorem off23_eq : ∀ k : Fin k0_t1_loop.trips, k0_off23 k = boxOff (Ring.sl 3 (k.val + 2)) 3 := by decide +kernel
theorem off24_eq : ∀ k : Fin k0_t1_loop.trips, k0_off24 k = boxOff (Ring.sl 3 (k.val + 2)) 4 := by decide +kernel
theorem off26_eq : ∀ k : Fin k0_t1_loop.trips, k0_off26 k = boxOff (Ring.sl 3 k.val) 0 := by decide +kernel
theorem off29_eq : ∀ k : Fin k0_t1_loop.trips, k0_off29 k = boxOff (Ring.sl 3 k.val) 1 := by decide +kernel
theorem off30_eq : ∀ k : Fin k0_t1_loop.trips, k0_off30 k = boxOff (Ring.sl 3 k.val) 2 := by decide +kernel
theorem off31_eq : ∀ k : Fin k0_t1_loop.trips, k0_off31 k = boxOff (Ring.sl 3 k.val) 3 := by decide +kernel
theorem off32_eq : ∀ k : Fin k0_t1_loop.trips, k0_off32 k = boxOff (Ring.sl 3 k.val) 4 := by decide +kernel
theorem off13_eq (i : grid0.Coords) (k : Fin k0_t1_loop.trips) (u : Fin 5) :
    k0_off13 i k (BitVec.ofNat 32 u.val) = blkOff i (Ring.bk 13 k.val) u := by
  rw [k0_off13_eq]; unfold blkOff; rw [Ring.bk_val (Nat.lt_of_lt_of_eq k.isLt trips13)]
theorem off20_eq (i : grid0.Coords) (k : Fin k0_t1_loop.trips) (hk : k.val + 2 < 13) (u : Fin 5) :
    k0_off20 i k (BitVec.ofNat 32 u.val) = blkOff i (Ring.bk 13 (k.val + 2)) u := by
  rw [k0_off20_eq]; unfold blkOff; rw [Ring.bk_val hk, show 5 * k.val + u.val + 10 = 5 * (k.val + 2) + u.val by omega]

instance (k : Fin k0_t1_loop.trips) : ClosedOff (k0_off12 k) := ⟨![(Ring.sl 3 k.val).val, 0, 0, 0], off12_eq k⟩
instance (k : Fin k0_t1_loop.trips) : ClosedOff (k0_off14 k) := ⟨![(Ring.sl 3 k.val).val, 1, 0, 0], off14_eq k⟩
instance (k : Fin k0_t1_loop.trips) : ClosedOff (k0_off15 k) := ⟨![(Ring.sl 3 k.val).val, 2, 0, 0], off15_eq k⟩
instance (k : Fin k0_t1_loop.trips) : ClosedOff (k0_off16 k) := ⟨![(Ring.sl 3 k.val).val, 3, 0, 0], off16_eq k⟩
instance (k : Fin k0_t1_loop.trips) : ClosedOff (k0_off17 k) := ⟨![(Ring.sl 3 k.val).val, 4, 0, 0], off17_eq k⟩
instance (k : Fin k0_t1_loop.trips) : ClosedOff (k0_off19 k) := ⟨![(Ring.sl 3 (k.val + 2)).val, 0, 0, 0], off19_eq k⟩
instance (k : Fin k0_t1_loop.trips) : ClosedOff (k0_off21 k) := ⟨![(Ring.sl 3 (k.val + 2)).val, 1, 0, 0], off21_eq k⟩
instance (k : Fin k0_t1_loop.trips) : ClosedOff (k0_off22 k) := ⟨![(Ring.sl 3 (k.val + 2)).val, 2, 0, 0], off22_eq k⟩
instance (k : Fin k0_t1_loop.trips) : ClosedOff (k0_off23 k) := ⟨![(Ring.sl 3 (k.val + 2)).val, 3, 0, 0], off23_eq k⟩
instance (k : Fin k0_t1_loop.trips) : ClosedOff (k0_off24 k) := ⟨![(Ring.sl 3 (k.val + 2)).val, 4, 0, 0], off24_eq k⟩
instance (k : Fin k0_t1_loop.trips) : ClosedOff (k0_off26 k) := ⟨![(Ring.sl 3 k.val).val, 0, 0, 0], off26_eq k⟩
instance (k : Fin k0_t1_loop.trips) : ClosedOff (k0_off29 k) := ⟨![(Ring.sl 3 k.val).val, 1, 0, 0], off29_eq k⟩
instance (k : Fin k0_t1_loop.trips) : ClosedOff (k0_off30 k) := ⟨![(Ring.sl 3 k.val).val, 2, 0, 0], off30_eq k⟩
instance (k : Fin k0_t1_loop.trips) : ClosedOff (k0_off31 k) := ⟨![(Ring.sl 3 k.val).val, 3, 0, 0], off31_eq k⟩
instance (k : Fin k0_t1_loop.trips) : ClosedOff (k0_off32 k) := ⟨![(Ring.sl 3 k.val).val, 4, 0, 0], off32_eq k⟩

/-! ## The body's windows are the named ones -/

theorem csm_congr {off : Fin 1 → Nat} {s : Fin 3} (e : off = semOff s) (hh) :
    (cc0_scratch2.slice (Rect.unit (s := S3) off S1.size hh)).squeeze S_ squeezes_S1_S_ = csm s :=
  congrArg (fun A : DmaSems sig S1 => A.squeeze S_ squeezes_S1_S_) (SemArray.slice_unit_congr _ e _ _)
theorem box_congr {off : Fin 4 → Nat} {s : Fin 3} {u : Fin 5} (e : off = boxOff s u) (hh hs) :
    (bufM.slice (Rect.unit (s := S3x5x256x1280) off S1x1x256x1280.size hh) hs).squeeze S256x1280 squeezes_S1x1x256x1280_S256x1280 = box s u :=
  congrArg (fun M : Memref sig .tc .vmem S1x1x256x1280 .bf16 => M.squeeze S256x1280 squeezes_S1x1x256x1280_S256x1280) (Memref.slice_unit_congr _ e _ _ _ _)
theorem blk_congr {off : Fin 5 → Nat} {i : grid0.Coords} {b : Fin 13} {u : Fin 5} (e : off = blkOff i b u) (hh hs) :
    (pM.slice (Rect.unit (s := S8x13x65x256x1280) off S1x1x1x256x1280.size hh) hs).squeeze S256x1280 squeezes_S1x1x1x256x1280_S256x1280 = blk i b u :=
  congrArg (fun M : Memref sig .tc .hbm S1x1x1x256x1280 .bf16 => M.squeeze S256x1280 squeezes_S1x1x1x256x1280_S256x1280) (Memref.slice_unit_congr _ e _ _ _ _)

@[sl_canon] theorem semL0 (hh) : (cc0_scratch2.slice (Rect.unit (s := S3) ![0] S1.size hh)).squeeze S_ squeezes_S1_S_ = csm 0 := csm_congr (by decide) _
@[sl_canon] theorem boxL00 (hh hs) : (bufM.slice (Rect.unit (s := S3x5x256x1280) ![0, 0, 0, 0] S1x1x256x1280.size hh) hs).squeeze S256x1280 squeezes_S1x1x256x1280_S256x1280 = box 0 0 := box_congr (by decide) _ _
@[sl_canon] theorem blkL1 (i : grid0.Coords) (hh hs) : (pM.slice (Rect.unit (s := S8x13x65x256x1280) (k0_off1 i) S1x1x1x256x1280.size hh) hs).squeeze S256x1280 squeezes_S1x1x1x256x1280_S256x1280 = blk i 0 0 := blk_congr (k0_off1_eq i) _ _
@[sl_canon] theorem boxL01 (hh hs) : (bufM.slice (Rect.unit (s := S3x5x256x1280) ![0, 1, 0, 0] S1x1x256x1280.size hh) hs).squeeze S256x1280 squeezes_S1x1x256x1280_S256x1280 = box 0 1 := box_congr (by decide) _ _
@[sl_canon] theorem blkL2 (i : grid0.Coords) (hh hs) : (pM.slice (Rect.unit (s := S8x13x65x256x1280) (k0_off2 i) S1x1x1x256x1280.size hh) hs).squeeze S256x1280 squeezes_S1x1x1x256x1280_S256x1280 = blk i 0 1 := blk_congr (k0_off2_eq i) _ _
@[sl_canon] theorem boxL02 (hh hs) : (bufM.slice (Rect.unit (s := S3x5x256x1280) ![0, 2, 0, 0] S1x1x256x1280.size hh) hs).squeeze S256x1280 squeezes_S1x1x256x1280_S256x1280 = box 0 2 := box_congr (by decide) _ _
@[sl_canon] theorem blkL3 (i : grid0.Coords) (hh hs) : (pM.slice (Rect.unit (s := S8x13x65x256x1280) (k0_off3 i) S1x1x1x256x1280.size hh) hs).squeeze S256x1280 squeezes_S1x1x1x256x1280_S256x1280 = blk i 0 2 := blk_congr (k0_off3_eq i) _ _
@[sl_canon] theorem boxL03 (hh hs) : (bufM.slice (Rect.unit (s := S3x5x256x1280) ![0, 3, 0, 0] S1x1x256x1280.size hh) hs).squeeze S256x1280 squeezes_S1x1x256x1280_S256x1280 = box 0 3 := box_congr (by decide) _ _
@[sl_canon] theorem blkL4 (i : grid0.Coords) (hh hs) : (pM.slice (Rect.unit (s := S8x13x65x256x1280) (k0_off4 i) S1x1x1x256x1280.size hh) hs).squeeze S256x1280 squeezes_S1x1x1x256x1280_S256x1280 = blk i 0 3 := blk_congr (k0_off4_eq i) _ _
@[sl_canon] theorem boxL04 (hh hs) : (bufM.slice (Rect.unit (s := S3x5x256x1280) ![0, 4, 0, 0] S1x1x256x1280.size hh) hs).squeeze S256x1280 squeezes_S1x1x256x1280_S256x1280 = box 0 4 := box_congr (by decide) _ _
@[sl_canon] theorem blkL5 (i : grid0.Coords) (hh hs) : (pM.slice (Rect.unit (s := S8x13x65x256x1280) (k0_off5 i) S1x1x1x256x1280.size hh) hs).squeeze S256x1280 squeezes_S1x1x1x256x1280_S256x1280 = blk i 0 4 := blk_congr (k0_off5_eq i) _ _
@[sl_canon] theorem semL1 (hh) : (cc0_scratch2.slice (Rect.unit (s := S3) ![1] S1.size hh)).squeeze S_ squeezes_S1_S_ = csm 1 := csm_congr (by decide) _
@[sl_canon] theorem boxL10 (hh hs) : (bufM.slice (Rect.unit (s := S3x5x256x1280) ![1, 0, 0, 0] S1x1x256x1280.size hh) hs).squeeze S256x1280 squeezes_S1x1x256x1280_S256x1280 = box 1 0 := box_congr (by decide) _ _
@[sl_canon] theorem blkL6 (i : grid0.Coords) (hh hs) : (pM.slice (Rect.unit (s := S8x13x65x256x1280) (k0_off6 i) S1x1x1x256x1280.size hh) hs).squeeze S256x1280 squeezes_S1x1x1x256x1280_S256x1280 = blk i 1 0 := blk_congr (k0_off6_eq i) _ _
@[sl_canon] theorem boxL11 (hh hs) : (bufM.slice (Rect.unit (s := S3x5x256x1280) ![1, 1, 0, 0] S1x1x256x1280.size hh) hs).squeeze S256x1280 squeezes_S1x1x256x1280_S256x1280 = box 1 1 := box_congr (by decide) _ _
@[sl_canon] theorem blkL7 (i : grid0.Coords) (hh hs) : (pM.slice (Rect.unit (s := S8x13x65x256x1280) (k0_off7 i) S1x1x1x256x1280.size hh) hs).squeeze S256x1280 squeezes_S1x1x1x256x1280_S256x1280 = blk i 1 1 := blk_congr (k0_off7_eq i) _ _
@[sl_canon] theorem boxL12 (hh hs) : (bufM.slice (Rect.unit (s := S3x5x256x1280) ![1, 2, 0, 0] S1x1x256x1280.size hh) hs).squeeze S256x1280 squeezes_S1x1x256x1280_S256x1280 = box 1 2 := box_congr (by decide) _ _
@[sl_canon] theorem blkL8 (i : grid0.Coords) (hh hs) : (pM.slice (Rect.unit (s := S8x13x65x256x1280) (k0_off8 i) S1x1x1x256x1280.size hh) hs).squeeze S256x1280 squeezes_S1x1x1x256x1280_S256x1280 = blk i 1 2 := blk_congr (k0_off8_eq i) _ _
@[sl_canon] theorem boxL13 (hh hs) : (bufM.slice (Rect.unit (s := S3x5x256x1280) ![1, 3, 0, 0] S1x1x256x1280.size hh) hs).squeeze S256x1280 squeezes_S1x1x256x1280_S256x1280 = box 1 3 := box_congr (by decide) _ _
@[sl_canon] theorem blkL9 (i : grid0.Coords) (hh hs) : (pM.slice (Rect.unit (s := S8x13x65x256x1280) (k0_off9 i) S1x1x1x256x1280.size hh) hs).squeeze S256x1280 squeezes_S1x1x1x256x1280_S256x1280 = blk i 1 3 := blk_congr (k0_off9_eq i) _ _
@[sl_canon] theorem boxL14 (hh hs) : (bufM.slice (Rect.unit (s := S3x5x256x1280) ![1, 4, 0, 0] S1x1x256x1280.size hh) hs).squeeze S256x1280 squeezes_S1x1x256x1280_S256x1280 = box 1 4 := box_congr (by decide) _ _
@[sl_canon] theorem blkL10 (i : grid0.Coords) (hh hs) : (pM.slice (Rect.unit (s := S8x13x65x256x1280) (k0_off10 i) S1x1x1x256x1280.size hh) hs).squeeze S256x1280 squeezes_S1x1x1x256x1280_S256x1280 = blk i 1 4 := blk_congr (k0_off10_eq i) _ _

@[sl_canon] theorem semW (k : Fin k0_t1_loop.trips) (hh) : (cc0_scratch2.slice (Rect.unit (s := S3) (k0_off11 k) S1.size hh)).squeeze S_ squeezes_S1_S_ = csm (Ring.sl 3 k.val) := csm_congr (off11_eq k) _
@[sl_canon] theorem semI (k : Fin k0_t1_loop.trips) (hh) : (cc0_scratch2.slice (Rect.unit (s := S3) (k0_off18 k) S1.size hh)).squeeze S_ squeezes_S1_S_ = csm (Ring.sl 3 (k.val + 2)) := csm_congr (off18_eq k) _
@[sl_canon] theorem boxW0 (k : Fin k0_t1_loop.trips) (hh hs) : (bufM.slice (Rect.unit (s := S3x5x256x1280) (k0_off12 k) S1x1x256x1280.size hh) hs).squeeze S256x1280 squeezes_S1x1x256x1280_S256x1280 = box (Ring.sl 3 k.val) 0 := box_congr (off12_eq k) _ _
@[sl_canon] theorem boxI0 (k : Fin k0_t1_loop.trips) (hh hs) : (bufM.slice (Rect.unit (s := S3x5x256x1280) (k0_off19 k) S1x1x256x1280.size hh) hs).squeeze S256x1280 squeezes_S1x1x256x1280_S256x1280 = box (Ring.sl 3 (k.val + 2)) 0 := box_congr (off19_eq k) _ _
@[sl_canon] theorem blkW0 (i : grid0.Coords) (k : Fin k0_t1_loop.trips) (hh hs) : (pM.slice (Rect.unit (s := S8x13x65x256x1280) (k0_off13 i k 0#32) S1x1x1x256x1280.size hh) hs).squeeze S256x1280 squeezes_S1x1x1x256x1280_S256x1280 = blk i (Ring.bk 13 k.val) 0 := blk_congr (off13_eq i k 0) _ _
@[sl_canon] theorem blkI0 (i : grid0.Coords) (k : Fin k0_t1_loop.trips) (hk : k.val + 2 < 13) (hh hs) : (pM.slice (Rect.unit (s := S8x13x65x256x1280) (k0_off20 i k 0#32) S1x1x1x256x1280.size hh) hs).squeeze S256x1280 squeezes_S1x1x1x256x1280_S256x1280 = blk i (Ring.bk 13 (k.val + 2)) 0 := blk_congr (off20_eq i k hk 0) _ _
@[sl_canon] theorem boxW1 (k : Fin k0_t1_loop.trips) (hh hs) : (bufM.slice (Rect.unit (s := S3x5x256x1280) (k0_off14 k) S1x1x256x1280.size hh) hs).squeeze S256x1280 squeezes_S1x1x256x1280_S256x1280 = box (Ring.sl 3 k.val) 1 := box_congr (off14_eq k) _ _
@[sl_canon] theorem boxI1 (k : Fin k0_t1_loop.trips) (hh hs) : (bufM.slice (Rect.unit (s := S3x5x256x1280) (k0_off21 k) S1x1x256x1280.size hh) hs).squeeze S256x1280 squeezes_S1x1x256x1280_S256x1280 = box (Ring.sl 3 (k.val + 2)) 1 := box_congr (off21_eq k) _ _
@[sl_canon] theorem blkW1 (i : grid0.Coords) (k : Fin k0_t1_loop.trips) (hh hs) : (pM.slice (Rect.unit (s := S8x13x65x256x1280) (k0_off13 i k 1#32) S1x1x1x256x1280.size hh) hs).squeeze S256x1280 squeezes_S1x1x1x256x1280_S256x1280 = blk i (Ring.bk 13 k.val) 1 := blk_congr (off13_eq i k 1) _ _
@[sl_canon] theorem blkI1 (i : grid0.Coords) (k : Fin k0_t1_loop.trips) (hk : k.val + 2 < 13) (hh hs) : (pM.slice (Rect.unit (s := S8x13x65x256x1280) (k0_off20 i k 1#32) S1x1x1x256x1280.size hh) hs).squeeze S256x1280 squeezes_S1x1x1x256x1280_S256x1280 = blk i (Ring.bk 13 (k.val + 2)) 1 := blk_congr (off20_eq i k hk 1) _ _
@[sl_canon] theorem boxW2 (k : Fin k0_t1_loop.trips) (hh hs) : (bufM.slice (Rect.unit (s := S3x5x256x1280) (k0_off15 k) S1x1x256x1280.size hh) hs).squeeze S256x1280 squeezes_S1x1x256x1280_S256x1280 = box (Ring.sl 3 k.val) 2 := box_congr (off15_eq k) _ _
@[sl_canon] theorem boxI2 (k : Fin k0_t1_loop.trips) (hh hs) : (bufM.slice (Rect.unit (s := S3x5x256x1280) (k0_off22 k) S1x1x256x1280.size hh) hs).squeeze S256x1280 squeezes_S1x1x256x1280_S256x1280 = box (Ring.sl 3 (k.val + 2)) 2 := box_congr (off22_eq k) _ _
@[sl_canon] theorem blkW2 (i : grid0.Coords) (k : Fin k0_t1_loop.trips) (hh hs) : (pM.slice (Rect.unit (s := S8x13x65x256x1280) (k0_off13 i k 2#32) S1x1x1x256x1280.size hh) hs).squeeze S256x1280 squeezes_S1x1x1x256x1280_S256x1280 = blk i (Ring.bk 13 k.val) 2 := blk_congr (off13_eq i k 2) _ _
@[sl_canon] theorem blkI2 (i : grid0.Coords) (k : Fin k0_t1_loop.trips) (hk : k.val + 2 < 13) (hh hs) : (pM.slice (Rect.unit (s := S8x13x65x256x1280) (k0_off20 i k 2#32) S1x1x1x256x1280.size hh) hs).squeeze S256x1280 squeezes_S1x1x1x256x1280_S256x1280 = blk i (Ring.bk 13 (k.val + 2)) 2 := blk_congr (off20_eq i k hk 2) _ _
@[sl_canon] theorem boxW3 (k : Fin k0_t1_loop.trips) (hh hs) : (bufM.slice (Rect.unit (s := S3x5x256x1280) (k0_off16 k) S1x1x256x1280.size hh) hs).squeeze S256x1280 squeezes_S1x1x256x1280_S256x1280 = box (Ring.sl 3 k.val) 3 := box_congr (off16_eq k) _ _
@[sl_canon] theorem boxI3 (k : Fin k0_t1_loop.trips) (hh hs) : (bufM.slice (Rect.unit (s := S3x5x256x1280) (k0_off23 k) S1x1x256x1280.size hh) hs).squeeze S256x1280 squeezes_S1x1x256x1280_S256x1280 = box (Ring.sl 3 (k.val + 2)) 3 := box_congr (off23_eq k) _ _
@[sl_canon] theorem blkW3 (i : grid0.Coords) (k : Fin k0_t1_loop.trips) (hh hs) : (pM.slice (Rect.unit (s := S8x13x65x256x1280) (k0_off13 i k 3#32) S1x1x1x256x1280.size hh) hs).squeeze S256x1280 squeezes_S1x1x1x256x1280_S256x1280 = blk i (Ring.bk 13 k.val) 3 := blk_congr (off13_eq i k 3) _ _
@[sl_canon] theorem blkI3 (i : grid0.Coords) (k : Fin k0_t1_loop.trips) (hk : k.val + 2 < 13) (hh hs) : (pM.slice (Rect.unit (s := S8x13x65x256x1280) (k0_off20 i k 3#32) S1x1x1x256x1280.size hh) hs).squeeze S256x1280 squeezes_S1x1x1x256x1280_S256x1280 = blk i (Ring.bk 13 (k.val + 2)) 3 := blk_congr (off20_eq i k hk 3) _ _
@[sl_canon] theorem boxW4 (k : Fin k0_t1_loop.trips) (hh hs) : (bufM.slice (Rect.unit (s := S3x5x256x1280) (k0_off17 k) S1x1x256x1280.size hh) hs).squeeze S256x1280 squeezes_S1x1x256x1280_S256x1280 = box (Ring.sl 3 k.val) 4 := box_congr (off17_eq k) _ _
@[sl_canon] theorem boxI4 (k : Fin k0_t1_loop.trips) (hh hs) : (bufM.slice (Rect.unit (s := S3x5x256x1280) (k0_off24 k) S1x1x256x1280.size hh) hs).squeeze S256x1280 squeezes_S1x1x256x1280_S256x1280 = box (Ring.sl 3 (k.val + 2)) 4 := box_congr (off24_eq k) _ _
@[sl_canon] theorem blkW4 (i : grid0.Coords) (k : Fin k0_t1_loop.trips) (hh hs) : (pM.slice (Rect.unit (s := S8x13x65x256x1280) (k0_off13 i k 4#32) S1x1x1x256x1280.size hh) hs).squeeze S256x1280 squeezes_S1x1x1x256x1280_S256x1280 = blk i (Ring.bk 13 k.val) 4 := blk_congr (off13_eq i k 4) _ _
@[sl_canon] theorem blkI4 (i : grid0.Coords) (k : Fin k0_t1_loop.trips) (hk : k.val + 2 < 13) (hh hs) : (pM.slice (Rect.unit (s := S8x13x65x256x1280) (k0_off20 i k 4#32) S1x1x1x256x1280.size hh) hs).squeeze S256x1280 squeezes_S1x1x1x256x1280_S256x1280 = blk i (Ring.bk 13 (k.val + 2)) 4 := blk_congr (off20_eq i k hk 4) _ _

end Cert.Proof.KernelIdeal

end
-- ==== Proof.Trip.lean ====
/- One trip of the kernel's loop: five blocks waited for, five asked for two groups ahead, and the three accumulators
   raised by the group's share. -/
module

public import proofs.«01_k».proof.Proof.Ring
public import Idealize.ShloMosaic.Lib.Pipeline.FrameSuffix

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The pipeline library's algebra beside the counters the kernel's own transfers ride on. -/
abbrev UU (nD : Nat) (τ : Topo) : Type := Pipeline.UD sig nD τ
local notation "𝕄" => MT nD τ sig Unit (Elt F) ℕ (UU nD τ) ℕ
abbrev 𝒱₀ : Variants := Variants.none

/-! ## The pieces of the ring -/

section Pieces
variable (c : Dev nD) (XP : Buf (Elt F) (pM.view.loc (c : Thread nD τ))) (i : grid0.Coords)

/-- Slot `s`'s semaphore at rest. -/
abbrev cellP (s : Fin 3) : sProp 𝕄 := semVal ((c : Thread nD τ), SemLoc.dma (csm s).sem) 0
/-- Block `u` of slot `s` held at `f`. -/
abbrev boxP (s : Fin 3) (u : Fin 5) (f : Buf (Elt F) ((box s u).view.loc (c : Thread nD τ))) : sProp 𝕄 :=
  (box s u).view.loc (c : Thread nD τ) ↦[(box s u).view.set]{fullShare} f
/-- Block `u` of group `b` held in main memory. -/
abbrev blkP (b : Fin 13) (u : Fin 5) : sProp 𝕄 := (blk i b u).view.loc (c : Thread nD τ) ↦[(blk i b u).view.set]{fullShare} XP
/-- A block's words as they land in a slot. -/
abbrev payload (b : Fin 13) (u : Fin 5) : S256x1280.Idx → Elt F .bf16 := ReadAs.same.apply ((blk i b u).view.read (Elt F) XP)
/-- Block `u` of slot `s` after block `u` of group `b` landed in it, over what it held before. -/
abbrev landed (s : Fin 3) (b : Fin 13) (u : Fin 5) (f : Buf (Elt F) ((box s u).view.loc (c : Thread nD τ))) :
    Buf (Elt F) ((box s u).view.loc (c : Thread nD τ)) :=
  (box s u).view.writes (Elt F) f [⟨Rect.whole S256x1280, payload c XP i b u⟩]
/-- What the transfer of one block delivers. -/
abbrev deliv (s : Fin 3) (b : Fin 13) (f : (u : Fin 5) → Buf (Elt F) ((box s u).view.loc (c : Thread nD τ))) (u : Fin 5) : sProp 𝕄 :=
  iprop(boxP c s u (landed c XP i s b u (f u)) ∗ blkP c XP i b u)
theorem blk_storable (b : Fin 13) (u : Fin 5) (f : Buf (Elt F) ((blk i b u).view.loc (c : Thread nD τ))) :
    Storable (upEmb : UEmb _ 𝕄) ((blk i b u).view.loc (c : Thread nD τ) ↦[(blk i b u).view.set]{fullShare} f) := by infer_instance
theorem box_storable (s : Fin 3) (u : Fin 5) (f : Buf (Elt F) ((box s u).view.loc (c : Thread nD τ))) :
    Storable (upEmb : UEmb _ 𝕄) ((box s u).view.loc (c : Thread nD τ) ↦[(box s u).view.set]{fullShare} f) := by infer_instance
instance deliv_storable (s : Fin 3) (b : Fin 13) (f : (u : Fin 5) → Buf (Elt F) ((box s u).view.loc (c : Thread nD τ))) (u : Fin 5) :
    Storable (upEmb : UEmb _ 𝕄) (deliv c XP i s b f u) :=
  @Storable.sep _ _ _ _ _ _ _ _ (box_storable c s u (landed c XP i s b u (f u))) (blk_storable c i b u XP)
/-- One block's credit on the semaphore. -/
abbrev NN : ℕ := 20480
/-- Slot `s` with group `b` on its way, `j` of its five blocks asked for. -/
abbrev flightP (s : Fin 3) (b : Fin 13) (f : (u : Fin 5) → Buf (Elt F) ((box s u).view.loc (c : Thread nD τ))) (j : ℕ) : sProp 𝕄 :=
  Transfers.Batch countersEmb (c : Thread nD τ) (SemLoc.dma (csm s).sem) () NN (deliv c XP i s b f) j 0
/-- Group `b` at home. -/
abbrev homeP (b : Fin 13) : sProp 𝕄 :=
  iprop(blkP c XP i b 0 ∗ blkP c XP i b 1 ∗ blkP c XP i b 2 ∗ blkP c XP i b 3 ∗ blkP c XP i b 4)
/-- Slot `s` free: its five blocks held at anything, its semaphore at rest. -/
abbrev freeP (s : Fin 3) : sProp 𝕄 :=
  iprop((∃ f : (u : Fin 5) → Buf (Elt F) ((box s u).view.loc (c : Thread nD τ)),
      boxP c s 0 (f 0) ∗ boxP c s 1 (f 1) ∗ boxP c s 2 (f 2) ∗ boxP c s 3 (f 3) ∗ boxP c s 4 (f 4)) ∗ cellP c s)
/-- The slot of group `j`: on its way while there is such a group, free otherwise. -/
def roleP (j : ℕ) : sProp 𝕄 :=
  if j < 13 then iprop(∃ f, flightP c XP i (Ring.sl 3 j) (Ring.bk 13 j) f 5) else freeP c (Ring.sl 3 j)
/-- The ring before trip `k`. -/
def ringAt (k : ℕ) : sProp 𝕄 :=
  iprop(bigSep (Ring.homeSet 2 k) (homeP c XP i) ∗ roleP c XP i k ∗ roleP c XP i (k + 1) ∗ freeP c (Ring.sl 3 (k + 2)))

theorem homes_here (k : ℕ) (hk : k + 2 < 13) :
    bigSep (Ring.homeSet 2 k) (homeP c XP i)
      = iprop(homeP c XP i (Ring.bk 13 (k + 2)) ∗ bigSep ((Ring.homeSet 2 k).erase (Ring.bk 13 (k + 2))) (homeP c XP i)) := by
  conv_lhs => rw [Ring.homeSet_out 2 k hk, bigSep_insert (Ring.bkL_not_mem_erase 2 k)]
  rfl
theorem homes_next (k : ℕ) (hk : k + 2 < 13) :
    bigSep (Ring.homeSet 2 (k + 1)) (homeP c XP i)
      = iprop(homeP c XP i (Ring.bk 13 k) ∗ bigSep ((Ring.homeSet 2 k).erase (Ring.bk 13 (k + 2))) (homeP c XP i)) := by
  conv_lhs => rw [Ring.homeSet_succ 2 k hk, bigSep_insert (Ring.bk_not_mem_erase 2 k (by omega) (by decide))]
  rfl
theorem homes_tail (k : ℕ) (hk : 13 ≤ k + 2) (hk' : k < 13) :
    bigSep (Ring.homeSet 2 (k + 1)) (homeP c XP i)
      = iprop(homeP c XP i (Ring.bk 13 k) ∗ bigSep (Ring.homeSet 2 k) (homeP c XP i)) := by
  conv_lhs => rw [Ring.homeSet_succ_tail 2 k hk hk', bigSep_insert (Ring.bk_not_mem_homeSet 2 k hk' (by decide))]
  rfl
theorem role_of_lt (j : ℕ) (h : j < 13) : roleP c XP i j = iprop(∃ f, flightP c XP i (Ring.sl 3 j) (Ring.bk 13 j) f 5) := if_pos h
theorem role_of_ge (j : ℕ) (h : ¬ j < 13) : roleP c XP i j = freeP c (Ring.sl 3 j) := if_neg h
theorem sl3_add3 (k : ℕ) : Ring.sl 3 (k + 1 + 2) = Ring.sl 3 k := by rw [show k + 1 + 2 = k + 3 from rfl, Ring.sl_add]

end Pieces

/-! ## One trip -/

section Trip
variable (c : Dev nD) (XP : Buf (Elt F) (pM.view.loc (c : Thread nD τ))) (i : grid0.Coords)
variable (arg2 : Memref sig .tc .vmem S1280x128 .bf16) (harg2 : arg2.IsWhole) (arg3 : Memref sig .tc .vmem S96x1280 .bf16) (harg3 : arg3.IsWhole) (arg4 : Memref sig .tc .vmem S64x1280 .bf16) (harg4 : arg4.IsWhole) (arg5 : Memref sig .tc .vmem S1x1x1280 .f32) (harg5 : arg5.IsWhole) (arg6 : Memref sig .tc .vmem S1x1x1280 .f32) (harg6 : arg6.IsWhole) (arg7 : Memref sig .tc .vmem S1x1x65x1x1280 .f32) (harg7 : arg7.IsWhole) (arg8 : Memref sig .tc .vmem S16640x128 .bf16) (harg8 : arg8.IsWhole) (arg9 : Memref sig .tc .vmem S96x16640 .bf16) (harg9 : arg9.IsWhole) (arg11 : Memref sig .tc .vmem S1280x128 .f32) (harg11 : arg11.IsWhole) (arg12 : Memref sig .tc .vmem S96x16640 .f32) (harg12 : arg12.IsWhole) (arg13 : Memref sig .tc .vmem S64x16640 .f32) (harg13 : arg13.IsWhole)

/-- A window held whole at `f`. -/
abbrev heldP {S : Shape} {e : EltTy} (M : Memref sig .tc .vmem S e) (f : Buf (Elt F) (M.view.loc (c : Thread nD τ))) : sProp 𝕄 :=
  M.view.loc (c : Thread nD τ) ↦[M.view.set]{fullShare} f

/-- What the loop's region reads and does not change. -/
def readP (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ))) : sProp 𝕄 :=
  iprop(heldP c arg2 f2 ∗ heldP c arg7 f7 ∗ heldP c arg8 f8 ∗ heldP c arg9 f9 ∗ (∃ W, owes (c : Thread nD τ) 0 W))
/-- The three accumulators. -/
def accP (fq : Buf (Elt F) ((Memref.whole cc0_scratch0).view.loc (c : Thread nD τ))) (fk : Buf (Elt F) (arg12.view.loc (c : Thread nD τ)))
    (fv : Buf (Elt F) (arg13.view.loc (c : Thread nD τ))) : sProp 𝕄 :=
  iprop(heldP c (Memref.whole cc0_scratch0) fq ∗ heldP c arg12 fk ∗ heldP c arg13 fv)

abbrev RQ : Rect S96x1280 := Rect.unit (s := S96x1280) ![0, 0] S96x1280.size inb_S96x1280_S96x1280_0_0
abbrev RK (k : Fin k0_t1_loop.trips) : Rect S96x16640 := Rect.unit (s := S96x16640) (k0_off34 k) S96x1280.size (k0_off34_inb k)
abbrev RV (k : Fin k0_t1_loop.trips) : Rect S64x16640 := Rect.unit (s := S64x16640) (k0_off33 k) S64x1280.size (k0_off33_inb k)

abbrev tripG (v68 v70 : FVec F S1x1280 .f32) (v72 : FVec F S96x1280 .bf16) (v73 : Vec F S64x1280 .bf16) (k : Fin k0_t1_loop.trips) :
    Prog (TpuEff nD τ sig (Elt F) Λ₀ .tc) Unit :=
  k0_t1_body (F := F) i arg2 harg2 arg3 harg3 arg4 harg4 arg5 harg5 arg6 harg6 arg7 harg7 arg8 harg8 arg9 harg9 pM (Memref.isWhole_whole _) arg11 harg11 arg12 harg12 arg13 harg13 (Memref.whole cc0_scratch0) (Memref.isWhole_whole _) bufM (Memref.isWhole_whole _) cc0_scratch2 v68 v70 v72 v73 k ()

set_option backward.proofsInPublic true in
set_option maxHeartbeats 4000000 in
/-- One trip with a group still to ask for. -/
def tripHead (v68 v70 : FVec F S1x1280 .f32) (v72 : FVec F S96x1280 .bf16) (v73 : Vec F S64x1280 .bf16) (k : Fin k0_t1_loop.trips) (hk2 : k.val + 2 < 13)
    (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (fq : Buf (Elt F) ((Memref.whole cc0_scratch0).view.loc (c : Thread nD τ))) (fk : Buf (Elt F) (arg12.view.loc (c : Thread nD τ)))
    (fv : Buf (Elt F) (arg13.view.loc (c : Thread nD τ))) :
    { w : (RQ.shape.Idx → Elt F .f32) × ((RK k).shape.Idx → Elt F .f32) × ((RV k).shape.Idx → Elt F .f32) //
      iprop(readP c arg2 arg7 arg8 arg9 f2 f7 f8 f9 ∗ accP c arg12 arg13 fq fk fv ∗ ringAt c XP i k)
        ⊢ wp frame (wpE (defs₀ (F := F)) 𝒱₀ (c : Thread nD τ) none) Set.univ
          (tripG i arg2 harg2 arg3 harg3 arg4 harg4 arg5 harg5 arg6 harg6 arg7 harg7 arg8 harg8 arg9 harg9 arg11 harg11 arg12 harg12 arg13 harg13 v68 v70 v72 v73 k)
          (fun _ => iprop(readP c arg2 arg7 arg8 arg9 f2 f7 f8 f9
            ∗ accP c arg12 arg13 ((Memref.whole cc0_scratch0).view.writes (Elt F) fq [⟨RQ, w.1⟩]) (arg12.view.writes (Elt F) fk [⟨RK k, w.2.1⟩])
                (arg13.view.writes (Elt F) fv [⟨RV k, w.2.2⟩])
            ∗ ringAt c XP i (k.val + 1))) } := by
  refine ⟨⟨?_, ?_, ?_⟩, ?run⟩
  case run =>
    have hk13 : k.val < 13 := by omega
    have hc : k0_cond2 k = 1#1 := (cond2_iff k).2 hk2
    unfold ringAt readP accP
    rw [homes_here c XP i k.val hk2, homes_next c XP i k.val hk2, sl3_add3, role_of_lt c XP i k.val hk13,
      role_of_lt c XP i (k.val + 1) (by omega), role_of_lt c XP i (k.val + 1 + 1) (by omega)]
    iintro ⟨⟨H2, H7, H8, H9, ⟨%W, HW⟩⟩, ⟨HQ, HK, HV⟩, ⟨⟨Hg0, Hg1, Hg2, Hg3, Hg4⟩, Hrest⟩, ⟨%f0, HF⟩, HF1, ⟨⟨%f, Hb0, Hb1, Hb2, Hb3, Hb4⟩, Hc⟩⟩
    haveI := deliv_storable c XP i (Ring.sl 3 (k.val + 2)) (Ring.bk 13 (k.val + 2)) f
    imod (Transfers.batch_alloc' (Lvl := ℕ) (countersEmb (U := Pipeline.UD sig nD τ)) (c : Thread nD τ) () NN
      (deliv c XP i (Ring.sl 3 (k.val + 2)) (Ring.bk 13 (k.val + 2)) f) (sm := SemLoc.dma (csm (Ring.sl 3 (k.val + 2))).sem) (E := Set.univ)) $$ Hc with HB
    dsimp only [tripG]
    sl_unfold [k0_t1_body]
    sl_exec
    sl_step
    isplitl [H2 H7 H8 H9 HW]
    · isplitl [H2]; · iexact H2
      isplitl [H7]; · iexact H7
      isplitl [H8]; · iexact H8
      isplitl [H9]; · iexact H9
      iexists _; iexact HW
    isplitl [HQ HK HV]
    · isplitl [HQ]; · iexact HQ
      isplitl [HK]; · iexact HK
      iexact HV
    isplitl [HF_src0 HF_src1 HF_src2 HF_src3 HF_src4 Hrest]
    · isplitl [HF_src0 HF_src1 HF_src2 HF_src3 HF_src4]
      · isplitl [HF_src0]; · iexact HF_src0
        isplitl [HF_src1]; · iexact HF_src1
        isplitl [HF_src2]; · iexact HF_src2
        isplitl [HF_src3]; · iexact HF_src3
        iexact HF_src4
      iexact Hrest
    isplitl [HF1]; · iexact HF1
    isplitl [HB]; · iexists f; iexact HB
    isplitr [HF]
    · iexists (fun u => (box (Ring.sl 3 k.val) u).view.writes (Elt F) (box (Ring.sl 3 k.val) u).view.junk [⟨Rect.whole S256x1280, payload c XP i (Ring.bk 13 k.val) u⟩])
      isplitl [HF_dst0]; · iexact HF_dst0
      isplitl [HF_dst1]; · iexact HF_dst1
      isplitl [HF_dst2]; · iexact HF_dst2
      isplitl [HF_dst3]; · iexact HF_dst3
      iexact HF_dst4
    iexact HF

/-- What a trip writes over the three accumulators. -/
def tripW (v68 v70 : FVec F S1x1280 .f32) (v72 : FVec F S96x1280 .bf16) (v73 : Vec F S64x1280 .bf16) (k : Fin k0_t1_loop.trips)
    (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (fq : Buf (Elt F) ((Memref.whole cc0_scratch0).view.loc (c : Thread nD τ))) (fk : Buf (Elt F) (arg12.view.loc (c : Thread nD τ)))
    (fv : Buf (Elt F) (arg13.view.loc (c : Thread nD τ))) :
    (RQ.shape.Idx → Elt F .f32) × ((RK k).shape.Idx → Elt F .f32) × ((RV k).shape.Idx → Elt F .f32) :=
  ⟨k0_pay72 v70 (tripHead.sl.v425 c XP i arg2 arg7 arg8 arg9 v68 v70 k f2 f7 f8 f9 fq)
            (tripHead.sl.v444 c arg2 arg8 k f2 f8) (tripHead.sl.v447 c arg2 arg8 k f2 f8)
            (tripHead.sl.v458 c XP i arg7 v68 k f7) (tripHead.sl.v465 c XP i arg2 arg7 arg8 v68 v70 k f2 f7 f8)
            (tripHead.sl.v471 c XP i arg2 arg7 arg8 v68 v70 k f2 f7 f8)
            (tripHead.sl.v477 c XP i arg2 arg7 arg8 v68 v70 k f2 f7 f8) (tripHead.sl.v478 c XP i arg7 v68 k f7)
            (tripHead.sl.v192 v70)
            (View.readAt (Elt F) arg9.view (Rect.unit (s := S96x16640) (k0_off28 k 1024#32) S96x256.size (k0_off28_inb k 4)).toLoadRect f9),
   k0_pay74 v70 v72 (tripHead.sl.v204 c XP i arg2 arg7 arg8 v68 v70 v72 k f2 f7 f8)
            (tripHead.sl.v276 c XP i arg2 arg7 arg8 v68 v70 v72 k f2 f7 f8)
            (tripHead.sl.v348 c XP i arg2 arg7 arg8 v68 v70 v72 k f2 f7 f8)
            (tripHead.sl.v420 c XP i arg2 arg7 arg8 v68 v70 v72 k f2 f7 f8) (tripHead.sl.v444 c arg2 arg8 k f2 f8)
            (tripHead.sl.v447 c arg2 arg8 k f2 f8) (tripHead.sl.v458 c XP i arg7 v68 k f7)
            (tripHead.sl.v465 c XP i arg2 arg7 arg8 v68 v70 k f2 f7 f8)
            (tripHead.sl.v471 c XP i arg2 arg7 arg8 v68 v70 k f2 f7 f8)
            (tripHead.sl.v477 c XP i arg2 arg7 arg8 v68 v70 k f2 f7 f8) (tripHead.sl.v478 c XP i arg7 v68 k f7)
            (tripHead.sl.v192 v70)
            (View.readAt (Elt F) arg12.view (Rect.unit (s := S96x16640) (k0_off34 k) S96x1280.size (k0_off34_inb k)).toLoadRect fk),
   k0_pay73 (k0_pay1 v73) (tripHead.sl.v203 c XP i arg7 v68 v73 k f7) (tripHead.sl.v275 c XP i arg7 v68 v73 k f7)
            (tripHead.sl.v347 c XP i arg7 v68 v73 k f7) (tripHead.sl.v419 c XP i arg7 v68 v73 k f7)
            (tripHead.sl.v459 c XP i arg7 v68 k f7)
            (View.readAt (Elt F) arg13.view (Rect.unit (s := S64x16640) (k0_off33 k) S64x1280.size (k0_off33_inb k)).toLoadRect fv)⟩

set_option backward.proofsInPublic true in
set_option maxHeartbeats 4000000 in
/-- One trip with no group left to ask for: the same three payloads. -/
theorem tripTail (v68 v70 : FVec F S1x1280 .f32) (v72 : FVec F S96x1280 .bf16) (v73 : Vec F S64x1280 .bf16) (k : Fin k0_t1_loop.trips) (hk2 : ¬ k.val + 2 < 13)
    (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (fq : Buf (Elt F) ((Memref.whole cc0_scratch0).view.loc (c : Thread nD τ))) (fk : Buf (Elt F) (arg12.view.loc (c : Thread nD τ)))
    (fv : Buf (Elt F) (arg13.view.loc (c : Thread nD τ))) :
      iprop(readP c arg2 arg7 arg8 arg9 f2 f7 f8 f9 ∗ accP c arg12 arg13 fq fk fv ∗ ringAt c XP i k)
        ⊢ wp frame (wpE (defs₀ (F := F)) 𝒱₀ (c : Thread nD τ) none) Set.univ
          (tripG i arg2 harg2 arg3 harg3 arg4 harg4 arg5 harg5 arg6 harg6 arg7 harg7 arg8 harg8 arg9 harg9 arg11 harg11 arg12 harg12 arg13 harg13 v68 v70 v72 v73 k)
          (fun _ => iprop(readP c arg2 arg7 arg8 arg9 f2 f7 f8 f9
            ∗ accP c arg12 arg13 ((Memref.whole cc0_scratch0).view.writes (Elt F) fq [⟨RQ, (tripW c XP i arg2 arg7 arg8 arg9 arg12 arg13 v68 v70 v72 v73 k f2 f7 f8 f9 fq fk fv).1⟩]) (arg12.view.writes (Elt F) fk [⟨RK k, (tripW c XP i arg2 arg7 arg8 arg9 arg12 arg13 v68 v70 v72 v73 k f2 f7 f8 f9 fq fk fv).2.1⟩])
                (arg13.view.writes (Elt F) fv [⟨RV k, (tripW c XP i arg2 arg7 arg8 arg9 arg12 arg13 v68 v70 v72 v73 k f2 f7 f8 f9 fq fk fv).2.2⟩])
            ∗ ringAt c XP i (k.val + 1))) := by
  have hk13 : k.val < 13 := Nat.lt_of_lt_of_eq k.isLt trips13
  have hc : ¬ k0_cond2 k = 1#1 := fun h => hk2 ((cond2_iff k).1 h)
  unfold ringAt readP accP
  rw [homes_tail c XP i k.val (by omega) hk13, sl3_add3, role_of_lt c XP i k.val hk13,
    role_of_ge c XP i (k.val + 1 + 1) (by omega)]
  iintro ⟨⟨H2, H7, H8, H9, ⟨%W, HW⟩⟩, ⟨HQ, HK, HV⟩, Hrest, ⟨%f0, HF⟩, HF1, Hfree⟩
  dsimp only [tripG]
  sl_unfold [k0_t1_body]
  sl_exec
  sl_step
  isplitl [H2 H7 H8 H9 HW]
  · isplitl [H2]; · iexact H2
    isplitl [H7]; · iexact H7
    isplitl [H8]; · iexact H8
    isplitl [H9]; · iexact H9
    iexists _; iexact HW
  isplitl [HQ HK HV]
  · isplitl [HQ]; · iexact HQ
    isplitl [HK]; · iexact HK
    iexact HV
  isplitl [HF_src0 HF_src1 HF_src2 HF_src3 HF_src4 Hrest]
  · isplitl [HF_src0 HF_src1 HF_src2 HF_src3 HF_src4]
    · isplitl [HF_src0]; · iexact HF_src0
      isplitl [HF_src1]; · iexact HF_src1
      isplitl [HF_src2]; · iexact HF_src2
      isplitl [HF_src3]; · iexact HF_src3
      iexact HF_src4
    iexact Hrest
  isplitl [HF1]; · iexact HF1
  isplitl [Hfree]; · iexact Hfree
  isplitr [HF]
  · iexists (fun u => (box (Ring.sl 3 k.val) u).view.writes (Elt F) (box (Ring.sl 3 k.val) u).view.junk [⟨Rect.whole S256x1280, payload c XP i (Ring.bk 13 k.val) u⟩])
    isplitl [HF_dst0]; · iexact HF_dst0
    isplitl [HF_dst1]; · iexact HF_dst1
    isplitl [HF_dst2]; · iexact HF_dst2
    isplitl [HF_dst3]; · iexact HF_dst3
    iexact HF_dst4
  iexact HF

end Trip

end Cert.Proof.KernelIdeal

end
-- ==== Proof.Body.lean ====
/- The kernel's body at one grid point: two groups asked for ahead, the accumulators zeroed, the thirteen trips, and
   the queries' block written out. -/
module

public import proofs.«01_k».proof.Proof.Trip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (XP : Buf (Elt F) (pM.view.loc (c : Thread nD τ))) (i : grid0.Coords)
variable (arg2 : Memref sig .tc .vmem S1280x128 .bf16) (harg2 : arg2.IsWhole) (arg3 : Memref sig .tc .vmem S96x1280 .bf16) (harg3 : arg3.IsWhole) (arg4 : Memref sig .tc .vmem S64x1280 .bf16) (harg4 : arg4.IsWhole) (arg5 : Memref sig .tc .vmem S1x1x1280 .f32) (harg5 : arg5.IsWhole) (arg6 : Memref sig .tc .vmem S1x1x1280 .f32) (harg6 : arg6.IsWhole) (arg7 : Memref sig .tc .vmem S1x1x65x1x1280 .f32) (harg7 : arg7.IsWhole) (arg8 : Memref sig .tc .vmem S16640x128 .bf16) (harg8 : arg8.IsWhole) (arg9 : Memref sig .tc .vmem S96x16640 .bf16) (harg9 : arg9.IsWhole) (arg11 : Memref sig .tc .vmem S1280x128 .f32) (harg11 : arg11.IsWhole) (arg12 : Memref sig .tc .vmem S96x16640 .f32) (harg12 : arg12.IsWhole) (arg13 : Memref sig .tc .vmem S64x16640 .f32) (harg13 : arg13.IsWhole)

/-! ## The loop -/

/-- The three accumulators' contents. -/
abbrev Accs : Type := Buf (Elt F) ((Memref.whole cc0_scratch0).view.loc (c : Thread nD τ)) × Buf (Elt F) (arg12.view.loc (c : Thread nD τ)) × Buf (Elt F) (arg13.view.loc (c : Thread nD τ))

section Loop
variable (v68 v70 : FVec F S1x1280 .f32) (v72 : FVec F S96x1280 .bf16) (v73 : Vec F S64x1280 .bf16)
  (f2 : Buf (Elt F) (arg2.view.loc (c : Thread nD τ))) (f7 : Buf (Elt F) (arg7.view.loc (c : Thread nD τ)))
  (f8 : Buf (Elt F) (arg8.view.loc (c : Thread nD τ))) (f9 : Buf (Elt F) (arg9.view.loc (c : Thread nD τ)))

/-- The accumulators after a trip. -/
def accStep (k : Fin k0_t1_loop.trips) (A : Accs (F := F) c arg12 arg13) : Accs (F := F) c arg12 arg13 :=
  ((Memref.whole cc0_scratch0).view.writes (Elt F) A.1 [⟨RQ, (tripW c XP i arg2 arg7 arg8 arg9 arg12 arg13 v68 v70 v72 v73 k f2 f7 f8 f9 A.1 A.2.1 A.2.2).1⟩],
   arg12.view.writes (Elt F) A.2.1 [⟨RK k, (tripW c XP i arg2 arg7 arg8 arg9 arg12 arg13 v68 v70 v72 v73 k f2 f7 f8 f9 A.1 A.2.1 A.2.2).2.1⟩],
   arg13.view.writes (Elt F) A.2.2 [⟨RV k, (tripW c XP i arg2 arg7 arg8 arg9 arg12 arg13 v68 v70 v72 v73 k f2 f7 f8 f9 A.1 A.2.1 A.2.2).2.2⟩])

/-- The accumulators before trip `k`. -/
def accAt (A : Accs (F := F) c arg12 arg13) : ℕ → Accs (F := F) c arg12 arg13
  | 0 => A
  | k + 1 => if h : k < k0_t1_loop.trips then accStep c XP i arg2 arg7 arg8 arg9 arg12 arg13 v68 v70 v72 v73 f2 f7 f8 f9 ⟨k, h⟩ (accAt A k) else accAt A k

theorem tripHead_val (k : Fin k0_t1_loop.trips) (hk : k.val + 2 < 13) (A : Accs (F := F) c arg12 arg13) :
    (tripHead c XP i arg2 harg2 arg3 harg3 arg4 harg4 arg5 harg5 arg6 harg6 arg7 harg7 arg8 harg8 arg9 harg9 arg11 harg11 arg12 harg12 arg13 harg13 v68 v70 v72 v73 k hk f2 f7 f8 f9 A.1 A.2.1 A.2.2).1 = tripW c XP i arg2 arg7 arg8 arg9 arg12 arg13 v68 v70 v72 v73 k f2 f7 f8 f9 A.1 A.2.1 A.2.2 := by
  dsimp only [tripHead, tripW]

theorem trip (k : Fin k0_t1_loop.trips) (A : Accs (F := F) c arg12 arg13) :
    iprop(readP c arg2 arg7 arg8 arg9 f2 f7 f8 f9 ∗ accP c arg12 arg13 A.1 A.2.1 A.2.2 ∗ ringAt c XP i k)
      ⊢ wp frame (wpE (defs₀ (F := F)) 𝒱₀ (c : Thread nD τ) none) Set.univ
        (tripG i arg2 harg2 arg3 harg3 arg4 harg4 arg5 harg5 arg6 harg6 arg7 harg7 arg8 harg8 arg9 harg9 arg11 harg11 arg12 harg12 arg13 harg13 v68 v70 v72 v73 k)
        (fun _ => iprop(readP c arg2 arg7 arg8 arg9 f2 f7 f8 f9
          ∗ accP c arg12 arg13 (accStep c XP i arg2 arg7 arg8 arg9 arg12 arg13 v68 v70 v72 v73 f2 f7 f8 f9 k A).1 (accStep c XP i arg2 arg7 arg8 arg9 arg12 arg13 v68 v70 v72 v73 f2 f7 f8 f9 k A).2.1
              (accStep c XP i arg2 arg7 arg8 arg9 arg12 arg13 v68 v70 v72 v73 f2 f7 f8 f9 k A).2.2
          ∗ ringAt c XP i (k.val + 1))) := by
  unfold accStep
  dsimp only
  by_cases hk : k.val + 2 < 13
  · have h := (tripHead c XP i arg2 harg2 arg3 harg3 arg4 harg4 arg5 harg5 arg6 harg6 arg7 harg7 arg8 harg8 arg9 harg9 arg11 harg11 arg12 harg12 arg13 harg13 v68 v70 v72 v73 k hk f2 f7 f8 f9 A.1 A.2.1 A.2.2).2
    rw [tripHead_val] at h
    exact h
  · have h := tripTail c XP i arg2 harg2 arg3 harg3 arg4 harg4 arg5 harg5 arg6 harg6 arg7 harg7 arg8 harg8 arg9 harg9 arg11 harg11 arg12 harg12 arg13 harg13 v68 v70 v72 v73 k hk f2 f7 f8 f9 A.1 A.2.1 A.2.2
    dsimp only at h
    exact h

set_option warn.classDefReducibility false in
/-- The loop's invariant. -/
@[sl_loop] def loopInv (aq : Buf (Elt F) ((Memref.whole cc0_scratch0).view.loc (c : Thread nD τ))) (ak : Buf (Elt F) (arg12.view.loc (c : Thread nD τ))) (av : Buf (Elt F) (arg13.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 pM (Memref.isWhole_whole _) arg11 harg11 arg12 harg12 arg13 harg13 (Memref.whole cc0_scratch0) (Memref.isWhole_whole _) bufM (Memref.isWhole_whole _) cc0_scratch2 v68 v70 v72 v73 where
  inv k _ := iprop(readP c arg2 arg7 arg8 arg9 f2 f7 f8 f9
    ∗ accP c arg12 arg13 (accAt c XP i arg2 arg7 arg8 arg9 arg12 arg13 v68 v70 v72 v73 f2 f7 f8 f9 (aq, ak, av) k).1 (accAt c XP i arg2 arg7 arg8 arg9 arg12 arg13 v68 v70 v72 v73 f2 f7 f8 f9 (aq, ak, av) k).2.1 (accAt c XP i arg2 arg7 arg8 arg9 arg12 arg13 v68 v70 v72 v73 f2 f7 f8 f9 (aq, ak, av) k).2.2
    ∗ ringAt c XP i k)
  step k _ := by
    rw [show accAt c XP i arg2 arg7 arg8 arg9 arg12 arg13 v68 v70 v72 v73 f2 f7 f8 f9 (aq, ak, av) (k.val + 1)
      = accStep c XP i arg2 arg7 arg8 arg9 arg12 arg13 v68 v70 v72 v73 f2 f7 f8 f9 k (accAt c XP i arg2 arg7 arg8 arg9 arg12 arg13 v68 v70 v72 v73 f2 f7 f8 f9 (aq, ak, av) k) from by
        rw [accAt, dif_pos k.isLt]]
    iintro H
    iapply (trip c XP i arg2 harg2 arg3 harg3 arg4 harg4 arg5 harg5 arg6 harg6 arg7 harg7 arg8 harg8 arg9 harg9 arg11 harg11 arg12 harg12 arg13 harg13 v68 v70 v72 v73 f2 f7 f8 f9 k (accAt c XP i arg2 arg7 arg8 arg9 arg12 arg13 v68 v70 v72 v73 f2 f7 f8 f9 (aq, ak, av) k))
    iexact H

end Loop

/-! ## The ring at the loop's entry and exit -/

theorem ring_zero (f0 : (u : Fin 5) → Buf (Elt F) ((box 0 u).view.loc (c : Thread nD τ))) (f1 : (u : Fin 5) → Buf (Elt F) ((box 1 u).view.loc (c : Thread nD τ))) :
    iprop(bigSep (Ring.homeSet 2 0) (homeP c XP i) ∗ flightP c XP i 0 0 f0 5 ∗ flightP c XP i 1 1 f1 5 ∗ freeP c 2) ⊢ (ringAt c XP i 0 : sProp 𝕄) := by
  unfold ringAt
  rw [role_of_lt c XP i 0 (by omega), role_of_lt c XP i (0 + 1) (by omega)]
  iintro ⟨Hh, H0, H1, H2⟩
  isplitl [Hh]; · iexact Hh
  isplitl [H0]; · iexists f0; iexact H0
  isplitl [H1]; · iexists f1; iexact H1
  iexact H2
theorem ring_end : (ringAt c XP i 13 : sProp 𝕄) ⊢ iprop(bigSep Finset.univ (homeP c XP i) ∗ freeP c 0 ∗ freeP c 1 ∗ freeP c 2) := by
  have e : (Ring.homeSet 2 13 : Finset (Fin 13)) = Finset.univ := by
    ext b; have := b.isLt; simp only [Ring.mem_homeSet, Finset.mem_univ, iff_true]; omega
  unfold ringAt
  rw [role_of_ge c XP i 13 (by omega), role_of_ge c XP i (13 + 1) (by omega), e]
  iintro ⟨Hh, H0, H1, H2⟩
  isplitl [Hh]; · iexact Hh
  isplitl [H2]; · iexact H2
  isplitl [H0]; · iexact H0
  iexact H1

end Cert.Proof.KernelIdeal

end
-- ==== Proof.Point.lean ====
/- The kernel's body at one grid point: two groups asked for ahead, the accumulators zeroed, the thirteen trips, and
   the queries' block written out. -/
module

public import proofs.«01_k».proof.Proof.Body
public import Idealize.ShloMosaic.Lib.WritesUnit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (XP : Buf (Elt F) (pM.view.loc (c : Thread nD τ))) (i : grid0.Coords)
variable (arg2 : Memref sig .tc .vmem S1280x128 .bf16) (harg2 : arg2.IsWhole) (arg3 : Memref sig .tc .vmem S96x1280 .bf16) (harg3 : arg3.IsWhole) (arg4 : Memref sig .tc .vmem S64x1280 .bf16) (harg4 : arg4.IsWhole) (arg5 : Memref sig .tc .vmem S1x1x1280 .f32) (harg5 : arg5.IsWhole) (arg6 : Memref sig .tc .vmem S1x1x1280 .f32) (harg6 : arg6.IsWhole) (arg7 : Memref sig .tc .vmem S1x1x65x1x1280 .f32) (harg7 : arg7.IsWhole) (arg8 : Memref sig .tc .vmem S16640x128 .bf16) (harg8 : arg8.IsWhole) (arg9 : Memref sig .tc .vmem S96x16640 .bf16) (harg9 : arg9.IsWhole) (arg11 : Memref sig .tc .vmem S1280x128 .f32) (harg11 : arg11.IsWhole) (arg12 : Memref sig .tc .vmem S96x16640 .f32) (harg12 : arg12.IsWhole) (arg13 : Memref sig .tc .vmem S64x16640 .f32) (harg13 : arg13.IsWhole)
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (f8 : Buf (Elt F) (arg8.view.loc (c : Thread nD τ))) (f9 : Buf (Elt F) (arg9.view.loc (c : Thread nD τ)))

/-- The body on given staging buffers, the exponentials, the accumulator and the ring its own. -/
abbrev bodyG : Prog (TpuEff nD τ sig (Elt F) Λ₀ .tc) PUnit :=
  cc0_flash_bwd (F := F) i arg2 harg2 arg3 harg3 arg4 harg4 arg5 harg5 arg6 harg6 arg7 harg7 arg8 harg8 arg9 harg9 pM (Memref.isWhole_whole _) arg11 harg11 arg12 harg12 arg13 harg13 (Memref.whole cc0_scratch0) (Memref.isWhole_whole _) bufM (Memref.isWhole_whole _) cc0_scratch2

theorem homes_zero : (bigSep Finset.univ (homeP c XP i) : sProp 𝕄) = iprop(homeP c XP i 0 ∗ homeP c XP i 1 ∗ bigSep (Ring.homeSet 2 0) (homeP c XP i)) := by
  have e : (Finset.univ : Finset (Fin 13)) = insert 0 (insert 1 (Ring.homeSet (NB := 13) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

/-- The windows the body reads. -/
def inP : sProp 𝕄 :=
  iprop(heldP c arg2 f2 ∗ heldP c arg3 f3 ∗ heldP c arg4 f4 ∗ heldP c arg5 f5 ∗ heldP c arg6 f6 ∗ heldP c arg7 f7 ∗ heldP c arg8 f8 ∗ heldP c arg9 f9)
/-- What is the kernel's own: the exponentials at home, the ring's slots free, the queries' accumulator at anything. -/
def ownP : sProp 𝕄 :=
  iprop(bigSep Finset.univ (homeP c XP i) ∗ freeP c 0 ∗ freeP c 1 ∗ freeP c 2 ∗ ∃ f, heldP c (Memref.whole cc0_scratch0) f)

/-! ## A store of a whole buffer -/

/-- A store of a whole two-dimensional buffer leaves what was stored. -/
theorem writes_whole2 {sp : Space} {e : EltTy} {d : Fin 2 → ℕ} (M : Memref sig .tc sp ⟨2, d⟩ e) (hM : M.IsWhole) (f : M.view.ty.Contents (Elt F))
    (inb : ∀ a : Fin 2, (![0, 0] : Fin 2 → ℕ) a + d a ≤ d a) (w : (⟨2, d⟩ : Shape).Idx → Elt F e) :
    M.view.writes (Elt F) f [⟨Rect.unit (s := ⟨2, d⟩) ![0, 0] d inb, w⟩] = hM.unread w := by
  refine hM.eq_unread ?_
  funext y
  refine View.read_writes_cons_unit_of_mem _ _ inb w [] y y rfl fun a => ?_
  match a with
  | 0 => exact (Nat.zero_add _).symm
  | 1 => exact (Nat.zero_add _).symm

/-- The grid's second coordinate is zero, as the kernel tests it. -/
def firstW (i : grid0.Coords) : BitVec 1 :=
  Scalar.cmpi .ne (Scalar.extui (Scalar.cmpi .eq (BitVec.ofNat 32 (i 1).val : BitVec 32) 0#32) : BitVec 32) 0#32

/-- The keys' accumulator as the loop finds it. -/
def startK (i : grid0.Coords) (d : S96x16640.Idx → Elt F .f32) : S96x16640.Idx → Elt F .f32 := if firstW i = 1#1 then k0_pay75 else d
/-- The values' accumulator as the loop finds it. -/
def startV (i : grid0.Coords) (d : S64x16640.Idx → Elt F .f32) : S64x16640.Idx → Elt F .f32 := if firstW i = 1#1 then k0_pay76 else d

/-- The three accumulators after the loop. -/
def accEnd (d12 : S96x16640.Idx → Elt F .f32) (d13 : S64x16640.Idx → Elt F .f32) : Accs (F := F) c arg12 arg13 :=
  accAt c XP i arg2 arg7 arg8 arg9 arg12 arg13
    (k0_pay78 (View.readAt (Elt F) arg5.view (Rect.unit ![0, 0, 0] S1x1x1280.size inb_S1x1x1280_S1x1x1280_0_0_0).toLoadRect f5))
    (k0_pay79 (View.readAt (Elt F) arg6.view (Rect.unit ![0, 0, 0] S1x1x1280.size inb_S1x1x1280_S1x1x1280_0_0_0).toLoadRect f6))
    (k0_pay80 (View.readAt (Elt F) arg3.view (Rect.unit ![0, 0] S96x1280.size inb_S96x1280_S96x1280_0_0).toLoadRect f3))
    (View.readAt (Elt F) arg4.view (Rect.unit ![0, 0] S64x1280.size inb_S64x1280_S64x1280_0_0).toLoadRect f4)
    f2 f7 f8 f9
    ((Memref.isWhole_whole cc0_scratch0).unread k0_pay77, harg12.unread (startK i d12), harg13.unread (startV i d13)) 13

/-- The queries' block as written out. -/
def outQ (d12 : S96x16640.Idx → Elt F .f32) (d13 : S64x16640.Idx → Elt F .f32) : S1280x128.Idx → Elt F .f32 :=
  k0_pay2 (View.readAt (Elt F) (Memref.whole cc0_scratch0).view (Rect.unit ![0, 0] S96x1280.size inb_S96x1280_S96x1280_0_0).toLoadRect
    (accEnd c XP i arg2 arg3 arg4 arg5 arg6 arg7 arg8 arg9 arg12 harg12 arg13 harg13 f2 f3 f4 f5 f6 f7 f8 f9 d12 d13).1)

attribute [local irreducible] ringAt in
set_option backward.proofsInPublic true in
set_option maxHeartbeats 8000000 in
theorem body_run (f11 : Buf (Elt F) (arg11.view.loc (c : Thread nD τ))) (d12 : S96x16640.Idx → Elt F .f32) (d13 : S64x16640.Idx → Elt F .f32) (W : Waits sig Unit) :
    iprop(inP c arg2 arg3 arg4 arg5 arg6 arg7 arg8 arg9 f2 f3 f4 f5 f6 f7 f8 f9 ∗ ownP c XP i ∗ heldP c arg11 f11 ∗ heldP c arg12 (harg12.unread d12) ∗ heldP c arg13 (harg13.unread d13) ∗ owes (c : Thread nD τ) 0 W)
      ⊢ wp frame (wpE (defs₀ (F := F)) 𝒱₀ (c : Thread nD τ) none) Set.univ
        (bodyG i arg2 harg2 arg3 harg3 arg4 harg4 arg5 harg5 arg6 harg6 arg7 harg7 arg8 harg8 arg9 harg9 arg11 harg11 arg12 harg12 arg13 harg13)
        (fun _ => iprop(inP c arg2 arg3 arg4 arg5 arg6 arg7 arg8 arg9 f2 f3 f4 f5 f6 f7 f8 f9 ∗ ownP c XP i
          ∗ heldP c arg11 (harg11.unread (outQ c XP i arg2 arg3 arg4 arg5 arg6 arg7 arg8 arg9 arg12 harg12 arg13 harg13 f2 f3 f4 f5 f6 f7 f8 f9 d12 d13))
          ∗ heldP c arg12 (accEnd c XP i arg2 arg3 arg4 arg5 arg6 arg7 arg8 arg9 arg12 harg12 arg13 harg13 f2 f3 f4 f5 f6 f7 f8 f9 d12 d13).2.1
          ∗ heldP c arg13 (accEnd c XP i arg2 arg3 arg4 arg5 arg6 arg7 arg8 arg9 arg12 harg12 arg13 harg13 f2 f3 f4 f5 f6 f7 f8 f9 d12 d13).2.2
          ∗ ∃ W', owes (c : Thread nD τ) 0 W')) := by
  unfold inP ownP
  nth_rewrite 1 [homes_zero]
  iintro ⟨⟨H2, H3, H4, H5, H6, H7, H8, H9⟩, ⟨⟨⟨Ha0, Ha1, Ha2, Ha3, Ha4⟩, ⟨Hb0, Hb1, Hb2, Hb3, Hb4⟩, Hh⟩, ⟨⟨%g0, Hs0, Hs1, Hs2, Hs3, Hs4⟩, Hc0⟩, ⟨⟨%g1, Ht0, Ht1, Ht2, Ht3, Ht4⟩, Hc1⟩, Hfree, ⟨%fq, HQ⟩⟩, H11, H12, H13, HW⟩
  haveI := deliv_storable c XP i 0 0 g0
  haveI := deliv_storable c XP i 1 1 g1
  imod (Transfers.batch_alloc' (Lvl := ℕ) (countersEmb (U := Pipeline.UD sig nD τ)) (c : Thread nD τ) () NN
      (deliv c XP i 0 0 g0) (sm := SemLoc.dma (csm 0).sem) (E := Set.univ)) $$ Hc0 with HB0
  imod (Transfers.batch_alloc' (Lvl := ℕ) (countersEmb (U := Pipeline.UD sig nD τ)) (c : Thread nD τ) () NN
      (deliv c XP i 1 1 g1) (sm := SemLoc.dma (csm 1).sem) (E := Set.univ)) $$ Hc1 with HB1
  sl_exec
  ihave HG := (ring_zero c XP i g0 g1) $$ [Hh HB0 HB1 Hfree]
  · isplitl [Hh]; · iexact Hh
    isplitl [HB0]; · iexact HB0
    isplitl [HB1]; · iexact HB1
    iexact Hfree
  generalize hA : (Memref.whole cc0_scratch0).view.writes (Elt F) (Memref.whole cc0_scratch0).view.junk body_run.sl.HQ_1 = AQ
  sl_exec
  sl_step
  rw [show Scf.trips k0_t1_loop.lb k0_t1_loop.ub k0_t1_loop.st = 13 from trips13]
  have hE : (accAt c XP i arg2 arg7 arg8 arg9 arg12 arg13 (body_run.sl.v68 c arg5 f5) (body_run.sl.v70 c arg6 f6)
        (body_run.sl.v72 c arg3 f3)
        (View.readAt (Elt F) arg4.view (Rect.unit ![0, 0] S64x1280.size inb_S64x1280_S64x1280_0_0).toLoadRect f4) f2 f7
        f8 f9
        (AQ,
          Decidable.rec (fun h => (fun hn => harg12.unread d12) h)
            (fun h =>
              (fun hc => arg12.view.writes (Elt F) (harg12.unread d12) [⟨Rect.unit (s := S96x16640) ![0, 0] S96x16640.size inb_S96x16640_S96x16640_0_0, body_run.sl.v81⟩]) h)
            (instDecidableEqBitVec (body_run.sl.v62 i) 1#1),
          Decidable.rec (fun h => (fun hn => harg13.unread d13) h)
            (fun h =>
              (fun hc => arg13.view.writes (Elt F) (harg13.unread d13) [⟨Rect.unit (s := S64x16640) ![0, 0] S64x16640.size inb_S64x16640_S64x16640_0_0, body_run.sl.v83⟩]) h)
            (instDecidableEqBitVec (body_run.sl.v62 i) 1#1)) 13)
      = accEnd c XP i arg2 arg3 arg4 arg5 arg6 arg7 arg8 arg9 arg12 harg12 arg13 harg13 f2 f3 f4 f5 f6 f7 f8 f9 d12 d13 := by
    have e1 : AQ = (Memref.isWhole_whole cc0_scratch0).unread k0_pay77 := hA.symm.trans (writes_whole2 _ _ _ _ _)
    have e2 : (dite (body_run.sl.v62 i = 1#1) (fun _ => arg12.view.writes (Elt F) (harg12.unread d12) [⟨Rect.unit (s := S96x16640) ![0, 0] S96x16640.size inb_S96x16640_S96x16640_0_0, body_run.sl.v81⟩]) (fun _ => harg12.unread d12))
        = harg12.unread (startK i d12) := by
      unfold startK
      by_cases h : firstW i = 1#1
      · rw [if_pos h, dif_pos (show body_run.sl.v62 i = 1#1 from h)]; exact writes_whole2 _ _ _ _ _
      · rw [if_neg h, dif_neg (show ¬ body_run.sl.v62 i = 1#1 from h)]
    have e3 : (dite (body_run.sl.v62 i = 1#1) (fun _ => arg13.view.writes (Elt F) (harg13.unread d13) [⟨Rect.unit (s := S64x16640) ![0, 0] S64x16640.size inb_S64x16640_S64x16640_0_0, body_run.sl.v83⟩]) (fun _ => harg13.unread d13))
        = harg13.unread (startV i d13) := by
      unfold startV
      by_cases h : firstW i = 1#1
      · rw [if_pos h, dif_pos (show body_run.sl.v62 i = 1#1 from h)]; exact writes_whole2 _ _ _ _ _
      · rw [if_neg h, dif_neg (show ¬ body_run.sl.v62 i = 1#1 from h)]
    unfold accEnd
    rw [← e1, ← e2, ← e3]
    rfl
  have hO : arg11.view.writes (Elt F) f11 [⟨Rect.unit (s := S1280x128) ![0, 0] S1280x128.size inb_S1280x128_S1280x128_0_0,
          k0_pay2 (body_run.sl.v76 c XP i arg2 arg3 arg4 arg5 arg6 arg7 arg8 arg9 arg12 harg12 arg13 harg13 f2 f3 f4 f5 f6 f7 f8 f9 d12 d13 AQ)⟩]
      = harg11.unread (outQ c XP i arg2 arg3 arg4 arg5 arg6 arg7 arg8 arg9 arg12 harg12 arg13 harg13 f2 f3 f4 f5 f6 f7 f8 f9 d12 d13) := by
    rw [writes_whole2 arg11 harg11]
    unfold outQ body_run.sl.v76
    rw [← hE, show Scf.trips k0_t1_loop.lb k0_t1_loop.ub k0_t1_loop.st = 13 from trips13]
  rw [hO, hE]
  ihave HG2 := (ring_end c XP i) $$ HG
  icases HG2 with ⟨Hh, Hf0, Hf1, Hf2⟩
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Hh Hf0 Hf1 Hf2 HQ]
  · isplitl [Hh]; · iexact Hh
    isplitl [Hf0]; · iexact Hf0
    isplitl [Hf1]; · iexact Hf1
    isplitl [Hf2]; · iexact Hf2
    iexists _; iexact HQ
  isplitl [H11]; · iexact H11
  isplitl [H12]; · iexact H12
  isplitl [H13]; · iexact H13
  iexists _; iexact HW

end Cert.Proof.KernelIdeal

end
-- ==== Proof.Split.lean ====
/- The array of exponentials cut into one row's blocks and the rest, and the ring's buffer cut into its fifteen blocks. -/
module

public import proofs.«01_k».proof.Proof.Point
public import Idealize.ShloMosaic.Lib.SparseCore.Launch

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-! ## Element sets -/

/-- One block of the array of exponentials. -/
abbrev blkS (i : grid0.Coords) (g : Fin 13 × Fin 5) : Finset S8x13x65x256x1280.Idx :=
  (Rect.unit (s := S8x13x65x256x1280) (blkOff i g.1 g.2) S1x1x1x256x1280.size (blkOff_inb i g.1 g.2)).set
/-- One block of the ring's buffer. -/
abbrev boxS (g : Fin 3 × Fin 5) : Finset S3x5x256x1280.Idx :=
  (Rect.unit (s := S3x5x256x1280) (boxOff g.1 g.2) S1x1x256x1280.size (boxOff_inb g.1 g.2)).set

theorem blk_set (i : grid0.Coords) (b : Fin 13) (u : Fin 5) : (blk i b u).view.set = blkS i (b, u) :=
  (View.set_reshape _ _).trans (View.set_slice_whole _ _)
theorem box_set (s : Fin 3) (u : Fin 5) : (box s u).view.set = boxS (s, u) :=
  (View.set_reshape _ _).trans (View.set_slice_whole _ _)

theorem mem_blkS (i : grid0.Coords) (g : Fin 13 × Fin 5) (y : S8x13x65x256x1280.Idx) :
    y ∈ blkS i g ↔ (y 0).val = (i 0).val ∧ (y 1).val = (i 1).val ∧ (y 2).val = 5 * g.1.val + g.2.val := by
  rw [Rect.mem_set_unit]
  have h3 : (y 3).val < 256 := (y 3).isLt
  have h4 : (y 4).val < 1280 := (y 4).isLt
  constructor
  · intro H
    have a0 : (i 0).val ≤ (y 0).val ∧ (y 0).val < (i 0).val + 1 := H 0
    have a1 : (i 1).val ≤ (y 1).val ∧ (y 1).val < (i 1).val + 1 := H 1
    have a2 : 5 * g.1.val + g.2.val ≤ (y 2).val ∧ (y 2).val < 5 * g.1.val + g.2.val + 1 := H 2
    omega
  · rintro ⟨e0, e1, e2⟩ a; fin_cases a
    · show (i 0).val ≤ (y 0).val ∧ (y 0).val < (i 0).val + 1; omega
    · show (i 1).val ≤ (y 1).val ∧ (y 1).val < (i 1).val + 1; omega
    · show 5 * g.1.val + g.2.val ≤ (y 2).val ∧ (y 2).val < 5 * g.1.val + g.2.val + 1; omega
    · show 0 ≤ (y 3).val ∧ (y 3).val < 0 + 256; omega
    · show 0 ≤ (y 4).val ∧ (y 4).val < 0 + 1280; omega
theorem mem_boxS (g : Fin 3 × Fin 5) (y : S3x5x256x1280.Idx) : y ∈ boxS g ↔ (y 0).val = g.1.val ∧ (y 1).val = g.2.val := by
  rw [Rect.mem_set_unit]
  have h2 : (y 2).val < 256 := (y 2).isLt
  have h3 : (y 3).val < 1280 := (y 3).isLt
  constructor
  · intro H
    have a0 : g.1.val ≤ (y 0).val ∧ (y 0).val < g.1.val + 1 := H 0
    have a1 : g.2.val ≤ (y 1).val ∧ (y 1).val < g.2.val + 1 := H 1
    omega
  · rintro ⟨e0, e1⟩ a; fin_cases a
    · show g.1.val ≤ (y 0).val ∧ (y 0).val < g.1.val + 1; omega
    · show g.2.val ≤ (y 1).val ∧ (y 1).val < g.2.val + 1; omega
    · show 0 ≤ (y 2).val ∧ (y 2).val < 0 + 256; omega
    · show 0 ≤ (y 3).val ∧ (y 3).val < 0 + 1280; omega

theorem blkS_disjoint (i : grid0.Coords) : ∀ g g' : Fin 13 × Fin 5, g ≠ g' → Disjoint (blkS i g) (blkS i g') := by
  intro g g' hne; rw [Finset.disjoint_left]; intro y hy hy'; rw [mem_blkS] at hy hy'
  have h1 := g.1.isLt; have h2 := g.2.isLt; have h3 := g'.1.isLt; have h4 := g'.2.isLt
  exact hne (Prod.ext (Fin.ext (by omega)) (Fin.ext (by omega)))
theorem boxS_disjoint : ∀ g g' : Fin 3 × Fin 5, g ≠ g' → Disjoint (boxS g) (boxS g') := by
  intro g g' hne; rw [Finset.disjoint_left]; intro y hy hy'; rw [mem_boxS] at hy hy'
  exact hne (Prod.ext (Fin.ext (by omega)) (Fin.ext (by omega)))
theorem boxS_cover : (Finset.univ : Finset (Fin 3 × Fin 5)).biUnion boxS = Finset.univ := by
  ext y; simp only [Finset.mem_biUnion, Finset.mem_univ, true_and, iff_true]
  exact ⟨(⟨(y 0).val, (y 0).isLt⟩, ⟨(y 1).val, (y 1).isLt⟩), by rw [mem_boxS]; exact ⟨rfl, rfl⟩⟩

/-- One row of the array of exponentials, and the rest of it. -/
def rowS (i : grid0.Coords) : Finset S8x13x65x256x1280.Idx := Finset.univ.biUnion (blkS i)
def partS (i : grid0.Coords) (b : Bool) : Finset S8x13x65x256x1280.Idx := if b then rowS i else (rowS i)ᶜ
theorem partS_disjoint (i : grid0.Coords) : ∀ b b' : Bool, b ≠ b' → Disjoint (partS i b) (partS i b') := by
  intro b b' hne
  unfold partS
  cases b <;> cases b'
  · exact absurd rfl hne
  · exact disjoint_compl_left
  · exact disjoint_compl_right
  · exact absurd rfl hne
theorem partS_cover (i : grid0.Coords) : (Finset.univ : Finset Bool).biUnion (partS i) = Finset.univ := by
  ext y; simp only [Finset.mem_biUnion, Finset.mem_univ, true_and, iff_true]
  by_cases h : y ∈ rowS i
  · exact ⟨true, h⟩
  · exact ⟨false, Finset.mem_compl.mpr h⟩

theorem bigSep_five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

/-! ## The array of exponentials -/

section P
variable (c : Dev nD) (XP : Buf (Elt F) (pM.view.loc (c : Thread nD τ))) (i : grid0.Coords)

/-- The other rows. -/
def restP : sProp 𝕄 := ((c : Thread nD τ).loc main_v28) ↦[(rowS i)ᶜ]{fullShare} XP

theorem blkP_eq (b : Fin 13) (u : Fin 5) : (blkP c XP i b u : sProp 𝕄) = (((c : Thread nD τ).loc main_v28) ↦[blkS i (b, u)]{fullShare} XP) :=
  congrArg (fun S => (_ ↦[S]{fullShare} XP : sProp 𝕄)) (blk_set i b u)

theorem home_eq (b : Fin 13) : (homeP c XP i b : sProp 𝕄) = bigSep Finset.univ fun u : Fin 5 => ((c : Thread nD τ).loc main_v28) ↦[blkS i (b, u)]{fullShare} XP := by
  rw [bigSep_univ_eq_bigSepL [(0 : Fin 5), 1, 2, 3, 4] (by decide) (by decide)]
  unfold homeP
  rw [blkP_eq, blkP_eq, blkP_eq, blkP_eq, blkP_eq]
  rfl

/-- The array whole is a row's blocks at home and the other rows. -/
theorem p_eq : (((c : Thread nD τ).loc main_v28) ↦{fullShare} XP : sProp 𝕄) = iprop(bigSep Finset.univ (homeP c XP i) ∗ restP c XP i) := by
  rw [Ring.pointsTo_blocks (ℓ := (c : Thread nD τ).loc main_v28) (partS i) (partS_disjoint i) (partS_cover i),
    bigSep_univ_eq_bigSepL [true, false] (by decide) (by decide)]
  have e : (((c : Thread nD τ).loc main_v28) ↦[rowS i]{fullShare} XP : sProp 𝕄) = bigSep Finset.univ (homeP c XP i) := by
    rw [Ring.pointsTo_sub_blocks (ℓ := (c : Thread nD τ).loc main_v28) (blkS i) (blkS_disjoint i) (rowS i) rfl,
      show (Finset.univ : Finset (Fin 13 × Fin 5)) = Finset.univ ×ˢ Finset.univ from rfl, SparseCore.bigSep_product]
    exact bigSep_congr fun b _ => (home_eq c XP i b).symm
  rw [← e]; rfl

end P

/-! ## The ring's buffer -/

section B
variable (c : Dev nD)

theorem boxP_eq (s : Fin 3) (u : Fin 5) (f) : (boxP c s u f : sProp 𝕄) = (((c : Thread nD τ).loc cc0_scratch1) ↦[boxS (s, u)]{fullShare} f) :=
  congrArg (fun S => (_ ↦[S]{fullShare} f : sProp 𝕄)) (box_set s u)

/-- A slot's five blocks at one contents. -/
theorem slot_in (s : Fin 3) (f : Buf (Elt F) ((c : Thread nD τ).loc cc0_scratch1)) :
    (bigSep Finset.univ fun u : Fin 5 => ((c : Thread nD τ).loc cc0_scratch1) ↦[boxS (s, u)]{fullShare} f)
      ⊢ (iprop(∃ f : (u : Fin 5) → Buf (Elt F) ((box s u).view.loc (c : Thread nD τ)),
          boxP c s 0 (f 0) ∗ boxP c s 1 (f 1) ∗ boxP c s 2 (f 2) ∗ boxP c s 3 (f 3) ∗ boxP c s 4 (f 4)) : sProp 𝕄) := by
  rw [bigSep_five]
  iintro ⟨H0, H1, H2, H3, H4⟩
  iexists (fun _ => f)
  isplitl [H0]; · iapply (Entails.of_eq (boxP_eq c s 0 f).symm); iexact H0
  isplitl [H1]; · iapply (Entails.of_eq (boxP_eq c s 1 f).symm); iexact H1
  isplitl [H2]; · iapply (Entails.of_eq (boxP_eq c s 2 f).symm); iexact H2
  isplitl [H3]; · iapply (Entails.of_eq (boxP_eq c s 3 f).symm); iexact H3
  iapply (Entails.of_eq (boxP_eq c s 4 f).symm); iexact H4
/-- And back, each at some contents. -/
theorem slot_out (s : Fin 3) :
    (iprop(∃ f : (u : Fin 5) → Buf (Elt F) ((box s u).view.loc (c : Thread nD τ)),
          boxP c s 0 (f 0) ∗ boxP c s 1 (f 1) ∗ boxP c s 2 (f 2) ∗ boxP c s 3 (f 3) ∗ boxP c s 4 (f 4)) : sProp 𝕄)
      ⊢ bigSep Finset.univ fun u : Fin 5 => iprop(∃ f, ((c : Thread nD τ).loc cc0_scratch1) ↦[boxS (s, u)]{fullShare} f) := by
  rw [bigSep_five]
  iintro ⟨%f, H0, H1, H2, H3, H4⟩
  isplitl [H0]; · iexists (f 0); iapply (Entails.of_eq (boxP_eq c s 0 (f 0))); iexact H0
  isplitl [H1]; · iexists (f 1); iapply (Entails.of_eq (boxP_eq c s 1 (f 1))); iexact H1
  isplitl [H2]; · iexists (f 2); iapply (Entails.of_eq (boxP_eq c s 2 (f 2))); iexact H2
  isplitl [H3]; · iexists (f 3); iapply (Entails.of_eq (boxP_eq c s 3 (f 3))); iexact H3
  iexists (f 4); iapply (Entails.of_eq (boxP_eq c s 4 (f 4))); iexact H4

/-- The buffer whole and the three semaphores at rest are the three slots free; -/
theorem ring_in :
    iprop((∃ f : Buf (Elt F) ((c : Thread nD τ).loc cc0_scratch1), ((c : Thread nD τ).loc cc0_scratch1) ↦{fullShare} f)
        ∗ cellP c 0 ∗ cellP c 1 ∗ cellP c 2)
      ⊢ (iprop(freeP c 0 ∗ freeP c 1 ∗ freeP c 2) : sProp 𝕄) := by
  iintro ⟨⟨%f, H⟩, H0, H1, H2⟩
  ihave H3 := (Entails.of_eq ((Ring.pointsTo_blocks (Ix := Unit) (Name := ℕ) (U := UU nD τ) (Lvl := ℕ) (q := fullShare) (ℓ := (c : Thread nD τ).loc cc0_scratch1) boxS boxS_disjoint boxS_cover f).trans
    ((SparseCore.bigSep_product (Finset.univ : Finset (Fin 3)) (Finset.univ : Finset (Fin 5)) _).trans
      (bigSep_three _)))) $$ H
  icases H3 with ⟨Ha, Hb, Hc⟩
  isplitl [Ha H0]
  · isplitl [Ha]; · iapply (slot_in c 0 f); iexact Ha
    iexact H0
  isplitl [Hb H1]
  · isplitl [Hb]; · iapply (slot_in c 1 f); iexact Hb
    iexact H1
  isplitl [Hc]; · iapply (slot_in c 2 f); iexact Hc
  iexact H2
/-- and back. -/
theorem ring_out :
    (iprop(freeP c 0 ∗ freeP c 1 ∗ freeP c 2) : sProp 𝕄)
      ⊢ iprop((∃ f : Buf (Elt F) ((c : Thread nD τ).loc cc0_scratch1), ((c : Thread nD τ).loc cc0_scratch1) ↦{fullShare} f)
        ∗ cellP c 0 ∗ cellP c 1 ∗ cellP c 2) := by
  iintro ⟨⟨Ha, H0⟩, ⟨Hb, H1⟩, ⟨Hc, H2⟩⟩
  isplitl [Ha Hb Hc]
  · iapply (Ring.pointsTo_blocks_join_exists (Ix := Unit) (Name := ℕ) (U := UU nD τ) (Lvl := ℕ) (q := fullShare) (ℓ := (c : Thread nD τ).loc cc0_scratch1) boxS boxS_disjoint boxS_cover (Memref.whole cc0_scratch1).view.junk)
    iapply (Entails.of_eq ((SparseCore.bigSep_product (Finset.univ : Finset (Fin 3)) (Finset.univ : Finset (Fin 5)) _).trans
      (bigSep_three _)).symm)
    isplitl [Ha]; · iapply (slot_out c 0); iexact Ha
    isplitl [Hb]; · iapply (slot_out c 1); iexact Hb
    iapply (slot_out c 2); iexact Hc
  isplitl [H0]; · iexact H0
  isplitl [H1]; · iexact H1
  iexact H2

end B

end Cert.Proof.KernelIdeal

end
-- ==== Proof.Launch.lean ====
/- The launch: what each window's buffer holds at each grid point, the body's obligation there, and the run of @main. -/
module

public import proofs.«01_k».proof.Proof.Split
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The staging buffers of a point -/

abbrev ms0 (t : Fin cfg0.N) : Memref sig .tc .vmem S1280x128 .bf16 := win0_0.stage (cfg0.slots t 0)
theorem hs0 (t : Fin cfg0.N) : (ms0 t).IsWhole := hstage0_0 ((cfg0.slots t 0).cast nbuf0_0)
abbrev ms1 (t : Fin cfg0.N) : Memref sig .tc .vmem S96x1280 .bf16 := win0_1.stage (cfg0.slots t 1)
theorem hs1 (t : Fin cfg0.N) : (ms1 t).IsWhole := hstage0_1 ((cfg0.slots t 1).cast nbuf0_1)
abbrev ms2 (t : Fin cfg0.N) : Memref sig .tc .vmem S64x1280 .bf16 := win0_2.stage (cfg0.slots t 2)
theorem hs2 (t : Fin cfg0.N) : (ms2 t).IsWhole := hstage0_2 ((cfg0.slots t 2).cast nbuf0_2)
abbrev ms3 (t : Fin cfg0.N) : Memref sig .tc .vmem S1x1x1280 .f32 := win0_3.stage (cfg0.slots t 3)
theorem hs3 (t : Fin cfg0.N) : (ms3 t).IsWhole := hstage0_3 ((cfg0.slots t 3).cast nbuf0_3)
abbrev ms4 (t : Fin cfg0.N) : Memref sig .tc .vmem S1x1x1280 .f32 := win0_4.stage (cfg0.slots t 4)
theorem hs4 (t : Fin cfg0.N) : (ms4 t).IsWhole := hstage0_4 ((cfg0.slots t 4).cast nbuf0_4)
abbrev ms5 (t : Fin cfg0.N) : Memref sig .tc .vmem S1x1x65x1x1280 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S16640x128 .bf16 := win0_6.stage (cfg0.slots t 6)
theorem hs6 (t : Fin cfg0.N) : (ms6 t).IsWhole := hstage0_6 ((cfg0.slots t 6).cast nbuf0_6)
abbrev ms7 (t : Fin cfg0.N) : Memref sig .tc .vmem S96x16640 .bf16 := win0_7.stage (cfg0.slots t 7)
theorem hs7 (t : Fin cfg0.N) : (ms7 t).IsWhole := hstage0_7 ((cfg0.slots t 7).cast nbuf0_7)
abbrev ms8 (t : Fin cfg0.N) : Memref sig .tc .vmem S1280x128 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S96x16640 .f32 := win0_9.stage (cfg0.slots t 9)
theorem hs9 (t : Fin cfg0.N) : (ms9 t).IsWhole := hstage0_9 ((cfg0.slots t 9).cast nbuf0_9)
abbrev ms10 (t : Fin cfg0.N) : Memref sig .tc .vmem S64x16640 .f32 := win0_10.stage (cfg0.slots t 10)
theorem hs10 (t : Fin cfg0.N) : (ms10 t).IsWhole := hstage0_10 ((cfg0.slots t 10).cast nbuf0_10)

/-! ## What the body leaves -/

/-- The kernel's own semaphores: the three slots'. -/
abbrev osem : Fin 3 → SemLoc sig := fun s => .dma (csm s).sem
theorem ownSemFacts : Pipeline.OwnSemFacts spec0 osem := by decide
/-- The array the kernel's own transfers read. -/
abbrev H0 : Finset (Ref sig .tc) := {main_v28}
theorem H0_sub : H0 ⊆ Pipeline.restRefs sig spec0 := by decide

/-- The three accumulators after the body at point `t`. -/
@[irreducible] def ptEnd (c : Dev nD) (t : Fin cfg0.N) (d12 : S96x16640.Idx → Elt F .f32) (d13 : S64x16640.Idx → Elt F .f32) : Accs (F := F) c (ms9 t) (ms10 t) :=
  accEnd c (V m c main_v28) (grid0.coords t) (ms0 t) (ms1 t) (ms2 t) (ms3 t) (ms4 t) (ms5 t) (ms6 t) (ms7 t) (ms9 t) (hs9 t) (ms10 t) (hs10 t) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) d12 d13

/-- The keys' and the values' accumulators after point `n`. -/
def dkv (c : Dev nD) : (n : ℕ) → n < cfg0.N → (S96x16640.Idx → Elt F .f32) × (S64x16640.Idx → Elt F .f32)
  | 0, h => ((ms9 ⟨0, h⟩).view.read (Elt F) (ptEnd m c ⟨0, h⟩ k0_pay75 k0_pay76).2.1,
      (ms10 ⟨0, h⟩).view.read (Elt F) (ptEnd m c ⟨0, h⟩ k0_pay75 k0_pay76).2.2)
  | n + 1, h => ((ms9 ⟨n + 1, h⟩).view.read (Elt F) (ptEnd m c ⟨n + 1, h⟩ (dkv c n (Nat.lt_of_succ_lt h)).1 (dkv c n (Nat.lt_of_succ_lt h)).2).2.1,
      (ms10 ⟨n + 1, h⟩).view.read (Elt F) (ptEnd m c ⟨n + 1, h⟩ (dkv c n (Nat.lt_of_succ_lt h)).1 (dkv c n (Nat.lt_of_succ_lt h)).2).2.2)

/-- The two accumulators the body at point `t` finds; at a head's first point it does not read them. -/
def found (c : Dev nD) (t : Fin cfg0.N) : (S96x16640.Idx → Elt F .f32) × (S64x16640.Idx → Elt F .f32) :=
  if h : t.val = 0 then (k0_pay75, k0_pay76) else dkv m c (t.val - 1) (Nat.lt_of_le_of_lt (Nat.sub_le _ _) t.isLt)

theorem dkv_eq (c : Dev nD) (t : Fin cfg0.N) : dkv m c t.val t.isLt
    = ((ms9 t).view.read (Elt F) (ptEnd m c t (found m c t).1 (found m c t).2).2.1, (ms10 t).view.read (Elt F) (ptEnd m c t (found m c t).1 (found m c t).2).2.2) := by
  obtain ⟨n, h⟩ := t
  cases n with
  | zero => rfl
  | succ n => rfl

/-- The queries' block the body writes at point `t`. -/
@[irreducible] def ptQ (c : Dev nD) (t : Fin cfg0.N) (d12 : S96x16640.Idx → Elt F .f32) (d13 : S64x16640.Idx → Elt F .f32) : S1280x128.Idx → Elt F .f32 :=
  outQ c (V m c main_v28) (grid0.coords t) (ms0 t) (ms1 t) (ms2 t) (ms3 t) (ms4 t) (ms5 t) (ms6 t) (ms7 t) (ms9 t) (hs9 t) (ms10 t) (hs10 t) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) d12 d13
def dqAt (c : Dev nD) (t : Fin cfg0.N) : S1280x128.Idx → Elt F .f32 := ptQ m c t (found m c t).1 (found m c t).2
theorem ptQ_eq (c : Dev nD) (t : Fin cfg0.N) (d12 : S96x16640.Idx → Elt F .f32) (d13 : S64x16640.Idx → Elt F .f32) :
    ptQ m c t d12 d13 = k0_pay2 (View.readAt (Elt F) (Memref.whole cc0_scratch0).view (Rect.unit ![0, 0] S96x1280.size inb_S96x1280_S96x1280_0_0).toLoadRect (ptEnd m c t d12 d13).1) := by
  unfold ptQ ptEnd outQ
  rfl

/-- The proof data of the pipeline on core `c`. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t
    | ⟨9, _⟩ => (dkv m c t.val t.isLt).1
    | ⟨10, _⟩ => (dkv m c t.val t.isLt).2
  Φ _ := Pipeline.ΦD osem spec0 H0 (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (dats m 0 c).after 8 t = dqAt m c t := by dsimp only [dats]
theorem after_9 (c : Dev nD) (t : Fin cfg0.N) : (dats m 0 c).after 9 t = (dkv m c t.val t.isLt).1 := by dsimp only [dats]
theorem after_10 (c : Dev nD) (t : Fin cfg0.N) : (dats m 0 c).after 10 t = (dkv m c t.val t.isLt).2 := by dsimp only [dats]
theorem before_9 (c : Dev nD) (t : Fin cfg0.N) (d) (ht : t.val % 13 ≠ 0) : (dats m 0 c).before 9 t d = (found m c t).1 := by
  have h0 : t.val ≠ 0 := fun h => ht (by rw [h])
  unfold found Dat.before
  rw [dif_neg h0, if_neg (by intro h; exact absurd h (by decide +revert)), if_neg h0]
  have hf : ¬ (cfg0.win 9).flush ⟨t.val - 1, Nat.lt_of_le_of_lt (Nat.sub_le _ _) t.isLt⟩ = true := by
    rw [flush0_9]; show ¬ (t.val - 1) % 13 = 12; omega
  simp only [if_neg hf]
  exact after_9 m c ⟨t.val - 1, Nat.lt_of_le_of_lt (Nat.sub_le _ _) t.isLt⟩
theorem before_10 (c : Dev nD) (t : Fin cfg0.N) (d) (ht : t.val % 13 ≠ 0) : (dats m 0 c).before 10 t d = (found m c t).2 := by
  have h0 : t.val ≠ 0 := fun h => ht (by rw [h])
  unfold found Dat.before
  rw [dif_neg h0, if_neg (by intro h; exact absurd h (by decide +revert)), if_neg h0]
  have hf : ¬ (cfg0.win 10).flush ⟨t.val - 1, Nat.lt_of_le_of_lt (Nat.sub_le _ _) t.isLt⟩ = true := by
    rw [flush0_10]; show ¬ (t.val - 1) % 13 = 12; omega
  simp only [if_neg hf]
  exact after_10 m c ⟨t.val - 1, Nat.lt_of_le_of_lt (Nat.sub_le _ _) t.isLt⟩

theorem firstW_iff : ∀ t : Fin cfg0.N, firstW (grid0.coords t) = 1#1 ↔ t.val % 13 = 0 := by
  have h : ∀ t : Fin grid0.N, firstW (grid0.coords t) = 1#1 ↔ t.val % 13 = 0 := by decide +kernel
  exact h

/-- What the body finds in the two accumulators is `found`, as far as it reads it. -/
theorem start_found9 (c : Dev nD) (t : Fin cfg0.N) (d) : startK (grid0.coords t) ((dats m 0 c).before 9 t d) = startK (grid0.coords t) (found m c t).1 := by
  unfold startK
  by_cases ht : t.val % 13 = 0
  · rw [if_pos ((firstW_iff t).mpr ht), if_pos ((firstW_iff t).mpr ht)]
  · rw [before_9 m c t d ht]
theorem start_found10 (c : Dev nD) (t : Fin cfg0.N) (d) : startV (grid0.coords t) ((dats m 0 c).before 10 t d) = startV (grid0.coords t) (found m c t).2 := by
  unfold startV
  by_cases ht : t.val % 13 = 0
  · rw [if_pos ((firstW_iff t).mpr ht), if_pos ((firstW_iff t).mpr ht)]
  · rw [before_10 m c t d ht]

/-! ## The body's obligation -/

/-- What is the kernel's own between points, piece by piece. -/
theorem PhiD_eq (c : Dev nD) :
    (Pipeline.ΦD osem spec0 H0 (V m) c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (∃ r, prngReg c r)
          ∗ (cellP c 0 ∗ cellP c 1 ∗ cellP c 2)
          ∗ ((c : Thread nD τ).loc main_v28) ↦{fullShare} V m c main_v28) := by
  rw [Pipeline.ΦD_eq, scopedRest0_eq]
  unfold Pipeline.ownSems0
  rw [bigSep_three, bigSep_singleton]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t))

theorem held_of_read {S : Shape} {e : EltTy} (c : Dev nD) (M : Memref sig .tc .vmem S e) (hM : M.IsWhole) (X : S.Idx → Elt F e) :
    (owns (c : Thread nD τ) M fullShare X : sProp 𝕄) ⊢ heldP c M (hM.unread X) := by
  unfold owns
  iintro ⟨%f, %h, H⟩
  rw [← hM.eq_unread h]
  iexact H
theorem read_of_held {S : Shape} {e : EltTy} (c : Dev nD) (M : Memref sig .tc .vmem S e) (f : Buf (Elt F) (M.view.loc (c : Thread nD τ))) :
    (heldP c M f : sProp 𝕄) ⊢ owns (c : Thread nD τ) M fullShare (M.view.read (Elt F) f) := by
  unfold owns
  iintro H
  iexists f
  isplitr; · ipureintro; rfl
  iexact H
theorem owns_of_unread {S : Shape} {e : EltTy} (c : Dev nD) (M : Memref sig .tc .vmem S e) (hM : M.IsWhole) (X : S.Idx → Elt F e) :
    (heldP c M (hM.unread X) : sProp 𝕄) ⊢ owns (c : Thread nD τ) M fullShare X := by
  have h := read_of_held c M (hM.unread X)
  rw [hM.read_unread] at h
  exact h
theorem scratch_eq (c : Dev nD) (f : Buf (Elt F) ((c : Thread nD τ).loc cc0_scratch0)) :
    (((c : Thread nD τ).loc cc0_scratch0) ↦{fullShare} f : sProp 𝕄) = heldP c (Memref.whole cc0_scratch0) f := by
  unfold heldP
  rw [show (Memref.whole cc0_scratch0).view.set = Finset.univ from View.set_whole _]

theorem accEnd_congr (c : Dev nD) (t : Fin cfg0.N) (d12 d12' : S96x16640.Idx → Elt F .f32) (d13 d13' : S64x16640.Idx → Elt F .f32)
    (h : startK (grid0.coords t) d12 = startK (grid0.coords t) d12') (h' : startV (grid0.coords t) d13 = startV (grid0.coords t) d13') :
    ptEnd m c t d12 d13 = ptEnd m c t d12' d13' := by
  unfold ptEnd accEnd
  rw [h, h']

/-- The windows the body reads, at point `t`. -/
@[irreducible] def inAt (c : Dev nD) (t : Fin cfg0.N) : sProp 𝕄 := inP c (ms0 t) (ms1 t) (ms2 t) (ms3 t) (ms4 t) (ms5 t) (ms6 t) (ms7 t) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t))
/-- The kernel's own, at point `t`. -/
@[irreducible] def ownAt (c : Dev nD) (t : Fin cfg0.N) : sProp 𝕄 := ownP c (V m c main_v28) (grid0.coords t)
theorem inAt_eq (c : Dev nD) (t : Fin cfg0.N) : (inAt m c t : sProp 𝕄) = iprop(heldP c (ms0 t) ((hs0 t).unread (iblk m c 0 t)) ∗ heldP c (ms1 t) ((hs1 t).unread (iblk m c 1 t)) ∗ heldP c (ms2 t) ((hs2 t).unread (iblk m c 2 t)) ∗ heldP c (ms3 t) ((hs3 t).unread (iblk m c 3 t)) ∗ heldP c (ms4 t) ((hs4 t).unread (iblk m c 4 t)) ∗ heldP c (ms5 t) ((hs5 t).unread (iblk m c 5 t)) ∗ heldP c (ms6 t) ((hs6 t).unread (iblk m c 6 t)) ∗ heldP c (ms7 t) ((hs7 t).unread (iblk m c 7 t))) := by
  unfold inAt inP; rfl
theorem ownAt_eq (c : Dev nD) (t : Fin cfg0.N) : (ownAt m c t : sProp 𝕄)
    = iprop(bigSep Finset.univ (homeP c (V m c main_v28) (grid0.coords t)) ∗ freeP c 0 ∗ freeP c 1 ∗ freeP c 2 ∗ ∃ f, heldP c (Memref.whole cc0_scratch0) f) := by
  unfold ownAt ownP; rfl

theorem run_point (c : Dev nD) (t : Fin cfg0.N) (f8 : Buf (Elt F) ((ms8 t).view.loc (c : Thread nD τ))) (d9 : S96x16640.Idx → Elt F .f32) (d10 : S64x16640.Idx → Elt F .f32) (W : Waits sig Unit) :
    iprop(inAt m c t ∗ ownAt m c t ∗ heldP c (ms8 t) f8 ∗ heldP c (ms9 t) ((hs9 t).unread d9) ∗ heldP c (ms10 t) ((hs10 t).unread d10) ∗ owes (c : Thread nD τ) 0 W)
      ⊢ wp frame (wpE (defs₀ (F := F)) 𝒱₀ c none) Set.univ (bodyAt0 t)
        (fun _ => iprop(inAt m c t ∗ ownAt m c t ∗ heldP c (ms8 t) ((hs8 t).unread (ptQ m c t d9 d10)) ∗ heldP c (ms9 t) (ptEnd m c t d9 d10).2.1
          ∗ heldP c (ms10 t) (ptEnd m c t d9 d10).2.2 ∗ ∃ W', owes (c : Thread nD τ) 0 W')) := by
  unfold inAt ownAt ptQ ptEnd
  exact body_run c (V m c main_v28) (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) f8 d9 d10 W

set_option maxHeartbeats 1600000 in
theorem sound_body (c : Dev nD) (t : Fin cfg0.N) :
    bodyPre m c t ⊢ wp frame (wpE (defs₀ (F := F)) 𝒱₀ c none) Set.univ (bodyAt0 t) (fun _ => bodyPost m c t) := by
  unfold bodyPre bodyPost
  rw [show (dats m 0 c).Φ t.succ = (dats m 0 c).Φ t.castSucc from rfl]
  rw [show (dats m 0 c).Φ t.castSucc = Pipeline.ΦD osem spec0 H0 (V m) c from rfl, PhiD_eq]
  unfold Dat.owesAt Pipeline.owesWithin
  rw [show (dats m 0 c).owed t.castSucc = 0 from rfl, show (dats m 0 c).owed t.succ = 0 from rfl]
  rw [after_0, after_1, after_2, after_3, after_4, after_5, after_6, after_7, after_8, after_9, after_10, dkv_eq]
  simp only [before_0, before_1, before_2, before_3, before_4, before_5, before_6, before_7]
  iintro ⟨⟨⟨⟨%fq, HQ⟩, HB⟩, Hg, ⟨Hc0, Hc1, Hc2⟩, HP⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HR := (ring_in (F := F) c) $$ [HB Hc0 Hc1 Hc2]
  · isplitl [HB]; · iexact HB
    isplitl [Hc0]; · iexact Hc0
    isplitl [Hc1]; · iexact Hc1
    iexact Hc2
  icases HR with ⟨HR0, HR1, HR2⟩
  ihave HP2 := (Entails.of_eq (p_eq c (V m c main_v28) (grid0.coords t))) $$ HP
  icases HP2 with ⟨Hh, Hrest⟩
  ihave HQ2 := (Entails.of_eq (scratch_eq c fq)) $$ HQ
  ihave J0 := (held_of_read c (ms0 t) (hs0 t) _) $$ H0
  ihave J1 := (held_of_read c (ms1 t) (hs1 t) _) $$ H1
  ihave J2 := (held_of_read c (ms2 t) (hs2 t) _) $$ H2
  ihave J3 := (held_of_read c (ms3 t) (hs3 t) _) $$ H3
  ihave J4 := (held_of_read c (ms4 t) (hs4 t) _) $$ H4
  ihave J5 := (held_of_read c (ms5 t) (hs5 t) _) $$ H5
  ihave J6 := (held_of_read c (ms6 t) (hs6 t) _) $$ H6
  ihave J7 := (held_of_read c (ms7 t) (hs7 t) _) $$ H7
  ihave J8 := (held_of_read c (ms8 t) (hs8 t) _) $$ H8
  ihave J9 := (held_of_read c (ms9 t) (hs9 t) _) $$ H9
  ihave J10 := (held_of_read c (ms10 t) (hs10 t) _) $$ H10
  have hE := accEnd_congr m c t _ _ _ _ (start_found9 m c t d9) (start_found10 m c t d10)
  have hO : ptQ m c t ((dats m 0 c).before 9 t d9) ((dats m 0 c).before 10 t d10) = dqAt m c t := by
    unfold dqAt; rw [ptQ_eq, ptQ_eq, hE]
  have hrun := run_point m c t ((hs8 t).unread ((dats m 0 c).before 8 t d8)) ((dats m 0 c).before 9 t d9) ((dats m 0 c).before 10 t d10) W
  rw [hO, hE] at hrun
  iapply (wp_wand_r Idealize.ShloMosaic.frame (wpE (defs₀ (F := F)) 𝒱₀ (c : Thread nD τ) none) Set.univ)
  isplitl [Hh HR0 HR1 HR2 HQ2 J0 J1 J2 J3 J4 J5 J6 J7 J8 J9 J10 HW]
  · iapply hrun
    rw [inAt_eq, ownAt_eq]
    isplitl [J0 J1 J2 J3 J4 J5 J6 J7]
    · isplitl [J0]; · iexact J0
      isplitl [J1]; · iexact J1
      isplitl [J2]; · iexact J2
      isplitl [J3]; · iexact J3
      isplitl [J4]; · iexact J4
      isplitl [J5]; · iexact J5
      isplitl [J6]; · iexact J6
      iexact J7
    isplitl [Hh HR0 HR1 HR2 HQ2]
    · isplitl [Hh]; · iexact Hh
      isplitl [HR0]; · iexact HR0
      isplitl [HR1]; · iexact HR1
      isplitl [HR2]; · iexact HR2
      iexists fq; iexact HQ2
    isplitl [J8]; · iexact J8
    isplitl [J9]; · iexact J9
    isplitl [J10]; · iexact J10
    iexact HW
  iintro %a
  rw [inAt_eq, ownAt_eq]
  iintro ⟨HI, HO, J8, J9, J10, HW⟩
  icases HI with ⟨J0, J1, J2, J3, J4, J5, J6, J7⟩
  icases HO with ⟨Hh, HR0, HR1, HR2, %fe, HQ2⟩
  ihave HR := (ring_out (F := F) c) $$ [HR0 HR1 HR2]
  · isplitl [HR0]; · iexact HR0
    isplitl [HR1]; · iexact HR1
    iexact HR2
  icases HR with ⟨HB, Hc0, Hc1, Hc2⟩
  ihave HP := (Entails.of_eq (p_eq c (V m c main_v28) (grid0.coords t)).symm) $$ [Hh Hrest]
  · isplitl [Hh]; · iexact Hh
    iexact Hrest
  ihave HQ := (Entails.of_eq (scratch_eq c fe).symm) $$ HQ2
  isplitl [HQ HB Hg Hc0 Hc1 Hc2 HP]
  · isplitl [HQ HB]
    · isplitl [HQ]; · iexists fe; iexact HQ
      iexact HB
    isplitl [Hg]; · iexact Hg
    isplitl [Hc0 Hc1 Hc2]
    · isplitl [Hc0]; · iexact Hc0
      isplitl [Hc1]; · iexact Hc1
      iexact Hc2
    iexact HP
  isplitl [HW]
  · icases HW with ⟨%W', HW⟩
    iexists W'; isplitr; · ipureintro; exact fun _ _ => Or.inl trivial
    iexact HW
  isplitl [J0]; · iapply (owns_of_unread c (ms0 t) (hs0 t)); iexact J0
  isplitl [J1]; · iapply (owns_of_unread c (ms1 t) (hs1 t)); iexact J1
  isplitl [J2]; · iapply (owns_of_unread c (ms2 t) (hs2 t)); iexact J2
  isplitl [J3]; · iapply (owns_of_unread c (ms3 t) (hs3 t)); iexact J3
  isplitl [J4]; · iapply (owns_of_unread c (ms4 t) (hs4 t)); iexact J4
  isplitl [J5]; · iapply (owns_of_unread c (ms5 t) (hs5 t)); iexact J5
  isplitl [J6]; · iapply (owns_of_unread c (ms6 t) (hs6 t)); iexact J6
  isplitl [J7]; · iapply (owns_of_unread c (ms7 t) (hs7 t)); iexact J7
  isplitl [J8]; · iapply (owns_of_unread c (ms8 t) (hs8 t)); iexact J8
  isplitl [J9]; · iapply (read_of_held c (ms9 t)); iexact J9
  iapply (read_of_held c (ms10 t)); iexact J10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

end Cert.Proof.KernelIdeal

end
-- ==== Proof.Run.lean ====
/- The run of @main: the host operations, the pipelined region, the host operations after it. Each argument array ends as
   it began, and each result is read off the region's three arrays. -/
module

public import proofs.«01_k».proof.Proof.Launch

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

variable (m : (ℓ : Loc nD τ sig) → Buf (Elt F) ℓ) (ρ : Dev nD → PrngReg)

/-! ## @main around the region -/

set_option maxHeartbeats 800000 in
/-- @main reaches the region after its first host operations, and goes on with the rest. -/
theorem hmain (𝒱₀ : Variants) : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- The host operations after the region do not touch the array the kernel reads by itself. -/
theorem sfx_off : ∀ ops ∈ ([hostOps1] : List (List (HloOp τ sig (Elt F)))), ∀ op ∈ ops,
    op.bufs ⊆ Pipeline.tailRefsBut (τ := τ) sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  rw [Finset.mem_singleton.mp hb]
  simp only [hostOps1, List.mem_cons, List.mem_nil_iff, or_false] at hop
  rcases hop with rfl | rfl | rfl | rfl | rfl | rfl | rfl | rfl | rfl | rfl | rfl | rfl | rfl | rfl | rfl
  all_goals
    simp only [StableHlo.nullary, StableHlo.unary, StableHlo.binary, StableHlo.ternary, StableHlo.reshape, Finset.mem_insert, Finset.mem_singleton, not_or]
    repeat' apply And.intro
    all_goals exact StableHlo.devRef_ne_of_ne (by decide)

/-- `main_arg0` ends as it began. -/
theorem W_main_arg0 (dats : (p : Fin _) → (c : Dev nD) → Dat τ (Elt F) Unit ℕ (UU nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- `main_arg1` ends as it began. -/
theorem W_main_arg1 (dats : (p : Fin _) → (c : Dev nD) → Dat τ (Elt F) Unit ℕ (UU nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- `main_arg2` ends as it began. -/
theorem W_main_arg2 (dats : (p : Fin _) → (c : Dev nD) → Dat τ (Elt F) Unit ℕ (UU nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- `main_arg3` ends as it began. -/
theorem W_main_arg3 (dats : (p : Fin _) → (c : Dev nD) → Dat τ (Elt F) Unit ℕ (UU nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The run -/

set_option maxHeartbeats 3200000 in
set_option backward.isDefEq.respectTransparency.types false in
/-- The whole run: the region's arrays and the host results are what the data say, and every semaphore ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ 𝒱₀ ownSemFacts H0 H0_sub m ρ main
    (hbody := fun c => (body_obligation m c).loose) (hshare := fun c => (dats m 0 c).share_full fun _ => rfl)
    (howed := fun _ _ => rfl) (V₀ := V0 m) (opss := [hostOps1]) (hsub := sfx_off) (hfresh := sfx_fresh) (hkeep := sfx_keeps)
    (hmain := hmain m 𝒱₀) (hA := A_eq m) (hin := fun _ => .rfl) (hout := fun _ => .rfl)

/-- Every argument array ends as it began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩, h.2⟩) (run_main m ρ)

end Cert.Proof.KernelIdeal

end
-- ==== Proof.KTrip.lean ====
/- One trip of the kernel's loop: five blocks waited for, five asked for two groups ahead, and the three accumulators
   raised by the group's share. -/
module

public import proofs.«01_k».proof.Proof.KRing
public import Idealize.ShloMosaic.Lib.Pipeline.FrameSuffix

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline library's algebra beside the counters the kernel's own transfers ride on. -/
abbrev UU (nD : Nat) (τ : Topo) : Type := Pipeline.UD sig nD τ
local notation "𝕄" => MT nD τ sig Unit (Elt F) ℕ (UU nD τ) ℕ
abbrev 𝒱₀ : Variants := Variants.none

/-! ## The pieces of the ring -/

section Pieces
variable (c : Dev nD) (XP : Buf (Elt F) (pM.view.loc (c : Thread nD τ))) (i : grid0.Coords)

/-- Slot `s`'s semaphore at rest. -/
abbrev cellP (s : Fin 3) : sProp 𝕄 := semVal ((c : Thread nD τ), SemLoc.dma (csm s).sem) 0
/-- Block `u` of slot `s` held at `f`. -/
abbrev boxP (s : Fin 3) (u : Fin 5) (f : Buf (Elt F) ((box s u).view.loc (c : Thread nD τ))) : sProp 𝕄 :=
  (box s u).view.loc (c : Thread nD τ) ↦[(box s u).view.set]{fullShare} f
/-- Block `u` of group `b` held in main memory. -/
abbrev blkP (b : Fin 13) (u : Fin 5) : sProp 𝕄 := (blk i b u).view.loc (c : Thread nD τ) ↦[(blk i b u).view.set]{fullShare} XP
/-- A block's words as they land in a slot. -/
abbrev payload (b : Fin 13) (u : Fin 5) : S256x1280.Idx → Elt F .bf16 := ReadAs.same.apply ((blk i b u).view.read (Elt F) XP)
/-- Block `u` of slot `s` after block `u` of group `b` landed in it, over what it held before. -/
abbrev landed (s : Fin 3) (b : Fin 13) (u : Fin 5) (f : Buf (Elt F) ((box s u).view.loc (c : Thread nD τ))) :
    Buf (Elt F) ((box s u).view.loc (c : Thread nD τ)) :=
  (box s u).view.writes (Elt F) f [⟨Rect.whole S256x1280, payload c XP i b u⟩]
/-- What the transfer of one block delivers. -/
abbrev deliv (s : Fin 3) (b : Fin 13) (f : (u : Fin 5) → Buf (Elt F) ((box s u).view.loc (c : Thread nD τ))) (u : Fin 5) : sProp 𝕄 :=
  iprop(boxP c s u (landed c XP i s b u (f u)) ∗ blkP c XP i b u)
theorem blk_storable (b : Fin 13) (u : Fin 5) (f : Buf (Elt F) ((blk i b u).view.loc (c : Thread nD τ))) :
    Storable (upEmb : UEmb _ 𝕄) ((blk i b u).view.loc (c : Thread nD τ) ↦[(blk i b u).view.set]{fullShare} f) := by infer_instance
theorem box_storable (s : Fin 3) (u : Fin 5) (f : Buf (Elt F) ((box s u).view.loc (c : Thread nD τ))) :
    Storable (upEmb : UEmb _ 𝕄) ((box s u).view.loc (c : Thread nD τ) ↦[(box s u).view.set]{fullShare} f) := by infer_instance
instance deliv_storable (s : Fin 3) (b : Fin 13) (f : (u : Fin 5) → Buf (Elt F) ((box s u).view.loc (c : Thread nD τ))) (u : Fin 5) :
    Storable (upEmb : UEmb _ 𝕄) (deliv c XP i s b f u) :=
  @Storable.sep _ _ _ _ _ _ _ _ (box_storable c s u (landed c XP i s b u (f u))) (blk_storable c i b u XP)
/-- One block's credit on the semaphore. -/
abbrev NN : ℕ := 20480
/-- Slot `s` with group `b` on its way, `j` of its five blocks asked for. -/
abbrev flightP (s : Fin 3) (b : Fin 13) (f : (u : Fin 5) → Buf (Elt F) ((box s u).view.loc (c : Thread nD τ))) (j : ℕ) : sProp 𝕄 :=
  Transfers.Batch countersEmb (c : Thread nD τ) (SemLoc.dma (csm s).sem) () NN (deliv c XP i s b f) j 0
/-- Group `b` at home. -/
abbrev homeP (b : Fin 13) : sProp 𝕄 :=
  iprop(blkP c XP i b 0 ∗ blkP c XP i b 1 ∗ blkP c XP i b 2 ∗ blkP c XP i b 3 ∗ blkP c XP i b 4)
/-- Slot `s` free: its five blocks held at anything, its semaphore at rest. -/
abbrev freeP (s : Fin 3) : sProp 𝕄 :=
  iprop((∃ f : (u : Fin 5) → Buf (Elt F) ((box s u).view.loc (c : Thread nD τ)),
      boxP c s 0 (f 0) ∗ boxP c s 1 (f 1) ∗ boxP c s 2 (f 2) ∗ boxP c s 3 (f 3) ∗ boxP c s 4 (f 4)) ∗ cellP c s)
/-- The slot of group `j`: on its way while there is such a group, free otherwise. -/
def roleP (j : ℕ) : sProp 𝕄 :=
  if j < 13 then iprop(∃ f, flightP c XP i (Ring.sl 3 j) (Ring.bk 13 j) f 5) else freeP c (Ring.sl 3 j)
/-- The ring before trip `k`. -/
def ringAt (k : ℕ) : sProp 𝕄 :=
  iprop(bigSep (Ring.homeSet 2 k) (homeP c XP i) ∗ roleP c XP i k ∗ roleP c XP i (k + 1) ∗ freeP c (Ring.sl 3 (k + 2)))

theorem homes_here (k : ℕ) (hk : k + 2 < 13) :
    bigSep (Ring.homeSet 2 k) (homeP c XP i)
      = iprop(homeP c XP i (Ring.bk 13 (k + 2)) ∗ bigSep ((Ring.homeSet 2 k).erase (Ring.bk 13 (k + 2))) (homeP c XP i)) := by
  conv_lhs => rw [Ring.homeSet_out 2 k hk, bigSep_insert (Ring.bkL_not_mem_erase 2 k)]
  rfl
theorem homes_next (k : ℕ) (hk : k + 2 < 13) :
    bigSep (Ring.homeSet 2 (k + 1)) (homeP c XP i)
      = iprop(homeP c XP i (Ring.bk 13 k) ∗ bigSep ((Ring.homeSet 2 k).erase (Ring.bk 13 (k + 2))) (homeP c XP i)) := by
  conv_lhs => rw [Ring.homeSet_succ 2 k hk, bigSep_insert (Ring.bk_not_mem_erase 2 k (by omega) (by decide))]
  rfl
theorem homes_tail (k : ℕ) (hk : 13 ≤ k + 2) (hk' : k < 13) :
    bigSep (Ring.homeSet 2 (k + 1)) (homeP c XP i)
      = iprop(homeP c XP i (Ring.bk 13 k) ∗ bigSep (Ring.homeSet 2 k) (homeP c XP i)) := by
  conv_lhs => rw [Ring.homeSet_succ_tail 2 k hk hk', bigSep_insert (Ring.bk_not_mem_homeSet 2 k hk' (by decide))]
  rfl
theorem role_of_lt (j : ℕ) (h : j < 13) : roleP c XP i j = iprop(∃ f, flightP c XP i (Ring.sl 3 j) (Ring.bk 13 j) f 5) := if_pos h
theorem role_of_ge (j : ℕ) (h : ¬ j < 13) : roleP c XP i j = freeP c (Ring.sl 3 j) := if_neg h
theorem sl3_add3 (k : ℕ) : Ring.sl 3 (k + 1 + 2) = Ring.sl 3 k := by rw [show k + 1 + 2 = k + 3 from rfl, Ring.sl_add]

end Pieces

/-! ## One trip -/

section Trip
variable (c : Dev nD) (XP : Buf (Elt F) (pM.view.loc (c : Thread nD τ))) (i : grid0.Coords)
variable (arg2 : Memref sig .tc .vmem S1280x128 .bf16) (harg2 : arg2.IsWhole) (arg3 : Memref sig .tc .vmem S96x1280 .bf16) (harg3 : arg3.IsWhole) (arg4 : Memref sig .tc .vmem S64x1280 .bf16) (harg4 : arg4.IsWhole) (arg5 : Memref sig .tc .vmem S1x1x1280 .f32) (harg5 : arg5.IsWhole) (arg6 : Memref sig .tc .vmem S1x1x1280 .f32) (harg6 : arg6.IsWhole) (arg7 : Memref sig .tc .vmem S1x1x65x1x1280 .f32) (harg7 : arg7.IsWhole) (arg8 : Memref sig .tc .vmem S16640x128 .bf16) (harg8 : arg8.IsWhole) (arg9 : Memref sig .tc .vmem S96x16640 .bf16) (harg9 : arg9.IsWhole) (arg11 : Memref sig .tc .vmem S1280x128 .f32) (harg11 : arg11.IsWhole) (arg12 : Memref sig .tc .vmem S96x16640 .f32) (harg12 : arg12.IsWhole) (arg13 : Memref sig .tc .vmem S64x16640 .f32) (harg13 : arg13.IsWhole)

/-- A window held whole at `f`. -/
abbrev heldP {S : Shape} {e : EltTy} (M : Memref sig .tc .vmem S e) (f : Buf (Elt F) (M.view.loc (c : Thread nD τ))) : sProp 𝕄 :=
  M.view.loc (c : Thread nD τ) ↦[M.view.set]{fullShare} f

/-- What the loop's region reads and does not change. -/
def readP (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ))) : sProp 𝕄 :=
  iprop(heldP c arg2 f2 ∗ heldP c arg7 f7 ∗ heldP c arg8 f8 ∗ heldP c arg9 f9 ∗ (∃ W, owes (c : Thread nD τ) 0 W))
/-- The three accumulators. -/
def accP (fq : Buf (Elt F) ((Memref.whole cc0_scratch0).view.loc (c : Thread nD τ))) (fk : Buf (Elt F) (arg12.view.loc (c : Thread nD τ)))
    (fv : Buf (Elt F) (arg13.view.loc (c : Thread nD τ))) : sProp 𝕄 :=
  iprop(heldP c (Memref.whole cc0_scratch0) fq ∗ heldP c arg12 fk ∗ heldP c arg13 fv)

abbrev RQ : Rect S96x1280 := Rect.unit (s := S96x1280) ![0, 0] S96x1280.size inb_S96x1280_S96x1280_0_0
abbrev RK (k : Fin k0_t1_loop.trips) : Rect S96x16640 := Rect.unit (s := S96x16640) (k0_off34 k) S96x1280.size (k0_off34_inb k)
abbrev RV (k : Fin k0_t1_loop.trips) : Rect S64x16640 := Rect.unit (s := S64x16640) (k0_off33 k) S64x1280.size (k0_off33_inb k)

abbrev tripG (v68 v70 : FVec F S1x1280 .f32) (v72 : FVec F S96x1280 .bf16) (v73 : Vec F S64x1280 .bf16) (k : Fin k0_t1_loop.trips) :
    Prog (TpuEff nD τ sig (Elt F) Λ₀ .tc) Unit :=
  k0_t1_body (F := F) i arg2 harg2 arg3 harg3 arg4 harg4 arg5 harg5 arg6 harg6 arg7 harg7 arg8 harg8 arg9 harg9 pM (Memref.isWhole_whole _) arg11 harg11 arg12 harg12 arg13 harg13 (Memref.whole cc0_scratch0) (Memref.isWhole_whole _) bufM (Memref.isWhole_whole _) cc0_scratch2 v68 v70 v72 v73 k ()

set_option backward.proofsInPublic true in
set_option maxHeartbeats 4000000 in
/-- One trip with a group still to ask for. -/
def tripHead (v68 v70 : FVec F S1x1280 .f32) (v72 : FVec F S96x1280 .bf16) (v73 : Vec F S64x1280 .bf16) (k : Fin k0_t1_loop.trips) (hk2 : k.val + 2 < 13)
    (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (fq : Buf (Elt F) ((Memref.whole cc0_scratch0).view.loc (c : Thread nD τ))) (fk : Buf (Elt F) (arg12.view.loc (c : Thread nD τ)))
    (fv : Buf (Elt F) (arg13.view.loc (c : Thread nD τ))) :
    { w : (RQ.shape.Idx → Elt F .f32) × ((RK k).shape.Idx → Elt F .f32) × ((RV k).shape.Idx → Elt F .f32) //
      iprop(readP c arg2 arg7 arg8 arg9 f2 f7 f8 f9 ∗ accP c arg12 arg13 fq fk fv ∗ ringAt c XP i k)
        ⊢ wp frame (wpE (defs₀ (F := F)) 𝒱₀ (c : Thread nD τ) none) Set.univ
          (tripG i arg2 harg2 arg3 harg3 arg4 harg4 arg5 harg5 arg6 harg6 arg7 harg7 arg8 harg8 arg9 harg9 arg11 harg11 arg12 harg12 arg13 harg13 v68 v70 v72 v73 k)
          (fun _ => iprop(readP c arg2 arg7 arg8 arg9 f2 f7 f8 f9
            ∗ accP c arg12 arg13 ((Memref.whole cc0_scratch0).view.writes (Elt F) fq [⟨RQ, w.1⟩]) (arg12.view.writes (Elt F) fk [⟨RK k, w.2.1⟩])
                (arg13.view.writes (Elt F) fv [⟨RV k, w.2.2⟩])
            ∗ ringAt c XP i (k.val + 1))) } := by
  refine ⟨⟨?_, ?_, ?_⟩, ?run⟩
  case run =>
    have hk13 : k.val < 13 := by omega
    have hc : k0_cond2 k = 1#1 := (cond2_iff k).2 hk2
    unfold ringAt readP accP
    rw [homes_here c XP i k.val hk2, homes_next c XP i k.val hk2, sl3_add3, role_of_lt c XP i k.val hk13,
      role_of_lt c XP i (k.val + 1) (by omega), role_of_lt c XP i (k.val + 1 + 1) (by omega)]
    iintro ⟨⟨H2, H7, H8, H9, ⟨%W, HW⟩⟩, ⟨HQ, HK, HV⟩, ⟨⟨Hg0, Hg1, Hg2, Hg3, Hg4⟩, Hrest⟩, ⟨%f0, HF⟩, HF1, ⟨⟨%f, Hb0, Hb1, Hb2, Hb3, Hb4⟩, Hc⟩⟩
    haveI := deliv_storable c XP i (Ring.sl 3 (k.val + 2)) (Ring.bk 13 (k.val + 2)) f
    imod (Transfers.batch_alloc' (Lvl := ℕ) (countersEmb (U := Pipeline.UD sig nD τ)) (c : Thread nD τ) () NN
      (deliv c XP i (Ring.sl 3 (k.val + 2)) (Ring.bk 13 (k.val + 2)) f) (sm := SemLoc.dma (csm (Ring.sl 3 (k.val + 2))).sem) (E := Set.univ)) $$ Hc with HB
    dsimp only [tripG]
    sl_unfold [k0_t1_body]
    sl_exec
    sl_step
    isplitl [H2 H7 H8 H9 HW]
    · isplitl [H2]; · iexact H2
      isplitl [H7]; · iexact H7
      isplitl [H8]; · iexact H8
      isplitl [H9]; · iexact H9
      iexists _; iexact HW
    isplitl [HQ HK HV]
    · isplitl [HQ]; · iexact HQ
      isplitl [HK]; · iexact HK
      iexact HV
    isplitl [HF_src0 HF_src1 HF_src2 HF_src3 HF_src4 Hrest]
    · isplitl [HF_src0 HF_src1 HF_src2 HF_src3 HF_src4]
      · isplitl [HF_src0]; · iexact HF_src0
        isplitl [HF_src1]; · iexact HF_src1
        isplitl [HF_src2]; · iexact HF_src2
        isplitl [HF_src3]; · iexact HF_src3
        iexact HF_src4
      iexact Hrest
    isplitl [HF1]; · iexact HF1
    isplitl [HB]; · iexists f; iexact HB
    isplitr [HF]
    · iexists (fun u => (box (Ring.sl 3 k.val) u).view.writes (Elt F) (box (Ring.sl 3 k.val) u).view.junk [⟨Rect.whole S256x1280, payload c XP i (Ring.bk 13 k.val) u⟩])
      isplitl [HF_dst0]; · iexact HF_dst0
      isplitl [HF_dst1]; · iexact HF_dst1
      isplitl [HF_dst2]; · iexact HF_dst2
      isplitl [HF_dst3]; · iexact HF_dst3
      iexact HF_dst4
    iexact HF

/-- What a trip writes over the three accumulators. -/
def tripW (v68 v70 : FVec F S1x1280 .f32) (v72 : FVec F S96x1280 .bf16) (v73 : Vec F S64x1280 .bf16) (k : Fin k0_t1_loop.trips)
    (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (fq : Buf (Elt F) ((Memref.whole cc0_scratch0).view.loc (c : Thread nD τ))) (fk : Buf (Elt F) (arg12.view.loc (c : Thread nD τ)))
    (fv : Buf (Elt F) (arg13.view.loc (c : Thread nD τ))) :
    (RQ.shape.Idx → Elt F .f32) × ((RK k).shape.Idx → Elt F .f32) × ((RV k).shape.Idx → Elt F .f32) :=
  ⟨k0_pay72 v70 (tripHead.sl.r_44 c XP i arg2 arg7 arg8 arg9 v68 v70 k f2 f7 f8 f9 fq)
            (tripHead.sl.r_48 c arg2 arg8 k f2 f8) (tripHead.sl.r_49 c arg2 arg8 k f2 f8)
            (tripHead.sl.r_50 c XP i arg7 v68 k f7) (tripHead.sl.r_52 c XP i arg2 arg7 arg8 v68 v70 k f2 f7 f8)
            (tripHead.sl.r_53 c XP i arg2 arg7 arg8 v68 v70 k f2 f7 f8)
            (tripHead.sl.r_54 c XP i arg2 arg7 arg8 v68 v70 k f2 f7 f8) (tripHead.sl.r_55 c XP i arg7 v68 k f7)
            (k0_pay70 v70)
            (View.readAt (Elt F) arg9.view (Rect.unit (s := S96x16640) (k0_off28 k 1024#32) S96x256.size (k0_off28_inb k 4)).toLoadRect f9),
   k0_pay74 v70 v72 (tripHead.sl.r_10 c XP i arg2 arg7 arg8 v68 v70 v72 k f2 f7 f8)
            (tripHead.sl.r_24 c XP i arg2 arg7 arg8 v68 v70 v72 k f2 f7 f8)
            (tripHead.sl.r_32 c XP i arg2 arg7 arg8 v68 v70 v72 k f2 f7 f8)
            (tripHead.sl.r_43 c XP i arg2 arg7 arg8 v68 v70 v72 k f2 f7 f8) (tripHead.sl.r_48 c arg2 arg8 k f2 f8)
            (tripHead.sl.r_49 c arg2 arg8 k f2 f8) (tripHead.sl.r_50 c XP i arg7 v68 k f7)
            (tripHead.sl.r_52 c XP i arg2 arg7 arg8 v68 v70 k f2 f7 f8)
            (tripHead.sl.r_53 c XP i arg2 arg7 arg8 v68 v70 k f2 f7 f8)
            (tripHead.sl.r_54 c XP i arg2 arg7 arg8 v68 v70 k f2 f7 f8) (tripHead.sl.r_55 c XP i arg7 v68 k f7)
            (k0_pay70 v70)
            (View.readAt (Elt F) arg12.view (Rect.unit (s := S96x16640) (k0_off34 k) S96x1280.size (k0_off34_inb k)).toLoadRect fk),
   k0_pay73 (k0_pay1 v73) (tripHead.sl.r_9 c XP i arg7 v68 v73 k f7) (tripHead.sl.r_23 c XP i arg7 v68 v73 k f7)
            (tripHead.sl.r_31 c XP i arg7 v68 v73 k f7) (tripHead.sl.r_42 c XP i arg7 v68 v73 k f7)
            (tripHead.sl.r_51 c XP i arg7 v68 k f7)
            (View.readAt (Elt F) arg13.view (Rect.unit (s := S64x16640) (k0_off33 k) S64x1280.size (k0_off33_inb k)).toLoadRect fv)⟩

set_option backward.proofsInPublic true in
set_option maxHeartbeats 4000000 in
/-- One trip with no group left to ask for: the same three payloads. -/
theorem tripTail (v68 v70 : FVec F S1x1280 .f32) (v72 : FVec F S96x1280 .bf16) (v73 : Vec F S64x1280 .bf16) (k : Fin k0_t1_loop.trips) (hk2 : ¬ k.val + 2 < 13)
    (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (fq : Buf (Elt F) ((Memref.whole cc0_scratch0).view.loc (c : Thread nD τ))) (fk : Buf (Elt F) (arg12.view.loc (c : Thread nD τ)))
    (fv : Buf (Elt F) (arg13.view.loc (c : Thread nD τ))) :
      iprop(readP c arg2 arg7 arg8 arg9 f2 f7 f8 f9 ∗ accP c arg12 arg13 fq fk fv ∗ ringAt c XP i k)
        ⊢ wp frame (wpE (defs₀ (F := F)) 𝒱₀ (c : Thread nD τ) none) Set.univ
          (tripG i arg2 harg2 arg3 harg3 arg4 harg4 arg5 harg5 arg6 harg6 arg7 harg7 arg8 harg8 arg9 harg9 arg11 harg11 arg12 harg12 arg13 harg13 v68 v70 v72 v73 k)
          (fun _ => iprop(readP c arg2 arg7 arg8 arg9 f2 f7 f8 f9
            ∗ accP c arg12 arg13 ((Memref.whole cc0_scratch0).view.writes (Elt F) fq [⟨RQ, (tripW c XP i arg2 arg7 arg8 arg9 arg12 arg13 v68 v70 v72 v73 k f2 f7 f8 f9 fq fk fv).1⟩]) (arg12.view.writes (Elt F) fk [⟨RK k, (tripW c XP i arg2 arg7 arg8 arg9 arg12 arg13 v68 v70 v72 v73 k f2 f7 f8 f9 fq fk fv).2.1⟩])
                (arg13.view.writes (Elt F) fv [⟨RV k, (tripW c XP i arg2 arg7 arg8 arg9 arg12 arg13 v68 v70 v72 v73 k f2 f7 f8 f9 fq fk fv).2.2⟩])
            ∗ ringAt c XP i (k.val + 1))) := by
  have hk13 : k.val < 13 := Nat.lt_of_lt_of_eq k.isLt trips13
  have hc : ¬ k0_cond2 k = 1#1 := fun h => hk2 ((cond2_iff k).1 h)
  unfold ringAt readP accP
  rw [homes_tail c XP i k.val (by omega) hk13, sl3_add3, role_of_lt c XP i k.val hk13,
    role_of_ge c XP i (k.val + 1 + 1) (by omega)]
  iintro ⟨⟨H2, H7, H8, H9, ⟨%W, HW⟩⟩, ⟨HQ, HK, HV⟩, Hrest, ⟨%f0, HF⟩, HF1, Hfree⟩
  dsimp only [tripG]
  sl_unfold [k0_t1_body]
  sl_exec
  sl_step
  isplitl [H2 H7 H8 H9 HW]
  · isplitl [H2]; · iexact H2
    isplitl [H7]; · iexact H7
    isplitl [H8]; · iexact H8
    isplitl [H9]; · iexact H9
    iexists _; iexact HW
  isplitl [HQ HK HV]
  · isplitl [HQ]; · iexact HQ
    isplitl [HK]; · iexact HK
    iexact HV
  isplitl [HF_src0 HF_src1 HF_src2 HF_src3 HF_src4 Hrest]
  · isplitl [HF_src0 HF_src1 HF_src2 HF_src3 HF_src4]
    · isplitl [HF_src0]; · iexact HF_src0
      isplitl [HF_src1]; · iexact HF_src1
      isplitl [HF_src2]; · iexact HF_src2
      isplitl [HF_src3]; · iexact HF_src3
      iexact HF_src4
    iexact Hrest
  isplitl [HF1]; · iexact HF1
  isplitl [Hfree]; · iexact Hfree
  isplitr [HF]
  · iexists (fun u => (box (Ring.sl 3 k.val) u).view.writes (Elt F) (box (Ring.sl 3 k.val) u).view.junk [⟨Rect.whole S256x1280, payload c XP i (Ring.bk 13 k.val) u⟩])
    isplitl [HF_dst0]; · iexact HF_dst0
    isplitl [HF_dst1]; · iexact HF_dst1
    isplitl [HF_dst2]; · iexact HF_dst2
    isplitl [HF_dst3]; · iexact HF_dst3
    iexact HF_dst4
  iexact HF

end Trip

end Cert.Proof.Kernel

end
-- ==== Proof.Pure.lean ====
/- The arithmetic of one trip on plain vectors: the recomputed probabilities, the scores' gradient, and the three products,
   each read at an index over the extended reals. -/
module

public import proofs.«01_k».proof.Proof.Gen.KernelIdeal.Skeleton
public import Idealize.ShloMosaic.Lib.Pointwise

@[expose] public section

set_option maxRecDepth 16384

noncomputable section

namespace Cert.Proof.KernelIdeal

open Cert.KernelIdeal Cert.KernelIdeal.Gen
open Idealize.ShloMosaic

section Defs
variable {F : FTy → Type} [FloatOps F]

/-- A block's probabilities: the saved exponentials, rescaled. -/
def ptV (pb : Vec F S1x1x256x1280 .bf16) (mb L : FVec F S1x1280 .f32) : FVec F S256x1280 .f32 :=
  mulf (extf .f32 (shapeCast S256x1280 pb shapeCasts_S1x1x256x1280_S256x1280 : FVec F S256x1280 .bf16) bitsLt_bf16_f32)
    (broadcastTo S256x1280 (exp2 (subf mb L)) broadcasts_S1x1280_S256x1280)

/-- A block's score gradients, in five pieces of 256 queries. -/
def dsV (vr d0 d1 d2 d3 d4 : FVec F S256x128 .bf16) (pt : FVec F S256x1280 .f32) (D : FVec F S1x1280 .f32) : FVec F S256x1280 .bf16 :=
  concatenate S256x1280 1
    [⟨S256x256, truncf .bf16 (mulf (extractStridedSlice S256x256 ![0, 0] pt slices_S256x1280_o0_0_S256x256)
      (subf (matmul dot_S256x128_S256x128_S256x256_1_1_0_0_n_n none vr d0 (constant S256x256 .f32 0x00000000#32))
        (broadcastTo S256x256 (extractStridedSlice S1x256 ![0, 0] D slices_S1x1280_o0_0_S1x256) broadcasts_S1x256_S256x256))) bitsLt_bf16_f32⟩,
     ⟨S256x256, truncf .bf16 (mulf (extractStridedSlice S256x256 ![0, 256] pt slices_S256x1280_o0_256_S256x256)
      (subf (matmul dot_S256x128_S256x128_S256x256_1_1_0_0_n_n none vr d1 (constant S256x256 .f32 0x00000000#32))
        (broadcastTo S256x256 (extractStridedSlice S1x256 ![0, 256] D slices_S1x1280_o0_256_S1x256) broadcasts_S1x256_S256x256))) bitsLt_bf16_f32⟩,
     ⟨S256x256, truncf .bf16 (mulf (extractStridedSlice S256x256 ![0, 512] pt slices_S256x1280_o0_512_S256x256)
      (subf (matmul dot_S256x128_S256x128_S256x256_1_1_0_0_n_n none vr d2 (constant S256x256 .f32 0x00000000#32))
        (broadcastTo S256x256 (extractStridedSlice S1x256 ![0, 512] D slices_S1x1280_o0_512_S1x256) broadcasts_S1x256_S256x256))) bitsLt_bf16_f32⟩,
     ⟨S256x256, truncf .bf16 (mulf (extractStridedSlice S256x256 ![0, 768] pt slices_S256x1280_o0_768_S256x256)
      (subf (matmul dot_S256x128_S256x128_S256x256_1_1_0_0_n_n none vr d3 (constant S256x256 .f32 0x00000000#32))
        (broadcastTo S256x256 (extractStridedSlice S1x256 ![0, 768] D slices_S1x1280_o0_768_S1x256) broadcasts_S1x256_S256x256))) bitsLt_bf16_f32⟩,
     ⟨S256x256, truncf .bf16 (mulf (extractStridedSlice S256x256 ![0, 1024] pt slices_S256x1280_o0_1024_S256x256)
      (subf (matmul dot_S256x128_S256x128_S256x256_1_1_0_0_n_n none vr d4 (constant S256x256 .f32 0x00000000#32))
        (broadcastTo S256x256 (extractStridedSlice S1x256 ![0, 1024] D slices_S1x1280_o0_1024_S1x256) broadcasts_S1x256_S256x256))) bitsLt_bf16_f32⟩]
    concatenates_S256x256_S256x256_S256x256_S256x256_S256x256_S256x1280_d1

/-- Keys against score gradients. -/
def mmQ (K : FVec F S96x256 .bf16) (ds : FVec F S256x1280 .bf16) : FVec F S96x1280 .f32 :=
  matmul dot_S96x256_S256x1280_S96x1280_1_0_0_1_n_n none K ds (constant S96x1280 .f32 0x00000000#32)
/-- Queries against score gradients. -/
def mmK (q : FVec F S96x1280 .bf16) (ds : FVec F S256x1280 .bf16) : FVec F S96x256 .f32 :=
  matmul dot_S96x1280_S256x1280_S96x256_1_1_0_0_n_n none q ds (constant S96x256 .f32 0x00000000#32)
/-- Cotangents against probabilities. -/
def mmV (d : FVec F S64x1280 .bf16) (pt : FVec F S256x1280 .bf16) : FVec F S64x256 .f32 :=
  matmul dot_S64x1280_S256x1280_S64x256_1_1_0_0_n_n none d pt (constant S64x256 .f32 0x00000000#32)
/-- Five pieces of the keys' accumulator side by side. -/
def catK (a0 a1 a2 a3 a4 : FVec F S96x256 .f32) : FVec F S96x1280 .f32 :=
  concatenate S96x1280 1 [⟨S96x256, a0⟩, ⟨S96x256, a1⟩, ⟨S96x256, a2⟩, ⟨S96x256, a3⟩, ⟨S96x256, a4⟩] concatenates_S96x256_S96x256_S96x256_S96x256_S96x256_S96x1280_d1
/-- Five pieces of the values' accumulator side by side. -/
def catV (a0 a1 a2 a3 a4 : FVec F S64x256 .f32) : FVec F S64x1280 .f32 :=
  concatenate S64x1280 1 [⟨S64x256, a0⟩, ⟨S64x256, a1⟩, ⟨S64x256, a2⟩, ⟨S64x256, a3⟩, ⟨S64x256, a4⟩] concatenates_S64x256_S64x256_S64x256_S64x256_S64x256_S64x1280_d1
end Defs

theorem ptV_apply (pb : Vec Ideal S1x1x256x1280 .bf16) (mb L : FVec Ideal S1x1280 .f32) (j : Fin 256) (i : Fin 1280) :
    ptV pb mb L (ix2 j i) = pb (ix4 0 0 j i) * Ideal.exp2 (mb (ix2 0 i) - L (ix2 0 i)) := by
  pointwise [ptV]
  rfl

theorem dsV_apply (vr d0 d1 d2 d3 d4 : FVec Ideal S256x128 .bf16) (pt : FVec Ideal S256x1280 .f32) (D : FVec Ideal S1x1280 .f32)
    (X : FVec Ideal S1280x128 .bf16)
    (h0 : ∀ (r : Fin 256) (d : Fin 128), d0 (ix2 r d) = X (ix2 ⟨r.val, by omega⟩ d))
    (h1 : ∀ (r : Fin 256) (d : Fin 128), d1 (ix2 r d) = X (ix2 ⟨256 + r.val, by omega⟩ d))
    (h2 : ∀ (r : Fin 256) (d : Fin 128), d2 (ix2 r d) = X (ix2 ⟨512 + r.val, by omega⟩ d))
    (h3 : ∀ (r : Fin 256) (d : Fin 128), d3 (ix2 r d) = X (ix2 ⟨768 + r.val, by omega⟩ d))
    (h4 : ∀ (r : Fin 256) (d : Fin 128), d4 (ix2 r d) = X (ix2 ⟨1024 + r.val, by omega⟩ d))
    (j : Fin 256) (i : Fin 1280) :
    dsV vr d0 d1 d2 d3 d4 pt D (ix2 j i) = pt (ix2 j i) * ((∑ d : Fin 128, vr (ix2 j d) * X (ix2 i d)) - D (ix2 0 i)) := by
  pointwise [dsV]
  by_cases c0 : i.val < 256
  · rw [dif_pos c0]; simp only [h0, Fin.eta]
  rw [dif_neg c0]
  by_cases c1 : i.val - 256 < 256
  · have e : ∀ p, (⟨256 + (i.val - 256), p⟩ : Fin 1280) = i := fun p => Fin.ext (by simp only; omega)
    rw [dif_pos c1]; simp only [h1, e]
  rw [dif_neg c1]
  by_cases c2 : i.val - 256 - 256 < 256
  · have e : ∀ p, (⟨512 + (i.val - 256 - 256), p⟩ : Fin 1280) = i := fun p => Fin.ext (by simp only; omega)
    rw [dif_pos c2]; simp only [h2, e]
  rw [dif_neg c2]
  by_cases c3 : i.val - 256 - 256 - 256 < 256
  · have e : ∀ p, (⟨768 + (i.val - 256 - 256 - 256), p⟩ : Fin 1280) = i := fun p => Fin.ext (by simp only; omega)
    rw [dif_pos c3]; simp only [h3, e]
  rw [dif_neg c3]
  have e : ∀ p, (⟨1024 + (i.val - 256 - 256 - 256 - 256), p⟩ : Fin 1280) = i := fun p => Fin.ext (by simp only; omega)
  simp only [h4, e]

theorem mmQ_apply (K : FVec Ideal S96x256 .bf16) (ds : FVec Ideal S256x1280 .bf16) (d : Fin 96) (i : Fin 1280) :
    mmQ K ds (ix2 d i) = ∑ j : Fin 256, K (ix2 d j) * ds (ix2 j i) := by
  pointwise [mmQ]
theorem mmK_apply (q : FVec Ideal S96x1280 .bf16) (ds : FVec Ideal S256x1280 .bf16) (d : Fin 96) (j : Fin 256) :
    mmK q ds (ix2 d j) = ∑ i : Fin 1280, q (ix2 d i) * ds (ix2 j i) := by
  pointwise [mmK]
theorem mmV_apply (q : FVec Ideal S64x1280 .bf16) (pt : FVec Ideal S256x1280 .bf16) (d : Fin 64) (j : Fin 256) :
    mmV q pt (ix2 d j) = ∑ i : Fin 1280, q (ix2 d i) * pt (ix2 j i) := by
  pointwise [mmV]

theorem catK_apply (a0 a1 a2 a3 a4 : FVec Ideal S96x256 .f32) (G : Fin 96 → Fin 1280 → EReal)
    (h0 : ∀ (d : Fin 96) (j : Fin 256), a0 (ix2 d j) = G d ⟨j.val, by omega⟩)
    (h1 : ∀ (d : Fin 96) (j : Fin 256), a1 (ix2 d j) = G d ⟨256 + j.val, by omega⟩)
    (h2 : ∀ (d : Fin 96) (j : Fin 256), a2 (ix2 d j) = G d ⟨512 + j.val, by omega⟩)
    (h3 : ∀ (d : Fin 96) (j : Fin 256), a3 (ix2 d j) = G d ⟨768 + j.val, by omega⟩)
    (h4 : ∀ (d : Fin 96) (j : Fin 256), a4 (ix2 d j) = G d ⟨1024 + j.val, by omega⟩)
    (d : Fin 96) (j : Fin 1280) : catK a0 a1 a2 a3 a4 (ix2 d j) = G d j := by
  pointwise [catK]
  by_cases c0 : j.val < 256
  · rw [dif_pos c0]; simp only [h0, Fin.eta]
  rw [dif_neg c0]
  by_cases c1 : j.val - 256 < 256
  · have e : ∀ p, (⟨256 + (j.val - 256), p⟩ : Fin 1280) = j := fun p => Fin.ext (by simp only; omega)
    rw [dif_pos c1]; simp only [h1, e]
  rw [dif_neg c1]
  by_cases c2 : j.val - 256 - 256 < 256
  · have e : ∀ p, (⟨512 + (j.val - 256 - 256), p⟩ : Fin 1280) = j := fun p => Fin.ext (by simp only; omega)
    rw [dif_pos c2]; simp only [h2, e]
  rw [dif_neg c2]
  by_cases c3 : j.val - 256 - 256 - 256 < 256
  · have e : ∀ p, (⟨768 + (j.val - 256 - 256 - 256), p⟩ : Fin 1280) = j := fun p => Fin.ext (by simp only; omega)
    rw [dif_pos c3]; simp only [h3, e]
  rw [dif_neg c3]
  have e : ∀ p, (⟨1024 + (j.val - 256 - 256 - 256 - 256), p⟩ : Fin 1280) = j := fun p => Fin.ext (by simp only; omega)
  simp only [h4, e]

theorem catV_apply (a0 a1 a2 a3 a4 : FVec Ideal S64x256 .f32) (G : Fin 64 → Fin 1280 → EReal)
    (h0 : ∀ (d : Fin 64) (j : Fin 256), a0 (ix2 d j) = G d ⟨j.val, by omega⟩)
    (h1 : ∀ (d : Fin 64) (j : Fin 256), a1 (ix2 d j) = G d ⟨256 + j.val, by omega⟩)
    (h2 : ∀ (d : Fin 64) (j : Fin 256), a2 (ix2 d j) = G d ⟨512 + j.val, by omega⟩)
    (h3 : ∀ (d : Fin 64) (j : Fin 256), a3 (ix2 d j) = G d ⟨768 + j.val, by omega⟩)
    (h4 : ∀ (d : Fin 64) (j : Fin 256), a4 (ix2 d j) = G d ⟨1024 + j.val, by omega⟩)
    (d : Fin 64) (j : Fin 1280) : catV a0 a1 a2 a3 a4 (ix2 d j) = G d j := by
  pointwise [catV]
  by_cases c0 : j.val < 256
  · rw [dif_pos c0]; simp only [h0, Fin.eta]
  rw [dif_neg c0]
  by_cases c1 : j.val - 256 < 256
  · have e : ∀ p, (⟨256 + (j.val - 256), p⟩ : Fin 1280) = j := fun p => Fin.ext (by simp only; omega)
    rw [dif_pos c1]; simp only [h1, e]
  rw [dif_neg c1]
  by_cases c2 : j.val - 256 - 256 < 256
  · have e : ∀ p, (⟨512 + (j.val - 256 - 256), p⟩ : Fin 1280) = j := fun p => Fin.ext (by simp only; omega)
    rw [dif_pos c2]; simp only [h2, e]
  rw [dif_neg c2]
  by_cases c3 : j.val - 256 - 256 - 256 < 256
  · have e : ∀ p, (⟨768 + (j.val - 256 - 256 - 256), p⟩ : Fin 1280) = j := fun p => Fin.ext (by simp only; omega)
    rw [dif_pos c3]; simp only [h3, e]
  rw [dif_neg c3]
  have e : ∀ p, (⟨1024 + (j.val - 256 - 256 - 256 - 256), p⟩ : Fin 1280) = j := fun p => Fin.ext (by simp only; omega)
  simp only [h4, e]

end Cert.Proof.KernelIdeal

end
-- ==== Proof.TripValue.lean ====
/- What one trip adds to the three accumulators, read at an index over the extended reals. -/
module

public import proofs.«01_k».proof.Proof.Trip
public import proofs.«01_k».proof.Proof.Pure
public import Idealize.ShloMosaic.Lib.Pipeline.Value
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem

/-! ## Loads at an index -/

theorem rd2 {sp : Space} {e : EltTy} {A B a b : ℕ} (v : View sig .tc sp ⟨2, ![A, B]⟩ e) (f : v.ty.Contents (Elt Ideal)) {off : Fin 2 → ℕ} {p q : ℕ}
    (h : off = ![p, q]) (inb : ∀ x : Fin 2, off x + (![a, b] : Fin 2 → ℕ) x ≤ (![A, B] : Fin 2 → ℕ) x) (x : Fin a) (y : Fin b) (hp : p + x.val < A) (hq : q + y.val < B) :
    v.readAt (Elt Ideal) (Rect.unit (s := ⟨2, ![A, B]⟩) off ![a, b] inb).toLoadRect f (ix2 x y) = v.read (Elt Ideal) f (ix2 ⟨p + x.val, hp⟩ ⟨q + y.val, hq⟩) := by
  subst h
  refine congrArg (v.read (Elt Ideal) f) ?_
  funext r
  match r with
  | 0 => exact Fin.ext (by show p + 1 * x.val = _; rw [Nat.one_mul]; rfl)
  | 1 => exact Fin.ext (by show q + 1 * y.val = _; rw [Nat.one_mul]; rfl)

theorem rd4 {sp : Space} {e : EltTy} {A B C D a b c d : ℕ} (v : View sig .tc sp ⟨4, ![A, B, C, D]⟩ e) (f : v.ty.Contents (Elt Ideal)) {off : Fin 4 → ℕ} {p q r s : ℕ}
    (h : off = ![p, q, r, s]) (inb : ∀ x : Fin 4, off x + (![a, b, c, d] : Fin 4 → ℕ) x ≤ (![A, B, C, D] : Fin 4 → ℕ) x) (x : Fin a) (y : Fin b) (z : Fin c) (w : Fin d)
    (hp : p + x.val < A) (hq : q + y.val < B) (hr : r + z.val < C) (hs : s + w.val < D) :
    v.readAt (Elt Ideal) (Rect.unit (s := ⟨4, ![A, B, C, D]⟩) off ![a, b, c, d] inb).toLoadRect f (ix4 x y z w)
      = v.read (Elt Ideal) f (ix4 ⟨p + x.val, hp⟩ ⟨q + y.val, hq⟩ ⟨r + z.val, hr⟩ ⟨s + w.val, hs⟩) := by
  subst h
  refine congrArg (v.read (Elt Ideal) f) ?_
  funext k
  match k with
  | 0 => exact Fin.ext (by show p + 1 * x.val = _; rw [Nat.one_mul]; rfl)
  | 1 => exact Fin.ext (by show q + 1 * y.val = _; rw [Nat.one_mul]; rfl)
  | 2 => exact Fin.ext (by show r + 1 * z.val = _; rw [Nat.one_mul]; rfl)
  | 3 => exact Fin.ext (by show s + 1 * w.val = _; rw [Nat.one_mul]; rfl)

theorem rd5 {sp : Space} {e : EltTy} {A B C D E a b c d g : ℕ} (v : View sig .tc sp ⟨5, ![A, B, C, D, E]⟩ e) (f : v.ty.Contents (Elt Ideal)) {off : Fin 5 → ℕ} {p q r s t : ℕ}
    (h : off = ![p, q, r, s, t]) (inb : ∀ x : Fin 5, off x + (![a, b, c, d, g] : Fin 5 → ℕ) x ≤ (![A, B, C, D, E] : Fin 5 → ℕ) x)
    (x : Fin a) (y : Fin b) (z : Fin c) (w : Fin d) (o : Fin g)
    (hp : p + x.val < A) (hq : q + y.val < B) (hr : r + z.val < C) (hs : s + w.val < D) (ht : t + o.val < E) :
    v.readAt (Elt Ideal) (Rect.unit (s := ⟨5, ![A, B, C, D, E]⟩) off ![a, b, c, d, g] inb).toLoadRect f (ix5 x y z w o)
      = v.read (Elt Ideal) f (ix5 ⟨p + x.val, hp⟩ ⟨q + y.val, hq⟩ ⟨r + z.val, hr⟩ ⟨s + w.val, hs⟩ ⟨t + o.val, ht⟩) := by
  subst h
  refine congrArg (v.read (Elt Ideal) f) ?_
  funext k
  match k with
  | 0 => exact Fin.ext (by show p + 1 * x.val = _; rw [Nat.one_mul]; rfl)
  | 1 => exact Fin.ext (by show q + 1 * y.val = _; rw [Nat.one_mul]; rfl)
  | 2 => exact Fin.ext (by show r + 1 * z.val = _; rw [Nat.one_mul]; rfl)
  | 3 => exact Fin.ext (by show s + 1 * w.val = _; rw [Nat.one_mul]; rfl)
  | 4 => exact Fin.ext (by show t + 1 * o.val = _; rw [Nat.one_mul]; rfl)

theorem cast_row (x : FVec Ideal S256x128 .bf16) : shapeCast S256x128 x shapeCasts_S256x128_S256x128 = x := by
  funext j; idx_vars j; pointwise
theorem cast_keys (x : FVec Ideal S96x256 .bf16) : shapeCast S96x256 x shapeCasts_S96x256_S96x256 = x := by
  funext j; idx_vars j; pointwise

section
variable (c : Dev nD) (XP : Buf (Elt Ideal) (pM.view.loc (c : Thread nD τ))) (i : grid0.Coords)
variable (arg2 : Memref sig .tc .vmem S1280x128 .bf16) (arg7 : Memref sig .tc .vmem S1x1x65x1x1280 .f32) (arg8 : Memref sig .tc .vmem S16640x128 .bf16)
  (arg9 : Memref sig .tc .vmem S96x16640 .bf16)
variable (L D : FVec Ideal S1x1280 .f32)
variable (f2 : Buf (Elt Ideal) (arg2.view.loc (c : Thread nD τ))) (f7 : Buf (Elt Ideal) (arg7.view.loc (c : Thread nD τ)))
    (f8 : Buf (Elt Ideal) (arg8.view.loc (c : Thread nD τ))) (f9 : Buf (Elt Ideal) (arg9.view.loc (c : Thread nD τ)))

/-- What a slot's block reads is what a load at its place in the buffer reads. -/
theorem box_read (s : Fin 3) (u : Fin 5) (G : bufM.view.ty.Contents (Elt Ideal)) (jj : Fin 256) (y : Fin 1280) :
    (box s u).view.read (Elt Ideal) G (ix2 jj y)
      = bufM.view.readAt (Elt Ideal) (Rect.unit (s := S3x5x256x1280) (boxOff s u) S1x1x256x1280.size (boxOff_inb s u)).toLoadRect G (ix4 0 0 jj y) := by
  unfold box
  rw [Memref.read_squeeze_slice bufM _ _ _ shapeCasts_S1x1x256x1280_S256x1280]
  generalize bufM.view.readAt (Elt Ideal) (Rect.unit (s := S3x5x256x1280) (boxOff s u) S1x1x256x1280.size _).toLoadRect G = A
  exact (show ∀ A : Vec Ideal S1x1x256x1280 .bf16, shapeCast S256x1280 A shapeCasts_S1x1x256x1280_S256x1280 (ix2 jj y) = A (ix4 0 0 jj y) by
    intro A; pointwise) A

/-- A block of the exponentials in main memory. -/
theorem blk_read (b : Fin 13) (u : Fin 5) (jj : Fin 256) (y : Fin 1280) (h : 5 * b.val + u.val < 65) :
    (blk i b u).view.read (Elt Ideal) XP (ix2 jj y) = pM.view.read (Elt Ideal) XP (ix5 (i 0) (i 1) ⟨5 * b.val + u.val, h⟩ jj y) := by
  have hc : S1x1x1x256x1280.ShapeCasts S256x1280 := by decide
  unfold blk
  rw [Memref.read_squeeze_slice pM _ _ _ hc]
  have e := rd5 pM.view XP (off := blkOff i b u) (a := 1) (b := 1) (c := 1) (d := 256) (g := 1280) rfl (blkOff_inb i b u) 0 0 0 jj y
    (i 0).isLt (i 1).isLt h (by omega) (by omega)
  generalize hA : pM.view.readAt (Elt Ideal) (Rect.unit (s := S8x13x65x256x1280) (blkOff i b u) S1x1x1x256x1280.size _).toLoadRect XP = A at e
  refine ((show ∀ A : Vec Ideal S1x1x1x256x1280 .bf16, shapeCast S256x1280 A hc (ix2 jj y) = A (ix5 0 0 0 jj y) by
    intro A; pointwise) A).trans ?_
  refine e.trans (congrArg (pM.view.read (Elt Ideal) XP) ?_)
  funext r
  match r with
  | 0 => rfl
  | 1 => rfl
  | 2 => rfl
  | 3 => exact Fin.ext (Nat.zero_add _)
  | 4 => exact Fin.ext (Nat.zero_add _)

/-- A block of the exponentials, read where it landed, is the block that was sent. -/
theorem slot_read (k : Fin k0_t1_loop.trips) (u : Fin 5) {off : Fin 4 → ℕ} (h : off = boxOff (Ring.sl 3 k.val) u) (inb) (jj : Fin 256) (y : Fin 1280) (hb : 5 * k.val + u.val < 65) :
    View.readAt (Elt Ideal) bufM.view (Rect.unit (s := S3x5x256x1280) off S1x1x256x1280.size inb).toLoadRect
      ((box (Ring.sl 3 k.val) u).view.writes (Elt Ideal) (box (Ring.sl 3 k.val) u).view.junk [⟨Rect.whole S256x1280, payload c XP i (Ring.bk 13 k.val) u⟩]) (ix4 0 0 jj y)
      = pM.view.read (Elt Ideal) XP (ix5 (i 0) (i 1) ⟨5 * k.val + u.val, hb⟩ jj y) := by
  subst h
  have hk : (Ring.bk 13 k.val).val = k.val := Ring.bk_val (Nat.lt_of_lt_of_eq k.isLt trips13)
  refine (box_read (Ring.sl 3 k.val) u _ jj y).symm.trans ?_
  refine (congrFun (View.read_writes_whole (box (Ring.sl 3 k.val) u).view (box (Ring.sl 3 k.val) u).view.junk (payload c XP i (Ring.bk 13 k.val) u)) (ix2 jj y)).trans ?_
  refine (blk_read c XP i (Ring.bk 13 k.val) u jj y (by rw [hk]; exact hb)).trans ?_
  refine congrArg (fun b => pM.view.read (Elt Ideal) XP (ix5 (i 0) (i 1) b jj y)) (Fin.ext ?_)
  show 5 * (Ring.bk 13 k.val).val + u.val = 5 * k.val + u.val
  rw [hk]

/-! ## The probabilities and the scores' gradients of a trip -/

/-- The recomputed probability of key `j` for query `y`. -/
def PTf (P : FVec Ideal S8x13x65x256x1280 .bf16) (h : Fin 8) (w : Fin 13) (X7 : FVec Ideal S1x1x65x1x1280 .f32) (L : FVec Ideal S1x1280 .f32)
    (j : Fin 16640) (y : Fin 1280) : EReal :=
  P (ix5 h w ⟨j.val / 256, by omega⟩ ⟨j.val % 256, by omega⟩ y) * Ideal.exp2 (X7 (ix5 0 0 ⟨j.val / 256, by omega⟩ 0 y) - L (ix2 0 y))

/-- The gradient of the score of key `j` for query `y`. -/
def DSf (P : FVec Ideal S8x13x65x256x1280 .bf16) (h : Fin 8) (w : Fin 13) (X7 : FVec Ideal S1x1x65x1x1280 .f32) (L D : FVec Ideal S1x1280 .f32)
    (X8 : FVec Ideal S16640x128 .bf16) (X2 : FVec Ideal S1280x128 .bf16) (j : Fin 16640) (y : Fin 1280) : EReal :=
  PTf P h w X7 L j y * ((∑ d : Fin 128, X8 (ix2 j d) * X2 (ix2 y d)) - D (ix2 0 y))

theorem pt_block (P : FVec Ideal S8x13x65x256x1280 .bf16) (h : Fin 8) (w : Fin 13) (X7 : FVec Ideal S1x1x65x1x1280 .f32) (L : FVec Ideal S1x1280 .f32)
    (b : Fin 65) (pb : Vec Ideal S1x1x256x1280 .bf16) (mb : FVec Ideal S1x1280 .f32)
    (hpb : ∀ (jj : Fin 256) (y : Fin 1280), pb (ix4 0 0 jj y) = P (ix5 h w b jj y))
    (hmb : ∀ y : Fin 1280, mb (ix2 0 y) = X7 (ix5 0 0 b 0 y)) (jj : Fin 256) (y : Fin 1280) (j : Fin 16640) (hj : j.val = 256 * b.val + jj.val) :
    ptV pb mb L (ix2 jj y) = PTf P h w X7 L j y := by
  have e1 : (⟨j.val / 256, by omega⟩ : Fin 65) = b := Fin.ext (by show j.val / 256 = b.val; omega)
  have e2 : (⟨j.val % 256, by omega⟩ : Fin 256) = jj := Fin.ext (by show j.val % 256 = jj.val; omega)
  rw [ptV_apply, hpb, hmb, PTf, e1, e2]

theorem ds_block (P : FVec Ideal S8x13x65x256x1280 .bf16) (h : Fin 8) (w : Fin 13) (X7 : FVec Ideal S1x1x65x1x1280 .f32) (L D : FVec Ideal S1x1280 .f32)
    (X8 : FVec Ideal S16640x128 .bf16) (X2 : FVec Ideal S1280x128 .bf16)
    (vr d0 d1 d2 d3 d4 : FVec Ideal S256x128 .bf16) (pt : FVec Ideal S256x1280 .f32)
    (h0 : ∀ (r : Fin 256) (d : Fin 128), d0 (ix2 r d) = X2 (ix2 ⟨r.val, by omega⟩ d))
    (h1 : ∀ (r : Fin 256) (d : Fin 128), d1 (ix2 r d) = X2 (ix2 ⟨256 + r.val, by omega⟩ d))
    (h2 : ∀ (r : Fin 256) (d : Fin 128), d2 (ix2 r d) = X2 (ix2 ⟨512 + r.val, by omega⟩ d))
    (h3 : ∀ (r : Fin 256) (d : Fin 128), d3 (ix2 r d) = X2 (ix2 ⟨768 + r.val, by omega⟩ d))
    (h4 : ∀ (r : Fin 256) (d : Fin 128), d4 (ix2 r d) = X2 (ix2 ⟨1024 + r.val, by omega⟩ d))
    (jj : Fin 256) (y : Fin 1280) (j : Fin 16640) (hpt : pt (ix2 jj y) = PTf P h w X7 L j y) (hvr : ∀ d : Fin 128, vr (ix2 jj d) = X8 (ix2 j d)) :
    dsV vr d0 d1 d2 d3 d4 pt D (ix2 jj y) = DSf P h w X7 L D X8 X2 j y := by
  rw [dsV_apply vr d0 d1 d2 d3 d4 pt D X2 h0 h1 h2 h3 h4, hpt, DSf]
  simp only [hvr]

theorem do_read0 (r : Fin 256) (d : Fin 128) : tripHead.sl.v146 c arg2 f2 (ix2 r d) = arg2.view.read (Elt Ideal) f2 (ix2 ⟨r.val, by omega⟩ d) := by
  unfold tripHead.sl.v146
  rw [cast_row, rd2 arg2.view f2 (p := 0) (q := 0) (a := 256) (b := 128) rfl _ r d (by omega) (by omega)]
  refine congrArg (arg2.view.read (Elt Ideal) f2) (funext fun a => ?_)
  match a with
  | 0 => exact Fin.ext (Nat.zero_add _)
  | 1 => exact Fin.ext (Nat.zero_add _)

theorem do_read1 (r : Fin 256) (d : Fin 128) : tripHead.sl.v149 c arg2 f2 (ix2 r d) = arg2.view.read (Elt Ideal) f2 (ix2 ⟨256 + r.val, by omega⟩ d) := by
  unfold tripHead.sl.v149
  rw [cast_row, rd2 arg2.view f2 (p := 256) (q := 0) (a := 256) (b := 128) rfl _ r d (by omega) (by omega)]
  refine congrArg (arg2.view.read (Elt Ideal) f2) (funext fun a => ?_)
  match a with
  | 0 => exact Fin.ext rfl
  | 1 => exact Fin.ext (Nat.zero_add _)

theorem do_read2 (r : Fin 256) (d : Fin 128) : tripHead.sl.v152 c arg2 f2 (ix2 r d) = arg2.view.read (Elt Ideal) f2 (ix2 ⟨512 + r.val, by omega⟩ d) := by
  unfold tripHead.sl.v152
  rw [cast_row, rd2 arg2.view f2 (p := 512) (q := 0) (a := 256) (b := 128) rfl _ r d (by omega) (by omega)]
  refine congrArg (arg2.view.read (Elt Ideal) f2) (funext fun a => ?_)
  match a with
  | 0 => exact Fin.ext rfl
  | 1 => exact Fin.ext (Nat.zero_add _)

theorem do_read3 (r : Fin 256) (d : Fin 128) : tripHead.sl.v155 c arg2 f2 (ix2 r d) = arg2.view.read (Elt Ideal) f2 (ix2 ⟨768 + r.val, by omega⟩ d) := by
  unfold tripHead.sl.v155
  rw [cast_row, rd2 arg2.view f2 (p := 768) (q := 0) (a := 256) (b := 128) rfl _ r d (by omega) (by omega)]
  refine congrArg (arg2.view.read (Elt Ideal) f2) (funext fun a => ?_)
  match a with
  | 0 => exact Fin.ext rfl
  | 1 => exact Fin.ext (Nat.zero_add _)

theorem do_read4 (r : Fin 256) (d : Fin 128) : tripHead.sl.v158 c arg2 f2 (ix2 r d) = arg2.view.read (Elt Ideal) f2 (ix2 ⟨1024 + r.val, by omega⟩ d) := by
  unfold tripHead.sl.v158
  rw [cast_row, rd2 arg2.view f2 (p := 1024) (q := 0) (a := 256) (b := 128) rfl _ r d (by omega) (by omega)]
  refine congrArg (arg2.view.read (Elt Ideal) f2) (funext fun a => ?_)
  match a with
  | 0 => exact Fin.ext rfl
  | 1 => exact Fin.ext (Nat.zero_add _)

variable (k : Fin k0_t1_loop.trips)

/-- Key `t` of trip `k`. -/
abbrev keyOf (t : Fin 1280) : Fin 16640 := ⟨1280 * k.val + t.val, by have := Nat.lt_of_lt_of_eq k.isLt trips13; omega⟩
theorem k13 : k.val < 13 := Nat.lt_of_lt_of_eq k.isLt trips13

abbrev PTk (t y : Fin 1280) : EReal := PTf (pM.view.read (Elt Ideal) XP) (i 0) (i 1) (arg7.view.read (Elt Ideal) f7) L (keyOf k t) y
abbrev DSk (t y : Fin 1280) : EReal :=
  DSf (pM.view.read (Elt Ideal) XP) (i 0) (i 1) (arg7.view.read (Elt Ideal) f7) L D (arg8.view.read (Elt Ideal) f8) (arg2.view.read (Elt Ideal) f2) (keyOf k t) y

theorem pt_read0 (jj : Fin 256) (y : Fin 1280) : tripHead.sl.v170 c XP i arg7 L k f7 (ix2 jj y) = PTk c XP i arg7 L f7 k ⟨jj.val, by omega⟩ y := by
  have hk := k13 k
  refine (show tripHead.sl.v170 c XP i arg7 L k f7 (ix2 jj y) = ptV (tripHead.sl.v161 c XP i k) (tripHead.sl.v166 c arg7 k f7) L (ix2 jj y) from rfl).trans ?_
  refine pt_block _ _ _ _ L ⟨5 * k.val + 0, by omega⟩ _ _ (fun jj y => ?_) (fun y => ?_) jj y _ (by simp only; omega)
  · exact slot_read c XP i k 0 (off26_eq k) _ jj y (by show 5 * k.val + 0 < 65; omega)
  · unfold tripHead.sl.v166
    refine ((show ∀ A : Vec Ideal S1x1x1x1x1280 .f32, shapeCast S1x1280 A shapeCasts_S1x1x1x1x1280_S1x1280 (ix2 0 y) = A (ix5 0 0 0 0 y) by
      intro A; pointwise) _).trans ?_
    refine (rd5 arg7.view f7 (a := 1) (b := 1) (c := 1) (d := 1) (g := 1280) (k0_off27_eq k 0) _ 0 0 0 0 y (by decide) (by decide) (by show 5 * k.val + 0 < 65; omega) (by decide) (by omega)).trans ?_
    refine congrArg (arg7.view.read (Elt Ideal) f7) (funext fun a => ?_)
    match a with
    | 0 => rfl
    | 1 => rfl
    | 2 => rfl
    | 3 => rfl
    | 4 => exact Fin.ext (Nat.zero_add _)

theorem v_read0 (jj : Fin 256) (d : Fin 128) : tripHead.sl.v144 c arg8 k f8 (ix2 jj d) = arg8.view.read (Elt Ideal) f8 (ix2 (keyOf k ⟨jj.val, by omega⟩) d) := by
  have hk := k13 k
  unfold tripHead.sl.v144
  rw [cast_row]
  refine (rd2 arg8.view f8 (a := 256) (b := 128) (k0_off25_eq k 0) _ jj d (by show 1280 * k.val + 256 * 0 + jj.val < 16640; omega) (by omega)).trans ?_
  refine congrArg (arg8.view.read (Elt Ideal) f8) (funext fun a => ?_)
  match a with
  | 0 => exact Fin.ext (by show 1280 * k.val + 256 * 0 + jj.val = 1280 * k.val + jj.val; omega)
  | 1 => exact Fin.ext (Nat.zero_add _)

theorem ds_read0 (jj : Fin 256) (y : Fin 1280) : tripHead.sl.v202 c XP i arg2 arg7 arg8 L D k f2 f7 f8 (ix2 jj y) = DSk c XP i arg2 arg7 arg8 L D f2 f7 f8 k ⟨jj.val, by omega⟩ y := by
  refine (show tripHead.sl.v202 c XP i arg2 arg7 arg8 L D k f2 f7 f8 (ix2 jj y)
    = dsV (tripHead.sl.v144 c arg8 k f8) (tripHead.sl.v146 c arg2 f2) (tripHead.sl.v149 c arg2 f2) (tripHead.sl.v152 c arg2 f2) (tripHead.sl.v155 c arg2 f2) (tripHead.sl.v158 c arg2 f2)
        (tripHead.sl.v170 c XP i arg7 L k f7) D (ix2 jj y) from rfl).trans ?_
  exact ds_block _ _ _ _ L D _ _ _ _ _ _ _ _ _ (do_read0 c arg2 f2) (do_read1 c arg2 f2) (do_read2 c arg2 f2) (do_read3 c arg2 f2) (do_read4 c arg2 f2) jj y _
    (pt_read0 c XP i arg7 L f7 k jj y) (v_read0 c arg8 f8 k jj)

theorem pt_read1 (jj : Fin 256) (y : Fin 1280) : tripHead.sl.v242 c XP i arg7 L k f7 (ix2 jj y) = PTk c XP i arg7 L f7 k ⟨256 + jj.val, by omega⟩ y := by
  have hk := k13 k
  refine (show tripHead.sl.v242 c XP i arg7 L k f7 (ix2 jj y) = ptV (tripHead.sl.v233 c XP i k) (tripHead.sl.v238 c arg7 k f7) L (ix2 jj y) from rfl).trans ?_
  refine pt_block _ _ _ _ L ⟨5 * k.val + 1, by omega⟩ _ _ (fun jj y => ?_) (fun y => ?_) jj y _ (by simp only; omega)
  · exact slot_read c XP i k 1 (off29_eq k) _ jj y (by show 5 * k.val + 1 < 65; omega)
  · unfold tripHead.sl.v238
    refine ((show ∀ A : Vec Ideal S1x1x1x1x1280 .f32, shapeCast S1x1280 A shapeCasts_S1x1x1x1x1280_S1x1280 (ix2 0 y) = A (ix5 0 0 0 0 y) by
      intro A; pointwise) _).trans ?_
    refine (rd5 arg7.view f7 (a := 1) (b := 1) (c := 1) (d := 1) (g := 1280) (k0_off27_eq k 1) _ 0 0 0 0 y (by decide) (by decide) (by show 5 * k.val + 1 < 65; omega) (by decide) (by omega)).trans ?_
    refine congrArg (arg7.view.read (Elt Ideal) f7) (funext fun a => ?_)
    match a with
    | 0 => rfl
    | 1 => rfl
    | 2 => rfl
    | 3 => rfl
    | 4 => exact Fin.ext (Nat.zero_add _)

theorem v_read1 (jj : Fin 256) (d : Fin 128) : tripHead.sl.v216 c arg8 k f8 (ix2 jj d) = arg8.view.read (Elt Ideal) f8 (ix2 (keyOf k ⟨256 + jj.val, by omega⟩) d) := by
  have hk := k13 k
  unfold tripHead.sl.v216
  rw [cast_row]
  refine (rd2 arg8.view f8 (a := 256) (b := 128) (k0_off25_eq k 1) _ jj d (by show 1280 * k.val + 256 * 1 + jj.val < 16640; omega) (by omega)).trans ?_
  refine congrArg (arg8.view.read (Elt Ideal) f8) (funext fun a => ?_)
  match a with
  | 0 => exact Fin.ext (by show 1280 * k.val + 256 * 1 + jj.val = 1280 * k.val + (256 + jj.val); omega)
  | 1 => exact Fin.ext (Nat.zero_add _)

theorem ds_read1 (jj : Fin 256) (y : Fin 1280) : tripHead.sl.v274 c XP i arg2 arg7 arg8 L D k f2 f7 f8 (ix2 jj y) = DSk c XP i arg2 arg7 arg8 L D f2 f7 f8 k ⟨256 + jj.val, by omega⟩ y := by
  refine (show tripHead.sl.v274 c XP i arg2 arg7 arg8 L D k f2 f7 f8 (ix2 jj y)
    = dsV (tripHead.sl.v216 c arg8 k f8) (tripHead.sl.v146 c arg2 f2) (tripHead.sl.v149 c arg2 f2) (tripHead.sl.v152 c arg2 f2) (tripHead.sl.v155 c arg2 f2) (tripHead.sl.v158 c arg2 f2)
        (tripHead.sl.v242 c XP i arg7 L k f7) D (ix2 jj y) from rfl).trans ?_
  exact ds_block _ _ _ _ L D _ _ _ _ _ _ _ _ _ (do_read0 c arg2 f2) (do_read1 c arg2 f2) (do_read2 c arg2 f2) (do_read3 c arg2 f2) (do_read4 c arg2 f2) jj y _
    (pt_read1 c XP i arg7 L f7 k jj y) (v_read1 c arg8 f8 k jj)

theorem pt_read2 (jj : Fin 256) (y : Fin 1280) : tripHead.sl.v314 c XP i arg7 L k f7 (ix2 jj y) = PTk c XP i arg7 L f7 k ⟨512 + jj.val, by omega⟩ y := by
  have hk := k13 k
  refine (show tripHead.sl.v314 c XP i arg7 L k f7 (ix2 jj y) = ptV (tripHead.sl.v305 c XP i k) (tripHead.sl.v310 c arg7 k f7) L (ix2 jj y) from rfl).trans ?_
  refine pt_block _ _ _ _ L ⟨5 * k.val + 2, by omega⟩ _ _ (fun jj y => ?_) (fun y => ?_) jj y _ (by simp only; omega)
  · exact slot_read c XP i k 2 (off30_eq k) _ jj y (by show 5 * k.val + 2 < 65; omega)
  · unfold tripHead.sl.v310
    refine ((show ∀ A : Vec Ideal S1x1x1x1x1280 .f32, shapeCast S1x1280 A shapeCasts_S1x1x1x1x1280_S1x1280 (ix2 0 y) = A (ix5 0 0 0 0 y) by
      intro A; pointwise) _).trans ?_
    refine (rd5 arg7.view f7 (a := 1) (b := 1) (c := 1) (d := 1) (g := 1280) (k0_off27_eq k 2) _ 0 0 0 0 y (by decide) (by decide) (by show 5 * k.val + 2 < 65; omega) (by decide) (by omega)).trans ?_
    refine congrArg (arg7.view.read (Elt Ideal) f7) (funext fun a => ?_)
    match a with
    | 0 => rfl
    | 1 => rfl
    | 2 => rfl
    | 3 => rfl
    | 4 => exact Fin.ext (Nat.zero_add _)

theorem v_read2 (jj : Fin 256) (d : Fin 128) : tripHead.sl.v288 c arg8 k f8 (ix2 jj d) = arg8.view.read (Elt Ideal) f8 (ix2 (keyOf k ⟨512 + jj.val, by omega⟩) d) := by
  have hk := k13 k
  unfold tripHead.sl.v288
  rw [cast_row]
  refine (rd2 arg8.view f8 (a := 256) (b := 128) (k0_off25_eq k 2) _ jj d (by show 1280 * k.val + 256 * 2 + jj.val < 16640; omega) (by omega)).trans ?_
  refine congrArg (arg8.view.read (Elt Ideal) f8) (funext fun a => ?_)
  match a with
  | 0 => exact Fin.ext (by show 1280 * k.val + 256 * 2 + jj.val = 1280 * k.val + (512 + jj.val); omega)
  | 1 => exact Fin.ext (Nat.zero_add _)

theorem ds_read2 (jj : Fin 256) (y : Fin 1280) : tripHead.sl.v346 c XP i arg2 arg7 arg8 L D k f2 f7 f8 (ix2 jj y) = DSk c XP i arg2 arg7 arg8 L D f2 f7 f8 k ⟨512 + jj.val, by omega⟩ y := by
  refine (show tripHead.sl.v346 c XP i arg2 arg7 arg8 L D k f2 f7 f8 (ix2 jj y)
    = dsV (tripHead.sl.v288 c arg8 k f8) (tripHead.sl.v146 c arg2 f2) (tripHead.sl.v149 c arg2 f2) (tripHead.sl.v152 c arg2 f2) (tripHead.sl.v155 c arg2 f2) (tripHead.sl.v158 c arg2 f2)
        (tripHead.sl.v314 c XP i arg7 L k f7) D (ix2 jj y) from rfl).trans ?_
  exact ds_block _ _ _ _ L D _ _ _ _ _ _ _ _ _ (do_read0 c arg2 f2) (do_read1 c arg2 f2) (do_read2 c arg2 f2) (do_read3 c arg2 f2) (do_read4 c arg2 f2) jj y _
    (pt_read2 c XP i arg7 L f7 k jj y) (v_read2 c arg8 f8 k jj)

theorem pt_read3 (jj : Fin 256) (y : Fin 1280) : tripHead.sl.v386 c XP i arg7 L k f7 (ix2 jj y) = PTk c XP i arg7 L f7 k ⟨768 + jj.val, by omega⟩ y := by
  have hk := k13 k
  refine (show tripHead.sl.v386 c XP i arg7 L k f7 (ix2 jj y) = ptV (tripHead.sl.v377 c XP i k) (tripHead.sl.v382 c arg7 k f7) L (ix2 jj y) from rfl).trans ?_
  refine pt_block _ _ _ _ L ⟨5 * k.val + 3, by omega⟩ _ _ (fun jj y => ?_) (fun y => ?_) jj y _ (by simp only; omega)
  · exact slot_read c XP i k 3 (off31_eq k) _ jj y (by show 5 * k.val + 3 < 65; omega)
  · unfold tripHead.sl.v382
    refine ((show ∀ A : Vec Ideal S1x1x1x1x1280 .f32, shapeCast S1x1280 A shapeCasts_S1x1x1x1x1280_S1x1280 (ix2 0 y) = A (ix5 0 0 0 0 y) by
      intro A; pointwise) _).trans ?_
    refine (rd5 arg7.view f7 (a := 1) (b := 1) (c := 1) (d := 1) (g := 1280) (k0_off27_eq k 3) _ 0 0 0 0 y (by decide) (by decide) (by show 5 * k.val + 3 < 65; omega) (by decide) (by omega)).trans ?_
    refine congrArg (arg7.view.read (Elt Ideal) f7) (funext fun a => ?_)
    match a with
    | 0 => rfl
    | 1 => rfl
    | 2 => rfl
    | 3 => rfl
    | 4 => exact Fin.ext (Nat.zero_add _)

theorem v_read3 (jj : Fin 256) (d : Fin 128) : tripHead.sl.v360 c arg8 k f8 (ix2 jj d) = arg8.view.read (Elt Ideal) f8 (ix2 (keyOf k ⟨768 + jj.val, by omega⟩) d) := by
  have hk := k13 k
  unfold tripHead.sl.v360
  rw [cast_row]
  refine (rd2 arg8.view f8 (a := 256) (b := 128) (k0_off25_eq k 3) _ jj d (by show 1280 * k.val + 256 * 3 + jj.val < 16640; omega) (by omega)).trans ?_
  refine congrArg (arg8.view.read (Elt Ideal) f8) (funext fun a => ?_)
  match a with
  | 0 => exact Fin.ext (by show 1280 * k.val + 256 * 3 + jj.val = 1280 * k.val + (768 + jj.val); omega)
  | 1 => exact Fin.ext (Nat.zero_add _)

theorem ds_read3 (jj : Fin 256) (y : Fin 1280) : tripHead.sl.v418 c XP i arg2 arg7 arg8 L D k f2 f7 f8 (ix2 jj y) = DSk c XP i arg2 arg7 arg8 L D f2 f7 f8 k ⟨768 + jj.val, by omega⟩ y := by
  refine (show tripHead.sl.v418 c XP i arg2 arg7 arg8 L D k f2 f7 f8 (ix2 jj y)
    = dsV (tripHead.sl.v360 c arg8 k f8) (tripHead.sl.v146 c arg2 f2) (tripHead.sl.v149 c arg2 f2) (tripHead.sl.v152 c arg2 f2) (tripHead.sl.v155 c arg2 f2) (tripHead.sl.v158 c arg2 f2)
        (tripHead.sl.v386 c XP i arg7 L k f7) D (ix2 jj y) from rfl).trans ?_
  exact ds_block _ _ _ _ L D _ _ _ _ _ _ _ _ _ (do_read0 c arg2 f2) (do_read1 c arg2 f2) (do_read2 c arg2 f2) (do_read3 c arg2 f2) (do_read4 c arg2 f2) jj y _
    (pt_read3 c XP i arg7 L f7 k jj y) (v_read3 c arg8 f8 k jj)

theorem pt_read4 (jj : Fin 256) (y : Fin 1280) : tripHead.sl.v458 c XP i arg7 L k f7 (ix2 jj y) = PTk c XP i arg7 L f7 k ⟨1024 + jj.val, by omega⟩ y := by
  have hk := k13 k
  refine (show tripHead.sl.v458 c XP i arg7 L k f7 (ix2 jj y) = ptV (tripHead.sl.v449 c XP i k) (tripHead.sl.v454 c arg7 k f7) L (ix2 jj y) from rfl).trans ?_
  refine pt_block _ _ _ _ L ⟨5 * k.val + 4, by omega⟩ _ _ (fun jj y => ?_) (fun y => ?_) jj y _ (by simp only; omega)
  · exact slot_read c XP i k 4 (off32_eq k) _ jj y (by show 5 * k.val + 4 < 65; omega)
  · unfold tripHead.sl.v454
    refine ((show ∀ A : Vec Ideal S1x1x1x1x1280 .f32, shapeCast S1x1280 A shapeCasts_S1x1x1x1x1280_S1x1280 (ix2 0 y) = A (ix5 0 0 0 0 y) by
      intro A; pointwise) _).trans ?_
    refine (rd5 arg7.view f7 (a := 1) (b := 1) (c := 1) (d := 1) (g := 1280) (k0_off27_eq k 4) _ 0 0 0 0 y (by decide) (by decide) (by show 5 * k.val + 4 < 65; omega) (by decide) (by omega)).trans ?_
    refine congrArg (arg7.view.read (Elt Ideal) f7) (funext fun a => ?_)
    match a with
    | 0 => rfl
    | 1 => rfl
    | 2 => rfl
    | 3 => rfl
    | 4 => exact Fin.ext (Nat.zero_add _)

theorem v_read4 (jj : Fin 256) (d : Fin 128) : tripHead.sl.v432 c arg8 k f8 (ix2 jj d) = arg8.view.read (Elt Ideal) f8 (ix2 (keyOf k ⟨1024 + jj.val, by omega⟩) d) := by
  have hk := k13 k
  unfold tripHead.sl.v432
  rw [cast_row]
  refine (rd2 arg8.view f8 (a := 256) (b := 128) (k0_off25_eq k 4) _ jj d (by show 1280 * k.val + 256 * 4 + jj.val < 16640; omega) (by omega)).trans ?_
  refine congrArg (arg8.view.read (Elt Ideal) f8) (funext fun a => ?_)
  match a with
  | 0 => exact Fin.ext (by show 1280 * k.val + 256 * 4 + jj.val = 1280 * k.val + (1024 + jj.val); omega)
  | 1 => exact Fin.ext (Nat.zero_add _)

theorem ds_read4 (jj : Fin 256) (y : Fin 1280) : k0_pay71 D (tripHead.sl.v444 c arg2 arg8 k f2 f8) (tripHead.sl.v447 c arg2 arg8 k f2 f8) (tripHead.sl.v458 c XP i arg7 L k f7) (tripHead.sl.v465 c XP i arg2 arg7 arg8 L D k f2 f7 f8) (tripHead.sl.v471 c XP i arg2 arg7 arg8 L D k f2 f7 f8) (tripHead.sl.v477 c XP i arg2 arg7 arg8 L D k f2 f7 f8) (tripHead.sl.v478 c XP i arg7 L k f7) (tripHead.sl.v192 D) (ix2 jj y) = DSk c XP i arg2 arg7 arg8 L D f2 f7 f8 k ⟨1024 + jj.val, by omega⟩ y := by
  refine (show k0_pay71 D (tripHead.sl.v444 c arg2 arg8 k f2 f8) (tripHead.sl.v447 c arg2 arg8 k f2 f8) (tripHead.sl.v458 c XP i arg7 L k f7) (tripHead.sl.v465 c XP i arg2 arg7 arg8 L D k f2 f7 f8) (tripHead.sl.v471 c XP i arg2 arg7 arg8 L D k f2 f7 f8) (tripHead.sl.v477 c XP i arg2 arg7 arg8 L D k f2 f7 f8) (tripHead.sl.v478 c XP i arg7 L k f7) (tripHead.sl.v192 D) (ix2 jj y)
    = dsV (tripHead.sl.v432 c arg8 k f8) (tripHead.sl.v146 c arg2 f2) (tripHead.sl.v149 c arg2 f2) (tripHead.sl.v152 c arg2 f2) (tripHead.sl.v155 c arg2 f2) (tripHead.sl.v158 c arg2 f2)
        (tripHead.sl.v458 c XP i arg7 L k f7) D (ix2 jj y) from rfl).trans ?_
  exact ds_block _ _ _ _ L D _ _ _ _ _ _ _ _ _ (do_read0 c arg2 f2) (do_read1 c arg2 f2) (do_read2 c arg2 f2) (do_read3 c arg2 f2) (do_read4 c arg2 f2) jj y _
    (pt_read4 c XP i arg7 L f7 k jj y) (v_read4 c arg8 f8 k jj)

theorem key_read0 (inb) (d : Fin 96) (jj : Fin 256) :
    shapeCast S96x256 (View.readAt (Elt Ideal) arg9.view (Rect.unit (s := S96x16640) (k0_off28 k (BitVec.ofNat 32 0)) S96x256.size inb).toLoadRect f9 : Vec Ideal S96x256 .bf16) shapeCasts_S96x256_S96x256 (ix2 d jj)
      = arg9.view.read (Elt Ideal) f9 (ix2 d (keyOf k ⟨jj.val, by omega⟩)) := by
  have hk := k13 k
  rw [cast_keys]
  refine (rd2 arg9.view f9 (a := 96) (b := 256) (k0_off28_eq k 0) _ d jj (by omega) (by show 1280 * k.val + 256 * 0 + jj.val < 16640; omega)).trans ?_
  refine congrArg (arg9.view.read (Elt Ideal) f9) (funext fun a => ?_)
  match a with
  | 0 => exact Fin.ext (Nat.zero_add _)
  | 1 => exact Fin.ext (by show 1280 * k.val + 256 * 0 + jj.val = 1280 * k.val + jj.val; omega)

theorem key_read1 (inb) (d : Fin 96) (jj : Fin 256) :
    shapeCast S96x256 (View.readAt (Elt Ideal) arg9.view (Rect.unit (s := S96x16640) (k0_off28 k (BitVec.ofNat 32 256)) S96x256.size inb).toLoadRect f9 : Vec Ideal S96x256 .bf16) shapeCasts_S96x256_S96x256 (ix2 d jj)
      = arg9.view.read (Elt Ideal) f9 (ix2 d (keyOf k ⟨256 + jj.val, by omega⟩)) := by
  have hk := k13 k
  rw [cast_keys]
  refine (rd2 arg9.view f9 (a := 96) (b := 256) (k0_off28_eq k 1) _ d jj (by omega) (by show 1280 * k.val + 256 * 1 + jj.val < 16640; omega)).trans ?_
  refine congrArg (arg9.view.read (Elt Ideal) f9) (funext fun a => ?_)
  match a with
  | 0 => exact Fin.ext (Nat.zero_add _)
  | 1 => exact Fin.ext (by show 1280 * k.val + 256 * 1 + jj.val = 1280 * k.val + (256 + jj.val); omega)

theorem key_read2 (inb) (d : Fin 96) (jj : Fin 256) :
    shapeCast S96x256 (View.readAt (Elt Ideal) arg9.view (Rect.unit (s := S96x16640) (k0_off28 k (BitVec.ofNat 32 512)) S96x256.size inb).toLoadRect f9 : Vec Ideal S96x256 .bf16) shapeCasts_S96x256_S96x256 (ix2 d jj)
      = arg9.view.read (Elt Ideal) f9 (ix2 d (keyOf k ⟨512 + jj.val, by omega⟩)) := by
  have hk := k13 k
  rw [cast_keys]
  refine (rd2 arg9.view f9 (a := 96) (b := 256) (k0_off28_eq k 2) _ d jj (by omega) (by show 1280 * k.val + 256 * 2 + jj.val < 16640; omega)).trans ?_
  refine congrArg (arg9.view.read (Elt Ideal) f9) (funext fun a => ?_)
  match a with
  | 0 => exact Fin.ext (Nat.zero_add _)
  | 1 => exact Fin.ext (by show 1280 * k.val + 256 * 2 + jj.val = 1280 * k.val + (512 + jj.val); omega)

theorem key_read3 (inb) (d : Fin 96) (jj : Fin 256) :
    shapeCast S96x256 (View.readAt (Elt Ideal) arg9.view (Rect.unit (s := S96x16640) (k0_off28 k (BitVec.ofNat 32 768)) S96x256.size inb).toLoadRect f9 : Vec Ideal S96x256 .bf16) shapeCasts_S96x256_S96x256 (ix2 d jj)
      = arg9.view.read (Elt Ideal) f9 (ix2 d (keyOf k ⟨768 + jj.val, by omega⟩)) := by
  have hk := k13 k
  rw [cast_keys]
  refine (rd2 arg9.view f9 (a := 96) (b := 256) (k0_off28_eq k 3) _ d jj (by omega) (by show 1280 * k.val + 256 * 3 + jj.val < 16640; omega)).trans ?_
  refine congrArg (arg9.view.read (Elt Ideal) f9) (funext fun a => ?_)
  match a with
  | 0 => exact Fin.ext (Nat.zero_add _)
  | 1 => exact Fin.ext (by show 1280 * k.val + 256 * 3 + jj.val = 1280 * k.val + (768 + jj.val); omega)

theorem key_read4 (inb) (d : Fin 96) (jj : Fin 256) :
    shapeCast S96x256 (View.readAt (Elt Ideal) arg9.view (Rect.unit (s := S96x16640) (k0_off28 k (BitVec.ofNat 32 1024)) S96x256.size inb).toLoadRect f9 : Vec Ideal S96x256 .bf16) shapeCasts_S96x256_S96x256 (ix2 d jj)
      = arg9.view.read (Elt Ideal) f9 (ix2 d (keyOf k ⟨1024 + jj.val, by omega⟩)) := by
  have hk := k13 k
  rw [cast_keys]
  refine (rd2 arg9.view f9 (a := 96) (b := 256) (k0_off28_eq k 4) _ d jj (by omega) (by show 1280 * k.val + 256 * 4 + jj.val < 16640; omega)).trans ?_
  refine congrArg (arg9.view.read (Elt Ideal) f9) (funext fun a => ?_)
  match a with
  | 0 => exact Fin.ext (Nat.zero_add _)
  | 1 => exact Fin.ext (by show 1280 * k.val + 256 * 4 + jj.val = 1280 * k.val + (1024 + jj.val); omega)

/-- A sum over a trip's 1280 keys, block by block. -/
theorem sum5 (f : Fin 1280 → EReal) : ∑ t, f t = (∑ t : Fin 256, f ⟨t.val, by omega⟩) + (∑ t : Fin 256, f ⟨256 + t.val, by omega⟩)
    + (∑ t : Fin 256, f ⟨512 + t.val, by omega⟩) + (∑ t : Fin 256, f ⟨768 + t.val, by omega⟩) + ∑ t : Fin 256, f ⟨1024 + t.val, by omega⟩ := by
  rw [Fin.sum_univ_tiles 5 256 rfl f, Fin.sum_univ_five]
  refine congrArg₂ _ (congrArg₂ _ (congrArg₂ _ (congrArg₂ _ ?_ ?_) ?_) ?_) ?_ <;>
    exact Finset.sum_congr rfl fun t _ => congrArg f (Fin.ext (by simp))

variable (arg12 : Memref sig .tc .vmem S96x16640 .f32) (arg13 : Memref sig .tc .vmem S64x16640 .f32)
variable (q : FVec Ideal S96x1280 .bf16) (dd : Vec Ideal S64x1280 .bf16)
variable (fq : Buf (Elt Ideal) ((Memref.whole cc0_scratch0).view.loc (c : Thread nD τ))) (fk : Buf (Elt Ideal) (arg12.view.loc (c : Thread nD τ)))
    (fv : Buf (Elt Ideal) (arg13.view.loc (c : Thread nD τ)))

/-- The queries' accumulator after a trip. -/
theorem tripQ_apply (d : Fin 96) (y : Fin 1280) :
    (tripW c XP i arg2 arg7 arg8 arg9 arg12 arg13 L D q dd k f2 f7 f8 f9 fq fk fv).1 (ix2 d y : S96x1280.Idx)
      = (show EReal from (Memref.whole cc0_scratch0).view.read (Elt Ideal) fq (ix2 d y : S96x1280.Idx)) +
        (∑ t : Fin 1280, (show EReal from arg9.view.read (Elt Ideal) f9 (ix2 d (keyOf k t))) * DSk c XP i arg2 arg7 arg8 L D f2 f7 f8 k t y) := by
  have hr : tripHead.sl.r c fq (ix2 d y) = (Memref.whole cc0_scratch0).view.read (Elt Ideal) fq (ix2 d y : S96x1280.Idx) := by
    unfold tripHead.sl.r
    refine (rd2 (Memref.whole cc0_scratch0).view fq (a := 96) (b := 1280) (p := 0) (q := 0) rfl _ d y (by omega) (by omega)).trans ?_
    refine congrArg ((Memref.whole cc0_scratch0).view.read (Elt Ideal) fq) (funext fun a => ?_)
    match a with
    | 0 => exact Fin.ext (Nat.zero_add _)
    | 1 => exact Fin.ext (Nat.zero_add _)
  have hc : ∀ A : FVec Ideal S96x1280 .f32, shapeCast S96x1280 A shapeCasts_S96x1280_S96x1280 (ix2 d y) = A (ix2 d y) := by
    intro A; pointwise
  refine (show _ = (shapeCast S96x1280 (addf (addf (addf (addf (addf ((tripHead.sl.r c fq : FVec Ideal S96x1280 .f32)) (mmQ (tripHead.sl.v207 c arg9 k f9) (tripHead.sl.v202 c XP i arg2 arg7 arg8 L D k f2 f7 f8) : FVec Ideal S96x1280 .f32)) (mmQ (tripHead.sl.v279 c arg9 k f9) (tripHead.sl.v274 c XP i arg2 arg7 arg8 L D k f2 f7 f8) : FVec Ideal S96x1280 .f32)) (mmQ (tripHead.sl.v351 c arg9 k f9) (tripHead.sl.v346 c XP i arg2 arg7 arg8 L D k f2 f7 f8) : FVec Ideal S96x1280 .f32)) (mmQ (tripHead.sl.v423 c arg9 k f9) (tripHead.sl.v418 c XP i arg2 arg7 arg8 L D k f2 f7 f8) : FVec Ideal S96x1280 .f32)) (mmQ (shapeCast S96x256 (View.readAt (Elt Ideal) arg9.view (Rect.unit (s := S96x16640) (k0_off28 k 1024#32) S96x256.size (k0_off28_inb k 4)).toLoadRect f9 : Vec Ideal S96x256 .bf16) shapeCasts_S96x256_S96x256) (k0_pay71 D (tripHead.sl.v444 c arg2 arg8 k f2 f8) (tripHead.sl.v447 c arg2 arg8 k f2 f8) (tripHead.sl.v458 c XP i arg7 L k f7) (tripHead.sl.v465 c XP i arg2 arg7 arg8 L D k f2 f7 f8) (tripHead.sl.v471 c XP i arg2 arg7 arg8 L D k f2 f7 f8) (tripHead.sl.v477 c XP i arg2 arg7 arg8 L D k f2 f7 f8) (tripHead.sl.v478 c XP i arg7 L k f7) (tripHead.sl.v192 D)) : FVec Ideal S96x1280 .f32) : FVec Ideal S96x1280 .f32) shapeCasts_S96x1280_S96x1280 : FVec Ideal S96x1280 .f32) (ix2 d y) from rfl).trans ((hc _).trans ?_)
  show (((((show EReal from tripHead.sl.r c fq (ix2 d y)) + (mmQ (tripHead.sl.v207 c arg9 k f9) (tripHead.sl.v202 c XP i arg2 arg7 arg8 L D k f2 f7 f8) : FVec Ideal S96x1280 .f32) (ix2 d y)) + (mmQ (tripHead.sl.v279 c arg9 k f9) (tripHead.sl.v274 c XP i arg2 arg7 arg8 L D k f2 f7 f8) : FVec Ideal S96x1280 .f32) (ix2 d y)) + (mmQ (tripHead.sl.v351 c arg9 k f9) (tripHead.sl.v346 c XP i arg2 arg7 arg8 L D k f2 f7 f8) : FVec Ideal S96x1280 .f32) (ix2 d y)) + (mmQ (tripHead.sl.v423 c arg9 k f9) (tripHead.sl.v418 c XP i arg2 arg7 arg8 L D k f2 f7 f8) : FVec Ideal S96x1280 .f32) (ix2 d y)) + (mmQ (shapeCast S96x256 (View.readAt (Elt Ideal) arg9.view (Rect.unit (s := S96x16640) (k0_off28 k 1024#32) S96x256.size (k0_off28_inb k 4)).toLoadRect f9 : Vec Ideal S96x256 .bf16) shapeCasts_S96x256_S96x256) (k0_pay71 D (tripHead.sl.v444 c arg2 arg8 k f2 f8) (tripHead.sl.v447 c arg2 arg8 k f2 f8) (tripHead.sl.v458 c XP i arg7 L k f7) (tripHead.sl.v465 c XP i arg2 arg7 arg8 L D k f2 f7 f8) (tripHead.sl.v471 c XP i arg2 arg7 arg8 L D k f2 f7 f8) (tripHead.sl.v477 c XP i arg2 arg7 arg8 L D k f2 f7 f8) (tripHead.sl.v478 c XP i arg7 L k f7) (tripHead.sl.v192 D)) : FVec Ideal S96x1280 .f32) (ix2 d y) = _
  rw [mmQ_apply, mmQ_apply, mmQ_apply, mmQ_apply, mmQ_apply, hr, sum5, ← add_assoc, ← add_assoc, ← add_assoc, ← add_assoc]
  refine Ideal.add_congr (Ideal.add_congr (Ideal.add_congr (Ideal.add_congr (Ideal.add_congr rfl ?_) ?_) ?_) ?_) ?_
  · exact Finset.sum_congr rfl fun jj _ => Ideal.mul_congr (key_read0 c arg9 f9 k _ d jj) (ds_read0 c XP i arg2 arg7 arg8 L D f2 f7 f8 k jj y)
  · exact Finset.sum_congr rfl fun jj _ => Ideal.mul_congr (key_read1 c arg9 f9 k _ d jj) (ds_read1 c XP i arg2 arg7 arg8 L D f2 f7 f8 k jj y)
  · exact Finset.sum_congr rfl fun jj _ => Ideal.mul_congr (key_read2 c arg9 f9 k _ d jj) (ds_read2 c XP i arg2 arg7 arg8 L D f2 f7 f8 k jj y)
  · exact Finset.sum_congr rfl fun jj _ => Ideal.mul_congr (key_read3 c arg9 f9 k _ d jj) (ds_read3 c XP i arg2 arg7 arg8 L D f2 f7 f8 k jj y)
  · exact Finset.sum_congr rfl fun jj _ => Ideal.mul_congr (key_read4 c arg9 f9 k _ d jj) (ds_read4 c XP i arg2 arg7 arg8 L D f2 f7 f8 k jj y)

/-- The keys' accumulator after a trip. -/
theorem tripK_apply (d : Fin 96) (t : Fin 1280) :
    (tripW c XP i arg2 arg7 arg8 arg9 arg12 arg13 L D q dd k f2 f7 f8 f9 fq fk fv).2.1 (ix2 d t : S96x1280.Idx)
      = (show EReal from arg12.view.read (Elt Ideal) fk (ix2 d (keyOf k t))) +
        ((∑ y : Fin 1280, q (ix2 d y) * DSk c XP i arg2 arg7 arg8 L D f2 f7 f8 k t y) * (Named.named κ "ln2" 0x3F317218#32 : Ideal .f32)) := by
  have hk := k13 k
  have hr : (View.readAt (Elt Ideal) arg12.view (Rect.unit (s := S96x16640) (k0_off34 k) S96x1280.size (k0_off34_inb k)).toLoadRect fk : Vec Ideal S96x1280 .f32) (ix2 d t)
      = arg12.view.read (Elt Ideal) fk (ix2 d (keyOf k t)) := by
    refine (rd2 arg12.view fk (a := 96) (b := 1280) (k0_off34_eq k) _ d t (by omega) (by show 1280 * k.val + t.val < 16640; omega)).trans ?_
    refine congrArg (arg12.view.read (Elt Ideal) fk) (funext fun a => ?_)
    match a with
    | 0 => exact Fin.ext (Nat.zero_add _)
    | 1 => rfl
  have hc : ∀ A : FVec Ideal S96x1280 .f32, shapeCast S96x1280 A shapeCasts_S96x1280_S96x1280 (ix2 d t) = A (ix2 d t) := by
    intro A; pointwise
  refine (show _ = (show EReal from shapeCast S96x1280 (View.readAt (Elt Ideal) arg12.view (Rect.unit (s := S96x16640) (k0_off34 k) S96x1280.size (k0_off34_inb k)).toLoadRect fk : Vec Ideal S96x1280 .f32) shapeCasts_S96x1280_S96x1280 (ix2 d t))
    + (catK (mmK q (tripHead.sl.v202 c XP i arg2 arg7 arg8 L D k f2 f7 f8) : FVec Ideal S96x256 .f32) (mmK q (tripHead.sl.v274 c XP i arg2 arg7 arg8 L D k f2 f7 f8) : FVec Ideal S96x256 .f32) (mmK q (tripHead.sl.v346 c XP i arg2 arg7 arg8 L D k f2 f7 f8) : FVec Ideal S96x256 .f32) (mmK q (tripHead.sl.v418 c XP i arg2 arg7 arg8 L D k f2 f7 f8) : FVec Ideal S96x256 .f32) (mmK q (k0_pay71 D (tripHead.sl.v444 c arg2 arg8 k f2 f8) (tripHead.sl.v447 c arg2 arg8 k f2 f8) (tripHead.sl.v458 c XP i arg7 L k f7) (tripHead.sl.v465 c XP i arg2 arg7 arg8 L D k f2 f7 f8) (tripHead.sl.v471 c XP i arg2 arg7 arg8 L D k f2 f7 f8) (tripHead.sl.v477 c XP i arg2 arg7 arg8 L D k f2 f7 f8) (tripHead.sl.v478 c XP i arg7 L k f7) (tripHead.sl.v192 D)) : FVec Ideal S96x256 .f32) : FVec Ideal S96x1280 .f32) (ix2 d t) * (Named.named κ "ln2" 0x3F317218#32 : Ideal .f32) from rfl).trans ?_
  refine Ideal.add_congr ((hc _).trans hr) (Ideal.mul_congr ?_ rfl)
  refine catK_apply _ _ _ _ _ (fun d t => ∑ y : Fin 1280, q (ix2 d y) * DSk c XP i arg2 arg7 arg8 L D f2 f7 f8 k t y) ?_ ?_ ?_ ?_ ?_ d t <;> intro d jj <;> rw [mmK_apply]
  · exact Finset.sum_congr rfl fun y _ => Ideal.mul_congr rfl (ds_read0 c XP i arg2 arg7 arg8 L D f2 f7 f8 k jj y)
  · exact Finset.sum_congr rfl fun y _ => Ideal.mul_congr rfl (ds_read1 c XP i arg2 arg7 arg8 L D f2 f7 f8 k jj y)
  · exact Finset.sum_congr rfl fun y _ => Ideal.mul_congr rfl (ds_read2 c XP i arg2 arg7 arg8 L D f2 f7 f8 k jj y)
  · exact Finset.sum_congr rfl fun y _ => Ideal.mul_congr rfl (ds_read3 c XP i arg2 arg7 arg8 L D f2 f7 f8 k jj y)
  · exact Finset.sum_congr rfl fun y _ => Ideal.mul_congr rfl (ds_read4 c XP i arg2 arg7 arg8 L D f2 f7 f8 k jj y)

/-- The values' accumulator after a trip. -/
theorem tripV_apply (d : Fin 64) (t : Fin 1280) :
    (tripW c XP i arg2 arg7 arg8 arg9 arg12 arg13 L D q dd k f2 f7 f8 f9 fq fk fv).2.2 (ix2 d t : S64x1280.Idx)
      = (show EReal from arg13.view.read (Elt Ideal) fv (ix2 d (keyOf k t))) +
        (∑ y : Fin 1280, (show EReal from dd (ix2 d y)) * PTk c XP i arg7 L f7 k t y) := by
  have hk := k13 k
  have hr : (View.readAt (Elt Ideal) arg13.view (Rect.unit (s := S64x16640) (k0_off33 k) S64x1280.size (k0_off33_inb k)).toLoadRect fv : Vec Ideal S64x1280 .f32) (ix2 d t)
      = arg13.view.read (Elt Ideal) fv (ix2 d (keyOf k t)) := by
    refine (rd2 arg13.view fv (a := 64) (b := 1280) (k0_off33_eq k) _ d t (by omega) (by show 1280 * k.val + t.val < 16640; omega)).trans ?_
    refine congrArg (arg13.view.read (Elt Ideal) fv) (funext fun a => ?_)
    match a with
    | 0 => exact Fin.ext (Nat.zero_add _)
    | 1 => rfl
  have hc : ∀ A : FVec Ideal S64x1280 .f32, shapeCast S64x1280 A shapeCasts_S64x1280_S64x1280 (ix2 d t) = A (ix2 d t) := by
    intro A; pointwise
  have hd : ∀ (d : Fin 64) (y : Fin 1280), (shapeCast S64x1280 dd shapeCasts_S64x1280_S64x1280 : FVec Ideal S64x1280 .bf16) (ix2 d y) = dd (ix2 d y) := by
    intro d y; pointwise
  refine (show _ = (show EReal from shapeCast S64x1280 (View.readAt (Elt Ideal) arg13.view (Rect.unit (s := S64x16640) (k0_off33 k) S64x1280.size (k0_off33_inb k)).toLoadRect fv : Vec Ideal S64x1280 .f32) shapeCasts_S64x1280_S64x1280 (ix2 d t))
    + (catV (mmV (shapeCast S64x1280 dd shapeCasts_S64x1280_S64x1280 : FVec Ideal S64x1280 .bf16) (truncf .bf16 (tripHead.sl.v170 c XP i arg7 L k f7) bitsLt_bf16_f32) : FVec Ideal S64x256 .f32) (mmV (shapeCast S64x1280 dd shapeCasts_S64x1280_S64x1280 : FVec Ideal S64x1280 .bf16) (truncf .bf16 (tripHead.sl.v242 c XP i arg7 L k f7) bitsLt_bf16_f32) : FVec Ideal S64x256 .f32) (mmV (shapeCast S64x1280 dd shapeCasts_S64x1280_S64x1280 : FVec Ideal S64x1280 .bf16) (truncf .bf16 (tripHead.sl.v314 c XP i arg7 L k f7) bitsLt_bf16_f32) : FVec Ideal S64x256 .f32) (mmV (shapeCast S64x1280 dd shapeCasts_S64x1280_S64x1280 : FVec Ideal S64x1280 .bf16) (truncf .bf16 (tripHead.sl.v386 c XP i arg7 L k f7) bitsLt_bf16_f32) : FVec Ideal S64x256 .f32) (mmV (shapeCast S64x1280 dd shapeCasts_S64x1280_S64x1280 : FVec Ideal S64x1280 .bf16) (truncf .bf16 (tripHead.sl.v458 c XP i arg7 L k f7) bitsLt_bf16_f32) : FVec Ideal S64x256 .f32) : FVec Ideal S64x1280 .f32) (ix2 d t) from rfl).trans ?_
  refine Ideal.add_congr ((hc _).trans hr) ?_
  refine catV_apply _ _ _ _ _ (fun d t => ∑ y : Fin 1280, (show EReal from dd (ix2 d y)) * PTk c XP i arg7 L f7 k t y) ?_ ?_ ?_ ?_ ?_ d t <;> intro d jj <;> rw [mmV_apply]
  · exact Finset.sum_congr rfl fun y _ => Ideal.mul_congr (hd d y) (pt_read0 c XP i arg7 L f7 k jj y)
  · exact Finset.sum_congr rfl fun y _ => Ideal.mul_congr (hd d y) (pt_read1 c XP i arg7 L f7 k jj y)
  · exact Finset.sum_congr rfl fun y _ => Ideal.mul_congr (hd d y) (pt_read2 c XP i arg7 L f7 k jj y)
  · exact Finset.sum_congr rfl fun y _ => Ideal.mul_congr (hd d y) (pt_read3 c XP i arg7 L f7 k jj y)
  · exact Finset.sum_congr rfl fun y _ => Ideal.mul_congr (hd d y) (pt_read4 c XP i arg7 L f7 k jj y)

end

end Cert.Proof.KernelIdeal

end
-- ==== Proof.AccValue.lean ====
/- The three accumulators over the thirteen trips, read at an index over the extended reals. -/
module

public import proofs.«01_k».proof.Proof.Point
public import proofs.«01_k».proof.Proof.TripValue

@[expose] public section

set_option maxRecDepth 16384

noncomputable section

namespace Cert.Proof.KernelIdeal

open Cert.KernelIdeal Cert.KernelIdeal.Gen
open Idealize.ShloMosaic Idealize.ShloMosaic.TcCoe Idealize.SL.Sem

/-! ## A store into a buffer, read back -/

theorem wr_in {sp : Space} {e : EltTy} {A B a b : ℕ} (v : View sig .tc sp ⟨2, ![A, B]⟩ e) (f : v.ty.Contents (Elt Ideal)) {off : Fin 2 → ℕ} {p q : ℕ}
    (h : off = ![p, q]) (inb : ∀ x : Fin 2, off x + (![a, b] : Fin 2 → ℕ) x ≤ (![A, B] : Fin 2 → ℕ) x) (W : (⟨2, ![a, b]⟩ : Shape).Idx → Elt Ideal e)
    (d : Fin A) (y : Fin B) (d' : Fin a) (y' : Fin b) (hd : d.val = p + d'.val) (hy : y.val = q + y'.val) :
    v.read (Elt Ideal) (v.writes (Elt Ideal) f [⟨Rect.unit (s := ⟨2, ![A, B]⟩) off ![a, b] inb, W⟩]) (ix2 d y) = W (ix2 d' y') := by
  refine View.read_writes_cons_unit_of_mem v f inb W [] (ix2 d y) (ix2 d' y') h fun x => ?_
  match x with
  | 0 => exact hd
  | 1 => exact hy

theorem wr_out {sp : Space} {e : EltTy} {A B a b : ℕ} (v : View sig .tc sp ⟨2, ![A, B]⟩ e) (f : v.ty.Contents (Elt Ideal)) {off : Fin 2 → ℕ} {p q : ℕ}
    (h : off = ![p, q]) (inb : ∀ x : Fin 2, off x + (![a, b] : Fin 2 → ℕ) x ≤ (![A, B] : Fin 2 → ℕ) x) (W : (⟨2, ![a, b]⟩ : Shape).Idx → Elt Ideal e)
    (d : Fin A) (y : Fin B) (hy : y.val < q ∨ q + b ≤ y.val) :
    v.read (Elt Ideal) (v.writes (Elt Ideal) f [⟨Rect.unit (s := ⟨2, ![A, B]⟩) off ![a, b] inb, W⟩]) (ix2 d y) = v.read (Elt Ideal) f (ix2 d y) :=
  View.read_writes_cons_unit_of_not_mem v f inb W [] (ix2 d y) h 1 hy

/-! ## One trip's stores -/

section Stores
variable {F : FTy → Type} [FloatOps F] [Named F]
variable (c : Dev nD) (XP : Buf (Elt F) (pM.view.loc (c : Thread nD τ))) (i : grid0.Coords)
variable (arg2 : Memref sig .tc .vmem S1280x128 .bf16) (arg7 : Memref sig .tc .vmem S1x1x65x1x1280 .f32) (arg8 : Memref sig .tc .vmem S16640x128 .bf16)
  (arg9 : Memref sig .tc .vmem S96x16640 .bf16) (arg12 : Memref sig .tc .vmem S96x16640 .f32) (arg13 : Memref sig .tc .vmem S64x16640 .f32)
variable (L D : FVec F S1x1280 .f32) (q : FVec F S96x1280 .bf16) (dd : Vec F S64x1280 .bf16)
variable (f2 : Buf (Elt F) (arg2.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
variable (A : Accs (F := F) c arg12 arg13) (k : Fin k0_t1_loop.trips)

theorem accStep_1 : (accStep c XP i arg2 arg7 arg8 arg9 arg12 arg13 L D q dd f2 f7 f8 f9 k A).1
    = (Memref.whole cc0_scratch0).view.writes (Elt F) A.1 [⟨RQ, (tripW c XP i arg2 arg7 arg8 arg9 arg12 arg13 L D q dd k f2 f7 f8 f9 A.1 A.2.1 A.2.2).1⟩] := by
  unfold accStep
  with_reducible rfl
theorem accStep_2 : (accStep c XP i arg2 arg7 arg8 arg9 arg12 arg13 L D q dd f2 f7 f8 f9 k A).2.1
    = arg12.view.writes (Elt F) A.2.1 [⟨RK k, (tripW c XP i arg2 arg7 arg8 arg9 arg12 arg13 L D q dd k f2 f7 f8 f9 A.1 A.2.1 A.2.2).2.1⟩] := by
  unfold accStep
  with_reducible rfl
theorem accStep_3 : (accStep c XP i arg2 arg7 arg8 arg9 arg12 arg13 L D q dd f2 f7 f8 f9 k A).2.2
    = arg13.view.writes (Elt F) A.2.2 [⟨RV k, (tripW c XP i arg2 arg7 arg8 arg9 arg12 arg13 L D q dd k f2 f7 f8 f9 A.1 A.2.1 A.2.2).2.2⟩] := by
  unfold accStep
  with_reducible rfl

theorem accAt_zero : accAt c XP i arg2 arg7 arg8 arg9 arg12 arg13 L D q dd f2 f7 f8 f9 A 0 = A := by unfold accAt; with_reducible rfl
theorem accAt_step (n : ℕ) (hn : n < k0_t1_loop.trips) :
    accAt c XP i arg2 arg7 arg8 arg9 arg12 arg13 L D q dd f2 f7 f8 f9 A (n + 1)
      = accStep c XP i arg2 arg7 arg8 arg9 arg12 arg13 L D q dd f2 f7 f8 f9 ⟨n, hn⟩ (accAt c XP i arg2 arg7 arg8 arg9 arg12 arg13 L D q dd f2 f7 f8 f9 A n) := by
  rw [accAt, dif_pos hn]
end Stores

attribute [local irreducible] accStep accAt tripW DSf PTf

variable (c : Dev nD) (XP : Buf (Elt Ideal) (pM.view.loc (c : Thread nD τ))) (i : grid0.Coords)
variable (arg2 : Memref sig .tc .vmem S1280x128 .bf16) (arg7 : Memref sig .tc .vmem S1x1x65x1x1280 .f32) (arg8 : Memref sig .tc .vmem S16640x128 .bf16)
  (arg9 : Memref sig .tc .vmem S96x16640 .bf16) (arg12 : Memref sig .tc .vmem S96x16640 .f32) (arg13 : Memref sig .tc .vmem S64x16640 .f32)
variable (L D : FVec Ideal S1x1280 .f32) (q : FVec Ideal S96x1280 .bf16) (dd : Vec Ideal S64x1280 .bf16)
variable (f2 : Buf (Elt Ideal) (arg2.view.loc (c : Thread nD τ))) (f7 : Buf (Elt Ideal) (arg7.view.loc (c : Thread nD τ)))
    (f8 : Buf (Elt Ideal) (arg8.view.loc (c : Thread nD τ))) (f9 : Buf (Elt Ideal) (arg9.view.loc (c : Thread nD τ)))
variable (A : Accs (F := Ideal) c arg12 arg13)

/-- The gradient of the score of key `j`, the windows read. -/
abbrev DSw (j : Fin 16640) (y : Fin 1280) : EReal :=
  DSf (pM.view.read (Elt Ideal) XP) (i 0) (i 1) (arg7.view.read (Elt Ideal) f7) L D (arg8.view.read (Elt Ideal) f8) (arg2.view.read (Elt Ideal) f2) j y
/-- The weight of key `j`, the windows read. -/
abbrev PTw (j : Fin 16640) (y : Fin 1280) : EReal :=
  PTf (pM.view.read (Elt Ideal) XP) (i 0) (i 1) (arg7.view.read (Elt Ideal) f7) L j y

/-! ## One trip -/

section Step
variable (k : Fin k0_t1_loop.trips)

theorem wrQ (f : (Memref.whole cc0_scratch0).view.ty.Contents (Elt Ideal)) (W : S96x1280.Idx → Elt Ideal .f32) (d : Fin 96) (y : Fin 1280) :
    (Memref.whole cc0_scratch0).view.read (Elt Ideal) ((Memref.whole cc0_scratch0).view.writes (Elt Ideal) f [⟨RQ, W⟩]) (ix2 d y : S96x1280.Idx) = W (ix2 d y : S96x1280.Idx) :=
  wr_in (Memref.whole cc0_scratch0).view f rfl _ W d y d y (Nat.zero_add _).symm (Nat.zero_add _).symm

theorem wrK_in (f : arg12.view.ty.Contents (Elt Ideal)) (W : S96x1280.Idx → Elt Ideal .f32) (d : Fin 96) (t : Fin 1280) :
    arg12.view.read (Elt Ideal) (arg12.view.writes (Elt Ideal) f [⟨RK k, W⟩]) (ix2 d (keyOf k t) : S96x16640.Idx) = W (ix2 d t : S96x1280.Idx) :=
  wr_in arg12.view f (k0_off34_eq k) _ W d (keyOf k t) d t (Nat.zero_add _).symm rfl

theorem wrK_out (f : arg12.view.ty.Contents (Elt Ideal)) (W : S96x1280.Idx → Elt Ideal .f32) (d : Fin 96) (j : Fin 16640)
    (hj : j.val < 1280 * k.val ∨ 1280 * k.val + 1280 ≤ j.val) :
    arg12.view.read (Elt Ideal) (arg12.view.writes (Elt Ideal) f [⟨RK k, W⟩]) (ix2 d j : S96x16640.Idx) = arg12.view.read (Elt Ideal) f (ix2 d j : S96x16640.Idx) :=
  wr_out arg12.view f (k0_off34_eq k) _ W d j hj

theorem wrV_in (f : arg13.view.ty.Contents (Elt Ideal)) (W : S64x1280.Idx → Elt Ideal .f32) (d : Fin 64) (t : Fin 1280) :
    arg13.view.read (Elt Ideal) (arg13.view.writes (Elt Ideal) f [⟨RV k, W⟩]) (ix2 d (keyOf k t) : S64x16640.Idx) = W (ix2 d t : S64x1280.Idx) :=
  wr_in arg13.view f (k0_off33_eq k) _ W d (keyOf k t) d t (Nat.zero_add _).symm rfl

theorem wrV_out (f : arg13.view.ty.Contents (Elt Ideal)) (W : S64x1280.Idx → Elt Ideal .f32) (d : Fin 64) (j : Fin 16640)
    (hj : j.val < 1280 * k.val ∨ 1280 * k.val + 1280 ≤ j.val) :
    arg13.view.read (Elt Ideal) (arg13.view.writes (Elt Ideal) f [⟨RV k, W⟩]) (ix2 d j : S64x16640.Idx) = arg13.view.read (Elt Ideal) f (ix2 d j : S64x16640.Idx) :=
  wr_out arg13.view f (k0_off33_eq k) _ W d j hj

theorem stepQ (d : Fin 96) (y : Fin 1280) :
    (show EReal from (Memref.whole cc0_scratch0).view.read (Elt Ideal) (accStep c XP i arg2 arg7 arg8 arg9 arg12 arg13 L D q dd f2 f7 f8 f9 k A).1 (ix2 d y : S96x1280.Idx))
      = (show EReal from (Memref.whole cc0_scratch0).view.read (Elt Ideal) A.1 (ix2 d y : S96x1280.Idx)) +
        ∑ t : Fin 1280, (show EReal from arg9.view.read (Elt Ideal) f9 (ix2 d (keyOf k t))) * DSw c XP i arg2 arg7 arg8 L D f2 f7 f8 (keyOf k t) y := by
  rw [accStep_1]
  exact (wrQ A.1 (tripW c XP i arg2 arg7 arg8 arg9 arg12 arg13 L D q dd k f2 f7 f8 f9 A.1 A.2.1 A.2.2).1 d y).trans
    (tripQ_apply c XP i arg2 arg7 arg8 arg9 L D f2 f7 f8 f9 k arg12 arg13 q dd A.1 A.2.1 A.2.2 d y)

theorem stepK_in (d : Fin 96) (t : Fin 1280) :
    (show EReal from arg12.view.read (Elt Ideal) (accStep c XP i arg2 arg7 arg8 arg9 arg12 arg13 L D q dd f2 f7 f8 f9 k A).2.1 (ix2 d (keyOf k t) : S96x16640.Idx))
      = (show EReal from arg12.view.read (Elt Ideal) A.2.1 (ix2 d (keyOf k t) : S96x16640.Idx)) +
        ((∑ y : Fin 1280, q (ix2 d y) * DSw c XP i arg2 arg7 arg8 L D f2 f7 f8 (keyOf k t) y) * (Named.named κ "ln2" 0x3F317218#32 : Ideal .f32)) := by
  rw [accStep_2]
  exact (wrK_in arg12 k A.2.1 (tripW c XP i arg2 arg7 arg8 arg9 arg12 arg13 L D q dd k f2 f7 f8 f9 A.1 A.2.1 A.2.2).2.1 d t).trans
    (tripK_apply c XP i arg2 arg7 arg8 arg9 L D f2 f7 f8 f9 k arg12 arg13 q dd A.1 A.2.1 A.2.2 d t)

theorem stepK_out (d : Fin 96) (j : Fin 16640) (hj : j.val < 1280 * k.val ∨ 1280 * k.val + 1280 ≤ j.val) :
    arg12.view.read (Elt Ideal) (accStep c XP i arg2 arg7 arg8 arg9 arg12 arg13 L D q dd f2 f7 f8 f9 k A).2.1 (ix2 d j : S96x16640.Idx)
      = arg12.view.read (Elt Ideal) A.2.1 (ix2 d j : S96x16640.Idx) := by
  rw [accStep_2]
  exact wrK_out arg12 k A.2.1 (tripW c XP i arg2 arg7 arg8 arg9 arg12 arg13 L D q dd k f2 f7 f8 f9 A.1 A.2.1 A.2.2).2.1 d j hj

theorem stepV_in (d : Fin 64) (t : Fin 1280) :
    (show EReal from arg13.view.read (Elt Ideal) (accStep c XP i arg2 arg7 arg8 arg9 arg12 arg13 L D q dd f2 f7 f8 f9 k A).2.2 (ix2 d (keyOf k t) : S64x16640.Idx))
      = (show EReal from arg13.view.read (Elt Ideal) A.2.2 (ix2 d (keyOf k t) : S64x16640.Idx)) +
        ∑ y : Fin 1280, (show EReal from dd (ix2 d y)) * PTw c XP i arg7 L f7 (keyOf k t) y := by
  rw [accStep_3]
  exact (wrV_in arg13 k A.2.2 (tripW c XP i arg2 arg7 arg8 arg9 arg12 arg13 L D q dd k f2 f7 f8 f9 A.1 A.2.1 A.2.2).2.2 d t).trans
    (tripV_apply c XP i arg2 arg7 arg8 arg9 L D f2 f7 f8 f9 k arg12 arg13 q dd A.1 A.2.1 A.2.2 d t)

theorem stepV_out (d : Fin 64) (j : Fin 16640) (hj : j.val < 1280 * k.val ∨ 1280 * k.val + 1280 ≤ j.val) :
    arg13.view.read (Elt Ideal) (accStep c XP i arg2 arg7 arg8 arg9 arg12 arg13 L D q dd f2 f7 f8 f9 k A).2.2 (ix2 d j : S64x16640.Idx)
      = arg13.view.read (Elt Ideal) A.2.2 (ix2 d j : S64x16640.Idx) := by
  rw [accStep_3]
  exact wrV_out arg13 k A.2.2 (tripW c XP i arg2 arg7 arg8 arg9 arg12 arg13 L D q dd k f2 f7 f8 f9 A.1 A.2.1 A.2.2).2.2 d j hj
end Step

/-! ## Thirteen trips -/

/-- The queries' accumulator before trip `n`. -/
theorem accQ (d : Fin 96) (y : Fin 1280) : ∀ (n : ℕ) (hn : n ≤ 13),
    (show EReal from (Memref.whole cc0_scratch0).view.read (Elt Ideal) (accAt c XP i arg2 arg7 arg8 arg9 arg12 arg13 L D q dd f2 f7 f8 f9 A n).1 (ix2 d y : S96x1280.Idx))
      = (show EReal from (Memref.whole cc0_scratch0).view.read (Elt Ideal) A.1 (ix2 d y : S96x1280.Idx)) +
        ∑ s : Fin n, ∑ t : Fin 1280, (show EReal from arg9.view.read (Elt Ideal) f9 (ix2 d (⟨s.val * 1280 + t.val, by omega⟩ : Fin 16640) : S96x16640.Idx))
          * DSw c XP i arg2 arg7 arg8 L D f2 f7 f8 ⟨s.val * 1280 + t.val, by omega⟩ y := by
  intro n
  induction n with
  | zero => intro _; rw [Fin.sum_univ_zero, add_zero, accAt_zero]
  | succ n ih =>
    intro hn
    have hn' : n < k0_t1_loop.trips := by rw [trips13]; omega
    rw [accAt_step c XP i arg2 arg7 arg8 arg9 arg12 arg13 L D q dd f2 f7 f8 f9 A n hn', Fin.sum_univ_castSucc, ← add_assoc]
    refine (stepQ c XP i arg2 arg7 arg8 arg9 arg12 arg13 L D q dd f2 f7 f8 f9 _ ⟨n, hn'⟩ d y).trans ?_
    refine congrArg₂ (· + ·) (ih (by omega)) (Finset.sum_congr rfl fun t _ => ?_)
    have e : keyOf ⟨n, hn'⟩ t = (⟨n * 1280 + t.val, by omega⟩ : Fin 16640) := Fin.ext (by show 1280 * n + t.val = n * 1280 + t.val; omega)
    rw [e]
    rfl

/-- The queries' accumulator after the loop. -/
theorem accQ_end (d : Fin 96) (y : Fin 1280) :
    (show EReal from (Memref.whole cc0_scratch0).view.read (Elt Ideal) (accAt c XP i arg2 arg7 arg8 arg9 arg12 arg13 L D q dd f2 f7 f8 f9 A 13).1 (ix2 d y : S96x1280.Idx))
      = (show EReal from (Memref.whole cc0_scratch0).view.read (Elt Ideal) A.1 (ix2 d y : S96x1280.Idx)) +
        ∑ j : Fin 16640, (show EReal from arg9.view.read (Elt Ideal) f9 (ix2 d j : S96x16640.Idx)) * DSw c XP i arg2 arg7 arg8 L D f2 f7 f8 j y := by
  refine (accQ c XP i arg2 arg7 arg8 arg9 arg12 arg13 L D q dd f2 f7 f8 f9 A d y 13 le_rfl).trans (congrArg _ ?_)
  exact (Fin.sum_univ_tiles 13 1280 rfl fun j : Fin 16640 => (show EReal from arg9.view.read (Elt Ideal) f9 (ix2 d j : S96x16640.Idx)) * DSw c XP i arg2 arg7 arg8 L D f2 f7 f8 j y).symm

theorem key_split (j : Fin 16640) (n : ℕ) (hn : n < k0_t1_loop.trips) (h1 : 1280 * n ≤ j.val) (h2 : j.val < 1280 * n + 1280) :
    j = keyOf ⟨n, hn⟩ ⟨j.val - 1280 * n, by omega⟩ := Fin.ext (by show j.val = 1280 * n + (j.val - 1280 * n); omega)

/-- The keys' accumulator before trip `n`. -/
theorem accK (d : Fin 96) (j : Fin 16640) : ∀ (n : ℕ) (hn : n ≤ 13),
    (show EReal from arg12.view.read (Elt Ideal) (accAt c XP i arg2 arg7 arg8 arg9 arg12 arg13 L D q dd f2 f7 f8 f9 A n).2.1 (ix2 d j : S96x16640.Idx))
      = if j.val < 1280 * n then
          (show EReal from arg12.view.read (Elt Ideal) A.2.1 (ix2 d j : S96x16640.Idx)) +
            ((∑ y : Fin 1280, q (ix2 d y) * DSw c XP i arg2 arg7 arg8 L D f2 f7 f8 j y) * (Named.named κ "ln2" 0x3F317218#32 : Ideal .f32))
        else (show EReal from arg12.view.read (Elt Ideal) A.2.1 (ix2 d j : S96x16640.Idx)) := by
  intro n
  induction n with
  | zero => intro _; rw [if_neg (by omega), accAt_zero]
  | succ n ih =>
    intro hn
    have hn' : n < k0_t1_loop.trips := by rw [trips13]; omega
    rw [accAt_step c XP i arg2 arg7 arg8 arg9 arg12 arg13 L D q dd f2 f7 f8 f9 A n hn']
    have ih := ih (by omega)
    by_cases h1 : j.val < 1280 * n
    · rw [if_pos (by omega)]
      rw [if_pos h1] at ih
      exact (stepK_out c XP i arg2 arg7 arg8 arg9 arg12 arg13 L D q dd f2 f7 f8 f9 _ ⟨n, hn'⟩ d j (Or.inl h1)).trans ih
    · rw [if_neg h1] at ih
      by_cases h2 : j.val < 1280 * (n + 1)
      · rw [if_pos h2]
        have e := key_split j n hn' (by omega) (by omega)
        have hs := stepK_in c XP i arg2 arg7 arg8 arg9 arg12 arg13 L D q dd f2 f7 f8 f9 (accAt c XP i arg2 arg7 arg8 arg9 arg12 arg13 L D q dd f2 f7 f8 f9 A n) ⟨n, hn'⟩ d ⟨j.val - 1280 * n, by omega⟩
        rw [← e] at hs
        exact hs.trans (congrArg (· + _) ih)
      · rw [if_neg h2]
        exact (stepK_out c XP i arg2 arg7 arg8 arg9 arg12 arg13 L D q dd f2 f7 f8 f9 _ ⟨n, hn'⟩ d j (Or.inr (by show 1280 * n + 1280 ≤ j.val; omega))).trans ih

/-- The values' accumulator before trip `n`. -/
theorem accV (d : Fin 64) (j : Fin 16640) : ∀ (n : ℕ) (hn : n ≤ 13),
    (show EReal from arg13.view.read (Elt Ideal) (accAt c XP i arg2 arg7 arg8 arg9 arg12 arg13 L D q dd f2 f7 f8 f9 A n).2.2 (ix2 d j : S64x16640.Idx))
      = if j.val < 1280 * n then
          (show EReal from arg13.view.read (Elt Ideal) A.2.2 (ix2 d j : S64x16640.Idx)) +
            ∑ y : Fin 1280, (show EReal from dd (ix2 d y)) * PTw c XP i arg7 L f7 j y
        else (show EReal from arg13.view.read (Elt Ideal) A.2.2 (ix2 d j : S64x16640.Idx)) := by
  intro n
  induction n with
  | zero => intro _; rw [if_neg (by omega), accAt_zero]
  | succ n ih =>
    intro hn
    have hn' : n < k0_t1_loop.trips := by rw [trips13]; omega
    rw [accAt_step c XP i arg2 arg7 arg8 arg9 arg12 arg13 L D q dd f2 f7 f8 f9 A n hn']
    have ih := ih (by omega)
    by_cases h1 : j.val < 1280 * n
    · rw [if_pos (by omega)]
      rw [if_pos h1] at ih
      exact (stepV_out c XP i arg2 arg7 arg8 arg9 arg12 arg13 L D q dd f2 f7 f8 f9 _ ⟨n, hn'⟩ d j (Or.inl h1)).trans ih
    · rw [if_neg h1] at ih
      by_cases h2 : j.val < 1280 * (n + 1)
      · rw [if_pos h2]
        have e := key_split j n hn' (by omega) (by omega)
        have hs := stepV_in c XP i arg2 arg7 arg8 arg9 arg12 arg13 L D q dd f2 f7 f8 f9 (accAt c XP i arg2 arg7 arg8 arg9 arg12 arg13 L D q dd f2 f7 f8 f9 A n) ⟨n, hn'⟩ d ⟨j.val - 1280 * n, by omega⟩
        rw [← e] at hs
        exact hs.trans (congrArg (· + _) ih)
      · rw [if_neg h2]
        exact (stepV_out c XP i arg2 arg7 arg8 arg9 arg12 arg13 L D q dd f2 f7 f8 f9 _ ⟨n, hn'⟩ d j (Or.inr (by show 1280 * n + 1280 ≤ j.val; omega))).trans ih

end Cert.Proof.KernelIdeal

end
-- ==== Proof.Tile.lean ====
/- Each window's block as a part of its array, and the payloads before the loop, at an index over the extended reals. -/
module

public import proofs.«01_k».proof.Proof.AccValue
public import proofs.«01_k».proof.Proof.Launch
public import Idealize.ShloMosaic.Lib.Pointwise
public import Idealize.ShloMosaic.Lib.WholeRead
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 13, t.val / 13] ∧ win0_1.index t = ![t.val / 13, t.val % 13] ∧ win0_2.index t = ![t.val / 13, t.val % 13]
    ∧ win0_3.index t = ![t.val / 13, 0, t.val % 13] ∧ win0_4.index t = ![t.val / 13, 0, t.val % 13] ∧ win0_5.index t = ![t.val / 13, t.val % 13, 0, 0, 0]
    ∧ win0_6.index t = ![0, t.val / 13] ∧ win0_7.index t = ![t.val / 13, 0] ∧ win0_8.index t = ![t.val % 13, t.val / 13]
    ∧ win0_9.index t = ![t.val / 13, 0] ∧ win0_10.index t = ![t.val / 13, 0] :=
  (by decide +kernel : ∀ t : Fin grid0.N, _)
theorem coords_val : ∀ t : Fin cfg0.N, (grid0.coords t 0).val = t.val / 13 ∧ (grid0.coords t 1).val = t.val % 13 := (by decide +kernel : ∀ t : Fin grid0.N, _)

/-- The head of a point. -/
abbrev hd (t : Fin cfg0.N) : Fin 8 := ⟨t.val / 13, by have : t.val < 104 := t.isLt; omega⟩
/-- The query tile of a point. -/
abbrev qt (t : Fin cfg0.N) : Fin 13 := ⟨t.val % 13, by omega⟩

section Blocks
variable (c : Dev nD) (t : Fin cfg0.N)
theorem blk0 (y : Fin 1280) (d : Fin 128) : iblk m c 0 t (ix2 y d : S1280x128.Idx) = V m c main_v59 (ix2 ⟨(qt t).val * 1280 + y.val, by omega⟩ ⟨(hd t).val * 128 + d.val, by omega⟩ : S16640x1024.Idx) := by
  blk_ext [iblk, idx t]
theorem blk1 (d : Fin 96) (y : Fin 1280) : iblk m c 1 t (ix2 d y : S96x1280.Idx) = V m c main_v44 (ix2 ⟨(hd t).val * 96 + d.val, by omega⟩ ⟨(qt t).val * 1280 + y.val, by omega⟩ : S768x16640.Idx) := by
  blk_ext [iblk, idx t]
theorem blk2 (d : Fin 64) (y : Fin 1280) : iblk m c 2 t (ix2 d y : S64x1280.Idx) = V m c main_v50 (ix2 ⟨(hd t).val * 64 + d.val, by omega⟩ ⟨(qt t).val * 1280 + y.val, by omega⟩ : S512x16640.Idx) := by
  blk_ext [iblk, idx t]
theorem blk3 (y : Fin 1280) : iblk m c 3 t (ix3 0 0 y : S1x1x1280.Idx) = V m c main_v37 (ix3 (hd t) 0 ⟨(qt t).val * 1280 + y.val, by omega⟩ : S8x1x16640.Idx) := by
  blk_ext [iblk, idx t]
theorem blk4 (y : Fin 1280) : iblk m c 4 t (ix3 0 0 y : S1x1x1280.Idx) = V m c main_v60 (ix3 (hd t) 0 ⟨(qt t).val * 1280 + y.val, by omega⟩ : S8x1x16640.Idx) := by
  refine congrArg (V m c main_v60) (funext fun a => Fin.ext ?_)
  match a with
  | 0 => blk_simp [idx t]; rfl
  | 1 => blk_simp [idx t]
  | 2 => blk_simp [idx t]
theorem blk5 (b : Fin 65) (y : Fin 1280) : iblk m c 5 t (ix5 0 0 b 0 y : S1x1x65x1x1280.Idx) = V m c main_v39 (ix5 (hd t) (qt t) b 0 y : S8x13x65x1x1280.Idx) := by
  blk_ext [iblk, idx t]
theorem blk6 (j : Fin 16640) (d : Fin 128) : iblk m c 6 t (ix2 j d : S16640x128.Idx) = V m c main_v55 (ix2 j ⟨(hd t).val * 128 + d.val, by omega⟩ : S16640x1024.Idx) := by
  blk_ext [iblk, idx t]
theorem blk7 (d : Fin 96) (j : Fin 16640) : iblk m c 7 t (ix2 d j : S96x16640.Idx) = V m c main_v47 (ix2 ⟨(hd t).val * 96 + d.val, by omega⟩ j : S768x16640.Idx) := by
  blk_ext [iblk, idx t]
end Blocks

/-! ## What the body reads before the loop -/

theorem row_read (M : Memref sig .tc .vmem S1x1x1280 .f32) (hM : M.IsWhole) (X : S1x1x1280.Idx → Elt Ideal .f32) (y : Fin 1280) :
    k0_pay78 (F := Ideal) (View.readAt (Elt Ideal) M.view (Rect.unit ![0, 0, 0] S1x1x1280.size inb_S1x1x1280_S1x1x1280_0_0_0).toLoadRect (hM.unread X)) (ix2 0 y : S1x1280.Idx)
      = X (ix3 0 0 y : S1x1x1280.Idx) := by
  have e : (View.readAt (Elt Ideal) M.view (Rect.unit ![0, 0, 0] S1x1x1280.size inb_S1x1x1280_S1x1x1280_0_0_0).toLoadRect (hM.unread X) : Vec Ideal S1x1x1280 .f32) = X := by
    funext x
    refine (hM.readAt_unread X _ x).trans (congrArg X (funext fun a => Fin.ext ?_))
    match a with
    | 0 => show 0 + 1 * (x 0).val = (x 0).val; omega
    | 1 => show 0 + 1 * (x 1).val = (x 1).val; omega
    | 2 => show 0 + 1 * (x 2).val = (x 2).val; omega
  refine (congrArg (fun Z : Vec Ideal S1x1x1280 .f32 => k0_pay78 (F := Ideal) Z (ix2 0 y : S1x1280.Idx)) e).trans ?_
  clear e
  generalize X = X'
  revert X'
  intro (X : Vec Ideal S1x1x1280 .f32)
  pointwise [k0_pay78]

theorem row_read' (M : Memref sig .tc .vmem S1x1x1280 .f32) (hM : M.IsWhole) (X : S1x1x1280.Idx → Elt Ideal .f32) (y : Fin 1280) :
    k0_pay79 (F := Ideal) (View.readAt (Elt Ideal) M.view (Rect.unit ![0, 0, 0] S1x1x1280.size inb_S1x1x1280_S1x1x1280_0_0_0).toLoadRect (hM.unread X)) (ix2 0 y : S1x1280.Idx)
      = X (ix3 0 0 y : S1x1x1280.Idx) := row_read M hM X y

theorem whole_read {a b : ℕ} {e : EltTy} (M : Memref sig .tc .vmem ⟨2, ![a, b]⟩ e) (hM : M.IsWhole) (X : (⟨2, ![a, b]⟩ : Shape).Idx → Elt Ideal e)
    (inb : ∀ x : Fin 2, (![0, 0] : Fin 2 → ℕ) x + (![a, b] : Fin 2 → ℕ) x ≤ (![a, b] : Fin 2 → ℕ) x) (d : Fin a) (y : Fin b) :
    View.readAt (Elt Ideal) M.view (Rect.unit (s := ⟨2, ![a, b]⟩) ![0, 0] ![a, b] inb).toLoadRect (hM.unread X) (ix2 d y) = X (ix2 d y) := by
  refine (hM.readAt_unread X _ _).trans (congrArg X (funext fun x => Fin.ext ?_))
  match x with
  | 0 => show 0 + 1 * d.val = d.val; omega
  | 1 => show 0 + 1 * y.val = y.val; omega

theorem pay80_apply (X : Vec Ideal S96x1280 .bf16) (d : Fin 96) (y : Fin 1280) : k0_pay80 (F := Ideal) X (ix2 d y : S96x1280.Idx) = X (ix2 d y : S96x1280.Idx) := by
  pointwise [k0_pay80]
theorem pay77_apply (d : Fin 96) (y : Fin 1280) : (show EReal from k0_pay77 (F := Ideal) (ix2 d y : S96x1280.Idx)) = 0 := by
  pointwise [k0_pay77]
theorem pay75_apply (d : Fin 96) (j : Fin 16640) : (show EReal from k0_pay75 (F := Ideal) (ix2 d j : S96x16640.Idx)) = 0 := by
  pointwise [k0_pay75]
theorem pay76_apply (d : Fin 64) (j : Fin 16640) : (show EReal from k0_pay76 (F := Ideal) (ix2 d j : S64x16640.Idx)) = 0 := by
  pointwise [k0_pay76]
theorem pay2_apply (X : Vec Ideal S96x1280 .f32) (y : Fin 1280) (d : Fin 128) (hd : d.val < 96) : k0_pay2 (F := Ideal) X (ix2 y d : S1280x128.Idx) = X (ix2 ⟨d.val, hd⟩ y : S96x1280.Idx) := by
  pointwise [k0_pay2]
  rw [dif_pos hd]

end Cert.Proof.KernelIdeal

end
-- ==== Proof.TileValue.lean ====
/- What the accumulators hold after a grid point, over the arrays the region reads. -/
module

public import proofs.«01_k».proof.Proof.Tile

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

/-- Query `y` of tile `w`. -/
abbrev qix (w : Fin 13) (y : Fin 1280) : Fin 16640 := ⟨w.val * 1280 + y.val, by omega⟩
/-- Lane `d` of head `h`. -/
abbrev dix (h : Fin 8) (d : Fin 128) : Fin 1024 := ⟨h.val * 128 + d.val, by omega⟩

/-- Row `d` of head `h`, queries and keys. -/
abbrev kix (h : Fin 8) (d : Fin 96) : Fin 768 := ⟨h.val * 96 + d.val, by omega⟩
/-- Row `d` of head `h`, values. -/
abbrev vix (h : Fin 8) (d : Fin 64) : Fin 512 := ⟨h.val * 64 + d.val, by omega⟩

/-- The weight of key `j` for query `y` of tile `w`, head `h`. -/
def PTg (P : FVec Ideal S8x13x65x256x1280 .bf16) (M : FVec Ideal S8x13x65x1x1280 .f32) (L : FVec Ideal S8x1x16640 .f32) (h : Fin 8) (w : Fin 13) (j : Fin 16640) (y : Fin 1280) : EReal :=
  P (ix5 h w ⟨j.val / 256, by omega⟩ ⟨j.val % 256, by omega⟩ y) * Ideal.exp2 (M (ix5 h w ⟨j.val / 256, by omega⟩ 0 y) - L (ix3 h 0 (qix w y)))

/-- The gradient of the score of key `j` for query `y` of tile `w`, head `h`. -/
def DSg (P : FVec Ideal S8x13x65x256x1280 .bf16) (M : FVec Ideal S8x13x65x1x1280 .f32) (L D : FVec Ideal S8x1x16640 .f32) (X8 : FVec Ideal S16640x1024 .bf16) (X2 : FVec Ideal S16640x1024 .bf16)
    (h : Fin 8) (w : Fin 13) (j : Fin 16640) (y : Fin 1280) : EReal :=
  PTg P M L h w j y * ((∑ d : Fin 128, X8 (ix2 j (dix h d)) * X2 (ix2 (qix w y) (dix h d)))
    - D (ix3 h 0 (qix w y)))

theorem PTf_eq (P : FVec Ideal S8x13x65x256x1280 .bf16) (M : FVec Ideal S8x13x65x1x1280 .f32) (L : FVec Ideal S8x1x16640 .f32) (h : Fin 8) (w : Fin 13) (j : Fin 16640) (y : Fin 1280)
    (X7 : FVec Ideal S1x1x65x1x1280 .f32) (L' : FVec Ideal S1x1280 .f32) (h7 : ∀ b y, X7 (ix5 0 0 b 0 y) = M (ix5 h w b 0 y)) (hL : ∀ y : Fin 1280, L' (ix2 0 y) = L (ix3 h 0 (qix w y))) :
    PTf P h w X7 L' j y = PTg P M L h w j y := by
  unfold PTf PTg
  rw [h7, hL]

theorem DSf_eq (P : FVec Ideal S8x13x65x256x1280 .bf16) (M : FVec Ideal S8x13x65x1x1280 .f32) (L D : FVec Ideal S8x1x16640 .f32) (X8' : FVec Ideal S16640x1024 .bf16) (X2' : FVec Ideal S16640x1024 .bf16)
    (h : Fin 8) (w : Fin 13) (j : Fin 16640) (y : Fin 1280)
    (X7 : FVec Ideal S1x1x65x1x1280 .f32) (L' D' : FVec Ideal S1x1280 .f32) (X8 : FVec Ideal S16640x128 .bf16) (X2 : FVec Ideal S1280x128 .bf16)
    (h7 : ∀ b y, X7 (ix5 0 0 b 0 y) = M (ix5 h w b 0 y)) (hL : ∀ y : Fin 1280, L' (ix2 0 y) = L (ix3 h 0 (qix w y)))
    (hD : ∀ y : Fin 1280, D' (ix2 0 y) = D (ix3 h 0 (qix w y)))
    (h8 : ∀ (j : Fin 16640) (d : Fin 128), X8 (ix2 j d) = X8' (ix2 j (dix h d)))
    (h2 : ∀ (y : Fin 1280) (d : Fin 128), X2 (ix2 y d) = X2' (ix2 (qix w y) (dix h d))) :
    DSf P h w X7 L' D' X8 X2 j y = DSg P M L D X8' X2' h w j y := by
  unfold DSf DSg
  rw [PTf_eq P M L h w j y X7 L' h7 hL, hD]
  simp only [h8, h2]

variable (m : (ℓ : Loc nD τ sig) → Buf (Elt Ideal) ℓ) (c : Dev nD) (t : Fin cfg0.N)

/-- `PTg` over the arrays the region reads. -/
def PTt (h : Fin 8) (w : Fin 13) (j : Fin 16640) (y : Fin 1280) : EReal := PTg (V m c main_v28) (V m c main_v39) (V m c main_v37) h w j y
/-- `DSg` over the arrays the region reads. -/
def DSt (h : Fin 8) (w : Fin 13) (j : Fin 16640) (y : Fin 1280) : EReal := DSg (V m c main_v28) (V m c main_v39) (V m c main_v37) (V m c main_v60) (V m c main_v55) (V m c main_v59) h w j y

/-- The row of logarithms of a point. -/
abbrev Lt : FVec Ideal S1x1280 .f32 := k0_pay78 (View.readAt (Elt Ideal) (ms3 t).view (Rect.unit ![0, 0, 0] S1x1x1280.size inb_S1x1x1280_S1x1x1280_0_0_0).toLoadRect ((hs3 t).unread (iblk m c 3 t)))
/-- The row of corrections of a point. -/
abbrev Dt : FVec Ideal S1x1280 .f32 := k0_pay79 (View.readAt (Elt Ideal) (ms4 t).view (Rect.unit ![0, 0, 0] S1x1x1280.size inb_S1x1x1280_S1x1x1280_0_0_0).toLoadRect ((hs4 t).unread (iblk m c 4 t)))
/-- The queries of a point. -/
abbrev Qt : FVec Ideal S96x1280 .bf16 := k0_pay80 (View.readAt (Elt Ideal) (ms1 t).view (Rect.unit ![0, 0] S96x1280.size inb_S96x1280_S96x1280_0_0).toLoadRect ((hs1 t).unread (iblk m c 1 t)))
/-- The cotangents of a point. -/
abbrev Ot : Vec Ideal S64x1280 .bf16 := View.readAt (Elt Ideal) (ms2 t).view (Rect.unit ![0, 0] S64x1280.size inb_S64x1280_S64x1280_0_0).toLoadRect ((hs2 t).unread (iblk m c 2 t))

theorem coords_hd : (grid0.coords t 0) = hd t := Fin.ext (coords_val t).1
theorem coords_qt : (grid0.coords t 1) = qt t := Fin.ext (coords_val t).2

/-! The same, the arrays any. -/
section Any
variable (P : Buf (Elt Ideal) (pM.view.loc (c : Thread nD τ))) (i : grid0.Coords) (h : Fin 8) (w : Fin 13) (h0 : (i 0 : Fin 8) = h) (h1 : (i 1 : Fin 13) = w)
variable (arg2 : Memref sig .tc .vmem S1280x128 .bf16) (harg2 : arg2.IsWhole) (arg7 : Memref sig .tc .vmem S1x1x65x1x1280 .f32) (harg7 : arg7.IsWhole)
  (arg8 : Memref sig .tc .vmem S16640x128 .bf16) (harg8 : arg8.IsWhole)
variable (L' D' : FVec Ideal S1x1280 .f32) (X7 : FVec Ideal S1x1x65x1x1280 .f32) (X8 : FVec Ideal S16640x128 .bf16) (X2 : FVec Ideal S1280x128 .bf16)
variable (M : FVec Ideal S8x13x65x1x1280 .f32) (L D : FVec Ideal S8x1x16640 .f32) (X8' X2' : FVec Ideal S16640x1024 .bf16)
variable (h7 : ∀ b y, X7 (ix5 0 0 b 0 y) = M (ix5 h w b 0 y)) (hL : ∀ y : Fin 1280, L' (ix2 0 y) = L (ix3 h 0 (qix w y)))
    (hD : ∀ y : Fin 1280, D' (ix2 0 y) = D (ix3 h 0 (qix w y)))
    (h8 : ∀ (j : Fin 16640) (d : Fin 128), X8 (ix2 j d) = X8' (ix2 j (dix h d)))
    (h2 : ∀ (y : Fin 1280) (d : Fin 128), X2 (ix2 y d) = X2' (ix2 (qix w y) (dix h d)))

include h0 h1 h7 hL in
theorem PTw_any (j : Fin 16640) (y : Fin 1280) : PTw c P i arg7 L' (harg7.unread X7) j y = PTg P M L h w j y := by
  unfold PTw
  rw [h0, h1]
  refine PTf_eq _ M L h w j y _ L' (fun b y => ?_) hL
  rw [harg7.read_unread]
  exact h7 b y

include h0 h1 h7 hL hD h8 h2 in
theorem DSw_any (j : Fin 16640) (y : Fin 1280) :
    DSw c P i arg2 arg7 arg8 L' D' (harg2.unread X2) (harg7.unread X7) (harg8.unread X8) j y = DSg P M L D X8' X2' h w j y := by
  unfold DSw
  rw [h0, h1]
  refine DSf_eq _ M L D X8' X2' h w j y _ L' D' _ _ (fun b y => ?_) hL hD (fun j d => ?_) (fun y d => ?_)
  · rw [harg7.read_unread]; exact h7 b y
  · rw [harg8.read_unread]; exact h8 j d
  · rw [harg2.read_unread]; exact h2 y d
end Any

theorem PTw_eq (j : Fin 16640) (y : Fin 1280) :
    PTw c (V m c main_v28) (grid0.coords t) (ms5 t) (Lt m c t) ((hs5 t).unread (iblk m c 5 t)) j y = PTt m c (hd t) (qt t) j y :=
  PTw_any c (V m c main_v28) (grid0.coords t) (hd t) (qt t) (coords_hd t) (coords_qt t) (ms5 t) (hs5 t) (Lt m c t) (iblk m c 5 t) (V m c main_v39) (V m c main_v37)
    (fun b y => blk5 m c t b y) (fun y => (row_read (ms3 t) (hs3 t) _ y).trans (blk3 m c t y)) j y

theorem DSw_eq (j : Fin 16640) (y : Fin 1280) :
    DSw c (V m c main_v28) (grid0.coords t) (ms0 t) (ms5 t) (ms6 t) (Lt m c t) (Dt m c t) ((hs0 t).unread (iblk m c 0 t)) ((hs5 t).unread (iblk m c 5 t)) ((hs6 t).unread (iblk m c 6 t)) j y
      = DSt m c (hd t) (qt t) j y :=
  DSw_any c (V m c main_v28) (grid0.coords t) (hd t) (qt t) (coords_hd t) (coords_qt t) (ms0 t) (hs0 t) (ms5 t) (hs5 t) (ms6 t) (hs6 t) (Lt m c t) (Dt m c t)
    (iblk m c 5 t) (iblk m c 6 t) (iblk m c 0 t) (V m c main_v39) (V m c main_v37) (V m c main_v60) (V m c main_v55) (V m c main_v59)
    (fun b y => blk5 m c t b y) (fun y => (row_read (ms3 t) (hs3 t) _ y).trans (blk3 m c t y)) (fun y => (row_read' (ms4 t) (hs4 t) _ y).trans (blk4 m c t y))
    (fun j d => blk6 m c t j d) (fun y d => blk0 m c t y d) j y

/-! ## The accumulators after a point -/

variable (d12 : S96x16640.Idx → Elt Ideal .f32) (d13 : S64x16640.Idx → Elt Ideal .f32)

/-- The queries' accumulator. -/
theorem tileQ (d : Fin 96) (y : Fin 1280) :
    (show EReal from (Memref.whole cc0_scratch0).view.read (Elt Ideal) (ptEnd m c t d12 d13).1 (ix2 d y : S96x1280.Idx))
      = ∑ j : Fin 16640, (show EReal from V m c main_v47 (ix2 (kix (hd t) d) j : S768x16640.Idx)) * DSt m c (hd t) (qt t) j y := by
  unfold ptEnd accEnd
  refine (accQ_end c (V m c main_v28) (grid0.coords t) (ms0 t) (ms5 t) (ms6 t) (ms7 t) (ms9 t) (ms10 t) (Lt m c t) (Dt m c t) (Qt m c t) (Ot m c t) _ _ _ _ _ d y).trans ?_
  rw [(Memref.isWhole_whole cc0_scratch0).read_unread]
  refine (congrArg (· + _) (pay77_apply d y)).trans ((zero_add _).trans (Finset.sum_congr rfl fun j _ => congrArg₂ (· * ·) ?_ (DSw_eq m c t j y)))
  rw [(hs7 t).read_unread]
  exact blk7 m c t d j

/-- The keys' accumulator. -/
theorem tileK (d : Fin 96) (j : Fin 16640) :
    (show EReal from (ms9 t).view.read (Elt Ideal) (ptEnd m c t d12 d13).2.1 (ix2 d j : S96x16640.Idx))
      = (show EReal from startK (grid0.coords t) d12 (ix2 d j : S96x16640.Idx)) +
        (∑ y : Fin 1280, (show EReal from V m c main_v44 (ix2 (kix (hd t) d) (qix (qt t) y) : S768x16640.Idx)) * DSt m c (hd t) (qt t) j y) * (Named.named κ "ln2" 0x3F317218#32 : Ideal .f32) := by
  unfold ptEnd accEnd
  refine (accK c (V m c main_v28) (grid0.coords t) (ms0 t) (ms5 t) (ms6 t) (ms7 t) (ms9 t) (ms10 t) (Lt m c t) (Dt m c t) (Qt m c t) (Ot m c t) _ _ _ _ _ d j 13 le_rfl).trans ?_
  rw [if_pos (by omega), (hs9 t).read_unread]
  refine congrArg (_ + ·) (congrArg (· * _) (Finset.sum_congr rfl fun y _ => congrArg₂ (· * ·) ?_ (DSw_eq m c t j y)))
  exact (pay80_apply _ d y).trans ((whole_read (ms1 t) (hs1 t) _ _ d y).trans (blk1 m c t d y))

/-- The values' accumulator. -/
theorem tileV (d : Fin 64) (j : Fin 16640) :
    (show EReal from (ms10 t).view.read (Elt Ideal) (ptEnd m c t d12 d13).2.2 (ix2 d j : S64x16640.Idx))
      = (show EReal from startV (grid0.coords t) d13 (ix2 d j : S64x16640.Idx)) +
        ∑ y : Fin 1280, (show EReal from V m c main_v50 (ix2 (vix (hd t) d) (qix (qt t) y) : S512x16640.Idx)) * PTt m c (hd t) (qt t) j y := by
  unfold ptEnd accEnd
  refine (accV c (V m c main_v28) (grid0.coords t) (ms0 t) (ms5 t) (ms6 t) (ms7 t) (ms9 t) (ms10 t) (Lt m c t) (Dt m c t) (Qt m c t) (Ot m c t) _ _ _ _ _ d j 13 le_rfl).trans ?_
  rw [if_pos (by omega), (hs10 t).read_unread]
  refine congrArg (_ + ·) (Finset.sum_congr rfl fun y _ => congrArg₂ (· * ·) ?_ (PTw_eq m c t j y))
  exact (whole_read (ms2 t) (hs2 t) _ _ d y).trans (blk2 m c t d y)

end Cert.Proof.KernelIdeal

end
-- ==== Proof.TileSum.lean ====
/- What the three result arrays hold after the region, over the arrays it reads. -/
module

public import proofs.«01_k».proof.Proof.TileValue
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- A point's head and tile name it. -/
theorem pt_lt (h : Fin 8) (w : Fin 13) : 13 * h.val + w.val < cfg0.N := by
  show 13 * h.val + w.val < 104
  omega
/-- The point of head `h`, tile `w`. -/
abbrev pt (h : Fin 8) (w : Fin 13) : Fin cfg0.N := ⟨13 * h.val + w.val, pt_lt h w⟩

/-- A quantity reset at a head's first point and added to at every other is, at the head's last, the sum over its points. -/
theorem run_sum (f : (n : ℕ) → n < cfg0.N → EReal) (T : Fin 8 → Fin 13 → EReal)
    (h0 : ∀ t : Fin cfg0.N, t.val % 13 = 0 → f t.val t.isLt = T (hd t) (qt t))
    (hs : ∀ t : Fin cfg0.N, ¬ t.val % 13 = 0 → f t.val t.isLt = f (t.val - 1) (Nat.lt_of_le_of_lt (Nat.sub_le _ _) t.isLt) + T (hd t) (qt t))
    (t : Fin cfg0.N) (ht : t.val % 13 = 12) : f t.val t.isLt = ∑ w : Fin 13, T (hd t) w := by
  have hN : ∀ t : Fin cfg0.N, t.val / 13 < 8 := fun t => (hd t).isLt
  have hq : ∀ t : Fin cfg0.N, t.val % 13 < 13 := fun t => (qt t).isLt
  have e := Pipeline.eq_sum_of_reset_step_divmod f 13 (0 : EReal) (fun a b => if h : a < 8 ∧ b < 13 then T ⟨a, h.1⟩ ⟨b, h.2⟩ else 0)
    (fun t ht => by rw [h0 t ht, dif_pos ⟨hN t, hq t⟩, zero_add]) (fun t ht => by rw [hs t ht, dif_pos ⟨hN t, hq t⟩]) t
  rw [e, ht, zero_add, Finset.sum_range]
  refine Finset.sum_congr rfl fun w _ => ?_
  rw [dif_pos ⟨hN t, w.isLt⟩]

/-! ## The keys' and the values' arrays -/

/-- What point (`h`, `w`) adds to the keys' gradient. -/
def addK (h : Fin 8) (d : Fin 96) (j : Fin 16640) (w : Fin 13) : EReal :=
  (∑ y : Fin 1280, (show EReal from V m c main_v44 (ix2 (kix h d) (qix w y) : S768x16640.Idx)) * DSt m c h w j y) * (Named.named κ "ln2" 0x3F317218#32 : Ideal .f32)
/-- What point (`h`, `w`) adds to the values' gradient. -/
def addV (h : Fin 8) (d : Fin 64) (j : Fin 16640) (w : Fin 13) : EReal :=
  ∑ y : Fin 1280, (show EReal from V m c main_v50 (ix2 (vix h d) (qix w y) : S512x16640.Idx)) * PTt m c h w j y

theorem dkv_step (t : Fin cfg0.N) (d : Fin 96) (j : Fin 16640) : (show EReal from (dkv m c t.val t.isLt).1 (ix2 d j : S96x16640.Idx))
    = (show EReal from startK (grid0.coords t) (found m c t).1 (ix2 d j : S96x16640.Idx)) + addK m c (hd t) d j (qt t) := by
  rw [dkv_eq]
  exact tileK m c t _ _ d j
theorem dkv_step' (t : Fin cfg0.N) (d : Fin 64) (j : Fin 16640) : (show EReal from (dkv m c t.val t.isLt).2 (ix2 d j : S64x16640.Idx))
    = (show EReal from startV (grid0.coords t) (found m c t).2 (ix2 d j : S64x16640.Idx)) + addV m c (hd t) d j (qt t) := by
  rw [dkv_eq]
  exact tileV m c t _ _ d j

theorem found_of (t : Fin cfg0.N) (ht : ¬ t.val % 13 = 0) : found m c t = dkv m c (t.val - 1) (Nat.lt_of_le_of_lt (Nat.sub_le _ _) t.isLt) := by
  have h0 : t.val ≠ 0 := fun h => ht (by rw [h])
  unfold found
  rw [dif_neg h0]

theorem dkv_K (t : Fin cfg0.N) (ht : t.val % 13 = 12) (d : Fin 96) (j : Fin 16640) :
    (show EReal from (dkv m c t.val t.isLt).1 (ix2 d j : S96x16640.Idx)) = ∑ w : Fin 13, addK m c (hd t) d j w := by
  refine run_sum (fun n h => (dkv m c n h).1 (ix2 d j : S96x16640.Idx)) (fun h w => addK m c h d j w) (fun t ht => ?_) (fun t ht => ?_) t ht
  · refine (dkv_step m c t d j).trans ?_
    unfold startK
    rw [if_pos ((firstW_iff t).mpr ht)]
    exact (congrArg (· + _) (pay75_apply d j)).trans (zero_add _)
  · refine (dkv_step m c t d j).trans ?_
    unfold startK
    rw [if_neg (fun h => ht ((firstW_iff t).mp h)), found_of m c t ht]
theorem dkv_V (t : Fin cfg0.N) (ht : t.val % 13 = 12) (d : Fin 64) (j : Fin 16640) :
    (show EReal from (dkv m c t.val t.isLt).2 (ix2 d j : S64x16640.Idx)) = ∑ w : Fin 13, addV m c (hd t) d j w := by
  refine run_sum (fun n h => (dkv m c n h).2 (ix2 d j : S64x16640.Idx)) (fun h w => addV m c h d j w) (fun t ht => ?_) (fun t ht => ?_) t ht
  · refine (dkv_step' m c t d j).trans ?_
    unfold startV
    rw [if_pos ((firstW_iff t).mpr ht)]
    exact (congrArg (· + _) (pay76_apply d j)).trans (zero_add _)
  · refine (dkv_step' m c t d j).trans ?_
    unfold startV
    rw [if_neg (fun h => ht ((firstW_iff t).mp h)), found_of m c t ht]

/-- The keys' gradient as an array. -/
def arrK (i : S768x16640.Idx) : EReal := ∑ w : Fin 13, addK m c ⟨(i 0).val / 96, Nat.div_lt_of_lt_mul (i 0).isLt⟩ ⟨(i 0).val % 96, Nat.mod_lt _ (by decide)⟩ (i 1) w
/-- The values' gradient as an array. -/
def arrV (i : S512x16640.Idx) : EReal := ∑ w : Fin 13, addV m c ⟨(i 0).val / 64, Nat.div_lt_of_lt_mul (i 0).isLt⟩ ⟨(i 0).val % 64, Nat.mod_lt _ (by decide)⟩ (i 1) w
/-- The queries' gradient as an array. -/
def arrQ (i : S16640x1024.Idx) : EReal :=
  dqAt m c (pt ⟨(i 1).val / 128, Nat.div_lt_of_lt_mul (i 1).isLt⟩ ⟨(i 0).val / 1280, Nat.div_lt_of_lt_mul (i 0).isLt⟩)
    (ix2 ⟨(i 0).val % 1280, Nat.mod_lt _ (by decide)⟩ ⟨(i 1).val % 128, Nat.mod_lt _ (by decide)⟩ : S1280x128.Idx)

theorem arrK_of (i : S768x16640.Idx) (h : Fin 8) (d : Fin 96) (j : Fin 16640) (h0 : (i 0).val = h.val * 96 + d.val) (h1 : (i 1).val = j.val) :
    arrK m c i = ∑ w : Fin 13, addK m c h d j w := by
  unfold arrK
  rw [show (⟨(i 0).val / 96, Nat.div_lt_of_lt_mul (i 0).isLt⟩ : Fin 8) = h from Fin.ext (by show (i 0).val / 96 = h.val; omega),
    show (⟨(i 0).val % 96, Nat.mod_lt _ (by decide)⟩ : Fin 96) = d from Fin.ext (by show (i 0).val % 96 = d.val; omega)]
  exact Finset.sum_congr rfl fun w _ => congrArg (fun j => addK m c h d j w) (Fin.ext h1)
theorem arrV_of (i : S512x16640.Idx) (h : Fin 8) (d : Fin 64) (j : Fin 16640) (h0 : (i 0).val = h.val * 64 + d.val) (h1 : (i 1).val = j.val) :
    arrV m c i = ∑ w : Fin 13, addV m c h d j w := by
  unfold arrV
  rw [show (⟨(i 0).val / 64, Nat.div_lt_of_lt_mul (i 0).isLt⟩ : Fin 8) = h from Fin.ext (by show (i 0).val / 64 = h.val; omega),
    show (⟨(i 0).val % 64, Nat.mod_lt _ (by decide)⟩ : Fin 64) = d from Fin.ext (by show (i 0).val % 64 = d.val; omega)]
  exact Finset.sum_congr rfl fun w _ => congrArg (fun j => addV m c h d j w) (Fin.ext h1)
theorem arrQ_of (i : S16640x1024.Idx) (t : Fin cfg0.N) (y : Fin 1280) (d : Fin 128) (h0 : (i 0).val = (qt t).val * 1280 + y.val) (h1 : (i 1).val = (hd t).val * 128 + d.val) :
    arrQ m c i = dqAt m c t (ix2 y d : S1280x128.Idx) := by
  unfold arrQ
  rw [show (pt ⟨(i 1).val / 128, Nat.div_lt_of_lt_mul (i 1).isLt⟩ ⟨(i 0).val / 1280, Nat.div_lt_of_lt_mul (i 0).isLt⟩) = t from
      Fin.ext (by show 13 * ((i 1).val / 128) + (i 0).val / 1280 = t.val; have a : (hd t).val = t.val / 13 := rfl; have b : (qt t).val = t.val % 13 := rfl; omega),
    show (⟨(i 0).val % 1280, Nat.mod_lt _ (by decide)⟩ : Fin 1280) = y from Fin.ext (by show (i 0).val % 1280 = y.val; omega),
    show (⟨(i 1).val % 128, Nat.mod_lt _ (by decide)⟩ : Fin 128) = d from Fin.ext (by show (i 1).val % 128 = d.val; omega)]

theorem final9 : (dats m 0 c).arrAt 9 cfg0.N = arrK m c := by
  refine (dats m 0 c).arrAt_eq_of_covers 9 _ (by decide +kernel) fun t hf y => ?_
  have ht := (flush0_9 t).mp hf
  have a0 : (((cfg0.win 9).blk t).view.emb y 0).val = (hd t).val * 96 + (y 0).val := by blk_simp [idx t]
  have a1 : (((cfg0.win 9).blk t).view.emb y 1).val = (y 1).val := by blk_simp [idx t]
  refine Eq.trans ?_ (arrK_of m c _ (hd t) (y 0) (y 1) a0 a1).symm
  refine Eq.trans ?_ (dkv_K m c t ht (y 0) (y 1))
  clear a0 a1
  blk_simp
  rw [after_9]
  exact congrArg (dkv m c t.val t.isLt).1 (eq_ix2 (n0 := 96) (n1 := 16640) y)
theorem final10 : (dats m 0 c).arrAt 10 cfg0.N = arrV m c := by
  refine (dats m 0 c).arrAt_eq_of_covers 10 _ (by decide +kernel) fun t hf y => ?_
  have ht := (flush0_10 t).mp hf
  have a0 : (((cfg0.win 10).blk t).view.emb y 0).val = (hd t).val * 64 + (y 0).val := by blk_simp [idx t]
  have a1 : (((cfg0.win 10).blk t).view.emb y 1).val = (y 1).val := by blk_simp [idx t]
  refine Eq.trans ?_ (arrV_of m c _ (hd t) (y 0) (y 1) a0 a1).symm
  refine Eq.trans ?_ (dkv_V m c t ht (y 0) (y 1))
  clear a0 a1
  blk_simp
  rw [after_10]
  exact congrArg (dkv m c t.val t.isLt).2 (eq_ix2 (n0 := 64) (n1 := 16640) y)
theorem final8 : (dats m 0 c).arrAt 8 cfg0.N = arrQ m c := by
  refine (dats m 0 c).arrAt_eq_of_covers 8 _ (by decide +kernel) fun t hf y => ?_
  have a0 : (((cfg0.win 8).blk t).view.emb y 0).val = (qt t).val * 1280 + (y 0).val := by blk_simp [idx t]
  have a1 : (((cfg0.win 8).blk t).view.emb y 1).val = (hd t).val * 128 + (y 1).val := by blk_simp [idx t]
  refine Eq.trans ?_ (arrQ_of m c _ t (y 0) (y 1) a0 a1).symm
  clear a0 a1
  blk_simp
  rw [after_8]
  exact congrArg (dqAt m c t) (eq_ix2 (n0 := 1280) (n1 := 128) y)

theorem scr_read (f : Buf (Elt Ideal) ((Memref.whole cc0_scratch0).view.loc (c : Thread nD τ))) (d : Fin 96) (y : Fin 1280) :
    View.readAt (Elt Ideal) (Memref.whole cc0_scratch0).view (Rect.unit ![0, 0] S96x1280.size inb_S96x1280_S96x1280_0_0).toLoadRect f (ix2 d y : S96x1280.Idx)
      = (Memref.whole cc0_scratch0).view.read (Elt Ideal) f (ix2 d y : S96x1280.Idx) := by
  have hA := (Memref.isWhole_whole cc0_scratch0).eq_unread (rfl : (Memref.whole cc0_scratch0).view.read (Elt Ideal) f = (Memref.whole cc0_scratch0).view.read (Elt Ideal) f)
  generalize (Memref.whole cc0_scratch0).view.read (Elt Ideal) f = X at hA ⊢
  subst hA
  exact whole_read (Memref.whole cc0_scratch0) (Memref.isWhole_whole cc0_scratch0) X _ d y

/-- The queries' gradient, on the lanes that are kept. -/
theorem arrQ_apply (h : Fin 8) (w : Fin 13) (y : Fin 1280) (d : Fin 96) :
    arrQ m c (ix2 (qix w y) ⟨h.val * 128 + d.val, by omega⟩ : S16640x1024.Idx)
      = ∑ j : Fin 16640, (show EReal from V m c main_v47 (ix2 (kix h d) j : S768x16640.Idx)) * DSt m c h w j y := by
  have e1 : hd (pt h w) = h := Fin.ext (by show (13 * h.val + w.val) / 13 = h.val; omega)
  have e2 : qt (pt h w) = w := Fin.ext (by show (13 * h.val + w.val) % 13 = w.val; omega)
  refine (arrQ_of m c _ (pt h w) y ⟨d.val, by omega⟩ (by rw [e2]; rfl) (by rw [e1]; rfl)).trans ?_
  unfold dqAt
  rw [ptQ_eq]
  refine (pay2_apply _ y ⟨d.val, by omega⟩ d.isLt).trans ?_
  refine Eq.trans ?_ ((tileQ m c (pt h w) (found m c (pt h w)).1 (found m c (pt h w)).2 d y).trans ?_)
  · generalize ptEnd m c (pt h w) (found m c (pt h w)).1 (found m c (pt h w)).2 = A
    exact scr_read c A.1 d y
  · rw [e1, e2]
theorem arrK_apply (h : Fin 8) (d : Fin 96) (j : Fin 16640) : arrK m c (ix2 (kix h d) j : S768x16640.Idx) = ∑ w : Fin 13, addK m c h d j w :=
  arrK_of m c _ h d j rfl rfl
theorem arrV_apply (h : Fin 8) (d : Fin 64) (j : Fin 16640) : arrV m c (ix2 (vix h d) j : S512x16640.Idx) = ∑ w : Fin 13, addV m c h d j w :=
  arrV_of m c _ h d j rfl rfl

end Cert.Proof.KernelIdeal

end
-- ==== Proof.HostOut.lean ====
/- What the host makes of the region's three results: a scaled and cut first one, and the other two cut and turned. -/
module

public import proofs.«01_k».proof.Proof.TileSum
public import proofs.«01_k».proof.Proof.Run
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.SL.Sem

section
variable {F : FTy → Type} [FloatOps F] [Named F]

/-- The scaled, cut and turned gradient of the queries, of the region's first result. -/
def g67 (A : S16640x1024.Idx → Elt F .f32) : S1x8x16400x96.Idx → Elt F .f32 :=
  broadcastInDim S1x8x16400x96 ![1, 2, 3] bcast_S8x16400x96_S1x8x16400x96_1_2_3
    (transpose S8x16400x96 [1, 0, 2]
      (extractStridedSlice S16400x8x96 ![0, 0, 0]
        (shapeCast S16640x8x128
          (mulf A (broadcastInDim S16640x1024 ![] bcast_S_S16640x1024 (constant S_ FTy.f32 0x3DD105EC#32)))
          shapeCasts_S16640x1024_S16640x8x128)
        slices_S16640x8x128_S16400x8x96_0_0_0)
      transposes_S16400x8x96_S8x16400x96_1_0_2)

/-- The cut and turned gradient of the keys, of the region's second result. -/
def g71 (A : S768x16640.Idx → Elt F .f32) : S1x8x16400x96.Idx → Elt F .f32 :=
  broadcastInDim S1x8x16400x96 ![1, 2, 3] bcast_S8x16400x96_S1x8x16400x96_1_2_3
    (transpose S8x16400x96 [0, 2, 1]
      (extractStridedSlice S8x96x16400 ![0, 0, 0]
        (shapeCast S8x96x16640 A shapeCasts_S768x16640_S8x96x16640)
        slices_S8x96x16640_S8x96x16400_0_0_0)
      transposes_S8x96x16400_S8x16400x96_0_2_1)

/-- The cut and turned gradient of the values, of the region's third result. -/
def g75 (A : S512x16640.Idx → Elt F .f32) : S1x8x16400x64.Idx → Elt F .f32 :=
  broadcastInDim S1x8x16400x64 ![1, 2, 3] bcast_S8x16400x64_S1x8x16400x64_1_2_3
    (transpose S8x16400x64 [0, 2, 1]
      (extractStridedSlice S8x64x16400 ![0, 0, 0]
        (shapeCast S8x64x16640 A shapeCasts_S512x16640_S8x64x16640)
        slices_S8x64x16640_S8x64x16400_0_0_0)
      transposes_S8x64x16400_S8x16400x64_0_2_1)

variable (m : (ℓ : Loc nD τ sig) → Buf (Elt F) ℓ) (c : Dev nD)

/-- The host's gradient of the queries, of the region's array. -/
theorem W67 : Pipeline.afterTail₀ cfgs (dats m) 0 (V0 m) [hostOps1] c main_v67 = g67 ((dats m 0 c).arrAt 8 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 8
  generalize Pipeline.withArrays (cfgs 0).spec c (V0 m c) (fun w => (dats m 0 c).arrAt w (cfgs 0).N) = W at h ⊢
  generalize (dats m 0 c).arrAt 8 (cfgs 0).N = A at h ⊢
  subst h
  rfl

/-- The host's gradient of the keys, of the region's array. -/
theorem W71 : Pipeline.afterTail₀ cfgs (dats m) 0 (V0 m) [hostOps1] c main_v71 = g71 ((dats m 0 c).arrAt 9 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 9
  generalize Pipeline.withArrays (cfgs 0).spec c (V0 m c) (fun w => (dats m 0 c).arrAt w (cfgs 0).N) = W at h ⊢
  generalize (dats m 0 c).arrAt 9 (cfgs 0).N = A at h ⊢
  subst h
  rfl

/-- The host's gradient of the values, of the region's array. -/
theorem W75 : Pipeline.afterTail₀ cfgs (dats m) 0 (V0 m) [hostOps1] c main_v75 = g75 ((dats m 0 c).arrAt 10 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 10
  generalize Pipeline.withArrays (cfgs 0).spec c (V0 m c) (fun w => (dats m 0 c).arrAt w (cfgs 0).N) = W at h ⊢
  generalize (dats m 0 c).arrAt 10 (cfgs 0).N = A at h ⊢
  subst h
  rfl
end

/-- An element of the gradient of the queries. -/
theorem g67_apply (A : S16640x1024.Idx → Elt Ideal .f32) (h : Fin 8) (i : Fin 16400) (d : Fin 96) :
    g67 (F := Ideal) A (ix4 0 h i d)
      = (show EReal from A (ix2 (⟨i.val, by omega⟩ : Fin 16640) (⟨h.val * 128 + d.val, by omega⟩ : Fin 1024)))
        * Ideal.ofBits FTy.f32 1037108716#32 := by
  pointwise [g67]

/-- An element of the gradient of the keys. -/
theorem g71_apply (A : S768x16640.Idx → Elt Ideal .f32) (h : Fin 8) (i : Fin 16400) (d : Fin 96) :
    g71 (F := Ideal) A (ix4 0 h i d) = A (ix2 (kix h d) (⟨i.val, by omega⟩ : Fin 16640)) := by
  pointwise [g71]

/-- An element of the gradient of the values. -/
theorem g75_apply (A : S512x16640.Idx → Elt Ideal .f32) (h : Fin 8) (i : Fin 16400) (d : Fin 64) :
    g75 (F := Ideal) A (ix4 0 h i d) = A (ix2 (vix h d) (⟨i.val, by omega⟩ : Fin 16640)) := by
  pointwise [g75]

end Cert.Proof.KernelIdeal

end
-- ==== Proof.RefRun.lean ====
/- The reference's run: its three results as one function per line of the reference, of its four arguments. -/
module

public import proofs.«01_k».proof.Proof.Gen.ReferenceIdeal
public import Idealize.ShloMosaic.PureOps.Ideal
public import Idealize.ShloMosaic.Lib.Claim

@[expose] public section

noncomputable section

namespace Cert.Proof.ReferenceIdeal

open Cert.ReferenceIdeal Cert.ReferenceIdeal.Gen
open Idealize.ShloMosaic Idealize.ShloMosaic.TcCoe Idealize.SL.Sem

section
variable {F : FTy → Type} [FloatOps F]
variable (Q K : FVec F S1x8x16400x96 .f32) (W C : FVec F S1x8x16400x64 .f32)

/-- The scaled scores. -/
def rS : FVec F S1x8x16400x16400 .f32 :=
  mulf (Host.dotGeneral dot_S1x8x16400x96_S1x8x16400x96_S1x8x16400x16400_3_3_2_2_01_01 none Q K)
    (broadcastInDim S1x8x16400x16400 ![] Cert.ReferenceIdeal.Gen.bcast_S_S1x8x16400x16400 (constant S_ FTy.f32 0x3DD105EC#32))

/-- Each row's largest number. -/
def rMax (X : FVec F S1x8x16400x16400 .f32) : FVec F S1x8x16400 .f32 :=
  Host.reduce FloatOps.maximumf X (constant S_ FTy.f32 0xFF800000#32)
    Cert.ReferenceIdeal.Gen.reducesTo_S1x8x16400x16400_S1x8x16400_d3 Cert.ReferenceIdeal.Gen.h_S_

/-- Each row's largest score. -/
def rM : FVec F S1x8x16400 .f32 :=
  maximumf (broadcastInDim S1x8x16400 ![] Cert.ReferenceIdeal.Gen.bcast_S_S1x8x16400 (constant S_ FTy.f32 0xFF800000#32))
    (rMax (rS Q K))

/-- A row's number in a column of its own. -/
def rCol (X : FVec F S1x8x16400 .f32) : FVec F S1x8x16400x1 .f32 :=
  broadcastInDim S1x8x16400x1 ![0, 1, 2] Cert.ReferenceIdeal.Gen.bcast_S1x8x16400_S1x8x16400x1_0_1_2 X

/-- A row's number along the row. -/
def rRow (X : FVec F S1x8x16400x1 .f32) : FVec F S1x8x16400x16400 .f32 :=
  broadcastInDim S1x8x16400x16400 ![0, 1, 2, 3] Cert.ReferenceIdeal.Gen.bcast_S1x8x16400x1_S1x8x16400x16400_0_1_2_3 X

/-- The exponentials of the scores less their row's largest. -/
def rE : FVec F S1x8x16400x16400 .f32 := Host.exp (subf (rS Q K) (rRow (rCol (rM Q K))))

/-- The sum along each row. -/
def rSum (X : FVec F S1x8x16400x16400 .f32) : FVec F S1x8x16400 .f32 :=
  Host.reduceAdd X (constant S_ FTy.f32 0x00000000#32) Cert.ReferenceIdeal.Gen.reducesTo_S1x8x16400x16400_S1x8x16400_d3 Cert.ReferenceIdeal.Gen.h_S_

/-- Each row's sum of exponentials. -/
def rL : FVec F S1x8x16400 .f32 := rSum (rE Q K)

/-- The weights. -/
def rY : FVec F S1x8x16400x16400 .f32 := Host.divf (rE Q K) (rRow (rCol (rL Q K)))

/-- One over the square of each row's sum. -/
def rI : FVec F S1x8x16400x1 .f32 :=
  Host.divf (broadcastInDim S1x8x16400x1 ![] Cert.ReferenceIdeal.Gen.bcast_S_S1x8x16400x1 (constant S_ FTy.f32 0x3F800000#32))
    (mulf (rCol (rL Q K)) (rCol (rL Q K)))

/-- The gradient of the weights. -/
def rP : FVec F S1x8x16400x16400 .f32 :=
  Host.dotGeneral dot_S1x8x16400x64_S1x8x16400x64_S1x8x16400x16400_3_3_2_2_01_01 none C W

/-- The sum that every row's gradient is lessened by. -/
def rT : FVec F S1x8x16400 .f32 := rSum (mulf (mulf (rP W C) (rRow (rI Q K))) (rE Q K))

/-- That sum, negated, in a column of its own. -/
def rN : FVec F S1x8x16400x1 .f32 :=
  Host.negf (shapeCast S1x8x16400x1 (rT Q K W C) Cert.ReferenceIdeal.Gen.shapeCasts_S1x8x16400_S1x8x16400x1)

/-- That sum, negated, along the row. -/
def rB : FVec F S1x8x16400x16400 .f32 :=
  broadcastInDim S1x8x16400x16400 ![0, 1, 2] Cert.ReferenceIdeal.Gen.bcast_S1x8x16400_S1x8x16400x16400_0_1_2
    (broadcastInDim S1x8x16400 ![1, 2] Cert.ReferenceIdeal.Gen.bcast_S8x16400_S1x8x16400_1_2
      (Host.reduceAdd (rN Q K W C) (constant S_ FTy.f32 0x00000000#32) Cert.ReferenceIdeal.Gen.reducesTo_S1x8x16400x1_S8x16400_d0_3 Cert.ReferenceIdeal.Gen.h_S_))

/-- The gradient of the unscaled scores. -/
def rG : FVec F S1x8x16400x16400 .f32 :=
  mulf (mulf (addf (Host.divf (rP W C) (rRow (rCol (rL Q K)))) (rB Q K W C)) (rE Q K))
    (broadcastInDim S1x8x16400x16400 ![] Cert.ReferenceIdeal.Gen.bcast_S_S1x8x16400x16400 (constant S_ FTy.f32 0x3DD105EC#32))

/-- The gradient of the queries. -/
def rDQ : FVec F S1x8x16400x96 .f32 :=
  Host.dotGeneral dot_S1x8x16400x16400_S1x8x16400x96_S1x8x16400x96_3_2_2_3_01_01 none (rG Q K W C) K

/-- The gradient of the keys. -/
def rDK : FVec F S1x8x16400x96 .f32 :=
  Host.dotGeneral dot_S1x8x16400x16400_S1x8x16400x96_S1x8x16400x96_2_2_3_3_01_01 none (rG Q K W C) Q

/-- The gradient of the values. -/
def rDV : FVec F S1x8x16400x64 .f32 :=
  transpose S1x8x16400x64 [0, 1, 3, 2]
    (Host.dotGeneral dot_S1x8x16400x64_S1x8x16400x16400_S1x8x64x16400_2_2_3_3_01_01 none C (rY Q K))
    Cert.ReferenceIdeal.Gen.transposes_S1x8x64x16400_S1x8x16400x64_0_1_3_2
end

set_option maxHeartbeats 1600000 in
/-- The reference leaves the three gradients and its arguments as they were. -/
theorem run (m : (ℓ : Loc nD τ sig) → Buf (Elt Ideal) ℓ) (g : Dev nD → PrngReg) :
    θ_run defs (onTc main) ⟨m, fun _ => 0, g⟩ (fun r => ∀ c : Dev nD,
      r.2.mem (c.tc.loc main_v51) = rDQ (F := Ideal) (m (c.tc.loc main_arg0)) (m (c.tc.loc main_arg1)) (m (c.tc.loc main_arg2)) (m (c.tc.loc main_arg3))
      ∧ r.2.mem (c.tc.loc main_v50) = rDK (F := Ideal) (m (c.tc.loc main_arg0)) (m (c.tc.loc main_arg1)) (m (c.tc.loc main_arg2)) (m (c.tc.loc main_arg3))
      ∧ r.2.mem (c.tc.loc main_v33) = rDV (F := Ideal) (m (c.tc.loc main_arg0)) (m (c.tc.loc main_arg1)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) := by
  hlo_run
  all_goals rfl

end Cert.Proof.ReferenceIdeal

end
-- ==== Proof.HostIn.lean ====
/- The arrays the region reads, as functions of the arguments. -/
module

public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

variable {F : FTy → Type} [FloatOps F] [Named F]

/-! ## The host's lines, one function each -/

section Lines
variable (Q K : FVec F S1x8x16400x96 .f32) (W C : FVec F S1x8x16400x64 .f32)

/-- The padding value. -/
def hZ : FVec F S_ .f32 := sitofp .f32 (constantI S_ 32 0#32)
/-- A query or key array, padded to whole tiles. -/
def hPad96 (X : FVec F S1x8x16400x96 .f32) : FVec F S8x16640x96 .f32 :=
  pad S8x16640x96 ![0, 0, 0] ![0, 240, 0] ![0, 0, 0] (shapeCast S8x16400x96 X shapeCasts_S1x8x16400x96_S8x16400x96) hZ pads_S8x16400x96_S8x16640x96_000_02400_000 h_S_
/-- A value or cotangent array, padded to whole tiles. -/
def hPad64 (X : FVec F S1x8x16400x64 .f32) : FVec F S8x16640x64 .f32 :=
  pad S8x16640x64 ![0, 0, 0] ![0, 240, 0] ![0, 0, 0] (shapeCast S8x16400x64 X shapeCasts_S1x8x16400x64_S8x16400x64) hZ pads_S8x16400x64_S8x16640x64_000_02400_000 h_S_
/-- The scaled queries. -/
def hQs : FVec F S8x16640x96 .f32 := mulf (hPad96 Q) (broadcastInDim S8x16640x96 ![] bcast_S_S8x16640x96 (constant S_ FTy.f32 1037108716#32))
/-- The scores. -/
def hS : FVec F S8x16640x16400 .f32 :=
  Host.dotGeneral dot_S8x16640x96_S8x16400x96_S8x16640x16400_2_2_1_1_0_0 none (hQs Q) (shapeCast S8x16400x96 K shapeCasts_S1x8x16400x96_S8x16400x96)
/-- Each query's largest score. -/
def hM : FVec F S8x16640 .f32 := Host.reduce FloatOps.maximumf (hS Q K) (constant S_ FTy.f32 4286578688#32) reducesTo_S8x16640x16400_S8x16640_d2 h_S_
/-- The exponentials. -/
def hE : FVec F S8x16640x16400 .f32 :=
  Host.exp (subf (hS Q K) (broadcastInDim S8x16640x16400 ![0, 1, 2] bcast_S8x16640x1_S8x16640x16400_0_1_2 (broadcastInDim S8x16640x1 ![0, 1] bcast_S8x16640_S8x16640x1_0_1 (hM Q K))))
/-- Their sums. -/
def hL : FVec F S8x16640 .f32 := Host.reduceAdd (hE Q K) (constant S_ FTy.f32 0#32) reducesTo_S8x16640x16400_S8x16640_d2 h_S_
/-- The forward result. -/
def hO : FVec F S8x16640x64 .f32 :=
  Host.divf (Host.dotGeneral dot_S8x16640x16400_S8x16400x64_S8x16640x64_2_1_1_2_0_0 none (hE Q K) (shapeCast S8x16400x64 W shapeCasts_S1x8x16400x64_S8x16400x64))
    (broadcastInDim S8x16640x64 ![0, 1, 2] bcast_S8x16640x1_S8x16640x64_0_1_2 (broadcastInDim S8x16640x1 ![0, 1] bcast_S8x16640_S8x16640x1_0_1 (hL Q K)))
/-- Its product with the cotangent, summed. -/
def hD : FVec F S8x16640 .f32 := Host.reduceAdd (mulf (hPad64 C) (hO Q K W)) (constant S_ FTy.f32 0#32) reducesTo_S8x16640x64_S8x16640_d2 h_S_
/-- log 2. -/
def hLn : FVec F S_ .f32 := Host.log (constant S_ FTy.f32 1073741824#32)

def h28 : FVec F S8x13x65x256x1280 .bf16 :=
  truncf .bf16 (transpose S8x13x65x256x1280 [0, 1, 3, 4, 2] (shapeCast S8x13x1280x65x256
    (pad S8x16640x16640 ![0, 0, 0] ![0, 0, 240] ![0, 0, 0] (hE Q K) hZ pads_S8x16640x16400_S8x16640x16640_000_000_02400 h_S_) shapeCasts_S8x16640x16640_S8x13x1280x65x256)
    transposes_S8x13x1280x65x256_S8x13x65x256x1280_0_1_3_4_2) bitsLt_bf16_f32
def h32 : FVec F S8x1x16640 .f32 := shapeCast S8x1x16640 (Host.divf (hM Q K) (broadcastInDim S8x16640 ![] bcast_S_S8x16640 hLn)) shapeCasts_S8x16640_S8x1x16640
def h37 : FVec F S8x1x16640 .f32 := addf (h32 Q K) (shapeCast S8x1x16640 (Host.divf (Host.log (hL Q K)) (broadcastInDim S8x16640 ![] bcast_S_S8x16640 hLn)) shapeCasts_S8x16640_S8x1x16640)
def h39 : FVec F S8x13x65x1x1280 .f32 :=
  broadcastInDim S8x13x65x1x1280 ![0, 1, 2, 3, 4] bcast_S8x13x1x1x1280_S8x13x65x1x1280_0_1_2_3_4 (shapeCast S8x13x1x1x1280 (h32 Q K) shapeCasts_S8x1x16640_S8x13x1x1x1280)
def h44 : FVec F S768x16640 .bf16 :=
  truncf .bf16 (shapeCast S768x16640 (transpose S8x96x16640 [0, 2, 1] (Host.divf (hQs Q) (broadcastInDim S8x16640x96 ![] bcast_S_S8x16640x96 hLn)) transposes_S8x16640x96_S8x96x16640_0_2_1)
    shapeCasts_S8x96x16640_S768x16640) bitsLt_bf16_f32
def h47 : FVec F S768x16640 .bf16 :=
  truncf .bf16 (shapeCast S768x16640 (transpose S8x96x16640 [0, 2, 1] (hPad96 K) transposes_S8x16640x96_S8x96x16640_0_2_1) shapeCasts_S8x96x16640_S768x16640) bitsLt_bf16_f32
def h50 : FVec F S512x16640 .bf16 :=
  truncf .bf16 (shapeCast S512x16640 (transpose S8x64x16640 [0, 2, 1] (hPad64 C) transposes_S8x16640x64_S8x64x16640_0_2_1) shapeCasts_S8x64x16640_S512x16640) bitsLt_bf16_f32
/-- A value or cotangent array laid out by position, its lanes padded. -/
def hLane (X : FVec F S1x8x16400x64 .f32) : FVec F S16640x1024 .bf16 :=
  truncf .bf16 (shapeCast S16640x1024 (pad S16640x8x128 ![0, 0, 0] ![0, 0, 64] ![0, 0, 0] (transpose S16640x8x64 [1, 0, 2] (hPad64 X) transposes_S8x16640x64_S16640x8x64_1_0_2) hZ
    pads_S16640x8x64_S16640x8x128_000_000_0640 h_S_) shapeCasts_S16640x8x128_S16640x1024) bitsLt_bf16_f32
def h60 : FVec F S8x1x16640 .f32 := shapeCast S8x1x16640 (hD Q K W C) shapeCasts_S8x16640_S8x1x16640
end Lines

/-! ## What the region finds -/

variable (m : (ℓ : Loc nD τ sig) → Buf (Elt F) ℓ) (c : Dev nD)

abbrev aQ : FVec F S1x8x16400x96 .f32 := m ((c : Thread nD τ).loc main_arg0)
abbrev aK : FVec F S1x8x16400x96 .f32 := m ((c : Thread nD τ).loc main_arg1)
abbrev aW : FVec F S1x8x16400x64 .f32 := m ((c : Thread nD τ).loc main_arg2)
abbrev aC : FVec F S1x8x16400x64 .f32 := m ((c : Thread nD τ).loc main_arg3)

set_option maxHeartbeats 1600000 in
theorem V1 : V m c main_v1 = hPad96 (aQ m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem V3 : V m c main_v3 = hPad96 (aK m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem V5 : V m c main_v5 = hPad64 (aW m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem V7 : V m c main_v7 = hPad64 (aC m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem V10 : V m c main_v10 = shapeCast S8x16400x96 (aK m c) shapeCasts_S1x8x16400x96_S8x16400x96 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem V18 : V m c main_v18 = shapeCast S8x16400x64 (aW m c) shapeCasts_S1x8x16400x64_S8x16400x64 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem V29 : V m c main_v29 = hLn := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem step9 : V m c main_v9 = mulf (V m c main_v1) (broadcastInDim S8x16640x96 ![] bcast_S_S8x16640x96 (constant S_ FTy.f32 1037108716#32)) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V9 : V m c main_v9 = hQs (aQ m c) := by
  rw [step9, V1]
  unfold hQs
  with_reducible rfl
set_option maxHeartbeats 1600000 in
theorem step11 : V m c main_v11 = Host.dotGeneral dot_S8x16640x96_S8x16400x96_S8x16640x16400_2_2_1_1_0_0 none (V m c main_v9) (V m c main_v10) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V11 : V m c main_v11 = hS (aQ m c) (aK m c) := by
  rw [step11, V9, V10]
  unfold hS
  with_reducible rfl
set_option maxHeartbeats 1600000 in
theorem step12 : V m c main_v12 = Host.reduce FloatOps.maximumf (V m c main_v11) (constant S_ FTy.f32 4286578688#32) reducesTo_S8x16640x16400_S8x16640_d2 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V12 : V m c main_v12 = hM (aQ m c) (aK m c) := by
  rw [step12, V11]
  unfold hM
  with_reducible rfl
set_option maxHeartbeats 1600000 in
theorem step16 : V m c main_v16 = Host.exp (subf (V m c main_v11) (broadcastInDim S8x16640x16400 ![0, 1, 2] bcast_S8x16640x1_S8x16640x16400_0_1_2 (broadcastInDim S8x16640x1 ![0, 1] bcast_S8x16640_S8x16640x1_0_1 (V m c main_v12)))) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V16 : V m c main_v16 = hE (aQ m c) (aK m c) := by
  rw [step16, V11, V12]
  unfold hE
  with_reducible rfl
set_option maxHeartbeats 1600000 in
theorem step17 : V m c main_v17 = Host.reduceAdd (V m c main_v16) (constant S_ FTy.f32 0#32) reducesTo_S8x16640x16400_S8x16640_d2 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V17 : V m c main_v17 = hL (aQ m c) (aK m c) := by
  rw [step17, V16]
  unfold hL
  with_reducible rfl
set_option maxHeartbeats 1600000 in
theorem step22 : V m c main_v22 = Host.divf (Host.dotGeneral dot_S8x16640x16400_S8x16400x64_S8x16640x64_2_1_1_2_0_0 none (V m c main_v16) (V m c main_v18)) (broadcastInDim S8x16640x64 ![0, 1, 2] bcast_S8x16640x1_S8x16640x64_0_1_2 (broadcastInDim S8x16640x1 ![0, 1] bcast_S8x16640_S8x16640x1_0_1 (V m c main_v17))) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V22 : V m c main_v22 = hO (aQ m c) (aK m c) (aW m c) := by
  rw [step22, V16, V18, V17]
  unfold hO
  with_reducible rfl
set_option maxHeartbeats 1600000 in
theorem step24 : V m c main_v24 = Host.reduceAdd (mulf (V m c main_v7) (V m c main_v22)) (constant S_ FTy.f32 0#32) reducesTo_S8x16640x64_S8x16640_d2 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V24 : V m c main_v24 = hD (aQ m c) (aK m c) (aW m c) (aC m c) := by
  rw [step24, V7, V22]
  unfold hD
  with_reducible rfl
set_option maxHeartbeats 1600000 in
theorem step28 : V m c main_v28 = truncf .bf16 (transpose S8x13x65x256x1280 [0, 1, 3, 4, 2] (shapeCast S8x13x1280x65x256 (pad S8x16640x16640 ![0, 0, 0] ![0, 0, 240] ![0, 0, 0] (V m c main_v16) hZ pads_S8x16640x16400_S8x16640x16640_000_000_02400 h_S_) shapeCasts_S8x16640x16640_S8x13x1280x65x256) transposes_S8x13x1280x65x256_S8x13x65x256x1280_0_1_3_4_2) bitsLt_bf16_f32 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V28 : V m c main_v28 = h28 (aQ m c) (aK m c) := by
  rw [step28, V16]
  unfold h28
  with_reducible rfl
set_option maxHeartbeats 1600000 in
theorem step32 : V m c main_v32 = shapeCast S8x1x16640 (Host.divf (V m c main_v12) (broadcastInDim S8x16640 ![] bcast_S_S8x16640 (V m c main_v29))) shapeCasts_S8x16640_S8x1x16640 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V32 : V m c main_v32 = h32 (aQ m c) (aK m c) := by
  rw [step32, V12, V29]
  unfold h32
  with_reducible rfl
set_option maxHeartbeats 1600000 in
theorem step37 : V m c main_v37 = addf (V m c main_v32) (shapeCast S8x1x16640 (Host.divf (Host.log (V m c main_v17)) (broadcastInDim S8x16640 ![] bcast_S_S8x16640 (V m c main_v29))) shapeCasts_S8x16640_S8x1x16640) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V37 : V m c main_v37 = h37 (aQ m c) (aK m c) := by
  rw [step37, V32, V17, V29]
  unfold h37
  with_reducible rfl
set_option maxHeartbeats 1600000 in
theorem step39 : V m c main_v39 = broadcastInDim S8x13x65x1x1280 ![0, 1, 2, 3, 4] bcast_S8x13x1x1x1280_S8x13x65x1x1280_0_1_2_3_4 (shapeCast S8x13x1x1x1280 (V m c main_v32) shapeCasts_S8x1x16640_S8x13x1x1x1280) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V39 : V m c main_v39 = h39 (aQ m c) (aK m c) := by
  rw [step39, V32]
  unfold h39
  with_reducible rfl
set_option maxHeartbeats 1600000 in
theorem step44 : V m c main_v44 = truncf .bf16 (shapeCast S768x16640 (transpose S8x96x16640 [0, 2, 1] (Host.divf (V m c main_v9) (broadcastInDim S8x16640x96 ![] bcast_S_S8x16640x96 (V m c main_v29))) transposes_S8x16640x96_S8x96x16640_0_2_1) shapeCasts_S8x96x16640_S768x16640) bitsLt_bf16_f32 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V44 : V m c main_v44 = h44 (aQ m c) := by
  rw [step44, V9, V29]
  unfold h44
  with_reducible rfl
set_option maxHeartbeats 1600000 in
theorem step47 : V m c main_v47 = truncf .bf16 (shapeCast S768x16640 (transpose S8x96x16640 [0, 2, 1] (V m c main_v3) transposes_S8x16640x96_S8x96x16640_0_2_1) shapeCasts_S8x96x16640_S768x16640) bitsLt_bf16_f32 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V47 : V m c main_v47 = h47 (aK m c) := by
  rw [step47, V3]
  unfold h47
  with_reducible rfl
set_option maxHeartbeats 1600000 in
theorem step50 : V m c main_v50 = truncf .bf16 (shapeCast S512x16640 (transpose S8x64x16640 [0, 2, 1] (V m c main_v7) transposes_S8x16640x64_S8x64x16640_0_2_1) shapeCasts_S8x64x16640_S512x16640) bitsLt_bf16_f32 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V50 : V m c main_v50 = h50 (aC m c) := by
  rw [step50, V7]
  unfold h50
  with_reducible rfl
set_option maxHeartbeats 1600000 in
theorem step55 : V m c main_v55 = truncf .bf16 (shapeCast S16640x1024 (pad S16640x8x128 ![0, 0, 0] ![0, 0, 64] ![0, 0, 0] (transpose S16640x8x64 [1, 0, 2] (V m c main_v5) transposes_S8x16640x64_S16640x8x64_1_0_2) hZ pads_S16640x8x64_S16640x8x128_000_000_0640 h_S_) shapeCasts_S16640x8x128_S16640x1024) bitsLt_bf16_f32 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V55 : V m c main_v55 = hLane (aW m c) := by
  rw [step55, V5]
  unfold hLane
  with_reducible rfl
set_option maxHeartbeats 1600000 in
theorem step59 : V m c main_v59 = truncf .bf16 (shapeCast S16640x1024 (pad S16640x8x128 ![0, 0, 0] ![0, 0, 64] ![0, 0, 0] (transpose S16640x8x64 [1, 0, 2] (V m c main_v7) transposes_S8x16640x64_S16640x8x64_1_0_2) hZ pads_S16640x8x64_S16640x8x128_000_000_0640 h_S_) shapeCasts_S16640x8x128_S16640x1024) bitsLt_bf16_f32 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V59 : V m c main_v59 = hLane (aC m c) := by
  rw [step59, V7]
  unfold hLane
  with_reducible rfl
set_option maxHeartbeats 1600000 in
theorem step60 : V m c main_v60 = shapeCast S8x1x16640 (V m c main_v24) shapeCasts_S8x16640_S8x1x16640 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
theorem V60 : V m c main_v60 = h60 (aQ m c) (aK m c) (aW m c) (aC m c) := by
  rw [step60, V24]
  unfold h60
  with_reducible rfl

end Cert.Proof.KernelIdeal

end
-- ==== Proof.HostVal.lean ====
/- The host's lines before the region, element by element. -/
module

public import proofs.«01_k».proof.Proof.HostIn
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-- A row of a padded array. -/
def padRow {n : ℕ} (X : Fin 16400 → Fin n → EReal) (i : Fin 16640) (d : Fin n) : EReal :=
  if h : i.val < 16400 then X ⟨i.val, h⟩ d else 0

variable (Q K X : FVec Ideal S1x8x16400x96 .f32) (W C Z : FVec Ideal S1x8x16400x64 .f32) (h : Fin 8) (i : Fin 16640) (j : Fin 16400)

theorem hPad96_apply (d : Fin 96) : hPad96 (F := Ideal) X (ix3 h i d : S8x16640x96.Idx) = padRow (fun i d => X (ix4 0 h i d)) i d := by
  have hz : (FloatOps.sitofp FTy.f32 0#32 : Ideal .f32) = (0 : EReal) := by
    show ((((0#32 : BitVec 32).toInt : ℤ) : ℝ) : EReal) = 0
    simp
  pointwise [hPad96, hZ, padRow]
  rw [hz]

theorem hPad64_apply (d : Fin 64) : hPad64 (F := Ideal) Z (ix3 h i d : S8x16640x64.Idx) = padRow (fun i d => Z (ix4 0 h i d)) i d := by
  have hz : (FloatOps.sitofp FTy.f32 0#32 : Ideal .f32) = (0 : EReal) := by
    show ((((0#32 : BitVec 32).toInt : ℤ) : ℝ) : EReal) = 0
    simp
  pointwise [hPad64, hZ, padRow]
  rw [hz]

theorem hQs_apply (d : Fin 96) : hQs (F := Ideal) Q (ix3 h i d : S8x16640x96.Idx)
    = (show EReal from hPad96 Q (ix3 h i d)) * Ideal.ofBits FTy.f32 1037108716#32 := by
  pointwise [hQs]

theorem hS_apply : hS (F := Ideal) Q K (ix3 h i j : S8x16640x16400.Idx)
    = ∑ x : Fin 96, (show EReal from hQs Q (ix3 h i x)) * (show EReal from K (ix4 0 h j x)) := by
  pointwise [hS]

theorem hM_apply : hM (F := Ideal) Q K (ix2 h i : S8x16640.Idx)
    = Finset.fold max (Ideal.ofBits FTy.f32 4286578688#32) (fun x : Fin 16400 => (show EReal from hS Q K (ix3 h i x))) Finset.univ := by
  pointwise [hM]

theorem hE_apply : hE (F := Ideal) Q K (ix3 h i j : S8x16640x16400.Idx)
    = Ideal.exp ((show EReal from hS Q K (ix3 h i j)) - (show EReal from hM Q K (ix2 h i))) := by
  pointwise [hE]

theorem hL_apply : hL (F := Ideal) Q K (ix2 h i : S8x16640.Idx) = ∑ x : Fin 16400, (show EReal from hE Q K (ix3 h i x)) := by
  pointwise [hL]

theorem hO_apply (d : Fin 64) : hO (F := Ideal) Q K W (ix3 h i d : S8x16640x64.Idx)
    = Ideal.div (∑ x : Fin 16400, (show EReal from hE Q K (ix3 h i x)) * (show EReal from W (ix4 0 h x d))) (hL Q K (ix2 h i)) := by
  pointwise [hO]

theorem hD_apply : hD (F := Ideal) Q K W C (ix2 h i : S8x16640.Idx)
    = ∑ x : Fin 64, (show EReal from hPad64 C (ix3 h i x)) * (show EReal from hO Q K W (ix3 h i x)) := by
  pointwise [hD]

theorem h28_apply (w : Fin 13) (b : Fin 65) (r : Fin 256) (y : Fin 1280) :
    h28 (F := Ideal) Q K (ix5 h w b r y : S8x13x65x256x1280.Idx)
      = if hj : b.val * 256 + r.val < 16400 then
          hE Q K (ix3 h (⟨w.val * 1280 + y.val, by omega⟩ : Fin 16640) (⟨b.val * 256 + r.val, hj⟩ : Fin 16400)) else (0 : EReal) := by
  have hz : (FloatOps.sitofp FTy.f32 0#32 : Ideal .f32) = (0 : EReal) := by
    show ((((0#32 : BitVec 32).toInt : ℤ) : ℝ) : EReal) = 0
    simp
  pointwise [h28, hZ]
  rw [hz]
  by_cases hj : b.val * 256 + r.val < 16400
  · rw [dif_pos hj, dif_pos ⟨by omega, hj⟩]
  · rw [dif_neg hj, dif_neg fun a => hj a.2]

theorem h37_apply : h37 (F := Ideal) Q K (ix3 h 0 i : S8x1x16640.Idx)
    = Ideal.div (hM Q K (ix2 h i)) (Ideal.log (Ideal.ofBits FTy.f32 1073741824#32))
      + Ideal.div (Ideal.log (hL Q K (ix2 h i))) (Ideal.log (Ideal.ofBits FTy.f32 1073741824#32)) := by
  pointwise [h37, h32, hLn]

theorem h39_apply (w : Fin 13) (b : Fin 65) (y : Fin 1280) : h39 (F := Ideal) Q K (ix5 h w b 0 y : S8x13x65x1x1280.Idx)
    = Ideal.div (hM Q K (ix2 h (⟨w.val * 1280 + y.val, by omega⟩ : Fin 16640))) (Ideal.log (Ideal.ofBits FTy.f32 1073741824#32)) := by
  pointwise [h39, h32, hLn]

theorem h44_apply (d : Fin 96) : h44 (F := Ideal) Q (ix2 (⟨h.val * 96 + d.val, by omega⟩ : Fin 768) i : S768x16640.Idx)
    = Ideal.div (hQs Q (ix3 h i d)) (Ideal.log (Ideal.ofBits FTy.f32 1073741824#32)) := by
  pointwise [h44, hLn]

theorem h47_apply (d : Fin 96) : h47 (F := Ideal) K (ix2 (⟨h.val * 96 + d.val, by omega⟩ : Fin 768) i : S768x16640.Idx)
    = hPad96 K (ix3 h i d) := by
  pointwise [h47]

theorem h50_apply (d : Fin 64) : h50 (F := Ideal) C (ix2 (⟨h.val * 64 + d.val, by omega⟩ : Fin 512) i : S512x16640.Idx)
    = hPad64 C (ix3 h i d) := by
  pointwise [h50]

theorem hLane_apply (d : Fin 128) : hLane (F := Ideal) Z (ix2 i (⟨h.val * 128 + d.val, by omega⟩ : Fin 1024) : S16640x1024.Idx)
    = if hd : d.val < 64 then hPad64 Z (ix3 h i (⟨d.val, hd⟩ : Fin 64)) else (0 : EReal) := by
  have hz : (FloatOps.sitofp FTy.f32 0#32 : Ideal .f32) = (0 : EReal) := by
    show ((((0#32 : BitVec 32).toInt : ℤ) : ℝ) : EReal) = 0
    simp
  pointwise [hLane, hZ]
  rw [hz]

theorem h60_apply : h60 (F := Ideal) Q K W C (ix3 h 0 i : S8x1x16640.Idx) = hD Q K W C (ix2 h i) := by
  pointwise [h60]

end Cert.Proof.KernelIdeal

end
-- ==== Proof.Reals.lean ====
/- The mathematics over the real numbers: attention's weights and their derivative, and its numbers inside the extended reals. -/
module

public import Idealize.ShloMosaic.PureOps.Ideal
public import Idealize.ShloMosaic.Lib.Pointwise

@[expose] public section

noncomputable section

namespace Cert.Proof.Reals

open Idealize.ShloMosaic

/-! ## Real numbers among the extended ones -/

theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A sum of real numbers, each known to be one. -/
theorem sum_eq_coe {n : ℕ} (g : Fin n → EReal) (f : Fin n → ℝ) (hg : ∀ x, g x = ((f x : ℝ) : EReal)) :
    ∑ x, g x = ((∑ x, f x : ℝ) : EReal) := by
  rw [← coe_sum]
  exact Finset.sum_congr rfl fun x _ => hg x

/-- A quotient of real numbers by one that is not zero. -/
theorem div_eq_coe (a b : ℝ) (hb : b ≠ 0) : Ideal.div (a : EReal) (b : EReal) = ((a / b : ℝ) : EReal) := by
  rw [Ideal.div_coe hb, ← EReal.coe_mul, mul_one_div]

/-- The largest of finitely many real numbers is real. -/
theorem fold_max_coe {n : ℕ} (f : Fin (n + 1) → ℝ) :
    ∃ r : ℝ, Finset.fold max (⊥ : EReal) (fun x => ((f x : ℝ) : EReal)) Finset.univ = (r : EReal) := by
  obtain ⟨x, -, hx⟩ := Finset.exists_max_image Finset.univ f ⟨0, Finset.mem_univ _⟩
  refine ⟨f x, ?_⟩
  refine le_antisymm ?_ ?_
  · rw [Finset.fold_max_le]
    exact ⟨bot_le, fun y _ => EReal.coe_le_coe_iff.mpr (hx y (Finset.mem_univ y))⟩
  · rw [Finset.le_fold_max]
    exact Or.inr ⟨x, Finset.mem_univ x, le_rfl⟩

/-- The pattern of minus infinity. -/
theorem bits_bot : Ideal.ofBits FTy.f32 4286578688#32 = (⊥ : EReal) := by
  simp [Ideal.ofBits, Ideal.ieee]

/-- The pattern of two. -/
theorem bits_two : Ideal.ofBits FTy.f32 1073741824#32 = ((2 : ℝ) : EReal) := by
  simp [Ideal.ofBits, Ideal.ieee, -EReal.coe_mul]; norm_num

/-- The pattern of the attention's scale is a real number. -/
theorem bits_scale : ∃ r : ℝ, Ideal.ofBits FTy.f32 1037108716#32 = (r : EReal) := by
  refine ⟨13698540 / 2 ^ 27, ?_⟩
  simp [Ideal.ofBits, Ideal.ieee, -EReal.coe_mul]
  norm_num

/-- The attention's scale. -/
def scale : ℝ := (Ideal.ofBits FTy.f32 1037108716#32 : EReal).toReal

theorem bits_scale_eq : Ideal.ofBits FTy.f32 1037108716#32 = (scale : EReal) := by
  obtain ⟨r, hr⟩ := bits_scale
  unfold scale
  rw [hr, EReal.toReal_coe]

/-- The logarithm of two, as the host computes it. -/
theorem log_two : Ideal.log (Ideal.ofBits FTy.f32 1073741824#32) = ((Real.log 2 : ℝ) : EReal) := by
  rw [bits_two, Ideal.log_coe, if_neg (by norm_num)]

theorem log_two_ne : Real.log 2 ≠ 0 := (Real.log_pos (by norm_num)).ne'

/-! ## One row of attention -/

section Row
variable (a : Fin 96 → ℝ) (k : Fin 16400 → Fin 96 → ℝ) (c : Fin 64 → ℝ) (w : Fin 16400 → Fin 64 → ℝ) (j : Fin 16400)

/-- The scores of a scaled query. -/
def sc : ℝ := ∑ x, a x * k j x
/-- The largest of them. -/
def mx : ℝ := (Finset.fold max (⊥ : EReal) (fun x : Fin 16400 => ((sc a k x : ℝ) : EReal)) Finset.univ).toReal
/-- The exponentials. -/
def ex : ℝ := Real.exp (sc a k j - mx a k)
/-- Their sum. -/
def sm : ℝ := ∑ x, ex a k x
/-- The weights. -/
def wt : ℝ := ex a k j / sm a k
/-- The gradient of a weight. -/
def dp : ℝ := ∑ x, c x * w j x
/-- The cotangent's product with the row's result. -/
def dl : ℝ := ∑ x : Fin 64, c x * ((∑ y, ex a k y * w y x) / sm a k)
/-- The gradient of a score. -/
def ds : ℝ := wt a k j * (dp c w j - dl a k c w)

theorem fold_mx : Finset.fold max (⊥ : EReal) (fun x : Fin 16400 => ((sc a k x : ℝ) : EReal)) Finset.univ = ((mx a k : ℝ) : EReal) := by
  obtain ⟨r, hr⟩ := fold_max_coe (n := 16399) (fun x => sc a k x)
  unfold mx
  rw [hr, EReal.toReal_coe]

theorem sm_pos : 0 < sm a k := Finset.sum_pos (fun x _ => Real.exp_pos _) ⟨0, Finset.mem_univ _⟩

theorem sm_ne : sm a k ≠ 0 := (sm_pos a k).ne'

/-- The sum that the reference lessens a row's gradient by is the cotangent's product with the row's result, over the sum of exponentials. -/
theorem row_sum : ∑ x, dp c w x * (1 / (sm a k * sm a k)) * ex a k x = dl a k c w / sm a k := by
  have hs := sm_ne a k
  unfold dl dp
  rw [Finset.sum_div]
  simp only [Finset.sum_mul, Finset.sum_div, Finset.mul_sum]
  rw [Finset.sum_comm]
  refine Finset.sum_congr rfl fun x _ => Finset.sum_congr rfl fun y _ => ?_
  field_simp

/-- The reference's gradient of a score. -/
theorem grad : (dp c w j / sm a k + -(∑ x, dp c w x * (1 / (sm a k * sm a k)) * ex a k x)) * ex a k j = ds a k c w j := by
  have hs := sm_ne a k
  rw [row_sum]
  unfold ds wt
  field_simp
  ring

/-- The weight from the logarithms in base two that the forward pass saved. -/
theorem wt_exp2 : ex a k j * (2 : ℝ) ^ (mx a k / Real.log 2 - (mx a k / Real.log 2 + Real.log (sm a k) / Real.log 2)) = wt a k j := by
  have h2 := log_two_ne
  rw [show mx a k / Real.log 2 - (mx a k / Real.log 2 + Real.log (sm a k) / Real.log 2) = -(Real.log (sm a k) / Real.log 2) by ring,
    Real.rpow_def_of_pos (by norm_num), show Real.log 2 * -(Real.log (sm a k) / Real.log 2) = -Real.log (sm a k) by field_simp,
    Real.exp_neg, Real.exp_log (sm_pos a k)]
  rfl

end Row

end Cert.Proof.Reals

end
-- ==== Proof.HostReal.lean ====
/- The arrays the region reads, of real arguments: the weights and the gradients of the scores as real numbers. -/
module

public import proofs.«01_k».proof.Proof.HostVal
public import proofs.«01_k».proof.Proof.TileValue
public import proofs.«01_k».proof.Proof.Reals

@[expose] public section

noncomputable section

namespace Cert.Proof.KernelIdeal

open Cert.KernelIdeal Cert.KernelIdeal.Gen
open Idealize.ShloMosaic Idealize.ShloMosaic.TcCoe
open Cert.Proof.Reals

/-- A row of a padded array of real numbers. -/
def padR {n : ℕ} (x : Fin 16400 → Fin n → ℝ) (i : Fin 16640) (d : Fin n) : ℝ := if h : i.val < 16400 then x ⟨i.val, h⟩ d else 0

theorem padRow_real {n : ℕ} (X : Fin 16400 → Fin n → EReal) (x : Fin 16400 → Fin n → ℝ) (hX : ∀ i d, X i d = ((x i d : ℝ) : EReal))
    (i : Fin 16640) (d : Fin n) : padRow X i d = ((padR x i d : ℝ) : EReal) := by
  unfold padRow padR
  by_cases h : i.val < 16400
  · rw [dif_pos h, dif_pos h, hX]
  · rw [dif_neg h, dif_neg h, EReal.coe_zero]

/-- A padded, scaled query. -/
def qpd (q : Fin 8 → Fin 16400 → Fin 96 → ℝ) (h : Fin 8) (i : Fin 16640) : Fin 96 → ℝ := fun d => padR (q h) i d * scale

section Host
variable (Q K : FVec Ideal S1x8x16400x96 .f32) (W C : FVec Ideal S1x8x16400x64 .f32)
variable (q k : Fin 8 → Fin 16400 → Fin 96 → ℝ) (w c : Fin 8 → Fin 16400 → Fin 64 → ℝ)
variable (hQ : ∀ h i d, Q (ix4 0 h i d) = ((q h i d : ℝ) : EReal)) (hK : ∀ h i d, K (ix4 0 h i d) = ((k h i d : ℝ) : EReal))
variable (hW : ∀ h i d, W (ix4 0 h i d) = ((w h i d : ℝ) : EReal)) (hC : ∀ h i d, C (ix4 0 h i d) = ((c h i d : ℝ) : EReal))

include hK in
theorem hPad96_real (h : Fin 8) (i : Fin 16640) (d : Fin 96) : hPad96 (F := Ideal) K (ix3 h i d : S8x16640x96.Idx) = ((padR (k h) i d : ℝ) : EReal) := by
  rw [hPad96_apply]
  exact padRow_real _ _ (hK h) i d

include hC in
theorem hPad64_real (h : Fin 8) (i : Fin 16640) (d : Fin 64) : hPad64 (F := Ideal) C (ix3 h i d : S8x16640x64.Idx) = ((padR (c h) i d : ℝ) : EReal) := by
  rw [hPad64_apply]
  exact padRow_real _ _ (hC h) i d

include hQ in
theorem hQs_real (h : Fin 8) (i : Fin 16640) (d : Fin 96) : hQs (F := Ideal) Q (ix3 h i d : S8x16640x96.Idx) = ((qpd q h i d : ℝ) : EReal) := by
  rw [hQs_apply, hPad96_real Q q hQ, bits_scale_eq]
  exact (EReal.coe_mul _ _).symm

include hQ hK in
theorem hS_real (h : Fin 8) (i : Fin 16640) (j : Fin 16400) : hS (F := Ideal) Q K (ix3 h i j : S8x16640x16400.Idx) = ((sc (qpd q h i) (k h) j : ℝ) : EReal) := by
  rw [hS_apply]
  exact sum_eq_coe _ _ fun x => by rw [hQs_real Q q hQ, hK]; exact (EReal.coe_mul _ _).symm

include hQ hK in
theorem hM_real (h : Fin 8) (i : Fin 16640) : hM (F := Ideal) Q K (ix2 h i : S8x16640.Idx) = ((mx (qpd q h i) (k h) : ℝ) : EReal) := by
  rw [hM_apply, bits_bot, ← fold_mx]
  exact Finset.fold_congr fun x _ => hS_real Q K q k hQ hK h i x

include hQ hK in
theorem hE_real (h : Fin 8) (i : Fin 16640) (j : Fin 16400) : hE (F := Ideal) Q K (ix3 h i j : S8x16640x16400.Idx) = ((ex (qpd q h i) (k h) j : ℝ) : EReal) := by
  rw [hE_apply, hS_real Q K q k hQ hK, hM_real Q K q k hQ hK]
  rfl

include hQ hK in
theorem hL_real (h : Fin 8) (i : Fin 16640) : hL (F := Ideal) Q K (ix2 h i : S8x16640.Idx) = ((sm (qpd q h i) (k h) : ℝ) : EReal) := by
  rw [hL_apply]
  exact sum_eq_coe _ _ fun x => hE_real Q K q k hQ hK h i x

include hQ hK hW in
theorem hO_real (h : Fin 8) (i : Fin 16640) (d : Fin 64) : hO (F := Ideal) Q K W (ix3 h i d : S8x16640x64.Idx)
    = (((∑ x, ex (qpd q h i) (k h) x * w h x d) / sm (qpd q h i) (k h) : ℝ) : EReal) := by
  rw [hO_apply, hL_real Q K q k hQ hK, sum_eq_coe _ (fun x => ex (qpd q h i) (k h) x * w h x d)
    (fun x => by rw [hE_real Q K q k hQ hK, hW]; exact (EReal.coe_mul _ _).symm)]
  exact div_eq_coe _ _ (sm_ne _ _)

include hQ hK hW hC in
theorem hD_real (h : Fin 8) (i : Fin 16640) : hD (F := Ideal) Q K W C (ix2 h i : S8x16640.Idx)
    = ((dl (qpd q h i) (k h) (padR (c h) i) (w h) : ℝ) : EReal) := by
  rw [hD_apply]
  exact sum_eq_coe _ _ fun x => by rw [hPad64_real C c hC, hO_real Q K W q k w hQ hK hW]; exact (EReal.coe_mul _ _).symm

/-- A weight, zero for a padded key. -/
def wtp (h : Fin 8) (i j : Fin 16640) : ℝ := if hj : j.val < 16400 then wt (qpd q h i) (k h) ⟨j.val, hj⟩ else 0

/-- The gradient of a score, zero for a padded key. -/
def dsp (h : Fin 8) (i j : Fin 16640) : ℝ := if hj : j.val < 16400 then ds (qpd q h i) (k h) (padR (c h) i) (w h) ⟨j.val, hj⟩ else 0

include hQ hK in
/-- The weight of a key for a query. -/
theorem PTg_real (h : Fin 8) (v : Fin 13) (j : Fin 16640) (y : Fin 1280) :
    PTg (h28 Q K) (h39 Q K) (h37 Q K) h v j y = ((wtp q k h (qix v y) j : ℝ) : EReal) := by
  have hm := hM_real Q K q k hQ hK h (qix v y)
  have hl := hL_real Q K q k hQ hK h (qix v y)
  have e : j.val / 256 * 256 + j.val % 256 = j.val := Nat.div_add_mod' _ _
  unfold PTg wtp
  rw [h28_apply, h39_apply, h37_apply]
  by_cases hj : j.val < 16400
  · rw [dif_pos (show j.val / 256 * 256 + j.val % 256 < 16400 by omega), dif_pos hj, hm, hl, log_two, Ideal.log_coe,
      if_neg (not_le.mpr (sm_pos _ _)), div_eq_coe _ _ log_two_ne, div_eq_coe _ _ log_two_ne, ← EReal.coe_add, ← EReal.coe_sub,
      Ideal.exp2_coe, ← wt_exp2]
    rw [show (⟨j.val / 256 * 256 + j.val % 256, by omega⟩ : Fin 16400) = ⟨j.val, hj⟩ from Fin.ext e]
    rw [hE_real Q K q k hQ hK]
    exact (EReal.coe_mul _ _).symm
  · rw [dif_neg (show ¬ j.val / 256 * 256 + j.val % 256 < 16400 by omega), dif_neg hj, zero_mul, EReal.coe_zero]

include hW hC in
/-- The product of a value row and a cotangent row over the padded lanes. -/
theorem lanes_real (h : Fin 8) (i : Fin 16640) (j : Fin 16640) (hj : j.val < 16400) :
    (∑ d : Fin 128, (show EReal from hLane (F := Ideal) W (ix2 j (dix h d) : S16640x1024.Idx)) * (show EReal from hLane (F := Ideal) C (ix2 i (dix h d) : S16640x1024.Idx)))
      = ((dp (padR (c h) i) (w h) ⟨j.val, hj⟩ : ℝ) : EReal) := by
  refine (sum_eq_coe _ (fun d => if hd : d.val < 64 then padR (c h) i ⟨d.val, hd⟩ * w h ⟨j.val, hj⟩ ⟨d.val, hd⟩ else 0) fun d => ?_).trans ?_
  · rw [hLane_apply, hLane_apply]
    by_cases hd : d.val < 64
    · rw [dif_pos hd, dif_pos hd, dif_pos hd, hPad64_real W w hW, hPad64_real C c hC, mul_comm, EReal.coe_mul]
      unfold padR
      rw [dif_pos hj]
    · rw [dif_neg hd, dif_neg hd, dif_neg hd, zero_mul, EReal.coe_zero]
  · refine congrArg _ ?_
    unfold dp
    have e := Fin.sum_univ_add (a := 64) (b := 64) (fun d : Fin 128 => if hd : d.val < 64 then padR (c h) i ⟨d.val, hd⟩ * w h ⟨j.val, hj⟩ ⟨d.val, hd⟩ else 0)
    refine e.trans ?_
    refine (congrArg₂ (· + ·) (Finset.sum_congr rfl fun d _ => dif_pos d.isLt)
      (Finset.sum_eq_zero fun d _ => dif_neg ?_)).trans (add_zero _)
    show ¬ 64 + d.val < 64
    omega

include hQ hK hW hC in
/-- The gradient of a score. -/
theorem DSg_real (h : Fin 8) (v : Fin 13) (j : Fin 16640) (y : Fin 1280) :
    DSg (h28 Q K) (h39 Q K) (h37 Q K) (h60 Q K W C) (hLane W) (hLane C) h v j y = ((dsp q k w c h (qix v y) j : ℝ) : EReal) := by
  unfold DSg dsp
  rw [PTg_real Q K q k hQ hK]
  unfold wtp
  by_cases hj : j.val < 16400
  · rw [dif_pos hj, dif_pos hj, h60_apply, hD_real Q K W C q k w c hQ hK hW hC]
    refine (congrArg (fun z : EReal => _ * (z - _)) (lanes_real W C w c hW hC h (qix v y) j hj)).trans ?_
    unfold ds
    rw [EReal.coe_mul, EReal.coe_sub]
  · rw [dif_neg hj, dif_neg hj, EReal.coe_zero, zero_mul]

include hQ in
/-- The queries the region reads. -/
theorem h44_real (h : Fin 8) (d : Fin 96) (i : Fin 16640) : h44 (F := Ideal) Q (ix2 (kix h d) i : S768x16640.Idx)
    = ((qpd q h i d / Real.log 2 : ℝ) : EReal) := by
  rw [h44_apply, hQs_real Q q hQ, log_two]
  exact div_eq_coe _ _ log_two_ne

include hK in
/-- The keys the region reads. -/
theorem h47_real (h : Fin 8) (d : Fin 96) (j : Fin 16640) : h47 (F := Ideal) K (ix2 (kix h d) j : S768x16640.Idx)
    = ((padR (k h) j d : ℝ) : EReal) := by
  rw [h47_apply]
  exact hPad96_real K k hK h j d

include hC in
/-- The cotangents the region reads. -/
theorem h50_real (h : Fin 8) (d : Fin 64) (i : Fin 16640) : h50 (F := Ideal) C (ix2 (vix h d) i : S512x16640.Idx)
    = ((padR (c h) i d : ℝ) : EReal) := by
  rw [h50_apply]
  exact hPad64_real C c hC h i d

end Host

end Cert.Proof.KernelIdeal

end
-- ==== Proof.GradReal.lean ====
/- The region's three results, of real arguments, as real numbers. -/
module

public import proofs.«01_k».proof.Proof.HostReal
public import proofs.«01_k».proof.Proof.HostOut
public import proofs.«01_k».proof.Proof.TileSum

@[expose] public section

noncomputable section

namespace Cert.Proof.KernelIdeal

open Cert.KernelIdeal Cert.KernelIdeal.Gen
open Idealize.ShloMosaic Idealize.ShloMosaic.TcCoe
open Cert.Proof.Reals

/-- A sum over padded rows of numbers that are zero at the padding. -/
theorem sum_pad (f : Fin 16640 → ℝ) (h0 : ∀ i : Fin 16640, 16400 ≤ i.val → f i = 0) :
    ∑ i, f i = ∑ i : Fin 16400, f ⟨i.val, by omega⟩ := by
  have e := Fin.sum_univ_add (a := 16400) (b := 240) f
  refine e.trans ?_
  refine (congrArg₂ (· + ·) rfl (Finset.sum_eq_zero fun d _ => h0 _ ?_)).trans (add_zero _)
  show 16400 ≤ 16400 + d.val
  omega

/-- A padded array read at a row that is not padding. -/
theorem padR_lt {n : ℕ} (x : Fin 16400 → Fin n → ℝ) (i : Fin 16400) : padR x ⟨i.val, by omega⟩ = x i := by
  funext d
  exact dif_pos i.isLt

/-- A padded array read at the padding. -/
theorem padR_ge {n : ℕ} (x : Fin 16400 → Fin n → ℝ) (i : Fin 16640) (hi : 16400 ≤ i.val) (d : Fin n) : padR x i d = 0 :=
  dif_neg (by omega)

section Pad
variable (q k : Fin 8 → Fin 16400 → Fin 96 → ℝ) (w c : Fin 8 → Fin 16400 → Fin 64 → ℝ)

theorem qpd_lt (h : Fin 8) (i : Fin 16400) : qpd q h ⟨i.val, by omega⟩ = fun d => q h i d * scale := by
  unfold qpd
  rw [padR_lt]

theorem wtp_lt (h : Fin 8) (i j : Fin 16400) : wtp q k h ⟨i.val, by omega⟩ ⟨j.val, by omega⟩ = wt (fun d => q h i d * scale) (k h) j := by
  unfold wtp
  rw [dif_pos j.isLt, qpd_lt]

theorem dsp_lt (h : Fin 8) (i j : Fin 16400) :
    dsp q k w c h ⟨i.val, by omega⟩ ⟨j.val, by omega⟩ = ds (fun d => q h i d * scale) (k h) (c h i) (w h) j := by
  unfold dsp
  rw [dif_pos j.isLt, qpd_lt, padR_lt]
end Pad

theorem ln2_eq : (Named.named κ "ln2" 0x3F317218#32 : Ideal .f32) = ((Real.log 2 : ℝ) : EReal) := rfl

section Results
variable (m : (ℓ : Loc nD τ sig) → Buf (Elt Ideal) ℓ) (v : Dev nD)
variable (q k : Fin 8 → Fin 16400 → Fin 96 → ℝ) (w c : Fin 8 → Fin 16400 → Fin 64 → ℝ)
variable (hQ : ∀ h i d, aQ m v (ix4 0 h i d) = ((q h i d : ℝ) : EReal)) (hK : ∀ h i d, aK m v (ix4 0 h i d) = ((k h i d : ℝ) : EReal))
variable (hW : ∀ h i d, aW m v (ix4 0 h i d) = ((w h i d : ℝ) : EReal)) (hC : ∀ h i d, aC m v (ix4 0 h i d) = ((c h i d : ℝ) : EReal))

include hQ hK in
theorem PTt_real (h : Fin 8) (t : Fin 13) (j : Fin 16640) (y : Fin 1280) : PTt m v h t j y = ((wtp q k h (qix t y) j : ℝ) : EReal) := by
  unfold PTt
  rw [V28, V39, V37]
  exact PTg_real _ _ q k hQ hK h t j y

include hQ hK hW hC in
theorem DSt_real (h : Fin 8) (t : Fin 13) (j : Fin 16640) (y : Fin 1280) : DSt m v h t j y = ((dsp q k w c h (qix t y) j : ℝ) : EReal) := by
  unfold DSt
  rw [V28, V39, V37, V60, V55, V59]
  exact DSg_real _ _ _ _ q k w c hQ hK hW hC h t j y

include hQ in
theorem V44_real (h : Fin 8) (d : Fin 96) (i : Fin 16640) :
    (show EReal from V m v main_v44 (ix2 (kix h d) i : S768x16640.Idx)) = ((qpd q h i d / Real.log 2 : ℝ) : EReal) := by
  rw [V44]
  exact h44_real _ q hQ h d i

include hK in
theorem V47_real (h : Fin 8) (d : Fin 96) (i : Fin 16640) :
    (show EReal from V m v main_v47 (ix2 (kix h d) i : S768x16640.Idx)) = ((padR (k h) i d : ℝ) : EReal) := by
  rw [V47]
  exact h47_real _ k hK h d i

include hC in
theorem V50_real (h : Fin 8) (d : Fin 64) (i : Fin 16640) :
    (show EReal from V m v main_v50 (ix2 (vix h d) i : S512x16640.Idx)) = ((padR (c h) i d : ℝ) : EReal) := by
  rw [V50]
  exact h50_real _ c hC h d i

include hQ hK hW hC in
/-- The queries' gradient before its scale. -/
theorem arrQ_real (h : Fin 8) (i : Fin 16400) (d : Fin 96) :
    (show EReal from arrQ m v (ix2 (⟨i.val, by omega⟩ : Fin 16640) (⟨h.val * 128 + d.val, by omega⟩ : Fin 1024)))
      = ((∑ j, k h j d * ds (fun d => q h i d * scale) (k h) (c h i) (w h) j : ℝ) : EReal) := by
  have ei : qix ⟨i.val / 1280, by omega⟩ ⟨i.val % 1280, by omega⟩ = ⟨i.val, by omega⟩ := Fin.ext (Nat.div_add_mod' _ _)
  have e := arrQ_apply m v h ⟨i.val / 1280, by omega⟩ ⟨i.val % 1280, by omega⟩ d
  rw [ei] at e
  refine e.trans ?_
  refine (sum_eq_coe _ (fun j => padR (k h) j d * dsp q k w c h ⟨i.val, by omega⟩ j) fun j => ?_).trans ?_
  · rw [V47_real m v k hK, DSt_real m v q k w c hQ hK hW hC, ei]
    exact (EReal.coe_mul _ _).symm
  · refine congrArg _ ((sum_pad _ fun j hj => ?_).trans (Finset.sum_congr rfl fun j _ => ?_))
    · rw [padR_ge _ _ hj, zero_mul]
    · rw [padR_lt, dsp_lt]

include hQ hK hW hC in
/-- The keys' gradient. -/
theorem arrK_real (h : Fin 8) (j : Fin 16400) (d : Fin 96) :
    (show EReal from arrK m v (ix2 (kix h d) (⟨j.val, by omega⟩ : Fin 16640) : S768x16640.Idx))
      = ((∑ i, (q h i d * scale) * ds (fun d => q h i d * scale) (k h) (c h i) (w h) j : ℝ) : EReal) := by
  refine (arrK_apply m v h d _).trans ?_
  refine (sum_eq_coe _ (fun t => ∑ y, qpd q h (qix t y) d * dsp q k w c h (qix t y) ⟨j.val, by omega⟩) fun t => ?_).trans ?_
  · unfold addK
    rw [ln2_eq, sum_eq_coe _ (fun y => qpd q h (qix t y) d / Real.log 2 * dsp q k w c h (qix t y) ⟨j.val, by omega⟩) fun y => by
      rw [V44_real m v q hQ, DSt_real m v q k w c hQ hK hW hC]; exact (EReal.coe_mul _ _).symm]
    rw [← EReal.coe_mul, Finset.sum_mul]
    refine congrArg _ (Finset.sum_congr rfl fun y _ => ?_)
    have h2 := log_two_ne
    field_simp
  · refine congrArg _ ?_
    refine (Fin.sum_univ_tiles 13 1280 rfl (fun i : Fin 16640 => qpd q h i d * dsp q k w c h i ⟨j.val, by omega⟩)).symm.trans ?_
    refine (sum_pad _ fun i hi => ?_).trans (Finset.sum_congr rfl fun i _ => ?_)
    · unfold qpd
      rw [padR_ge _ _ hi, zero_mul, zero_mul]
    · rw [qpd_lt, dsp_lt]

include hQ hK hC in
/-- The values' gradient. -/
theorem arrV_real (h : Fin 8) (j : Fin 16400) (d : Fin 64) :
    (show EReal from arrV m v (ix2 (vix h d) (⟨j.val, by omega⟩ : Fin 16640) : S512x16640.Idx))
      = ((∑ i, c h i d * wt (fun d => q h i d * scale) (k h) j : ℝ) : EReal) := by
  refine (arrV_apply m v h d _).trans ?_
  refine (sum_eq_coe _ (fun t => ∑ y, padR (c h) (qix t y) d * wtp q k h (qix t y) ⟨j.val, by omega⟩) fun t => ?_).trans ?_
  · unfold addV
    exact sum_eq_coe _ _ fun y => by
      rw [V50_real m v c hC, PTt_real m v q k hQ hK]; exact (EReal.coe_mul _ _).symm
  · refine congrArg _ ?_
    refine (Fin.sum_univ_tiles 13 1280 rfl (fun i : Fin 16640 => padR (c h) i d * wtp q k h i ⟨j.val, by omega⟩)).symm.trans ?_
    refine (sum_pad _ fun i hi => ?_).trans (Finset.sum_congr rfl fun i _ => ?_)
    · rw [padR_ge _ _ hi, zero_mul]
    · rw [padR_lt, wtp_lt]

end Results

end Cert.Proof.KernelIdeal

end
-- ==== Proof.RefVal.lean ====
/- The reference's lines, element by element. -/
module

public import proofs.«01_k».proof.Proof.RefRun
public import Idealize.ShloMosaic.Lib.Pointwise

@[expose] public section

set_option maxRecDepth 16384

noncomputable section

namespace Cert.Proof.ReferenceIdeal

open Cert.ReferenceIdeal Cert.ReferenceIdeal.Gen
open Idealize.ShloMosaic Idealize.ShloMosaic.TcCoe

variable (Q K : FVec Ideal S1x8x16400x96 .f32) (W C : FVec Ideal S1x8x16400x64 .f32)

theorem rS_apply (h : Fin 8) (i j : Fin 16400) :
    rS Q K (ix4 0 h i j)
      = (∑ x : Fin 96, (show EReal from Q (ix4 0 h i x)) * (show EReal from K (ix4 0 h j x))) * Ideal.ofBits FTy.f32 1037108716#32 := by
  pointwise [rS]

theorem rMax_apply (X : FVec Ideal S1x8x16400x16400 .f32) (h : Fin 8) (i : Fin 16400) :
    rMax (F := Ideal) X (ix3 0 h i)
      = Finset.fold max (Ideal.ofBits FTy.f32 4286578688#32) (fun x : Fin 16400 => (show EReal from X (ix4 0 h i x))) Finset.univ := by
  pointwise [rMax]

/-- A row's largest score, over any floats. -/
theorem rM_word {F : FTy → Type} [FloatOps F] (Q K : FVec F S1x8x16400x96 .f32) (j : S1x8x16400.Idx) :
    rM Q K j = FloatOps.maximumf (FloatOps.ofBits FTy.f32 4286578688#32) (rMax (rS Q K) j) := rfl

theorem rM_apply (h : Fin 8) (i : Fin 16400) :
    rM Q K (ix3 0 h i) = max (Ideal.ofBits FTy.f32 4286578688#32) (show EReal from rMax (rS Q K) (ix3 0 h i)) := by
  rw [rM_word, Ideal.maximumf_eq_max, Ideal.ofBits_def]

theorem rE_apply (h : Fin 8) (i j : Fin 16400) :
    rE Q K (ix4 0 h i j) = Ideal.exp ((show EReal from rS Q K (ix4 0 h i j)) - (show EReal from rM Q K (ix3 0 h i))) := by
  pointwise [rE, rRow, rCol]

theorem rL_apply (h : Fin 8) (i : Fin 16400) :
    rL Q K (ix3 0 h i) = ∑ x : Fin 16400, (show EReal from rE Q K (ix4 0 h i x)) := by
  pointwise [rL, rSum]

theorem rY_apply (h : Fin 8) (i j : Fin 16400) :
    rY Q K (ix4 0 h i j) = Ideal.div (rE Q K (ix4 0 h i j)) (rL Q K (ix3 0 h i)) := by
  pointwise [rY, rRow, rCol]

theorem rI_apply (h : Fin 8) (i : Fin 16400) :
    rI Q K (ix4 0 h i 0)
      = Ideal.div (1 : EReal) ((show EReal from rL Q K (ix3 0 h i)) * (show EReal from rL Q K (ix3 0 h i))) := by
  pointwise [rI, rCol]

theorem rP_apply (h : Fin 8) (i j : Fin 16400) :
    rP W C (ix4 0 h i j) = ∑ x : Fin 64, (show EReal from C (ix4 0 h i x)) * (show EReal from W (ix4 0 h j x)) := by
  pointwise [rP]

theorem rT_apply (h : Fin 8) (i : Fin 16400) :
    rT Q K W C (ix3 0 h i) = ∑ x : Fin 16400, (show EReal from rP W C (ix4 0 h i x)) * (show EReal from rI Q K (ix4 0 h i 0))
        * (show EReal from rE Q K (ix4 0 h i x)) := by
  pointwise [rT, rSum, rRow]

theorem rN_apply (h : Fin 8) (i : Fin 16400) :
    rN Q K W C (ix4 0 h i 0) = -(show EReal from rT Q K W C (ix3 0 h i)) := by
  pointwise [rN]

/-- A sum over two dimensions of one element each is that element. -/
theorem sum_one {n m : ℕ} (hr : (⟨4, ![1, n, m, 1]⟩ : Shape).ReducesTo [0, 3] ⟨2, ![n, m]⟩)
    (X : (⟨4, ![1, n, m, 1]⟩ : Shape).Idx → EReal) (h : Fin n) (i : Fin m) :
    Ideal.hostReduceAdd hr X 0 (ix2 h i) = X (ix4 0 h i 0) := by
  unfold Ideal.hostReduceAdd
  rw [zero_add]
  rw [Finset.sum_filter_eq_sum_of_fiber _ (fun _ : Fin 1 => (ix4 0 h i 0 : (⟨4, ![1, n, m, 1]⟩ : Shape).Idx)) (fun a b _ => Subsingleton.elim a b)
    (fun x => ?_) X]
  · exact Fin.sum_univ_one _
  · constructor
    · intro e
      refine ⟨0, ?_⟩
      funext a
      apply Fin.ext
      match a with
      | ⟨0, _⟩ => exact (Nat.lt_one_iff.mp (x 0).isLt).symm
      | ⟨1, _⟩ => exact (congrArg Fin.val (congrFun e 0)).symm
      | ⟨2, _⟩ => exact (congrArg Fin.val (congrFun e 1)).symm
      | ⟨3, _⟩ => exact (Nat.lt_one_iff.mp (x 3).isLt).symm
    · rintro ⟨k, rfl⟩
      funext b
      apply Fin.ext
      match b with
      | ⟨0, _⟩ => rfl
      | ⟨1, _⟩ => rfl

theorem rB_apply (h : Fin 8) (i j : Fin 16400) : rB Q K W C (ix4 0 h i j) = rN Q K W C (ix4 0 h i 0) := by
  refine Eq.trans ?_ (sum_one Cert.ReferenceIdeal.Gen.reducesTo_S1x8x16400x1_S8x16400_d0_3 (rN Q K W C) h i)
  pointwise [rB]

theorem rG_apply (h : Fin 8) (i j : Fin 16400) :
    rG Q K W C (ix4 0 h i j)
      = (Ideal.div (rP W C (ix4 0 h i j)) (rL Q K (ix3 0 h i)) + (show EReal from rB Q K W C (ix4 0 h i j)))
        * (show EReal from rE Q K (ix4 0 h i j)) * Ideal.ofBits FTy.f32 1037108716#32 := by
  pointwise [rG, rRow, rCol]

theorem rDQ_apply (h : Fin 8) (i : Fin 16400) (d : Fin 96) :
    rDQ Q K W C (ix4 0 h i d)
      = ∑ x : Fin 16400, (show EReal from rG Q K W C (ix4 0 h i x)) * (show EReal from K (ix4 0 h x d)) := by
  pointwise [rDQ]

theorem rDK_apply (h : Fin 8) (i : Fin 16400) (d : Fin 96) :
    rDK Q K W C (ix4 0 h i d)
      = ∑ x : Fin 16400, (show EReal from rG Q K W C (ix4 0 h x i)) * (show EReal from Q (ix4 0 h x d)) := by
  pointwise [rDK]

theorem rDV_apply (h : Fin 8) (i : Fin 16400) (d : Fin 64) :
    rDV Q K C (ix4 0 h i d)
      = ∑ x : Fin 16400, (show EReal from C (ix4 0 h x d)) * (show EReal from rY Q K (ix4 0 h x i)) := by
  pointwise [rDV]

end Cert.Proof.ReferenceIdeal

end
-- ==== Proof.RefReal.lean ====
/- The reference's three gradients of real arguments, as real numbers. -/
module

public import proofs.«01_k».proof.Proof.RefVal
public import proofs.«01_k».proof.Proof.Reals

@[expose] public section

noncomputable section

namespace Cert.Proof.ReferenceIdeal

open Cert.ReferenceIdeal Cert.ReferenceIdeal.Gen
open Idealize.ShloMosaic Idealize.ShloMosaic.TcCoe
open Cert.Proof.Reals

variable (Q K : FVec Ideal S1x8x16400x96 .f32) (W C : FVec Ideal S1x8x16400x64 .f32)
variable (q k : Fin 8 → Fin 16400 → Fin 96 → ℝ) (w c : Fin 8 → Fin 16400 → Fin 64 → ℝ)
variable (hQ : ∀ h i d, Q (ix4 0 h i d) = ((q h i d : ℝ) : EReal)) (hK : ∀ h i d, K (ix4 0 h i d) = ((k h i d : ℝ) : EReal))
variable (hW : ∀ h i d, W (ix4 0 h i d) = ((w h i d : ℝ) : EReal)) (hC : ∀ h i d, C (ix4 0 h i d) = ((c h i d : ℝ) : EReal))

/-- A scaled query. -/
def qsc (h : Fin 8) (i : Fin 16400) : Fin 96 → ℝ := fun d => q h i d * scale

include hQ hK in
theorem rS_real (h : Fin 8) (i j : Fin 16400) : rS Q K (ix4 0 h i j) = ((sc (qsc q h i) (k h) j : ℝ) : EReal) := by
  rw [rS_apply, bits_scale_eq, sum_eq_coe _ (fun x => q h i x * k h j x) (fun x => by rw [hQ, hK]; exact (EReal.coe_mul _ _).symm),
    ← EReal.coe_mul]
  congr 1
  unfold sc qsc
  rw [Finset.sum_mul]
  exact Finset.sum_congr rfl fun x _ => by ring

include hQ hK in
theorem rM_real (h : Fin 8) (i : Fin 16400) : rM Q K (ix3 0 h i) = ((mx (qsc q h i) (k h) : ℝ) : EReal) := by
  rw [rM_apply, rMax_apply, bits_bot, max_eq_right bot_le, ← fold_mx]
  exact Finset.fold_congr fun x _ => rS_real Q K q k hQ hK h i x

include hQ hK in
theorem rE_real (h : Fin 8) (i j : Fin 16400) : rE Q K (ix4 0 h i j) = ((ex (qsc q h i) (k h) j : ℝ) : EReal) := by
  rw [rE_apply, rS_real Q K q k hQ hK, rM_real Q K q k hQ hK]
  rfl

include hQ hK in
theorem rL_real (h : Fin 8) (i : Fin 16400) : rL Q K (ix3 0 h i) = ((sm (qsc q h i) (k h) : ℝ) : EReal) := by
  rw [rL_apply]
  exact sum_eq_coe _ _ fun x => rE_real Q K q k hQ hK h i x

include hQ hK in
theorem rY_real (h : Fin 8) (i j : Fin 16400) : rY Q K (ix4 0 h i j) = ((wt (qsc q h i) (k h) j : ℝ) : EReal) := by
  rw [rY_apply, rE_real Q K q k hQ hK, rL_real Q K q k hQ hK]
  exact div_eq_coe _ _ (sm_ne _ _)

include hQ hK in
theorem rI_real (h : Fin 8) (i : Fin 16400) :
    rI Q K (ix4 0 h i 0) = ((1 / (sm (qsc q h i) (k h) * sm (qsc q h i) (k h)) : ℝ) : EReal) := by
  rw [rI_apply, rL_real Q K q k hQ hK]
  have e := div_eq_coe 1 (sm (qsc q h i) (k h) * sm (qsc q h i) (k h)) (mul_ne_zero (sm_ne _ _) (sm_ne _ _))
  rw [EReal.coe_mul, EReal.coe_one] at e
  exact e

include hW hC in
theorem rP_real (h : Fin 8) (i j : Fin 16400) : rP W C (ix4 0 h i j) = ((dp (c h i) (w h) j : ℝ) : EReal) := by
  rw [rP_apply]
  exact sum_eq_coe _ _ fun x => by rw [hW, hC]; exact (EReal.coe_mul _ _).symm

include hQ hK hW hC in
theorem rN_real (h : Fin 8) (i : Fin 16400) : rN Q K W C (ix4 0 h i 0)
    = ((-(∑ x, dp (c h i) (w h) x * (1 / (sm (qsc q h i) (k h) * sm (qsc q h i) (k h))) * ex (qsc q h i) (k h) x) : ℝ) : EReal) := by
  rw [rN_apply, rT_apply, EReal.coe_neg]
  refine congrArg Neg.neg (sum_eq_coe _ _ fun x => ?_)
  rw [rP_real W C w c hW hC, rI_real Q K q k hQ hK, rE_real Q K q k hQ hK, EReal.coe_mul, EReal.coe_mul]

include hQ hK hW hC in
theorem rG_real (h : Fin 8) (i j : Fin 16400) : rG Q K W C (ix4 0 h i j)
    = ((ds (qsc q h i) (k h) (c h i) (w h) j * scale : ℝ) : EReal) := by
  rw [rG_apply, rB_apply, rN_real Q K W C q k w c hQ hK hW hC, rP_real W C w c hW hC, rL_real Q K q k hQ hK, rE_real Q K q k hQ hK,
    bits_scale_eq, div_eq_coe _ _ (sm_ne _ _), ← grad]
  rw [EReal.coe_mul, EReal.coe_mul, EReal.coe_add]

include hQ hK hW hC in
/-- The gradient of the queries. -/
theorem rDQ_real (h : Fin 8) (i : Fin 16400) (d : Fin 96) : rDQ Q K W C (ix4 0 h i d)
    = ((∑ j, ds (qsc q h i) (k h) (c h i) (w h) j * scale * k h j d : ℝ) : EReal) := by
  rw [rDQ_apply]
  exact sum_eq_coe _ _ fun x => by rw [rG_real Q K W C q k w c hQ hK hW hC, hK]; exact (EReal.coe_mul _ _).symm

include hQ hK hW hC in
/-- The gradient of the keys. -/
theorem rDK_real (h : Fin 8) (j : Fin 16400) (d : Fin 96) : rDK Q K W C (ix4 0 h j d)
    = ((∑ i, ds (qsc q h i) (k h) (c h i) (w h) j * scale * q h i d : ℝ) : EReal) := by
  rw [rDK_apply]
  exact sum_eq_coe _ _ fun x => by rw [rG_real Q K W C q k w c hQ hK hW hC, hQ]; exact (EReal.coe_mul _ _).symm

include hQ hK hC in
/-- The gradient of the values. -/
theorem rDV_real (h : Fin 8) (j : Fin 16400) (d : Fin 64) : rDV Q K C (ix4 0 h j d)
    = ((∑ i, c h i d * wt (qsc q h i) (k h) j : ℝ) : EReal) := by
  rw [rDV_apply]
  exact sum_eq_coe _ _ fun x => by rw [rY_real Q K q k hQ hK, hC]; exact (EReal.coe_mul _ _).symm

end Cert.Proof.ReferenceIdeal

end
-- ==== Proof.Finite.lean ====
/- What the precondition says: every number of the four arguments is real. -/
module

public import proofs.«01_k».proof.Defs
public import Idealize.ShloMosaic.Lib.ReduceAll
public import Idealize.ShloMosaic.Lib.Pointwise

@[expose] public section

noncomputable section

namespace Cert.Proof.Finite

open Cert.Pre_finite
open Idealize.ShloMosaic

/-- The side conditions of the precondition. -/
theorem facts : Cert.Pre_finite.Facts where
  bcast_S_S1x8x16400x96 := by decide
  reducesTo_S1x8x16400x96_S_d0_1_2_3 := by decide
  h_S_ := by decide
  bcast_S_S1x8x16400x64 := by decide
  reducesTo_S1x8x16400x64_S_d0_1_2_3 := by decide

/-- A number whose size is less than the pattern of infinity is real. -/
theorem real_of_lt (x : Ideal .f32) (h : FloatOps.cmpf (F := Ideal) .olt (FloatOps.hostAbsf x) (FloatOps.ofBits .f32 0x7F800000#32) = 1#1) :
    ∃ r : ℝ, x = ((r : ℝ) : EReal) := by
  have h' : Ideal.cmp .olt (max x (-x) : EReal) (Ideal.ofBits .f32 0x7F800000#32) = 1#1 := h
  have ht : Ideal.ofBits .f32 0x7F800000#32 = (⊤ : EReal) := by simp [Ideal.ofBits, Ideal.ieee]
  rw [ht] at h'
  have hlt : max (x : EReal) (-x) < ⊤ := by
    by_contra hn
    simp [Ideal.cmp, hn] at h'
  obtain ⟨h1, h2⟩ := max_lt_iff.mp hlt
  induction x using EReal.rec with
  | bot => exact absurd h2 (by simp)
  | top => exact absurd h1 (by simp)
  | coe r => exact ⟨r, rfl⟩

/-- An array whose sizes are all less than infinity is real. -/
theorem all_real {s : Shape} [Cert.Pre_finite.Facts] (X : FVec Ideal s .f32) (hb : S_.BroadcastsInDim s (![] : Fin 0 → Fin s.rank)) {axes} (hr : s.ReducesTo axes S_)
    (hu : 0 < S_.numel) (j : S_.Idx)
    (e : Host.reduce IntOp.andi (cmpf .olt (Host.absf X) (broadcastInDim s ![] hb (constant S_ .f32 0x7F800000#32))) (constantI S_ 1 1#1) hr hu j = 1#1) :
    ∀ i, ∃ r : ℝ, X i = ((r : ℝ) : EReal) := by
  haveI : Subsingleton S_.Idx := ⟨fun a b => funext fun d => d.elim0⟩
  intro i
  exact real_of_lt _ (Host.reduce_andi_all _ _ _ _ j e i)

variable [Cert.Pre_finite.Facts]

theorem args_real (Q K : FVec Ideal S1x8x16400x96 .f32) (W C : FVec Ideal S1x8x16400x64 .f32) (h : Cert.Pre_finite.fn (F := Ideal) Q K W C = fun _ => 1#1) :
    (∀ i, ∃ r : ℝ, Q i = ((r : ℝ) : EReal)) ∧ (∀ i, ∃ r : ℝ, K i = ((r : ℝ) : EReal))
      ∧ (∀ i, ∃ r : ℝ, W i = ((r : ℝ) : EReal)) ∧ (∀ i, ∃ r : ℝ, C i = ((r : ℝ) : EReal)) := by
  have h0 := congrFun h (fun d => d.elim0)
  unfold Cert.Pre_finite.fn Cert.Pre_finite.fn_part1 at h0
  dsimp only at h0
  obtain ⟨h1, hC⟩ := IntOp.andi_eq_one.1 h0
  obtain ⟨h2, hW⟩ := IntOp.andi_eq_one.1 h1
  obtain ⟨hQ, hK⟩ := IntOp.andi_eq_one.1 h2
  exact ⟨all_real Q _ _ _ _ hQ, all_real K _ _ _ _ hK, all_real W _ _ _ _ hW, all_real C _ _ _ _ hC⟩

end Cert.Proof.Finite

end
-- ==== Proof.Match.lean ====
/- The kernel's three results are the reference's, of finite arguments. -/
module

public import proofs.«01_k».proof.Proof.GradReal
public import proofs.«01_k».proof.Proof.RefReal
public import proofs.«01_k».proof.Proof.Finite

@[expose] public section

noncomputable section

namespace Cert.Proof.Match

open Cert.KernelIdeal Cert.KernelIdeal.Gen Cert.Proof.KernelIdeal
open Idealize.ShloMosaic Idealize.ShloMosaic.TcCoe
open Cert.Proof.Reals

/-- An index into a batch of one. -/
theorem ix_split {n m l : ℕ} (x : (⟨4, ![1, n, m, l]⟩ : Shape).Idx) : x = ix4 0 (x 1) (x 2) (x 3) := by
  funext a
  match a with
  | ⟨0, _⟩ => exact Fin.ext (Nat.lt_one_iff.mp (x 0).isLt)
  | ⟨1, _⟩ => rfl
  | ⟨2, _⟩ => rfl
  | ⟨3, _⟩ => rfl

section Results
variable (m : (ℓ : Loc nD τ sig) → Buf (Elt Ideal) ℓ) (v : Dev nD)
variable (q k : Fin 8 → Fin 16400 → Fin 96 → ℝ) (w c : Fin 8 → Fin 16400 → Fin 64 → ℝ)
variable (hQ : ∀ h i d, aQ m v (ix4 0 h i d) = ((q h i d : ℝ) : EReal)) (hK : ∀ h i d, aK m v (ix4 0 h i d) = ((k h i d : ℝ) : EReal))
variable (hW : ∀ h i d, aW m v (ix4 0 h i d) = ((w h i d : ℝ) : EReal)) (hC : ∀ h i d, aC m v (ix4 0 h i d) = ((c h i d : ℝ) : EReal))

include hQ hK hW hC in
theorem atQ (h : Fin 8) (i : Fin 16400) (d : Fin 96) :
    g67 (F := Ideal) (arrQ m v) (ix4 0 h i d) = Cert.Proof.ReferenceIdeal.rDQ (F := Ideal) (aQ m v) (aK m v) (aW m v) (aC m v) (ix4 0 h i d) := by
  refine Eq.trans ?_ (Cert.Proof.ReferenceIdeal.rDQ_real (aQ m v) (aK m v) (aW m v) (aC m v) q k w c hQ hK hW hC h i d).symm
  refine (g67_apply (arrQ m v) h i d).trans ?_
  rw [arrQ_real m v q k w c hQ hK hW hC, bits_scale_eq, ← EReal.coe_mul, Finset.sum_mul]
  refine congrArg _ (Finset.sum_congr rfl fun j _ => ?_)
  show k h j d * ds (fun d => q h i d * scale) (k h) (c h i) (w h) j * scale = ds (fun d => q h i d * scale) (k h) (c h i) (w h) j * scale * k h j d
  ring

include hQ hK hW hC in
theorem atK (h : Fin 8) (j : Fin 16400) (d : Fin 96) :
    g71 (F := Ideal) (arrK m v) (ix4 0 h j d) = Cert.Proof.ReferenceIdeal.rDK (F := Ideal) (aQ m v) (aK m v) (aW m v) (aC m v) (ix4 0 h j d) := by
  refine Eq.trans ?_ (Cert.Proof.ReferenceIdeal.rDK_real (aQ m v) (aK m v) (aW m v) (aC m v) q k w c hQ hK hW hC h j d).symm
  refine (g71_apply (arrK m v) h j d).trans ?_
  refine (arrK_real m v q k w c hQ hK hW hC h j d).trans ?_
  refine congrArg _ (Finset.sum_congr rfl fun i _ => ?_)
  show q h i d * scale * ds (fun d => q h i d * scale) (k h) (c h i) (w h) j = ds (fun d => q h i d * scale) (k h) (c h i) (w h) j * scale * q h i d
  ring

include hQ hK hC in
theorem atV (h : Fin 8) (j : Fin 16400) (d : Fin 64) :
    g75 (F := Ideal) (arrV m v) (ix4 0 h j d) = Cert.Proof.ReferenceIdeal.rDV (F := Ideal) (aQ m v) (aK m v) (aC m v) (ix4 0 h j d) := by
  refine Eq.trans ?_ (Cert.Proof.ReferenceIdeal.rDV_real (aQ m v) (aK m v) (aC m v) q k c hQ hK hC h j d).symm
  refine (g75_apply (arrV m v) h j d).trans ?_
  exact arrV_real m v q k c hQ hK hC h j d

end Results

variable [Cert.Pre_finite.Facts]

/-- The three results, of finite arguments. -/
theorem results (m : (ℓ : Loc nD τ sig) → Buf (Elt Ideal) ℓ) (v : Dev nD)
    (hpre : Cert.Pre_finite.fn (F := Ideal) (aQ m v) (aK m v) (aW m v) (aC m v) = fun _ => 1#1) :
    g67 (F := Ideal) (arrQ m v) = Cert.Proof.ReferenceIdeal.rDQ (F := Ideal) (aQ m v) (aK m v) (aW m v) (aC m v)
    ∧ g71 (F := Ideal) (arrK m v) = Cert.Proof.ReferenceIdeal.rDK (F := Ideal) (aQ m v) (aK m v) (aW m v) (aC m v)
    ∧ g75 (F := Ideal) (arrV m v) = Cert.Proof.ReferenceIdeal.rDV (F := Ideal) (aQ m v) (aK m v) (aC m v) := by
  obtain ⟨hQ, hK, hW, hC⟩ := Cert.Proof.Finite.args_real _ _ _ _ hpre
  choose q hq using fun (h : Fin 8) (i : Fin 16400) (d : Fin 96) => hQ (ix4 0 h i d)
  choose k hk using fun (h : Fin 8) (i : Fin 16400) (d : Fin 96) => hK (ix4 0 h i d)
  choose w hw using fun (h : Fin 8) (i : Fin 16400) (d : Fin 64) => hW (ix4 0 h i d)
  choose c hc using fun (h : Fin 8) (i : Fin 16400) (d : Fin 64) => hC (ix4 0 h i d)
  refine ⟨funext fun x => ?_, funext fun x => ?_, funext fun x => ?_⟩
  · rw [ix_split x]
    exact atQ m v q k w c hq hk hw hc _ _ _
  · rw [ix_split x]
    exact atK m v q k w c hq hk hw hc _ _ _
  · rw [ix_split x]
    exact atV m v q k c hq hk hc _ _ _

end Cert.Proof.Match

end
-- ==== Proof.ProjVal.lean ====
/- What one point of `in_proj_fwd` stores, and the array after the run, at an index over the extended reals. -/
module

public import proofs.«01_k».proof.Proof.Gen.ProjIdeal.Frame
public import Idealize.ShloMosaic.Lib.Pointwise
public import Idealize.ShloMosaic.Lib.WholeRead
public import Idealize.ShloMosaic.Lib.Pipeline.ValueKit

@[expose] public section

set_option maxRecDepth 16384

noncomputable section

namespace Cert.Proof.ProjIdeal

open Cert.ProjIdeal Cert.ProjIdeal.Gen
open Idealize.ShloMosaic Idealize.ShloMosaic.TcCoe Idealize.SL.Sem
open Idealize.ShloMosaic.Pipeline (Dat)

/-- A row, normalised and scaled, times a column. -/
def rowDot (x w v : Fin 1024 → EReal) : EReal :=
  ∑ k, x k * Ideal.rsqrt ((∑ l, x l * x l) * Ideal.ofBits .f32 0x3A800000#32 + Ideal.ofBits .f32 0x358637BD#32) * w k * v k

theorem pay1_apply (x : Vec Ideal S640x1024 .f32) (w : Vec Ideal S1x1024 .f32) (W : Vec Ideal S1024x2560 .bf16) (r : Fin 640) (j : Fin 2560) :
    k0_pay1 (F := Ideal) x w W (ix2 r j : S640x2560.Idx)
      = rowDot (fun k => x (ix2 r k : S640x1024.Idx)) (fun k => w (ix2 0 k : S1x1024.Idx)) (fun k => W (ix2 k j : S1024x2560.Idx)) := by
  unfold rowDot
  pointwise [k0_pay1]

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

section Blocks
variable (t : Fin cfg0.N)
theorem blk0 (r : Fin 640) (k : Fin 1024) : iblk m c 0 t (ix2 r k : S640x1024.Idx)
    = V m c main_v12 (ix2 ⟨t.val * 640 + r.val, by have : t.val < 26 := t.isLt; omega⟩ k : S16640x1024.Idx) := by
  blk_ext [iblk, idx t]
theorem blk1 (k : Fin 1024) : iblk m c 1 t (ix2 0 k : S1x1024.Idx) = V m c main_v13 (ix2 0 k : S1x1024.Idx) := by
  blk_ext [iblk, idx t]
theorem blk2 (k : Fin 1024) (j : Fin 2560) : iblk m c 2 t (ix2 k j : S1024x2560.Idx) = V m c main_v14 (ix2 k j : S1024x2560.Idx) := by
  blk_ext [iblk, idx t]
end Blocks

/-- The array after the run. -/
def arrP (i : S16640x2560.Idx) : EReal :=
  rowDot (fun k => V m c main_v12 (ix2 (i 0) k : S16640x1024.Idx)) (fun k => V m c main_v13 (ix2 0 k : S1x1024.Idx))
    (fun k => V m c main_v14 (ix2 k (i 1) : S1024x2560.Idx))

theorem zero2 : (![0, 0] : Fin 2 → Nat) = fun _ => 0 := by
  funext a
  match a with
  | 0 => rfl
  | 1 => rfl

theorem out_eq (x : Vec Ideal S640x1024 .f32) (w : Vec Ideal S1x1024 .f32) (W : Vec Ideal S1024x2560 .bf16) : out0_3 x w W = k0_pay1 x w W := by
  unfold out0_3
  rw [View.canon_unit_zero zero2, View.ld_unit_zero (S := S640x1024) zero2, View.ld_unit_zero (S := S1x1024) zero2, View.ld_unit_zero (S := S1024x2560) zero2]

theorem final3 : (dats m 0 c).arrAt 3 cfg0.N = arrP m c := by
  refine (dats m 0 c).arrAt_eq_of_covers 3 _ (by decide +kernel) fun t hf y => ?_
  have a0 : (((cfg0.win 3).blk t).view.emb y 0).val = t.val * 640 + (y 0).val := by blk_simp [idx t]
  have a1 : (((cfg0.win 3).blk t).view.emb y 1).val = (y 1).val := by blk_simp [idx t]
  have e : arrP m c (((cfg0.win 3).blk t).view.emb y) = k0_pay1 (F := Ideal) (iblk m c 0 t) (iblk m c 1 t) (iblk m c 2 t) (ix2 (y 0) (y 1) : S640x2560.Idx) := by
    refine Eq.trans ?_ (pay1_apply _ _ _ (y 0) (y 1)).symm
    have h0 : ((((cfg0.win 3).blk t).view.emb y) 0 : Fin 16640) = ⟨t.val * 640 + (y 0).val, by rw [← a0]; exact (((cfg0.win 3).blk t).view.emb y 0).isLt⟩ := Fin.ext a0
    have h1 : ((((cfg0.win 3).blk t).view.emb y) 1 : Fin 2560) = y 1 := Fin.ext a1
    unfold arrP
    rw [h0, h1]
    exact congr (congr (congrArg rowDot (funext fun k => (blk0 m c t (y 0) k).symm)) (funext fun k => (blk1 m c t k).symm)) (funext fun k => (blk2 m c t k (y 1)).symm)
  refine Eq.trans ?_ e.symm
  clear e a0 a1
  blk_simp
  rw [after0_3, out_eq]
  exact congrArg (k0_pay1 (F := Ideal) (iblk m c 0 t) (iblk m c 1 t) (iblk m c 2 t)) (eq_ix2 (n0 := 640) (n1 := 2560) y)

end Cert.Proof.ProjIdeal

end
-- ==== Proof.ProjHost.lean ====
/- The host around the projection: the arrays the region reads, and the results from the one it writes. -/
module

public import proofs.«01_k».proof.Proof.ProjVal
public import Idealize.ShloMosaic.Lib.Claim

@[expose] public section

set_option maxRecDepth 16384

noncomputable section

namespace Cert.Proof.ProjIdeal

open Cert.ProjIdeal Cert.ProjIdeal.Gen
open Idealize.ShloMosaic Idealize.ShloMosaic.TcCoe Idealize.SL.Sem
open Idealize.ShloMosaic.Pipeline (Dat)

/-! ## Before -/

section Lines
variable (H : FVec Ideal S1x16400x1024 .f32) (N : FVec Ideal S1024 .f32) (W : FVec Ideal S1024x1952 .f32)

/-- The padding value. -/
def hZ : FVec Ideal S_ .f32 := sitofp .f32 (constantI S_ 32 0#32)
/-- The rows, padded to whole tiles. -/
def hX : FVec Ideal S16640x1024 .f32 :=
  pad S16640x1024 ![0, 0] ![240, 0] ![0, 0] (shapeCast S16400x1024 H shapeCasts_S1x16400x1024_S16400x1024) hZ pads_S16400x1024_S16640x1024_02400_000 h_S_
/-- The norm's weights as a row. -/
def hN : FVec Ideal S1x1024 .f32 := broadcastInDim S1x1024 ![1] bcast_S1024_S1x1024_1 N
/-- The rope columns, in the upper half of their lanes. -/
def hRope : FVec Ideal S1024x128 .f32 :=
  pad S1024x128 ![0, 64] ![0, 32] ![0, 0] (extractStridedSlice S1024x32 ![0, 384] W slices_S1024x1952_S1024x32_0_384) hZ pads_S1024x32_S1024x128_000_64320 h_S_
/-- The attention gate's columns, each head's in the lower half of its lanes. -/
def hGate : FVec Ideal S1024x1024 .f32 :=
  shapeCast S1024x1024 (pad S1024x8x128 ![0, 0, 0] ![0, 0, 64] ![0, 0, 0]
    (shapeCast S1024x8x64 (extractStridedSlice S1024x512 ![0, 416] W slices_S1024x1952_S1024x512_0_416) shapeCasts_S1024x512_S1024x8x64) hZ
    pads_S1024x8x64_S1024x8x128_000_000_0640 h_S_) shapeCasts_S1024x8x128_S1024x1024
/-- The columns as the region reads them. -/
def hW : FVec Ideal S1024x2560 .bf16 :=
  truncf .bf16 (concatenate S1024x2560 1 [⟨S1024x1024, hGate W⟩,
    ⟨S1024x512, extractStridedSlice S1024x512 ![0, 928] W slices_S1024x1952_S1024x512_0_928⟩,
    ⟨S1024x512, extractStridedSlice S1024x512 ![0, 1440] W slices_S1024x1952_S1024x512_0_1440⟩,
    ⟨S1024x256, extractStridedSlice S1024x256 ![0, 0] W slices_S1024x1952_S1024x256_0_0⟩,
    ⟨S1024x128, extractStridedSlice S1024x128 ![0, 256] W slices_S1024x1952_S1024x128_0_256⟩,
    ⟨S1024x128, hRope W⟩] concatenates_S1024x1024_S1024x512_S1024x512_S1024x256_S1024x128_S1024x128_S1024x2560_d1) bitsLt_bf16_f32

theorem hX_apply (s : Fin 16400) (k : Fin 1024) : hX H (ix2 ⟨s.val, by omega⟩ k : S16640x1024.Idx) = H (ix3 0 s k) := by
  pointwise [hX]
theorem hN_apply (k : Fin 1024) : hN N (ix2 0 k : S1x1024.Idx) = N (ix1 k) := by
  pointwise [hN]
theorem hW_q (k : Fin 1024) (d : Fin 256) : hW W (ix2 k ⟨2048 + d.val, by omega⟩ : S1024x2560.Idx) = W (ix2 k ⟨d.val, by omega⟩) := by
  pointwise [hW]
  repeat' split
  all_goals first
    | (exfalso; omega)
    | exact congrArg W (congrArg (ix2 k) (Fin.ext (by dsimp only; omega)))
theorem hW_kv (k : Fin 1024) (d : Fin 128) : hW W (ix2 k ⟨2304 + d.val, by omega⟩ : S1024x2560.Idx) = W (ix2 k ⟨256 + d.val, by omega⟩) := by
  pointwise [hW]
  repeat' split
  all_goals first
    | (exfalso; omega)
    | exact congrArg W (congrArg (ix2 k) (Fin.ext (by dsimp only; omega)))
theorem hW_r (k : Fin 1024) (d : Fin 32) : hW W (ix2 k ⟨2496 + d.val, by omega⟩ : S1024x2560.Idx) = W (ix2 k ⟨384 + d.val, by omega⟩) := by
  pointwise [hW, hRope]
  repeat' split
  all_goals first
    | (exfalso; omega)
    | exact congrArg W (congrArg (ix2 k) (Fin.ext (by dsimp only; omega)))
theorem hW_g (k : Fin 1024) (h : Fin 8) (d : Fin 64) : hW W (ix2 k ⟨h.val * 128 + d.val, by omega⟩ : S1024x2560.Idx) = W (ix2 k ⟨416 + (h.val * 64 + d.val), by omega⟩) := by
  pointwise [hW, hGate]
  repeat' split
  all_goals first
    | (exfalso; omega)
    | exact congrArg W (congrArg (ix2 k) (Fin.ext (by dsimp only; omega)))
theorem hW_u (k : Fin 1024) (d : Fin 512) : hW W (ix2 k ⟨1024 + d.val, by omega⟩ : S1024x2560.Idx) = W (ix2 k ⟨928 + d.val, by omega⟩) := by
  pointwise [hW]
theorem hW_s (k : Fin 1024) (d : Fin 512) : hW W (ix2 k ⟨1536 + d.val, by omega⟩ : S1024x2560.Idx) = W (ix2 k ⟨1440 + d.val, by omega⟩) := by
  pointwise [hW]
  repeat' split
  all_goals first
    | (exfalso; omega)
    | exact congrArg W (congrArg (ix2 k) (Fin.ext (by dsimp only; omega)))

end Lines

variable (m : (ℓ : Loc nD τ sig) → Buf (Elt Ideal) ℓ) (c : Dev nD)

/-- The arguments. -/
abbrev aH : FVec Ideal S1x16400x1024 .f32 := V0 m c main_arg0
abbrev aN : FVec Ideal S1024 .f32 := V0 m c main_arg1
abbrev aW : FVec Ideal S1024x1952 .f32 := V0 m c main_arg2

set_option maxHeartbeats 1600000 in
theorem V12 : V m c main_v12 = hX (aH m c) := by
  unfold V V0
  simp only [hostOps0, hostOps0_1, hostOps0_2, hostOps0_3, hostOps0_4, hostOps0_5, hostOps0_6, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem V13 : V m c main_v13 = hN (aN m c) := by
  unfold V V0
  simp only [hostOps0, hostOps0_1, hostOps0_2, hostOps0_3, hostOps0_4, hostOps0_5, hostOps0_6, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl
set_option maxHeartbeats 1600000 in
theorem V14 : V m c main_v14 = hW (aW m c) := by
  unfold V V0
  simp only [hostOps0, hostOps0_1, hostOps0_2, hostOps0_3, hostOps0_4, hostOps0_5, hostOps0_6, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

/-! ## After -/

section Tail
variable (A : FVec Ideal S16640x2560 .f32)

/-- The rows of the argument. -/
def g17 : FVec Ideal S1x16400x2560 .f32 :=
  broadcastInDim S1x16400x2560 ![1, 2] bcast_S16400x2560_S1x16400x2560_1_2 (extractStridedSlice S16400x2560 ![0, 0] A slices_S16640x2560_S16400x2560_0_0)
def g21 : FVec Ideal S1x16400x512 .f32 :=
  shapeCast S1x16400x512 (extractStridedSlice S1x16400x8x64 ![0, 0, 0, 0]
    (shapeCast S1x16400x8x128 (extractStridedSlice S1x16400x1024 ![0, 0, 0] (g17 A) slices_S1x16400x2560_S1x16400x1024_0_0_0) shapeCasts_S1x16400x1024_S1x16400x8x128)
    slices_S1x16400x8x128_S1x16400x8x64_0_0_0_0) shapeCasts_S1x16400x8x64_S1x16400x512
def g22 : FVec Ideal S1x16400x256 .f32 := extractStridedSlice S1x16400x256 ![0, 0, 2048] (g17 A) slices_S1x16400x2560_S1x16400x256_0_0_2048
def g23 : FVec Ideal S1x16400x128 .f32 := extractStridedSlice S1x16400x128 ![0, 0, 2304] (g17 A) slices_S1x16400x2560_S1x16400x128_0_0_2304
def g24 : FVec Ideal S1x16400x32 .f32 := extractStridedSlice S1x16400x32 ![0, 0, 2496] (g17 A) slices_S1x16400x2560_S1x16400x32_0_0_2496
def g25 : FVec Ideal S1x16400x512 .f32 := extractStridedSlice S1x16400x512 ![0, 0, 1024] (g17 A) slices_S1x16400x2560_S1x16400x512_0_0_1024
def g26 : FVec Ideal S1x16400x512 .f32 := extractStridedSlice S1x16400x512 ![0, 0, 1536] (g17 A) slices_S1x16400x2560_S1x16400x512_0_0_1536

theorem g21_apply (s : Fin 16400) (d : Fin 512) : g21 A (ix3 0 s d : S1x16400x512.Idx)
    = A (ix2 ⟨s.val, by omega⟩ ⟨d.val / 64 * 128 + d.val % 64, by omega⟩) := by
  pointwise [g21, g17]
theorem g22_apply (s : Fin 16400) (d : Fin 256) : g22 A (ix3 0 s d : S1x16400x256.Idx) = A (ix2 ⟨s.val, by omega⟩ ⟨2048 + d.val, by omega⟩) := by
  pointwise [g22, g17]
theorem g23_apply (s : Fin 16400) (d : Fin 128) : g23 A (ix3 0 s d : S1x16400x128.Idx) = A (ix2 ⟨s.val, by omega⟩ ⟨2304 + d.val, by omega⟩) := by
  pointwise [g23, g17]
theorem g24_apply (s : Fin 16400) (d : Fin 32) : g24 A (ix3 0 s d : S1x16400x32.Idx) = A (ix2 ⟨s.val, by omega⟩ ⟨2496 + d.val, by omega⟩) := by
  pointwise [g24, g17]
theorem g25_apply (s : Fin 16400) (d : Fin 512) : g25 A (ix3 0 s d : S1x16400x512.Idx) = A (ix2 ⟨s.val, by omega⟩ ⟨1024 + d.val, by omega⟩) := by
  pointwise [g25, g17]
theorem g26_apply (s : Fin 16400) (d : Fin 512) : g26 A (ix3 0 s d : S1x16400x512.Idx) = A (ix2 ⟨s.val, by omega⟩ ⟨1536 + d.val, by omega⟩) := by
  pointwise [g26, g17]

end Tail

theorem W21 : Pipeline.afterTail₀ cfgs (dats m) 0 (V0 m) [hostOps1] c main_v21 = g21 ((dats m 0 c).arrAt 3 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 3
  generalize Pipeline.withArrays (cfgs 0).spec c (V0 m c) (fun w => (dats m 0 c).arrAt w (cfgs 0).N) = W at h ⊢
  generalize (dats m 0 c).arrAt 3 cfg0.N = A at h ⊢
  subst h
  rfl
theorem W22 : Pipeline.afterTail₀ cfgs (dats m) 0 (V0 m) [hostOps1] c main_v22 = g22 ((dats m 0 c).arrAt 3 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 3
  generalize Pipeline.withArrays (cfgs 0).spec c (V0 m c) (fun w => (dats m 0 c).arrAt w (cfgs 0).N) = W at h ⊢
  generalize (dats m 0 c).arrAt 3 cfg0.N = A at h ⊢
  subst h
  rfl
theorem W23 : Pipeline.afterTail₀ cfgs (dats m) 0 (V0 m) [hostOps1] c main_v23 = g23 ((dats m 0 c).arrAt 3 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 3
  generalize Pipeline.withArrays (cfgs 0).spec c (V0 m c) (fun w => (dats m 0 c).arrAt w (cfgs 0).N) = W at h ⊢
  generalize (dats m 0 c).arrAt 3 cfg0.N = A at h ⊢
  subst h
  rfl
theorem W24 : Pipeline.afterTail₀ cfgs (dats m) 0 (V0 m) [hostOps1] c main_v24 = g24 ((dats m 0 c).arrAt 3 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 3
  generalize Pipeline.withArrays (cfgs 0).spec c (V0 m c) (fun w => (dats m 0 c).arrAt w (cfgs 0).N) = W at h ⊢
  generalize (dats m 0 c).arrAt 3 cfg0.N = A at h ⊢
  subst h
  rfl
theorem W25 : Pipeline.afterTail₀ cfgs (dats m) 0 (V0 m) [hostOps1] c main_v25 = g25 ((dats m 0 c).arrAt 3 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 3
  generalize Pipeline.withArrays (cfgs 0).spec c (V0 m c) (fun w => (dats m 0 c).arrAt w (cfgs 0).N) = W at h ⊢
  generalize (dats m 0 c).arrAt 3 cfg0.N = A at h ⊢
  subst h
  rfl
theorem W26 : Pipeline.afterTail₀ cfgs (dats m) 0 (V0 m) [hostOps1] c main_v26 = g26 ((dats m 0 c).arrAt 3 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 3
  generalize Pipeline.withArrays (cfgs 0).spec c (V0 m c) (fun w => (dats m 0 c).arrAt w (cfgs 0).N) = W at h ⊢
  generalize (dats m 0 c).arrAt 3 cfg0.N = A at h ⊢
  subst h
  rfl

end Cert.Proof.ProjIdeal

end
-- ==== Proof.ProjMatch.lean ====
/- The projection's six results are the reference's. -/
module

public import proofs.«01_k».proof.Proof.ProjHost
public import proofs.«01_k».proof.Proof.Gen.ProjReferenceIdeal.Read
public import Idealize.ShloMosaic.Lib.Pointwise

@[expose] public section

set_option maxRecDepth 16384

noncomputable section

namespace Cert.Proof.ProjMatch

open Cert.ProjIdeal Cert.ProjIdeal.Gen Cert.Proof.ProjIdeal
open Idealize.ShloMosaic Idealize.ShloMosaic.TcCoe Idealize.SL.Sem

theorem bits_width : Ideal.ofBits FTy.f32 0x44800000#32 = ((1024 : ℝ) : EReal) := by
  simp [Ideal.ofBits, Ideal.ieee, -EReal.coe_mul]; norm_num

theorem bits_mean : Ideal.ofBits FTy.f32 0x3A800000#32 = ((1 / 1024 : ℝ) : EReal) := by
  simp [Ideal.ofBits, Ideal.ieee, -EReal.coe_mul]; norm_num

theorem bits_none : Ideal.ofBits FTy.f32 0x00000000#32 = 0 := by
  simp [Ideal.ofBits, Ideal.ieee]

/-- A division by the width is a product with its inverse. -/
theorem mean_eq (s : EReal) : Ideal.div (Ideal.ofBits FTy.f32 0x00000000#32 + s) (Ideal.ofBits FTy.f32 0x44800000#32) = s * Ideal.ofBits FTy.f32 0x3A800000#32 := by
  rw [bits_width, bits_mean, bits_none, zero_add, Ideal.div_coe (by norm_num)]

section Reference
open Cert.ProjReferenceIdeal.Read
variable (H : FVec Ideal S1x16400x1024 .f32) (N : FVec Ideal S1024 .f32) (W : FVec Ideal S1024x1952 .f32)

/-- The reference's projection at an index. -/
theorem ref13 (s : Fin 16400) (j : Fin 1952) : val_main_v13 (F := Ideal) H N W (ix3 0 s j)
    = rowDot (fun k => H (ix3 0 s k)) (fun k => N (ix1 k)) (fun k => W (ix2 k j)) := by
  unfold rowDot
  simp only [← mean_eq]
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]

theorem ref14 (s : Fin 16400) (d : Fin 256) : val_main_v14 (F := Ideal) H N W (ix3 0 s d) = val_main_v13 (F := Ideal) H N W (ix3 0 s ⟨d.val, by omega⟩) := by
  pointwise [val_main_v14]
theorem ref15 (s : Fin 16400) (d : Fin 128) : val_main_v15 (F := Ideal) H N W (ix3 0 s d) = val_main_v13 (F := Ideal) H N W (ix3 0 s ⟨256 + d.val, by omega⟩) := by
  pointwise [val_main_v15]
theorem ref16 (s : Fin 16400) (d : Fin 32) : val_main_v16 (F := Ideal) H N W (ix3 0 s d) = val_main_v13 (F := Ideal) H N W (ix3 0 s ⟨384 + d.val, by omega⟩) := by
  pointwise [val_main_v16]
theorem ref17 (s : Fin 16400) (d : Fin 512) : val_main_v17 (F := Ideal) H N W (ix3 0 s d) = val_main_v13 (F := Ideal) H N W (ix3 0 s ⟨416 + d.val, by omega⟩) := by
  pointwise [val_main_v17]
theorem ref18 (s : Fin 16400) (d : Fin 512) : val_main_v18 (F := Ideal) H N W (ix3 0 s d) = val_main_v13 (F := Ideal) H N W (ix3 0 s ⟨928 + d.val, by omega⟩) := by
  pointwise [val_main_v18]
theorem ref19 (s : Fin 16400) (d : Fin 512) : val_main_v19 (F := Ideal) H N W (ix3 0 s d) = val_main_v13 (F := Ideal) H N W (ix3 0 s ⟨1440 + d.val, by omega⟩) := by
  pointwise [val_main_v19]

end Reference

theorem ix_split {n p : Nat} (x : (⟨3, ![1, n, p]⟩ : Shape).Idx) : x = ix3 0 (x 1) (x 2) :=
  funext fun a => Fin.ext (by
    match a with
    | 0 => exact Nat.lt_one_iff.1 (x 0).isLt
    | 1 => rfl
    | 2 => rfl)

variable (m : (ℓ : Loc nD τ sig) → Buf (Elt Ideal) ℓ) (c : Dev nD)

/-- A row of the argument, in the array after the run. -/
theorem arr_row (s : Fin 16400) (j : Fin 2560) (i : Fin 1952) (e : ∀ k, hW (aW m c) (ix2 k j) = aW m c (ix2 k i)) :
    arrP m c (ix2 ⟨s.val, by omega⟩ j) = Cert.ProjReferenceIdeal.Read.val_main_v13 (F := Ideal) (aH m c) (aN m c) (aW m c) (ix3 0 s i) := by
  rw [ref13]
  unfold arrP
  rw [V12, V13, V14]
  exact congr (congr (congrArg rowDot (funext fun k => hX_apply (aH m c) s k)) (funext fun k => hN_apply (aN m c) k)) (funext fun k => e k)

open Cert.ProjReferenceIdeal.Read in
/-- The six results. -/
theorem results :
    g22 (arrP m c) = val_main_v14 (F := Ideal) (aH m c) (aN m c) (aW m c)
    ∧ g23 (arrP m c) = val_main_v15 (F := Ideal) (aH m c) (aN m c) (aW m c)
    ∧ g24 (arrP m c) = val_main_v16 (F := Ideal) (aH m c) (aN m c) (aW m c)
    ∧ g21 (arrP m c) = val_main_v17 (F := Ideal) (aH m c) (aN m c) (aW m c)
    ∧ g25 (arrP m c) = val_main_v18 (F := Ideal) (aH m c) (aN m c) (aW m c)
    ∧ g26 (arrP m c) = val_main_v19 (F := Ideal) (aH m c) (aN m c) (aW m c) := by
  refine ⟨funext fun x => ?_, funext fun x => ?_, funext fun x => ?_, funext fun x => ?_, funext fun x => ?_, funext fun x => ?_⟩
  · rw [ix_split x]
    exact ((g22_apply _ _ _).trans (arr_row m c _ _ _ fun k => hW_q _ k _)).trans (ref14 _ _ _ _ _).symm
  · rw [ix_split x]
    exact ((g23_apply _ _ _).trans (arr_row m c _ _ _ fun k => hW_kv _ k _)).trans (ref15 _ _ _ _ _).symm
  · rw [ix_split x]
    exact ((g24_apply _ _ _).trans (arr_row m c _ _ _ fun k => hW_r _ k _)).trans (ref16 _ _ _ _ _).symm
  · rw [ix_split x]
    refine ((g21_apply _ _ _).trans (arr_row m c _ _ _ fun k => ?_)).trans (ref17 _ _ _ _ _).symm
    refine (hW_g _ k ⟨(x 2).val / 64, Nat.div_lt_of_lt_mul (x 2).isLt⟩ ⟨(x 2).val % 64, Nat.mod_lt _ (by decide)⟩).trans (congrArg (aW m c) (congrArg (ix2 k) (Fin.ext ?_)))
    show 416 + ((x 2).val / 64 * 64 + (x 2).val % 64) = 416 + (x 2).val
    omega
  · rw [ix_split x]
    exact ((g25_apply _ _ _).trans (arr_row m c _ _ _ fun k => hW_u _ k _)).trans (ref18 _ _ _ _ _).symm
  · rw [ix_split x]
    exact ((g26_apply _ _ _).trans (arr_row m c _ _ _ fun k => hW_s _ k _)).trans (ref19 _ _ _ _ _).symm

end Cert.Proof.ProjMatch

end
-- ==== Proof.BwdPay.lean ====
/- What one point of `in_proj_bwd` computes, at an index over the extended reals. -/
module

public import proofs.«01_k».proof.Proof.Gen.GradIdeal.Skeleton
public import Idealize.ShloMosaic.Lib.Pointwise

@[expose] public section

set_option maxRecDepth 16384

noncomputable section

namespace Cert.Proof.Bwd

open Cert.GradIdeal Cert.GradIdeal.Gen
open Idealize.ShloMosaic Idealize.ShloMosaic.TcCoe Idealize.SL.Sem

/-- The inverse of a row's size. -/
def rs (x : Fin 1024 → EReal) : EReal :=
  Ideal.rsqrt ((∑ l, x l * x l) * Ideal.ofBits .f32 0x3A800000#32 + Ideal.ofBits .f32 0x358637BD#32)

/-- The gradient of a normalised row, at one of its places: the gradients of its six products times that place's weights. -/
def dn (g : Fin 1024 → EReal) (u s : Fin 512 → EReal) (q : Fin 256 → EReal) (v r : Fin 128 → EReal) (W : Fin 2560 → EReal) : EReal :=
  0 + ∑ e, g e * W ⟨e.val, by omega⟩ + ∑ e, u e * W ⟨1024 + e.val, by omega⟩ + ∑ e, s e * W ⟨1536 + e.val, by omega⟩
    + ∑ e, q e * W ⟨2048 + e.val, by omega⟩ + ∑ e, v e * W ⟨2304 + e.val, by omega⟩ + ∑ e, r e * W ⟨2432 + e.val, by omega⟩

/-- The gradient of a row from that of its normalised one. -/
def dx (x w D : Fin 1024 → EReal) (k : Fin 1024) : EReal :=
  rs x * (D k * w k) - x k * (rs x * rs x * rs x) * ((∑ l, D l * w l * x l) * Ideal.ofBits .f32 0x3A800000#32)

theorem pay4_apply (j : S1024x2560.Idx) : k0_pay4 (F := Ideal) j = 0 := by pointwise [k0_pay4]
theorem pay5_apply (j : S8x1024.Idx) : k0_pay5 (F := Ideal) j = 0 := by pointwise [k0_pay5]
theorem pay6_apply (x : Vec Ideal S256x1024 .f32) (r : Fin 256) (k : Fin 1024) : k0_pay6 (F := Ideal) x (ix2 r k : S256x1024.Idx) = x (ix2 r k : S256x1024.Idx) := by
  pointwise [k0_pay6]
theorem pay7_apply (x : Vec Ideal S256x1024 .f32) (r : Fin 256) (z : Fin 1) :
    k0_pay7 (F := Ideal) x (ix2 r z : S256x1.Idx) = rs fun k => x (ix2 r k : S256x1024.Idx) := by
  unfold rs
  pointwise [k0_pay7, k0_pay6]
theorem pay8_apply (x : Vec Ideal S256x1024 .f32) (w : Vec Ideal S1x1024 .f32) (r : Fin 256) (k : Fin 1024) :
    k0_pay8 (F := Ideal) x w (ix2 r k : S256x1024.Idx)
      = x (ix2 r k : S256x1024.Idx) * rs (fun k => x (ix2 r k : S256x1024.Idx)) * w (ix2 0 k : S1x1024.Idx) := by
  unfold rs
  pointwise [k0_pay8, k0_pay7, k0_pay6]
theorem pay9_apply (a b y : Vec Ideal S256x512 .f32) (d : Vec Ideal S1x512 .f32) (r : Fin 256) (e : Fin 512) :
    k0_pay9 (F := Ideal) a b y d (ix2 r e : S256x512.Idx)
      = a (ix2 r e : S256x512.Idx) + b (ix2 r e : S256x512.Idx) + y (ix2 r e : S256x512.Idx) * d (ix2 0 e : S1x512.Idx) := by
  pointwise [k0_pay9]

/-- The gradient of a tile's normalised rows, as the point sums it. -/
theorem pay27_apply (g : Vec Ideal S256x1024 .f32) (u s : FVec Ideal S256x512 .f32) (q : Vec Ideal S256x256 .f32) (v p : Vec Ideal S256x128 .f32)
    (W0 : Vec Ideal S1024x1024 .bf16) (W1 W2 : Vec Ideal S512x1024 .bf16) (W3 : Vec Ideal S256x1024 .bf16) (W4 W5 : Vec Ideal S128x1024 .bf16)
    (W : Vec Ideal S2560x1024 .bf16)
    (h0 : ∀ e k, W0 (ix2 e k : S1024x1024.Idx) = W (ix2 ⟨e.val, by omega⟩ k : S2560x1024.Idx))
    (h1 : ∀ e k, W1 (ix2 e k : S512x1024.Idx) = W (ix2 ⟨1024 + e.val, by omega⟩ k : S2560x1024.Idx))
    (h2 : ∀ e k, W2 (ix2 e k : S512x1024.Idx) = W (ix2 ⟨1536 + e.val, by omega⟩ k : S2560x1024.Idx))
    (h3 : ∀ e k, W3 (ix2 e k : S256x1024.Idx) = W (ix2 ⟨2048 + e.val, by omega⟩ k : S2560x1024.Idx))
    (h4 : ∀ e k, W4 (ix2 e k : S128x1024.Idx) = W (ix2 ⟨2304 + e.val, by omega⟩ k : S2560x1024.Idx))
    (h5 : ∀ e k, W5 (ix2 e k : S128x1024.Idx) = W (ix2 ⟨2432 + e.val, by omega⟩ k : S2560x1024.Idx))
    (r : Fin 256) (k : Fin 1024) :
    k0_pay27 (F := Ideal) (k0_pay12 q) (k0_pay13 v) (k0_pay14 p) (k0_pay20 u (k0_pay10 g) (k0_pay11 s) W0 W1 W2) W3 W4 W5 (ix2 r k : S256x1024.Idx)
      = dn (fun e => g (ix2 r e : S256x1024.Idx)) (fun e => u (ix2 r e : S256x512.Idx)) (fun e => s (ix2 r e : S256x512.Idx))
          (fun e => q (ix2 r e : S256x256.Idx)) (fun e => v (ix2 r e : S256x128.Idx)) (fun e => p (ix2 r e : S256x128.Idx))
          (fun j => W (ix2 j k : S2560x1024.Idx)) := by
  unfold dn
  simp only [← h0, ← h1, ← h2, ← h3, ← h4, ← h5]
  pointwise [k0_pay27, k0_pay20, k0_pay10, k0_pay11, k0_pay12, k0_pay13, k0_pay14, k0_pay15, k0_pay17, k0_pay19, k0_pay22, k0_pay24, k0_pay26]

theorem pay2_apply (x : Vec Ideal S256x1024 .f32) (D : FVec Ideal S256x1024 .f32) (w : Vec Ideal S1x1024 .f32) (o : Vec Ideal S256x1024 .f32) (r : Fin 256) (k : Fin 1024) :
    k0_pay2 (F := Ideal) (k0_pay6 x) (k0_pay7 x) D w o (ix2 r k : S256x1024.Idx)
      = o (ix2 r k : S256x1024.Idx) + dx (fun k => x (ix2 r k : S256x1024.Idx)) (fun k => w (ix2 0 k : S1x1024.Idx)) (fun k => D (ix2 r k : S256x1024.Idx)) k := by
  unfold dx rs
  pointwise [k0_pay2, k0_pay7, k0_pay6]

theorem pay3_apply (x : Vec Ideal S256x1024 .f32) (D : FVec Ideal S256x1024 .f32) (a : Vec Ideal S1x1024 .f32) (k : Fin 1024) :
    k0_pay3 (F := Ideal) (k0_pay6 x) (k0_pay7 x) D a (ix2 0 k : S1x1024.Idx)
      = a (ix2 0 k : S1x1024.Idx) + ∑ r : Fin 256, D (ix2 r k : S256x1024.Idx) * (x (ix2 r k : S256x1024.Idx) * rs (fun k => x (ix2 r k : S256x1024.Idx))) := by
  unfold rs
  pointwise [k0_pay3, k0_pay7, k0_pay6]

section Products
variable (X : FVec Ideal S256x1024 .bf16) (k : Fin 1024)
theorem pay16_apply (g : Vec Ideal S256x1024 .f32) (a : Vec Ideal S1024x1024 .f32) (j : Fin 1024) :
    k0_pay16 (F := Ideal) X (k0_pay10 g) a (ix2 k j : S1024x1024.Idx)
      = a (ix2 k j : S1024x1024.Idx) + ∑ r : Fin 256, X (ix2 r k : S256x1024.Idx) * g (ix2 r j : S256x1024.Idx) := by
  pointwise [k0_pay16, k0_pay10, k0_pay15]
theorem pay18_apply (g : FVec Ideal S256x512 .f32) (a : Vec Ideal S1024x512 .f32) (j : Fin 512) :
    k0_pay18 (F := Ideal) X g a (ix2 k j : S1024x512.Idx)
      = a (ix2 k j : S1024x512.Idx) + ∑ r : Fin 256, X (ix2 r k : S256x1024.Idx) * g (ix2 r j : S256x512.Idx) := by
  pointwise [k0_pay18, k0_pay17]
theorem pay21_apply (g : Vec Ideal S256x512 .f32) (a : Vec Ideal S1024x512 .f32) (j : Fin 512) :
    k0_pay21 (F := Ideal) X (k0_pay19 (k0_pay11 g)) a (ix2 k j : S1024x512.Idx)
      = a (ix2 k j : S1024x512.Idx) + ∑ r : Fin 256, X (ix2 r k : S256x1024.Idx) * g (ix2 r j : S256x512.Idx) := by
  pointwise [k0_pay21, k0_pay19, k0_pay11]
theorem pay23_apply (g : Vec Ideal S256x256 .f32) (a : Vec Ideal S1024x256 .f32) (j : Fin 256) :
    k0_pay23 (F := Ideal) X (k0_pay12 g) a (ix2 k j : S1024x256.Idx)
      = a (ix2 k j : S1024x256.Idx) + ∑ r : Fin 256, X (ix2 r k : S256x1024.Idx) * g (ix2 r j : S256x256.Idx) := by
  pointwise [k0_pay23, k0_pay12, k0_pay22]
theorem pay25_apply (g : Vec Ideal S256x128 .f32) (a : Vec Ideal S1024x128 .f32) (j : Fin 128) :
    k0_pay25 (F := Ideal) X (k0_pay13 g) a (ix2 k j : S1024x128.Idx)
      = a (ix2 k j : S1024x128.Idx) + ∑ r : Fin 256, X (ix2 r k : S256x1024.Idx) * g (ix2 r j : S256x128.Idx) := by
  pointwise [k0_pay25, k0_pay13, k0_pay24]
theorem pay1_apply (g : Vec Ideal S256x128 .f32) (a : Vec Ideal S1024x128 .f32) (j : Fin 128) :
    k0_pay1 (F := Ideal) X (k0_pay26 (k0_pay14 g)) (k0_pay28 a) (ix2 k j : S1024x128.Idx)
      = a (ix2 k j : S1024x128.Idx) + ∑ r : Fin 256, X (ix2 r k : S256x1024.Idx) * g (ix2 r j : S256x128.Idx) := by
  pointwise [k0_pay1, k0_pay14, k0_pay26, k0_pay28]
end Products

end Cert.Proof.Bwd

end
-- ==== Proof.BwdVal.lean ====
/-
  What the two backward-projection accumulators and the gradient tile hold after the grid's points.
-/
module

public import proofs.«01_k».proof.Proof.BwdPay
public import proofs.«01_k».proof.Proof.Gen.GradIdeal.Frame
public import Idealize.ShloMosaic.Lib.Pointwise
public import Idealize.ShloMosaic.Lib.WholeRead
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.Bwd

open Cert.GradIdeal Cert.GradIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The gradients of a row's six products, in the columns' order. -/
def cols (g : Fin 1024 → EReal) (u s : Fin 512 → EReal) (q : Fin 256 → EReal) (v p : Fin 128 → EReal) (j : Fin 2560) : EReal :=
  if h0 : j.val < 1024 then g ⟨j.val, h0⟩
  else if h1 : j.val < 1536 then u ⟨j.val - 1024, by omega⟩
  else if h2 : j.val < 2048 then s ⟨j.val - 1536, by omega⟩
  else if h3 : j.val < 2304 then q ⟨j.val - 2048, by omega⟩
  else if h4 : j.val < 2432 then v ⟨j.val - 2304, by omega⟩
  else p ⟨j.val - 2432, by omega⟩

section Point
variable (t : Fin cfg0.N)
/-- A row of the tile. -/
def tx (r : Fin 256) (k : Fin 1024) : EReal := iblk m c 0 t (ix2 r k : S256x1024.Idx)
/-- The norm's weights. -/
def tw (k : Fin 1024) : EReal := iblk m c 1 t (ix2 0 k : S1x1024.Idx)
/-- A normalised row of the tile. -/
def txn (r : Fin 256) (k : Fin 1024) : EReal := tx m c t r k * rs (tx m c t r) * tw m c t k
/-- The row of the residual's gradient. -/
def tr (r : Fin 256) (k : Fin 1024) : EReal := iblk m c 2 t (ix2 r k : S256x1024.Idx)
/-- The gradients of a row's six products. -/
def tg (r : Fin 256) (e : Fin 1024) : EReal := iblk m c 3 t (ix2 r e : S256x1024.Idx)
def tu (r : Fin 256) (e : Fin 512) : EReal :=
  (show FVec Ideal S256x512 .f32 from iblk m c 4 t) (ix2 r e) + (show FVec Ideal S256x512 .f32 from iblk m c 5 t) (ix2 r e)
    + (show FVec Ideal S256x512 .f32 from iblk m c 6 t) (ix2 r e) * (show FVec Ideal S1x512 .f32 from iblk m c 7 t) (ix2 0 e)
def ts (r : Fin 256) (e : Fin 512) : EReal := iblk m c 8 t (ix2 r e : S256x512.Idx)
def tq (r : Fin 256) (e : Fin 256) : EReal := iblk m c 9 t (ix2 r e : S256x256.Idx)
def tv (r : Fin 256) (e : Fin 128) : EReal := iblk m c 10 t (ix2 r e : S256x128.Idx)
def tp (r : Fin 256) (e : Fin 128) : EReal := iblk m c 11 t (ix2 r e : S256x128.Idx)
/-- All of them. -/
def tc (r : Fin 256) : Fin 2560 → EReal := cols (tg m c t r) (tu m c t r) (ts m c t r) (tq m c t r) (tv m c t r) (tp m c t r)
/-- The gradient of a normalised row. -/
def td (r : Fin 256) (k : Fin 1024) : EReal :=
  dn (tg m c t r) (tu m c t r) (ts m c t r) (tq m c t r) (tv m c t r) (tp m c t r) fun j => iblk m c 12 t (ix2 j k : S2560x1024.Idx)

/-- The six stores of a point into the accumulator of the weights' gradient, over what it held. -/
def P14 (Z : Vec Ideal S1024x2560 .f32) : List (View.Piece (Elt Ideal) S1024x2560 .f32) :=
  [⟨Rect.unit ![0, 2432] ![1024, 128] inb_S1024x2560_S1024x128_0_2432,
      k0_pay1 (k0_pay8 (iblk m c 0 t) (iblk m c 1 t)) (k0_pay26 (k0_pay14 (iblk m c 11 t)))
        (k0_pay28 (View.ld Z (Rect.unit ![0, 2432] ![1024, 128] inb_S1024x2560_S1024x128_0_2432)))⟩,
    ⟨Rect.unit ![0, 2304] ![1024, 128] inb_S1024x2560_S1024x128_0_2304,
      k0_pay25 (k0_pay8 (iblk m c 0 t) (iblk m c 1 t)) (k0_pay13 (iblk m c 10 t))
        (View.ld Z (Rect.unit ![0, 2304] ![1024, 128] inb_S1024x2560_S1024x128_0_2304))⟩,
    ⟨Rect.unit ![0, 2048] ![1024, 256] inb_S1024x2560_S1024x256_0_2048,
      k0_pay23 (k0_pay8 (iblk m c 0 t) (iblk m c 1 t)) (k0_pay12 (iblk m c 9 t))
        (View.ld Z (Rect.unit ![0, 2048] ![1024, 256] inb_S1024x2560_S1024x256_0_2048))⟩,
    ⟨Rect.unit ![0, 1536] ![1024, 512] inb_S1024x2560_S1024x512_0_1536,
      k0_pay21 (k0_pay8 (iblk m c 0 t) (iblk m c 1 t)) (k0_pay19 (k0_pay11 (iblk m c 8 t)))
        (View.ld Z (Rect.unit ![0, 1536] ![1024, 512] inb_S1024x2560_S1024x512_0_1536))⟩,
    ⟨Rect.unit ![0, 1024] ![1024, 512] inb_S1024x2560_S1024x512_0_1024,
      k0_pay18 (k0_pay8 (iblk m c 0 t) (iblk m c 1 t))
        (k0_pay9 (iblk m c 4 t) (iblk m c 5 t) (iblk m c 6 t) (iblk m c 7 t))
        (View.ld Z (Rect.unit ![0, 1024] ![1024, 512] inb_S1024x2560_S1024x512_0_1024))⟩,
    ⟨Rect.unit ![0, 0] ![1024, 1024] inb_S1024x2560_S1024x1024_0_0,
      k0_pay16 (k0_pay8 (iblk m c 0 t) (iblk m c 1 t)) (k0_pay10 (iblk m c 3 t))
        (View.ld Z (Rect.unit ![0, 0] ![1024, 1024] inb_S1024x2560_S1024x1024_0_0))⟩]

/-- The store of zeros before them, at the first point. -/
def Z14 : List (View.Piece (Elt Ideal) S1024x2560 .f32) := [⟨Rect.unit ![0, 0] ![1024, 2560] inb_S1024x2560_S1024x2560_0_0, k0_pay4 (F := Ideal)⟩]

/-- What they leave. -/
def G14 (Z : Vec Ideal S1024x2560 .f32) (j : S1024x2560.Idx) : EReal := Z j + ∑ r : Fin 256, txn m c t r (j 0) * tc m c t r (j 1)

/-- An index of a store's rectangle, in the buffer. -/
theorem emb14 (a n o : ℕ) (inb) (x : (Rect.unit (s := S1024x2560) ![0, o] ![1024, n] inb).shape.Idx) :
    ((Rect.unit (s := S1024x2560) ![0, o] ![1024, n] inb).emb x 0).val = (x 0).val ∧ ((Rect.unit (s := S1024x2560) ![0, o] ![1024, n] inb).emb x 1).val = o + (x 1).val := by
  constructor
  · show 0 + 1 * (x 0).val = _; omega
  · show o + 1 * (x 1).val = _; omega

theorem piece14 (Z : Vec Ideal S1024x2560 .f32) {n : ℕ} (o : ℕ) (inb) (w : (⟨2, ![1024, n]⟩ : Shape).Idx → EReal) (g : Fin 256 → Fin n → EReal)
    (hw : ∀ k j, w (ix2 k j) = View.ld Z (Rect.unit (s := S1024x2560) ![0, o] ![1024, n] inb) (ix2 k j : (⟨2, ![1024, n]⟩ : Shape).Idx) + ∑ r : Fin 256, k0_pay8 (F := Ideal) (iblk m c 0 t) (iblk m c 1 t) (ix2 r k : S256x1024.Idx) * g r j)
    (hg : ∀ r (j : Fin n) (J : Fin 2560), J.val = o + j.val → tc m c t r J = g r j) (x : (⟨2, ![1024, n]⟩ : Shape).Idx) :
    w x = G14 m c t Z ((Rect.unit (s := S1024x2560) ![0, o] ![1024, n] inb).emb x) := by
  have e := emb14 0 n o inb x
  refine (congrArg w (eq_ix2 (n0 := 1024) (n1 := n) x)).trans ((hw (x 0) (x 1)).trans ?_)
  unfold G14
  refine Ideal.add_congr (congrArg (View.ld Z (Rect.unit (s := S1024x2560) ![0, o] ![1024, n] inb)) (eq_ix2 (n0 := 1024) (n1 := n) x).symm) ?_
  refine Fin.sum_fin_congr fun r => ?_
  refine Eq.trans (Ideal.mul_congr (pay8_apply (iblk m c 0 t) (iblk m c 1 t) r (x 0)) rfl) ?_
  have e0 : (Rect.unit (s := S1024x2560) ![0, o] ![1024, n] inb).emb x 0 = (x 0 : Fin 1024) := Fin.ext e.1
  refine Ideal.mul_congr ?_ (hg r (x 1) _ e.2).symm
  rw [e0]; rfl

theorem pieces14 (Z : Vec Ideal S1024x2560 .f32) : View.PiecesOf (G14 m c t Z) (P14 m c t Z) := by
  refine ⟨?_, ?_, ?_, ?_, ?_, ?_, trivial⟩
  · exact piece14 m c t Z 2432 inb_S1024x2560_S1024x128_0_2432 _ (tp m c t) (fun k j => pay1_apply (k0_pay8 (iblk m c 0 t) (iblk m c 1 t)) k (iblk m c 11 t) _ j) fun r j J h => by
      unfold tc cols; split_ifs <;> first | omega | skip
      exact congrArg (tp m c t r) (Fin.ext (by show J.val - 2432 = j.val; omega))
  · exact piece14 m c t Z 2304 inb_S1024x2560_S1024x128_0_2304 _ (tv m c t) (fun k j => pay25_apply (k0_pay8 (iblk m c 0 t) (iblk m c 1 t)) k (iblk m c 10 t) _ j) fun r j J h => by
      unfold tc cols; split_ifs <;> first | omega | skip
      exact congrArg (tv m c t r) (Fin.ext (by show J.val - 2304 = j.val; omega))
  · exact piece14 m c t Z 2048 inb_S1024x2560_S1024x256_0_2048 _ (tq m c t) (fun k j => pay23_apply (k0_pay8 (iblk m c 0 t) (iblk m c 1 t)) k (iblk m c 9 t) _ j) fun r j J h => by
      unfold tc cols; split_ifs <;> first | omega | skip
      exact congrArg (tq m c t r) (Fin.ext (by show J.val - 2048 = j.val; omega))
  · exact piece14 m c t Z 1536 inb_S1024x2560_S1024x512_0_1536 _ (ts m c t) (fun k j => pay21_apply (k0_pay8 (iblk m c 0 t) (iblk m c 1 t)) k (iblk m c 8 t) _ j) fun r j J h => by
      unfold tc cols; split_ifs <;> first | omega | skip
      exact congrArg (ts m c t r) (Fin.ext (by show J.val - 1536 = j.val; omega))
  · exact piece14 m c t Z 1024 inb_S1024x2560_S1024x512_0_1024 _ (tu m c t)
      (fun k j => (pay18_apply (k0_pay8 (iblk m c 0 t) (iblk m c 1 t)) k (k0_pay9 (iblk m c 4 t) (iblk m c 5 t) (iblk m c 6 t) (iblk m c 7 t)) _ j).trans
        (congrArg _ (Fin.sum_fin_congr fun r => congrArg _ (pay9_apply (iblk m c 4 t) (iblk m c 5 t) (iblk m c 6 t) (iblk m c 7 t) r j)))) fun r j J h => by
      unfold tc cols; split_ifs <;> first | omega | skip
      exact congrArg (tu m c t r) (Fin.ext (by show J.val - 1024 = j.val; omega))
  · exact piece14 m c t Z 0 inb_S1024x2560_S1024x1024_0_0 _ (tg m c t) (fun k j => pay16_apply (k0_pay8 (iblk m c 0 t) (iblk m c 1 t)) k (iblk m c 3 t) _ j) fun r j J h => by
      unfold tc cols; split_ifs <;> first | omega | skip
      exact congrArg (tg m c t r) (Fin.ext (by show J.val = j.val; omega))

theorem cover14 (Z : Vec Ideal S1024x2560 .f32) (j : S1024x2560.Idx) : ∃ p ∈ P14 m c t Z, j ∈ p.1.set :=
  View.cover_of_tiledBy (P14 m c t Z) ![1024, 128] (by sl_kernel_rfl) j

theorem stepB14 (h : ¬ t.val % 65 = 0) (j : S1024x2560.Idx) : (outsAt0 m c t.val t.isLt).2.1 j
    = (outsAt0 m c (t.val - 1) (lt_of_le_of_lt (Nat.sub_le _ _) t.isLt)).2.1 j + ∑ r : Fin 256, txn m c t r (j 0) * tc m c t r (j 1) := by
  rw [outsAt0_B m c t h]
  frame_out
  generalize (outsAt0 m c (t.val - 1) _).2.1 = P
  exact View.canon_append_of_piecesOf _ [] _ (pieces14 m c t P) j (cover14 m c t P j)

theorem stepA14 (h : t.val % 65 = 0) (j : S1024x2560.Idx) : (outsAt0 m c t.val t.isLt).2.1 j
    = 0 + ∑ r : Fin 256, txn m c t r (j 0) * tc m c t r (j 1) := by
  rw [outsAt0_A m c t h]
  frame_open
  simp (disch := decide) only [↓ View.readCov_skip, ↓ View.readCov_fill]
  frame_out
  have e := View.canon_append_of_piecesOf (G14 m c t (k0_pay4 (F := Ideal))) Z14 (P14 m c t (k0_pay4 (F := Ideal))) (pieces14 m c t (k0_pay4 (F := Ideal))) j (cover14 m c t (k0_pay4 (F := Ideal)) j)
  simp only [P14, Z14, List.cons_append, List.nil_append] at e
  rw [e]
  exact Ideal.add_congr (pay4_apply j) rfl

/-- The gradient of a normalised row, as the body forms it. -/
theorem D_apply (r : Fin 256) (k : Fin 1024) :
    k0_pay27 (F := Ideal) (k0_pay12 (iblk m c 9 t)) (k0_pay13 (iblk m c 10 t)) (k0_pay14 (iblk m c 11 t))
        (k0_pay20 (k0_pay9 (iblk m c 4 t) (iblk m c 5 t) (iblk m c 6 t) (iblk m c 7 t)) (k0_pay10 (iblk m c 3 t))
          (k0_pay11 (iblk m c 8 t))
          (View.ld (iblk m c 12 t) (Rect.unit ![0, 0] ![1024, 1024] inb_S2560x1024_S1024x1024_0_0))
          (View.ld (iblk m c 12 t) (Rect.unit ![1024, 0] ![512, 1024] inb_S2560x1024_S512x1024_1024_0))
          (View.ld (iblk m c 12 t) (Rect.unit ![1536, 0] ![512, 1024] inb_S2560x1024_S512x1024_1536_0)))
        (View.ld (iblk m c 12 t) (Rect.unit ![2048, 0] ![256, 1024] inb_S2560x1024_S256x1024_2048_0))
        (View.ld (iblk m c 12 t) (Rect.unit ![2304, 0] ![128, 1024] inb_S2560x1024_S128x1024_2304_0))
        (View.ld (iblk m c 12 t) (Rect.unit ![2432, 0] ![128, 1024] inb_S2560x1024_S128x1024_2432_0)) (ix2 r k : S256x1024.Idx)
      = td m c t r k := by
  refine (pay27_apply (iblk m c 3 t) (k0_pay9 (iblk m c 4 t) (iblk m c 5 t) (iblk m c 6 t) (iblk m c 7 t)) (iblk m c 8 t) (iblk m c 9 t) (iblk m c 10 t) (iblk m c 11 t)
    (View.ld (iblk m c 12 t) (Rect.unit ![0, 0] ![1024, 1024] inb_S2560x1024_S1024x1024_0_0))
    (View.ld (iblk m c 12 t) (Rect.unit ![1024, 0] ![512, 1024] inb_S2560x1024_S512x1024_1024_0))
    (View.ld (iblk m c 12 t) (Rect.unit ![1536, 0] ![512, 1024] inb_S2560x1024_S512x1024_1536_0))
    (View.ld (iblk m c 12 t) (Rect.unit ![2048, 0] ![256, 1024] inb_S2560x1024_S256x1024_2048_0))
    (View.ld (iblk m c 12 t) (Rect.unit ![2304, 0] ![128, 1024] inb_S2560x1024_S128x1024_2304_0))
    (View.ld (iblk m c 12 t) (Rect.unit ![2432, 0] ![128, 1024] inb_S2560x1024_S128x1024_2432_0)) (iblk m c 12 t) ?_ ?_ ?_ ?_ ?_ ?_ r k).trans ?_
  iterate 6 (intro e k; refine congrArg (iblk m c 12 t) ?_; idx_ext)
  exact congrArg (fun u => dn (tg m c t r) u (ts m c t r) (tq m c t r) (tv m c t r) (tp m c t r) fun j => iblk m c 12 t (ix2 j k : S2560x1024.Idx))
    (funext fun e => pay9_apply (iblk m c 4 t) (iblk m c 5 t) (iblk m c 6 t) (iblk m c 7 t) r e)

/-- The gradient tile. -/
theorem step13 (r : Fin 256) (k : Fin 1024) : (outsAt0 m c t.val t.isLt).1 (ix2 r k : S256x1024.Idx)
    = tr m c t r k + dx (tx m c t r) (tw m c t) (td m c t r) k := by
  by_cases h : t.val % 65 = 0
  · rw [outsAt0_A m c t h]
    frame_out
    refine (pay2_apply (iblk m c 0 t) _ (iblk m c 1 t) (iblk m c 2 t) r k).trans ?_
    exact Ideal.add_congr rfl (congrArg (fun D => dx (tx m c t r) (tw m c t) D k) (funext fun k => D_apply m c t r k))
  · rw [outsAt0_B m c t h]
    frame_out
    refine (pay2_apply (iblk m c 0 t) _ (iblk m c 1 t) (iblk m c 2 t) r k).trans ?_
    exact Ideal.add_congr rfl (congrArg (fun D => dx (tx m c t r) (tw m c t) D k) (funext fun k => D_apply m c t r k))

theorem idx15 (k : Fin 1024) (a : Fin S8x1024.rank) : ((ix2 0 k : S8x1024.Idx) a).val = (![0, 0] : Fin 2 → ℕ) a + ((ix2 0 k : S1x1024.Idx) a).val := by
  fin_cases a <;> simp [ix2]

theorem stepB15 (h : ¬ t.val % 65 = 0) (k : Fin 1024) : (outsAt0 m c t.val t.isLt).2.2 (ix2 0 k : S8x1024.Idx)
    = (outsAt0 m c (t.val - 1) (lt_of_le_of_lt (Nat.sub_le _ _) t.isLt)).2.2 (ix2 0 k : S8x1024.Idx)
      + ∑ r : Fin 256, td m c t r k * (tx m c t r k * rs (tx m c t r)) := by
  rw [outsAt0_B m c t h]
  frame_out
  generalize (outsAt0 m c (t.val - 1) _).2.2 = P
  refine (View.read_writes_cons_unit_of_mem _ _ _ _ _ _ (ix2 0 k : S1x1024.Idx) rfl (idx15 k)).trans ?_
  refine (pay3_apply (iblk m c 0 t) _ _ k).trans ?_
  refine Ideal.add_congr (congrArg P (by idx_ext)) ?_
  exact Fin.sum_fin_congr fun r => Ideal.mul_congr (D_apply m c t r k) rfl

theorem stepA15 (h : t.val % 65 = 0) (k : Fin 1024) : (outsAt0 m c t.val t.isLt).2.2 (ix2 0 k : S8x1024.Idx)
    = 0 + ∑ r : Fin 256, td m c t r k * (tx m c t r k * rs (tx m c t r)) := by
  rw [outsAt0_A m c t h]
  frame_open
  simp (disch := decide) only [↓ View.readCov_skip, ↓ View.readCov_fill]
  frame_out
  have e : (ix2 0 k : S8x1024.Idx) = (Rect.unit ![0, 0] ![1, 1024] inb_S8x1024_S1x1024_0_0).emb (ix2 0 k : S1x1024.Idx) := by
    idx_ext
  rw [e]
  refine (View.canon_cons_emb _ _ _ _).trans ?_
  refine (pay3_apply (iblk m c 0 t) _ _ k).trans ?_
  refine Ideal.add_congr (pay5_apply _) ?_
  exact Fin.sum_fin_congr fun r => Ideal.mul_congr (D_apply m c t r k) rfl

/-- The accumulator of the weights' gradient after the last point. -/
theorem sum14 (t : Fin cfg0.N) (ht : t.val + 1 = cfg0.N) (j : S1024x2560.Idx) : (outsAt0 m c t.val t.isLt).2.1 j
    = 0 + ∑ p : Fin cfg0.N, ∑ r : Fin 256, txn m c p r (j 0) * tc m c p r (j 1) :=
  Pipeline.eq_sum_fin_of_reset_step_apply_last (fun n h => (outsAt0 m c n h).2.1) 65 (fun _ => (0 : EReal))
    (fun p j => ∑ r : Fin 256, txn m c p r (j 0) * tc m c p r (j 1)) (fun t h j => stepA14 m c t h j) (fun t h j => stepB14 m c t h j) (le_of_eq N_0) t ht j

/-- The accumulator of the norm weights' gradient after the last point. -/
theorem sum15 (t : Fin cfg0.N) (ht : t.val + 1 = cfg0.N) (k : Fin 1024) : (outsAt0 m c t.val t.isLt).2.2 (ix2 0 k : S8x1024.Idx)
    = 0 + ∑ p : Fin cfg0.N, ∑ r : Fin 256, td m c p r k * (tx m c p r k * rs (tx m c p r)) :=
  Pipeline.eq_sum_fin_of_reset_step_apply_last (fun n h (k : Fin 1024) => ((outsAt0 m c n h).2.2 (ix2 0 k : S8x1024.Idx) : EReal)) 65 (fun _ => (0 : EReal))
    (fun p k => ∑ r : Fin 256, td m c p r k * (tx m c p r k * rs (tx m c p r))) (fun t h j => stepA15 m c t h j) (fun t h j => stepB15 m c t h j) (le_of_eq N_0) t ht k

end Point

end Cert.Proof.Bwd

end
-- ==== Proof.BwdHost.lean ====
/-
  The host's lines around the backward projection, read at an index.
-/
module

public import proofs.«01_k».proof.Proof.BwdVal
public import Idealize.ShloMosaic.Lib.Claim

@[expose] public section

set_option maxRecDepth 16384

noncomputable section

namespace Cert.Proof.Bwd

open Cert.GradIdeal Cert.GradIdeal.Gen
open Idealize.ShloMosaic Idealize.ShloMosaic.TcCoe Idealize.SL.Sem
open Idealize.ShloMosaic.Pipeline (Dat)

/-! ## The lines before -/

/-- The padding value. -/
def hZ : FVec Ideal S_ .f32 := sitofp .f32 (constantI S_ 32 0#32)
/-- Rows padded to whole tiles, at each width. -/
def hR1024 (A : FVec Ideal S1x16400x1024 .f32) : FVec Ideal S16640x1024 .f32 :=
  pad S16640x1024 ![0, 0] ![240, 0] ![0, 0] (shapeCast S16400x1024 A shapeCasts_S1x16400x1024_S16400x1024) hZ pads_S16400x1024_S16640x1024_02400_000 h_S_
def hR512 (A : FVec Ideal S1x16400x512 .f32) : FVec Ideal S16640x512 .f32 :=
  pad S16640x512 ![0, 0] ![240, 0] ![0, 0] (shapeCast S16400x512 A shapeCasts_S1x16400x512_S16400x512) hZ pads_S16400x512_S16640x512_02400_000 h_S_
def hR256 (A : FVec Ideal S1x16400x256 .f32) : FVec Ideal S16640x256 .f32 :=
  pad S16640x256 ![0, 0] ![240, 0] ![0, 0] (shapeCast S16400x256 A shapeCasts_S1x16400x256_S16400x256) hZ pads_S16400x256_S16640x256_02400_000 h_S_
def hR128 (A : FVec Ideal S1x16400x128 .f32) : FVec Ideal S16640x128 .f32 :=
  pad S16640x128 ![0, 0] ![240, 0] ![0, 0] (shapeCast S16400x128 A shapeCasts_S1x16400x128_S16400x128) hZ pads_S16400x128_S16640x128_02400_000 h_S_
/-- The rope's gradient, in the upper half of its lanes. -/
def hRp (A : FVec Ideal S1x16400x32 .f32) : FVec Ideal S16640x128 .f32 :=
  pad S16640x128 ![0, 64] ![240, 32] ![0, 0] (shapeCast S16400x32 A shapeCasts_S1x16400x32_S16400x32) hZ pads_S16400x32_S16640x128_02400_64320 h_S_
/-- The attention gate's gradient, each head's in the lower half of its lanes. -/
def hGt (A : FVec Ideal S1x16400x512 .f32) : FVec Ideal S16640x1024 .f32 :=
  shapeCast S16640x1024 (pad S16640x8x128 ![0, 0, 0] ![240, 0, 64] ![0, 0, 0]
    (shapeCast S16400x8x64 (shapeCast S16400x512 A shapeCasts_S1x16400x512_S16400x512) shapeCasts_S16400x512_S16400x8x64) hZ
    pads_S16400x8x64_S16640x8x128_02400_000_0640 h_S_) shapeCasts_S16640x8x128_S16640x1024
/-- The norm's weights and the skip's weights as rows. -/
def hN (N : FVec Ideal S1024 .f32) : FVec Ideal S1x1024 .f32 := broadcastInDim S1x1024 ![1] bcast_S1024_S1x1024_1 N
def hD (d : FVec Ideal S512 .f32) : FVec Ideal S1x512 .f32 := broadcastInDim S1x512 ![1] bcast_S512_S1x512_1 d
/-- The rope columns, in the upper half of their lanes. -/
def hRope (W : FVec Ideal S1024x1952 .f32) : FVec Ideal S1024x128 .f32 :=
  pad S1024x128 ![0, 64] ![0, 32] ![0, 0] (extractStridedSlice S1024x32 ![0, 384] W slices_S1024x1952_S1024x32_0_384) hZ pads_S1024x32_S1024x128_000_64320 h_S_
/-- The attention gate's columns, each head's in the lower half of its lanes. -/
def hGate (W : FVec Ideal S1024x1952 .f32) : FVec Ideal S1024x1024 .f32 :=
  shapeCast S1024x1024 (pad S1024x8x128 ![0, 0, 0] ![0, 0, 64] ![0, 0, 0]
    (shapeCast S1024x8x64 (extractStridedSlice S1024x512 ![0, 416] W slices_S1024x1952_S1024x512_0_416) shapeCasts_S1024x512_S1024x8x64) hZ
    pads_S1024x8x64_S1024x8x128_000_000_0640 h_S_) shapeCasts_S1024x8x128_S1024x1024
/-- The columns as the region reads them: one to a row. -/
def hW (W : FVec Ideal S1024x1952 .f32) : FVec Ideal S2560x1024 .bf16 :=
  transpose S2560x1024 [1, 0] (truncf .bf16 (concatenate S1024x2560 1 [⟨S1024x1024, hGate W⟩,
    ⟨S1024x512, extractStridedSlice S1024x512 ![0, 928] W slices_S1024x1952_S1024x512_0_928⟩,
    ⟨S1024x512, extractStridedSlice S1024x512 ![0, 1440] W slices_S1024x1952_S1024x512_0_1440⟩,
    ⟨S1024x256, extractStridedSlice S1024x256 ![0, 0] W slices_S1024x1952_S1024x256_0_0⟩,
    ⟨S1024x128, extractStridedSlice S1024x128 ![0, 256] W slices_S1024x1952_S1024x128_0_256⟩,
    ⟨S1024x128, hRope W⟩] concatenates_S1024x1024_S1024x512_S1024x512_S1024x256_S1024x128_S1024x128_S1024x2560_d1) bitsLt_bf16_f32) transposes_S1024x2560_S2560x1024_1_0

theorem z_eq : FloatOps.sitofp (F := Ideal) FTy.f32 (0#32) = (0 : EReal) := by
  show (((0#32).toInt : ℝ) : EReal) = 0
  simp

theorem hR1024_apply (A) (s : Fin 16400) (k : Fin 1024) : hR1024 A (ix2 ⟨s.val, by omega⟩ k : S16640x1024.Idx) = A (ix3 0 s k) := by pointwise [hR1024]
theorem hR512_apply (A) (s : Fin 16400) (k : Fin 512) : hR512 A (ix2 ⟨s.val, by omega⟩ k : S16640x512.Idx) = A (ix3 0 s k) := by pointwise [hR512]
theorem hR256_apply (A) (s : Fin 16400) (k : Fin 256) : hR256 A (ix2 ⟨s.val, by omega⟩ k : S16640x256.Idx) = A (ix3 0 s k) := by pointwise [hR256]
theorem hR128_apply (A) (s : Fin 16400) (k : Fin 128) : hR128 A (ix2 ⟨s.val, by omega⟩ k : S16640x128.Idx) = A (ix3 0 s k) := by pointwise [hR128]
theorem hR1024_pad (A) (s : Fin 240) (k : Fin 1024) : hR1024 A (ix2 ⟨16400 + s.val, by omega⟩ k : S16640x1024.Idx) = 0 := by
  pointwise [hR1024, hZ]
  exact z_eq
theorem hRp_apply (A) (s : Fin 16400) (k : Fin 32) : hRp A (ix2 ⟨s.val, by omega⟩ ⟨64 + k.val, by omega⟩ : S16640x128.Idx) = A (ix3 0 s k) := by pointwise [hRp]
theorem hRp_lo (A) (s : Fin 16400) (k : Fin 64) : hRp A (ix2 ⟨s.val, by omega⟩ ⟨k.val, by omega⟩ : S16640x128.Idx) = 0 := by
  pointwise [hRp, hZ]
  rw [dif_neg (by first | omega | exact fun h => h.1)]
  exact z_eq
theorem hRp_hi (A) (s : Fin 16400) (k : Fin 32) : hRp A (ix2 ⟨s.val, by omega⟩ ⟨96 + k.val, by omega⟩ : S16640x128.Idx) = 0 := by
  pointwise [hRp, hZ]
  rw [dif_neg (by first | omega | exact fun h => h.1)]
  exact z_eq
theorem hGt_apply (A) (s : Fin 16400) (h : Fin 8) (d : Fin 64) : hGt A (ix2 ⟨s.val, by omega⟩ ⟨h.val * 128 + d.val, by omega⟩ : S16640x1024.Idx)
    = A (ix3 0 s ⟨h.val * 64 + d.val, by omega⟩) := by
  pointwise [hGt]
  rw [dif_pos (by omega)]
  exact congrArg A (congrArg (ix3 0 s) (Fin.ext (by dsimp only; omega)))
theorem hGt_hi (A) (s : Fin 16400) (h : Fin 8) (d : Fin 64) : hGt A (ix2 ⟨s.val, by omega⟩ ⟨h.val * 128 + (64 + d.val), by omega⟩ : S16640x1024.Idx) = 0 := by
  pointwise [hGt, hZ]
  rw [dif_neg (by first | omega | exact fun h => h.1)]
  exact z_eq
theorem hN_apply (N) (k : Fin 1024) : hN N (ix2 0 k : S1x1024.Idx) = N (ix1 k) := by pointwise [hN]
theorem hD_apply (d) (k : Fin 512) : hD d (ix2 0 k : S1x512.Idx) = d (ix1 k) := by pointwise [hD]
theorem hW_q (W : FVec Ideal S1024x1952 .f32) (k : Fin 1024) (d : Fin 256) : hW W (ix2 ⟨2048 + d.val, by omega⟩ k : S2560x1024.Idx) = W (ix2 k ⟨d.val, by omega⟩) := by
  pointwise [hW]
  repeat' split
  all_goals first
    | (exfalso; omega)
    | exact congrArg W (congrArg (ix2 k) (Fin.ext (by dsimp only; omega)))
theorem hW_v (W : FVec Ideal S1024x1952 .f32) (k : Fin 1024) (d : Fin 128) : hW W (ix2 ⟨2304 + d.val, by omega⟩ k : S2560x1024.Idx) = W (ix2 k ⟨256 + d.val, by omega⟩) := by
  pointwise [hW]
  repeat' split
  all_goals first
    | (exfalso; omega)
    | exact congrArg W (congrArg (ix2 k) (Fin.ext (by dsimp only; omega)))
theorem hW_p (W : FVec Ideal S1024x1952 .f32) (k : Fin 1024) (d : Fin 32) : hW W (ix2 ⟨2432 + (64 + d.val), by omega⟩ k : S2560x1024.Idx) = W (ix2 k ⟨384 + d.val, by omega⟩) := by
  pointwise [hW, hRope]
  repeat' split
  all_goals first
    | (exfalso; omega)
    | exact congrArg W (congrArg (ix2 k) (Fin.ext (by dsimp only; omega)))
theorem hW_g (W : FVec Ideal S1024x1952 .f32) (k : Fin 1024) (h : Fin 8) (d : Fin 64) : hW W (ix2 ⟨h.val * 128 + d.val, by omega⟩ k : S2560x1024.Idx) = W (ix2 k ⟨416 + (h.val * 64 + d.val), by omega⟩) := by
  pointwise [hW, hGate]
  repeat' split
  all_goals first
    | (exfalso; omega)
    | exact congrArg W (congrArg (ix2 k) (Fin.ext (by dsimp only; omega)))
theorem hW_u (W : FVec Ideal S1024x1952 .f32) (k : Fin 1024) (d : Fin 512) : hW W (ix2 ⟨1024 + d.val, by omega⟩ k : S2560x1024.Idx) = W (ix2 k ⟨928 + d.val, by omega⟩) := by
  pointwise [hW]
  repeat' split
  all_goals first
    | (exfalso; omega)
    | exact congrArg W (congrArg (ix2 k) (Fin.ext (by dsimp only; omega)))
theorem hW_s (W : FVec Ideal S1024x1952 .f32) (k : Fin 1024) (d : Fin 512) : hW W (ix2 ⟨1536 + d.val, by omega⟩ k : S2560x1024.Idx) = W (ix2 k ⟨1440 + d.val, by omega⟩) := by
  pointwise [hW]
  repeat' split
  all_goals first
    | (exfalso; omega)
    | exact congrArg W (congrArg (ix2 k) (Fin.ext (by dsimp only; omega)))

/-! ## The lines after -/

/-- The rows of the argument. -/
def gH (A : FVec Ideal S16640x1024 .f32) : FVec Ideal S1x16400x1024 .f32 :=
  broadcastInDim S1x16400x1024 ![1, 2] bcast_S16400x1024_S1x16400x1024_1_2 (extractStridedSlice S16400x1024 ![0, 0] A slices_S16640x1024_S16400x1024_0_0)
/-- The first row. -/
def gN (A : FVec Ideal S8x1024 .f32) : FVec Ideal S1024 .f32 := shapeCast S1024 (extractStridedSlice S1x1024 ![0, 0] A slices_S8x1024_S1x1024_0_0) shapeCasts_S1x1024_S1024
/-- The columns in the argument's order. -/
def gW (A : FVec Ideal S1024x2560 .f32) : FVec Ideal S1024x1952 .f32 :=
  concatenate S1024x1952 1 [⟨S1024x256, extractStridedSlice S1024x256 ![0, 2048] A slices_S1024x2560_S1024x256_0_2048⟩,
    ⟨S1024x128, extractStridedSlice S1024x128 ![0, 2304] A slices_S1024x2560_S1024x128_0_2304⟩,
    ⟨S1024x32, extractStridedSlice S1024x32 ![0, 2496] A slices_S1024x2560_S1024x32_0_2496⟩,
    ⟨S1024x512, shapeCast S1024x512 (extractStridedSlice S1024x8x64 ![0, 0, 0]
      (shapeCast S1024x8x128 (extractStridedSlice S1024x1024 ![0, 0] A slices_S1024x2560_S1024x1024_0_0) shapeCasts_S1024x1024_S1024x8x128)
      slices_S1024x8x128_S1024x8x64_0_0_0) shapeCasts_S1024x8x64_S1024x512⟩,
    ⟨S1024x512, extractStridedSlice S1024x512 ![0, 1024] A slices_S1024x2560_S1024x512_0_1024⟩,
    ⟨S1024x512, extractStridedSlice S1024x512 ![0, 1536] A slices_S1024x2560_S1024x512_0_1536⟩] concatenates_S1024x256_S1024x128_S1024x32_S1024x512_S1024x512_S1024x512_S1024x1952_d1

theorem gH_apply (A) (s : Fin 16400) (k : Fin 1024) : gH A (ix3 0 s k : S1x16400x1024.Idx) = A (ix2 ⟨s.val, by omega⟩ k) := by pointwise [gH]
theorem gN_apply (A) (k : Fin 1024) : gN A (ix1 k : S1024.Idx) = A (ix2 0 k) := by pointwise [gN]
theorem gW_q (A : FVec Ideal S1024x2560 .f32) (k : Fin 1024) (d : Fin 256) : gW A (ix2 k ⟨d.val, by omega⟩ : S1024x1952.Idx) = A (ix2 k ⟨2048 + d.val, by omega⟩) := by
  pointwise [gW]
  repeat' split
  all_goals first
    | (exfalso; omega)
    | exact congrArg A (congrArg (ix2 k) (Fin.ext (by dsimp only; omega)))
theorem gW_v (A : FVec Ideal S1024x2560 .f32) (k : Fin 1024) (d : Fin 128) : gW A (ix2 k ⟨256 + d.val, by omega⟩ : S1024x1952.Idx) = A (ix2 k ⟨2304 + d.val, by omega⟩) := by
  pointwise [gW]
  repeat' split
  all_goals first
    | (exfalso; omega)
    | exact congrArg A (congrArg (ix2 k) (Fin.ext (by dsimp only; omega)))
theorem gW_p (A : FVec Ideal S1024x2560 .f32) (k : Fin 1024) (d : Fin 32) : gW A (ix2 k ⟨384 + d.val, by omega⟩ : S1024x1952.Idx) = A (ix2 k ⟨2432 + (64 + d.val), by omega⟩) := by
  pointwise [gW]
  repeat' split
  all_goals first
    | (exfalso; omega)
    | exact congrArg A (congrArg (ix2 k) (Fin.ext (by dsimp only; omega)))
theorem gW_g (A : FVec Ideal S1024x2560 .f32) (k : Fin 1024) (h : Fin 8) (d : Fin 64) : gW A (ix2 k ⟨416 + (h.val * 64 + d.val), by omega⟩ : S1024x1952.Idx) = A (ix2 k ⟨h.val * 128 + d.val, by omega⟩) := by
  pointwise [gW]
  repeat' split
  all_goals first
    | (exfalso; omega)
    | exact congrArg A (congrArg (ix2 k) (Fin.ext (by dsimp only; omega)))
theorem gW_u (A : FVec Ideal S1024x2560 .f32) (k : Fin 1024) (d : Fin 512) : gW A (ix2 k ⟨928 + d.val, by omega⟩ : S1024x1952.Idx) = A (ix2 k ⟨1024 + d.val, by omega⟩) := by
  pointwise [gW]
  repeat' split
  all_goals first
    | (exfalso; omega)
    | exact congrArg A (congrArg (ix2 k) (Fin.ext (by dsimp only; omega)))
theorem gW_s (A : FVec Ideal S1024x2560 .f32) (k : Fin 1024) (d : Fin 512) : gW A (ix2 k ⟨1440 + d.val, by omega⟩ : S1024x1952.Idx) = A (ix2 k ⟨1536 + d.val, by omega⟩) := by
  pointwise [gW]
  repeat' split
  all_goals first
    | (exfalso; omega)
    | exact congrArg A (congrArg (ix2 k) (Fin.ext (by dsimp only; omega)))

end Cert.Proof.Bwd

end
-- ==== Proof.BwdHostW.lean ====
/-
  The backward projection's results, from the arrays its region writes.
-/
module

public import proofs.«01_k».proof.Proof.BwdHost
public import Idealize.ShloMosaic.Lib.Claim

@[expose] public section

set_option maxRecDepth 16384

noncomputable section

namespace Cert.Proof.Bwd

open Cert.GradIdeal Cert.GradIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem W49 : Pipeline.afterTail₀ cfgs (dats m) 0 (V0 m) [hostOps1] c main_v49 = gH ((dats m 0 c).arrAt 13 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 13
  generalize Pipeline.withArrays (cfgs 0).spec c (V0 m c) (fun w => (dats m 0 c).arrAt w (cfgs 0).N) = W at h ⊢
  generalize (dats m 0 c).arrAt 13 cfg0.N = A at h ⊢
  subst h
  rfl
theorem W51 : Pipeline.afterTail₀ cfgs (dats m) 0 (V0 m) [hostOps1] c main_v51 = gN ((dats m 0 c).arrAt 15 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 15
  generalize Pipeline.withArrays (cfgs 0).spec c (V0 m c) (fun w => (dats m 0 c).arrAt w (cfgs 0).N) = W at h ⊢
  generalize (dats m 0 c).arrAt 15 cfg0.N = A at h ⊢
  subst h
  rfl
theorem W47 : Pipeline.afterTail₀ cfgs (dats m) 0 (V0 m) [hostOps1] c main_v47 = gW ((dats m 0 c).arrAt 14 cfg0.N) := by
  unfold Pipeline.afterTail₀
  simp only [hostOps1, List.flatten_cons, List.flatten_nil, List.append_nil, List.cons_append, List.nil_append, StableHlo.after_cons, StableHlo.after_nil]
  after_results_simp
  have h := Pipeline.withArrays_arr (cfgs 0).spec launch0.win.arr_inj c (V0 m c) (fun w => (dats m 0 c).arrAt w (cfgs 0).N) 14
  generalize Pipeline.withArrays (cfgs 0).spec c (V0 m c) (fun w => (dats m 0 c).arrAt w (cfgs 0).N) = W at h ⊢
  generalize (dats m 0 c).arrAt 14 cfg0.N = A at h ⊢
  subst h
  rfl

end Cert.Proof.Bwd

end
-- ==== Proof.BwdHostA.lean ====
/-
  The arrays the backward projection's region reads, from the arguments (first half).
-/
module

public import proofs.«01_k».proof.Proof.BwdHost
public import Idealize.ShloMosaic.Lib.Claim

@[expose] public section

set_option maxRecDepth 16384

noncomputable section

namespace Cert.Proof.Bwd

open Cert.GradIdeal Cert.GradIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev iH : FVec Ideal S1x16400x1024 .f32 := V0 m c main_arg0
abbrev iN : FVec Ideal S1024 .f32 := V0 m c main_arg1
abbrev iWi : FVec Ideal S1024x1952 .f32 := V0 m c main_arg2
abbrev iD : FVec Ideal S512 .f32 := V0 m c main_arg3
abbrev iO : FVec Ideal S1x16400x1024 .f32 := V0 m c main_arg4
abbrev iQ : FVec Ideal S1x16400x256 .f32 := V0 m c main_arg5
abbrev iV : FVec Ideal S1x16400x128 .f32 := V0 m c main_arg6
abbrev iP : FVec Ideal S1x16400x32 .f32 := V0 m c main_arg7
abbrev iG : FVec Ideal S1x16400x512 .f32 := V0 m c main_arg8
abbrev iA : FVec Ideal S1x16400x512 .f32 := V0 m c main_arg9
abbrev iB : FVec Ideal S1x16400x512 .f32 := V0 m c main_arg10
abbrev iY : FVec Ideal S1x16400x512 .f32 := V0 m c main_arg11
abbrev iS : FVec Ideal S1x16400x512 .f32 := V0 m c main_arg12

set_option maxHeartbeats 3200000 in
theorem V_v7 : V m c main_v7 = hR1024 (iH m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v8 : V m c main_v8 = hN (iN m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v10 : V m c main_v10 = hR1024 (iO m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v3 : V m c main_v3 = hGt (iG m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v12 : V m c main_v12 = hR512 (iA m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v14 : V m c main_v14 = hR512 (iB m c) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

end Cert.Proof.Bwd

end
-- ==== Proof.BwdHostB.lean ====
/-
  The arrays the backward projection's region reads, from the arguments (second half).
-/
module

public import proofs.«01_k».proof.Proof.BwdHost
public import Idealize.ShloMosaic.Lib.Claim

@[expose] public section

set_option maxRecDepth 16384

noncomputable section

namespace Cert.Proof.Bwd

open Cert.GradIdeal Cert.GradIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

set_option maxHeartbeats 3200000 in
theorem V_v16 : V m c main_v16 = hR512 (V0 m c main_arg11) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v17 : V m c main_v17 = hD (V0 m c main_arg3) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v19 : V m c main_v19 = hR512 (V0 m c main_arg12) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v21 : V m c main_v21 = hR256 (V0 m c main_arg5) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v23 : V m c main_v23 = hR128 (V0 m c main_arg6) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v5 : V m c main_v5 = hRp (V0 m c main_arg7) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

set_option maxHeartbeats 3200000 in
theorem V_v36 : V m c main_v36 = hW (V0 m c main_arg2) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, StableHlo.after_cons, StableHlo.after_nil]
  after_results_simp
  try simp only [StableHlo.TRef.ofBuf, StableHlo.TRef.toBuf, StableHlo.TRef.ofBuf_toBuf, cast_eq]
  try rfl

end Cert.Proof.Bwd

end
-- ==== Proof.BwdArr.lean ====
/-
  The three arrays the backward projection's region writes, over the arrays it reads.
-/
module

public import proofs.«01_k».proof.Proof.BwdVal

@[expose] public section

set_option maxRecDepth 16384

noncomputable section

namespace Cert.Proof.Bwd

open Cert.GradIdeal Cert.GradIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![t.val, 0]
    ∧ win0_9.index t = ![t.val, 0] ∧ win0_10.index t = ![t.val, 0] ∧ win0_11.index t = ![t.val, 0] ∧ win0_12.index t = ![0, 0] ∧ win0_13.index t = ![t.val, 0]
    ∧ win0_14.index t = ![0, 0] ∧ win0_15.index t = ![0, 0] :=
  (by decide +kernel : ∀ t : Fin grid0.N, _)

/-! ## The arrays read -/

def ax (i : Fin 16640) (k : Fin 1024) : EReal := V m c main_v7 (ix2 i k : S16640x1024.Idx)
def aw (k : Fin 1024) : EReal := V m c main_v8 (ix2 0 k : S1x1024.Idx)
def ao (i : Fin 16640) (k : Fin 1024) : EReal := V m c main_v10 (ix2 i k : S16640x1024.Idx)
def ag (i : Fin 16640) (e : Fin 1024) : EReal := V m c main_v3 (ix2 i e : S16640x1024.Idx)
def au (i : Fin 16640) (e : Fin 512) : EReal :=
  (show FVec Ideal S16640x512 .f32 from V m c main_v12) (ix2 i e) + (show FVec Ideal S16640x512 .f32 from V m c main_v14) (ix2 i e)
    + (show FVec Ideal S16640x512 .f32 from V m c main_v16) (ix2 i e) * (show FVec Ideal S1x512 .f32 from V m c main_v17) (ix2 0 e)
def as' (i : Fin 16640) (e : Fin 512) : EReal := V m c main_v19 (ix2 i e : S16640x512.Idx)
def aq (i : Fin 16640) (e : Fin 256) : EReal := V m c main_v21 (ix2 i e : S16640x256.Idx)
def av (i : Fin 16640) (e : Fin 128) : EReal := V m c main_v23 (ix2 i e : S16640x128.Idx)
def ap (i : Fin 16640) (e : Fin 128) : EReal := V m c main_v5 (ix2 i e : S16640x128.Idx)
def aW (j : Fin 2560) (k : Fin 1024) : EReal := V m c main_v36 (ix2 j k : S2560x1024.Idx)
/-- A normalised row. -/
def axn (i : Fin 16640) (k : Fin 1024) : EReal := ax m c i k * rs (ax m c i) * aw m c k
/-- The gradients of its products. -/
def ac (i : Fin 16640) : Fin 2560 → EReal := cols (ag m c i) (au m c i) (as' m c i) (aq m c i) (av m c i) (ap m c i)
/-- The gradient of a normalised row. -/
def ad (i : Fin 16640) (k : Fin 1024) : EReal := dn (ag m c i) (au m c i) (as' m c i) (aq m c i) (av m c i) (ap m c i) fun j => aW m c j k

/-! ## The blocks -/

section Blocks
variable (t : Fin cfg0.N)

/-- A tile's row in the array. -/
def row (r : Fin 256) : Fin 16640 := ⟨t.val * 256 + r.val, by have : t.val < 65 := t.isLt; omega⟩

theorem tx_eq (r : Fin 256) : tx m c t r = ax m c (row t r) := by
  funext k; unfold tx ax row; blk_ext [iblk, idx t]
theorem tw_eq : tw m c t = aw m c := by
  funext k; unfold tw aw; blk_ext [iblk, idx t]
theorem tr_eq (r : Fin 256) : tr m c t r = ao m c (row t r) := by
  funext k; unfold tr ao row; blk_ext [iblk, idx t]
theorem tg_eq (r : Fin 256) : tg m c t r = ag m c (row t r) := by
  funext k; unfold tg ag row; blk_ext [iblk, idx t]
theorem blk4 (r : Fin 256) (k : Fin 512) : iblk m c 4 t (ix2 r k : S256x512.Idx) = V m c main_v12 (ix2 (row t r) k : S16640x512.Idx) := by
  unfold row; blk_ext [iblk, idx t]
theorem blk5 (r : Fin 256) (k : Fin 512) : iblk m c 5 t (ix2 r k : S256x512.Idx) = V m c main_v14 (ix2 (row t r) k : S16640x512.Idx) := by
  unfold row; blk_ext [iblk, idx t]
theorem blk6 (r : Fin 256) (k : Fin 512) : iblk m c 6 t (ix2 r k : S256x512.Idx) = V m c main_v16 (ix2 (row t r) k : S16640x512.Idx) := by
  unfold row; blk_ext [iblk, idx t]
theorem blk7 (k : Fin 512) : iblk m c 7 t (ix2 0 k : S1x512.Idx) = V m c main_v17 (ix2 0 k : S1x512.Idx) := by
  blk_ext [iblk, idx t]
theorem tu_eq (r : Fin 256) : tu m c t r = au m c (row t r) := by
  funext e
  exact Ideal.add_congr (Ideal.add_congr (blk4 m c t r e) (blk5 m c t r e)) (Ideal.mul_congr (blk6 m c t r e) (blk7 m c t e))
theorem ts_eq (r : Fin 256) : ts m c t r = as' m c (row t r) := by
  funext k; unfold ts as' row; blk_ext [iblk, idx t]
theorem tq_eq (r : Fin 256) : tq m c t r = aq m c (row t r) := by
  funext k; unfold tq aq row; blk_ext [iblk, idx t]
theorem tv_eq (r : Fin 256) : tv m c t r = av m c (row t r) := by
  funext k; unfold tv av row; blk_ext [iblk, idx t]
theorem tp_eq (r : Fin 256) : tp m c t r = ap m c (row t r) := by
  funext k; unfold tp ap row; blk_ext [iblk, idx t]
theorem tW_eq (j : Fin 2560) (k : Fin 1024) : iblk m c 12 t (ix2 j k : S2560x1024.Idx) = aW m c j k := by
  unfold aW; blk_ext [iblk, idx t]
theorem txn_eq (r : Fin 256) (k : Fin 1024) : txn m c t r k = axn m c (row t r) k := by
  unfold txn axn; rw [tx_eq, tw_eq]
theorem tc_eq (r : Fin 256) : tc m c t r = ac m c (row t r) := by
  unfold tc ac; rw [tg_eq, tu_eq, ts_eq, tq_eq, tv_eq, tp_eq]
theorem td_eq (r : Fin 256) : td m c t r = ad m c (row t r) := by
  funext k; unfold td ad; rw [tg_eq, tu_eq, ts_eq, tq_eq, tv_eq, tp_eq]
  exact congrArg _ (funext fun j => tW_eq m c t j k)
end Blocks

/-! ## The arrays written -/

theorem sum_tiles (f : Fin 16640 → EReal) : ∑ p : Fin cfg0.N, ∑ r : Fin 256, f (row p r) = ∑ i, f i :=
  (Fin.sum_univ_tiles 65 256 rfl f).symm

/-- The last point. -/
def last : Fin cfg0.N := ⟨64, by rw [show cfg0.N = 65 from N_0]; omega⟩

/-- The gradient of the rows. -/
def arr13 (i : S16640x1024.Idx) : EReal := ao m c (i 0) (i 1) + dx (ax m c (i 0)) (aw m c) (ad m c (i 0)) (i 1)

theorem row13 (t : Fin cfg0.N) (r : Fin 256) (k : Fin 1024) : (outsAt0 m c t.val t.isLt).1 (ix2 r k : S256x1024.Idx)
    = ao m c (row t r) k + dx (ax m c (row t r)) (aw m c) (ad m c (row t r)) k := by
  rw [step13, tr_eq, tx_eq, tw_eq, td_eq]

theorem final13 : (dats m 0 c).arrAt 13 cfg0.N = arr13 m c := by
  refine (dats m 0 c).arrAt_eq_of_covers 13 _ (by decide +kernel) fun t hf y => ?_
  have a0 : (((cfg0.win 13).blk t).view.emb y 0).val = t.val * 256 + (y 0).val := by blk_simp [idx t]
  have a1 : (((cfg0.win 13).blk t).view.emb y 1).val = (y 1).val := by blk_simp [idx t]
  have e : arr13 m c (((cfg0.win 13).blk t).view.emb y) = (outsAt0 m c t.val t.isLt).1 (ix2 (y 0) (y 1) : S256x1024.Idx) := by
    refine Eq.trans ?_ (row13 m c t (y 0) (y 1)).symm
    have h0 : ((((cfg0.win 13).blk t).view.emb y) 0 : Fin 16640) = row t (y 0) := Fin.ext a0
    have h1 : ((((cfg0.win 13).blk t).view.emb y) 1 : Fin 1024) = y 1 := Fin.ext a1
    unfold arr13
    rw [h0, h1]
  refine Eq.trans ?_ e.symm
  clear e a0 a1
  blk_simp
  rw [after0_13]
  exact congrArg (outsAt0 m c t.val t.isLt).1 (eq_ix2 (n0 := 256) (n1 := 1024) y)

theorem final14 : (dats m 0 c).arrAt 14 cfg0.N = (outsAt0 m c last.val last.isLt).2.1 := by
  refine (dats m 0 c).arrAt_eq_of_covers 14 _ (by decide +kernel) fun t hf y => ?_
  have ht : t = last := Fin.ext (by have := (flush0_14 t).mp hf; have : t.val < 65 := t.isLt; simp only [last]; omega)
  have a : ((cfg0.win 14).blk t).view.emb y = y := by blk_ext [idx t]
  rw [a, ht]
  blk_simp
  rw [after0_14]

theorem final15 : (dats m 0 c).arrAt 15 cfg0.N = (outsAt0 m c last.val last.isLt).2.2 := by
  refine (dats m 0 c).arrAt_eq_of_covers 15 _ (by decide +kernel) fun t hf y => ?_
  have ht : t = last := Fin.ext (by have := (flush0_15 t).mp hf; have : t.val < 65 := t.isLt; simp only [last]; omega)
  have a : ((cfg0.win 15).blk t).view.emb y = y := by blk_ext [idx t]
  rw [a, ht]
  blk_simp
  rw [after0_15]

/-- The gradient of the weights, over the padded rows. -/
theorem arr14 (k : Fin 1024) (j : Fin 2560) : (dats m 0 c).arrAt 14 cfg0.N (ix2 k j : S1024x2560.Idx) = ∑ i : Fin 16640, axn m c i k * ac m c i j := by
  rw [final14]
  refine (sum14 m c last rfl (ix2 k j)).trans ?_
  rw [zero_add, ← sum_tiles]
  exact Finset.sum_congr rfl fun p _ => Finset.sum_congr rfl fun r _ => Ideal.mul_congr (txn_eq m c p r k) (congrFun (tc_eq m c p r) j)

/-- The gradient of the norm's weights, over the padded rows. -/
theorem arr15 (k : Fin 1024) : (dats m 0 c).arrAt 15 cfg0.N (ix2 0 k : S8x1024.Idx) = ∑ i : Fin 16640, ad m c i k * (ax m c i k * rs (ax m c i)) := by
  rw [final15]
  refine (sum15 m c last rfl k).trans ?_
  rw [zero_add, ← sum_tiles]
  exact Finset.sum_congr rfl fun p _ => Finset.sum_congr rfl fun r _ => by rw [td_eq, tx_eq]

end Cert.Proof.Bwd

end
-- ==== Proof.BwdReal.lean ====
/- The gradient of a row of real numbers through its normalisation, written in two ways. -/
module

public import proofs.«01_k».proof.Proof.BwdPay
public import proofs.«01_k».proof.Proof.Reals

@[expose] public section

noncomputable section

namespace Cert.Proof.Bwd

open Idealize.ShloMosaic
open Cert.Proof.Reals

theorem bits_width : Ideal.ofBits FTy.f32 0x44800000#32 = ((1024 : ℝ) : EReal) := by
  simp [Ideal.ofBits, Ideal.ieee, -EReal.coe_mul]; norm_num
theorem bits_mean : Ideal.ofBits FTy.f32 0x3A800000#32 = ((1 / 1024 : ℝ) : EReal) := by
  simp [Ideal.ofBits, Ideal.ieee, -EReal.coe_mul]; norm_num
theorem bits_half : Ideal.ofBits FTy.f32 0xBF000000#32 = ((-(1 / 2) : ℝ) : EReal) := by
  simp [Ideal.ofBits, Ideal.ieee, -EReal.coe_mul]; norm_num
theorem bits_eps : ∃ r : ℝ, 0 < r ∧ Ideal.ofBits FTy.f32 0x358637BD#32 = (r : EReal) := by
  refine ⟨8796093 / 2 ^ 43, by norm_num, ?_⟩
  simp [Ideal.ofBits, Ideal.ieee, -EReal.coe_mul]
  norm_num

/-- A division by the width is a product with its inverse. -/
theorem mean_eq (s : EReal) : Ideal.div s (Ideal.ofBits .f32 0x44800000#32) = s * Ideal.ofBits .f32 0x3A800000#32 := by
  rw [bits_width, bits_mean, Ideal.div_coe (by norm_num)]

/-- The mean square of a row, kept off zero. -/
def ms (x : Fin 1024 → EReal) : EReal := (∑ l, x l * x l) * Ideal.ofBits .f32 0x3A800000#32 + Ideal.ofBits .f32 0x358637BD#32

/-- The coefficient of the row in its gradient, as a derivative states it: of each of the two factors of its square. -/
def co (x w D : Fin 1024 → EReal) : EReal :=
  (∑ l, x l * (D l * w l)) * (Ideal.ofBits .f32 0xBF000000#32 * Ideal.div (rs x) (ms x)) * Ideal.ofBits .f32 0x3A800000#32

theorem self_nonneg (z : EReal) : 0 ≤ z * z := by
  induction z using EReal.rec with
  | bot => simp
  | top => simp
  | coe r => rw [← EReal.coe_mul]; exact_mod_cast mul_self_nonneg r

/-- The inverse of a row's size, its cube, and its quotient by the mean square are real numbers, the last two the same: when the row
    is not finite, they are zero. -/
theorem cube (x : Fin 1024 → EReal) : ∃ t : ℝ, rs x * rs x * rs x = (t : EReal) ∧ Ideal.div (rs x) (ms x) = (t : EReal) := by
  obtain ⟨e, he, hb⟩ := bits_eps
  have hr : rs x = Ideal.rsqrt (ms x) := rfl
  have h0 : 0 ≤ ∑ l, x l * x l := Finset.sum_nonneg fun l _ => self_nonneg (x l)
  have hm : ms x = (∑ l, x l * x l) * ((1 / 1024 : ℝ) : EReal) + (e : EReal) := by
    unfold ms
    rw [bits_mean, hb]
  rw [hr]
  generalize ms x = M at hm ⊢
  generalize ∑ l, x l * x l = A at hm h0
  induction A using EReal.rec with
  | bot => exact absurd h0 (by simp)
  | top =>
    rw [EReal.top_mul_coe_of_pos (by norm_num), EReal.top_add_coe] at hm
    subst hm
    exact ⟨0, by simp, by simp [Ideal.div]⟩
  | coe a =>
    have ha : 0 ≤ a := by exact_mod_cast h0
    have hp : 0 < a * (1 / 1024) + e := add_pos_of_nonneg_of_pos (mul_nonneg ha (by norm_num)) he
    rw [← EReal.coe_mul, ← EReal.coe_add] at hm
    generalize a * (1 / 1024) + e = R at hm hp
    subst hm
    have hs : Real.sqrt R ≠ 0 := (Real.sqrt_pos.2 hp).ne'
    have hq : Real.sqrt R * Real.sqrt R = R := Real.mul_self_sqrt hp.le
    rw [Ideal.rsqrt_coe, if_neg (not_lt.2 hp.le), if_neg hp.ne', div_eq_coe _ _ hp.ne']
    refine ⟨_, ?_, rfl⟩
    rw [← EReal.coe_mul, ← EReal.coe_mul, EReal.coe_eq_coe_iff]
    generalize Real.sqrt R = Q at *
    subst hq
    field_simp

/-- A product is subtracted, or half of it is twice. -/
theorem halves (z : EReal) (r : ℝ) : -(z * (r : EReal)) = z * ((-(1 / 2) * r : ℝ) : EReal) + z * ((-(1 / 2) * r : ℝ) : EReal) := by
  induction z using EReal.rec with
  | coe y =>
    simp only [← EReal.coe_mul, ← EReal.coe_add, ← EReal.coe_neg]
    rw [EReal.coe_eq_coe_iff]
    ring
  | top =>
    rcases lt_trichotomy r 0 with h | rfl | h
    · rw [EReal.top_mul_coe_of_neg h, EReal.top_mul_coe_of_pos (by linarith)]; simp
    · simp
    · rw [EReal.top_mul_coe_of_pos h, EReal.top_mul_coe_of_neg (by linarith)]; simp
  | bot =>
    rcases lt_trichotomy r 0 with h | rfl | h
    · rw [EReal.bot_mul_coe_of_neg h, EReal.bot_mul_coe_of_pos (by linarith)]; simp
    · simp
    · rw [EReal.bot_mul_coe_of_pos h, EReal.bot_mul_coe_of_neg (by linarith)]; simp

/-- The two forms of a row's gradient, of any numbers. -/
theorem dx_eq (x w D : Fin 1024 → EReal) (o : EReal) (k : Fin 1024) :
    o + dx x w D k = o + D k * w k * rs x + x k * co x w D + co x w D * x k := by
  obtain ⟨t, h3, hd⟩ := cube x
  have hc : ∑ l, x l * (D l * w l) = ∑ l, D l * w l * x l := Finset.sum_congr rfl fun l _ => mul_comm _ _
  unfold dx co
  rw [h3, hd, hc, bits_mean, bits_half]
  generalize ∑ l, D l * w l * x l = T
  have e1 : x k * (t : EReal) * (T * ((1 / 1024 : ℝ) : EReal)) = x k * T * ((t * (1 / 1024) : ℝ) : EReal) := by
    rw [EReal.coe_mul]; ac_rfl
  have e2 : T * (((-(1 / 2) : ℝ) : EReal) * (t : EReal)) * ((1 / 1024 : ℝ) : EReal) = T * ((-(1 / 2) * (t * (1 / 1024)) : ℝ) : EReal) := by
    rw [EReal.coe_mul, EReal.coe_mul]; ac_rfl
  rw [e1, e2, mul_comm (T * _) (x k), ← mul_assoc (x k) T, sub_eq_add_neg, halves, mul_comm (rs x)]
  simp only [add_assoc]

end Cert.Proof.Bwd

end
-- ==== Proof.BwdRef.lean ====
/- The reference's gradients at an index. -/
module

public import proofs.«01_k».proof.Proof.BwdReal
public import proofs.«01_k».proof.Proof.Gen.GradReferenceIdeal.Read
public import Idealize.ShloMosaic.Lib.Pointwise

@[expose] public section

set_option maxRecDepth 16384

noncomputable section

namespace Cert.Proof.Bwd

open Cert.GradReferenceIdeal Cert.GradReferenceIdeal.Gen Cert.GradReferenceIdeal.Read
open Idealize.ShloMosaic Idealize.ShloMosaic.TcCoe Idealize.SL.Sem

/-- A host sum over axes of one place each is its one number, after the initial one. -/
theorem host_sum_one {s t : Shape} {axes : List (Fin s.rank)} (h : s.ReducesTo axes t) (x : s.Idx → EReal) (init : EReal) (i : s.Idx) (j : t.Idx)
    (hi : ∀ i', h.drop i' = j ↔ i' = i) : Ideal.hostReduceAdd h x init j = init + x i := by
  unfold Ideal.hostReduceAdd
  refine congrArg (init + ·) ?_
  rw [Finset.sum_eq_single i]
  · intro b hb hn
    exact absurd ((hi b).1 (Finset.mem_filter.1 hb).2) hn
  · intro hn
    refine absurd ?_ hn
    rw [Finset.mem_filter]
    exact ⟨Finset.mem_univ _, (hi i).2 rfl⟩

/-- A sum over the columns, piece by piece. -/
theorem sum_six (f : Fin 1952 → EReal) : ∑ j, f j
    = ∑ e : Fin 256, f ⟨e.val, by omega⟩ + (∑ e : Fin 128, f ⟨256 + e.val, by omega⟩ + (∑ e : Fin 32, f ⟨384 + e.val, by omega⟩
      + (∑ e : Fin 512, f ⟨416 + e.val, by omega⟩ + (∑ e : Fin 512, f ⟨928 + e.val, by omega⟩ + ∑ e : Fin 512, f ⟨1440 + e.val, by omega⟩)))) := by
  refine (Fin.sum_univ_add (a := 256) (b := 1696) f).trans (congrArg₂ (· + ·) rfl ?_)
  refine (Fin.sum_univ_add (a := 128) (b := 1568) _).trans (congrArg₂ (· + ·) rfl ?_)
  refine (Fin.sum_univ_add (a := 32) (b := 1536) _).trans (congrArg₂ (· + ·) ?_ ?_)
  · exact Finset.sum_congr rfl fun e _ => congrArg f (Fin.ext (by simp only [Fin.val_natAdd, Fin.val_castAdd]; omega))
  refine (Fin.sum_univ_add (a := 512) (b := 1024) _).trans (congrArg₂ (· + ·) ?_ ?_)
  · exact Finset.sum_congr rfl fun e _ => congrArg f (Fin.ext (by simp only [Fin.val_natAdd, Fin.val_castAdd]; omega))
  refine (Fin.sum_univ_add (a := 512) (b := 512) _).trans (congrArg₂ (· + ·) ?_ ?_)
  · exact Finset.sum_congr rfl fun e _ => congrArg f (Fin.ext (by simp only [Fin.val_natAdd, Fin.val_castAdd]; omega))
  · exact Finset.sum_congr rfl fun e _ => congrArg f (Fin.ext (by simp only [Fin.val_natAdd, Fin.val_castAdd]; omega))

section
variable (H : FVec Ideal S1x16400x1024 .f32) (N : FVec Ideal S1024 .f32) (W : FVec Ideal S1024x1952 .f32) (d : FVec Ideal S512 .f32)
  (O : FVec Ideal S1x16400x1024 .f32) (q : FVec Ideal S1x16400x256 .f32) (v : FVec Ideal S1x16400x128 .f32) (p : FVec Ideal S1x16400x32 .f32)
  (g a b y s : FVec Ideal S1x16400x512 .f32)

/-- The gradient of the SSM's input. -/
def du (i : Fin 16400) (e : Fin 512) : EReal := a (ix3 0 i e) + b (ix3 0 i e) + d (ix1 e) * y (ix3 0 i e)

/-- The gradient of a normalised row: the gradients of its six products times the weights. -/
def dnR (i : Fin 16400) (k : Fin 1024) : EReal :=
  ∑ e, q (ix3 0 i e) * W (ix2 k ⟨e.val, by omega⟩)
    + (∑ e, v (ix3 0 i e) * W (ix2 k ⟨256 + e.val, by omega⟩)
      + (∑ e, p (ix3 0 i e) * W (ix2 k ⟨384 + e.val, by omega⟩)
        + (∑ e, g (ix3 0 i e) * W (ix2 k ⟨416 + e.val, by omega⟩)
          + (∑ e, du d a b y i e * W (ix2 k ⟨928 + e.val, by omega⟩) + ∑ e, s (ix3 0 i e) * W (ix2 k ⟨1440 + e.val, by omega⟩)))))

theorem ref30_q (i : Fin 16400) (e : Fin 256) : val_main_v30 (F := Ideal) d q v p g a b y s (ix3 0 i ⟨e.val, by omega⟩) = q (ix3 0 i e) := by
  skip
  pointwise [val_main_v30]
  repeat' split
  all_goals first
    | (exfalso; omega)
    | simp only [Nat.add_sub_cancel_left, Nat.sub_sub, Nat.reduceAdd]
theorem ref30_v (i : Fin 16400) (e : Fin 128) : val_main_v30 (F := Ideal) d q v p g a b y s (ix3 0 i ⟨256 + e.val, by omega⟩) = v (ix3 0 i e) := by
  skip
  pointwise [val_main_v30]
  repeat' split
  all_goals first
    | (exfalso; omega)
    | simp only [Nat.add_sub_cancel_left, Nat.sub_sub, Nat.reduceAdd]
theorem ref30_p (i : Fin 16400) (e : Fin 32) : val_main_v30 (F := Ideal) d q v p g a b y s (ix3 0 i ⟨384 + e.val, by omega⟩) = p (ix3 0 i e) := by
  skip
  pointwise [val_main_v30]
  repeat' split
  all_goals first
    | (exfalso; omega)
    | simp only [Nat.add_sub_cancel_left, Nat.sub_sub, Nat.reduceAdd]
theorem ref30_g (i : Fin 16400) (e : Fin 512) : val_main_v30 (F := Ideal) d q v p g a b y s (ix3 0 i ⟨416 + e.val, by omega⟩) = g (ix3 0 i e) := by
  skip
  pointwise [val_main_v30]
  repeat' split
  all_goals first
    | (exfalso; omega)
    | simp only [Nat.add_sub_cancel_left, Nat.sub_sub, Nat.reduceAdd]
theorem ref30_u (i : Fin 16400) (e : Fin 512) : val_main_v30 (F := Ideal) d q v p g a b y s (ix3 0 i ⟨928 + e.val, by omega⟩) = du d a b y i e := by
  unfold du
  pointwise [val_main_v30, val_main_v29, val_main_v28, val_main_v27, val_main_v26, val_main_v23]
  repeat' split
  all_goals first
    | (exfalso; omega)
    | simp only [Nat.add_sub_cancel_left, Nat.sub_sub, Nat.reduceAdd]
theorem ref30_s (i : Fin 16400) (e : Fin 512) : val_main_v30 (F := Ideal) d q v p g a b y s (ix3 0 i ⟨1440 + e.val, by omega⟩) = s (ix3 0 i e) := by
  skip
  pointwise [val_main_v30]
  repeat' split
  all_goals first
    | (exfalso; omega)
    | simp only [Nat.add_sub_cancel_left, Nat.sub_sub, Nat.reduceAdd]

theorem ref33 (i : Fin 16400) (k : Fin 1024) : val_main_v33 (F := Ideal) W d q v p g a b y s (ix3 0 i k) = dnR W d q v p g a b y s i k := by
  unfold dnR
  simp only [← ref30_q d q v p g a b y s, ← ref30_v d q v p g a b y s, ← ref30_p d q v p g a b y s, ← ref30_g d q v p g a b y s, ← ref30_u d q v p g a b y s,
    ← ref30_s d q v p g a b y s]
  refine Eq.trans ?_ (sum_six fun j => val_main_v30 (F := Ideal) d q v p g a b y s (ix3 0 i j) * W (ix2 k j))
  pointwise [val_main_v33]

theorem ref7 (i : Fin 16400) (z : Fin 1) : val_main_v7 (F := Ideal) H (ix3 0 i z) = rs fun k => H (ix3 0 i k) := by
  unfold rs
  simp only [← mean_eq]
  pointwise [val_main_v7, val_main_v6, val_main_v5, val_main_v4, val_main_v3, val_main_v2, val_main_v1, val_main_v0, val_main_cst, val_main_cst_0, val_main_cst_1]

theorem ref6 (i : Fin 16400) (z : Fin 1) : val_main_v6 (F := Ideal) H (ix3 0 i z) = ms fun k => H (ix3 0 i k) := by
  unfold ms
  simp only [← mean_eq]
  pointwise [val_main_v6, val_main_v5, val_main_v4, val_main_v3, val_main_v2, val_main_v1, val_main_v0, val_main_cst, val_main_cst_0, val_main_cst_1]

theorem ref12 (i : Fin 16400) (k : Fin 1024) : val_main_v12 (F := Ideal) H (ix3 0 i k) = H (ix3 0 i k) * rs fun k => H (ix3 0 i k) := by
  rw [← ref7 H i 0]
  pointwise [val_main_v12, val_main_v11]

theorem ref15 (i : Fin 16400) (k : Fin 1024) : val_main_v15 (F := Ideal) H N (ix3 0 i k) = H (ix3 0 i k) * (rs fun k => H (ix3 0 i k)) * N (ix1 k) := by
  rw [← ref12]
  pointwise [val_main_v15, val_main_v14, val_main_v13]

/-- The gradient of the norm's weights. -/
theorem ref39 (k : Fin 1024) : val_main_v39 (F := Ideal) H W d q v p g a b y s (ix1 k)
    = ∑ i : Fin 16400, H (ix3 0 i k) * (rs fun l => H (ix3 0 i l)) * dnR W d q v p g a b y s i k := by
  have e : val_main_v39 (F := Ideal) H W d q v p g a b y s (ix1 k)
      = val_main_cst_4 (F := Ideal) (Shape.Idx.first h_S_) + val_main_v36 (F := Ideal) H W d q v p g a b y s (ix3 0 0 k) := by
    unfold val_main_v39
    refine host_sum_one _ _ _ _ _ fun i' => ?_
    have hv : (reducesTo_S1x1x1024_S1024_d0_1.drop i' 0 : Nat) = i' 2 := Shape.ReducesTo.drop_apply_val _ i' 0
    constructor
    · intro e
      funext c
      match c with
      | 0 => exact Fin.ext (Nat.lt_one_iff.1 (i' 0).isLt)
      | 1 => exact Fin.ext (Nat.lt_one_iff.1 (i' 1).isLt)
      | 2 => exact Fin.ext (hv.symm.trans (congrArg (fun j : S1024.Idx => (j 0 : Nat)) e))
    · intro e
      funext c
      match c with
      | 0 => exact Fin.ext (hv.trans (congrArg (fun j : S1x1x1024.Idx => (j 2 : Nat)) e))
  rw [e]
  simp only [← ref33, ← ref12]
  pointwise [val_main_v36, val_main_v35, val_main_v34, val_main_cst_3, val_main_cst_4]

theorem ref38 (i : Fin 16400) (k : Fin 1024) : val_main_v38 (F := Ideal) N W d q v p g a b y s (ix3 0 i k) = dnR W d q v p g a b y s i k * N (ix1 k) := by
  rw [← ref33]
  pointwise [val_main_v38, val_main_v37, val_main_v13]

theorem ref49 (i : Fin 16400) : val_main_v49 (F := Ideal) H N W d q v p g a b y s (ix1 i)
    = co (fun l => H (ix3 0 i l)) (fun l => N (ix1 l)) (fun l => dnR W d q v p g a b y s i l) := by
  have e : val_main_v49 (F := Ideal) H N W d q v p g a b y s (ix1 i)
      = val_main_cst_7 (F := Ideal) (Shape.Idx.first h_S_) + val_main_v48 (F := Ideal) H N W d q v p g a b y s (ix3 0 i 0) := by
    unfold val_main_v49
    refine host_sum_one _ _ _ _ _ fun i' => ?_
    have hv : (reducesTo_S1x16400x1_S16400_d0_2.drop i' 0 : Nat) = i' 1 := Shape.ReducesTo.drop_apply_val _ i' 0
    constructor
    · intro e
      funext c
      match c with
      | 0 => exact Fin.ext (Nat.lt_one_iff.1 (i' 0).isLt)
      | 1 => exact Fin.ext (hv.symm.trans (congrArg (fun j : S16400.Idx => (j 0 : Nat)) e))
      | 2 => exact Fin.ext (Nat.lt_one_iff.1 (i' 2).isLt)
    · intro e
      funext c
      match c with
      | 0 => exact Fin.ext (hv.trans (congrArg (fun j : S1x16400x1.Idx => (j 1 : Nat)) e))
  rw [e]
  unfold co
  rw [← mean_eq, ← ref7 H i 0, ← ref6 H i 0]
  simp only [← ref38]
  pointwise [val_main_v48, val_main_v47, val_main_v46, val_main_v42, val_main_v41, val_main_v40, val_main_v10, val_main_v9, val_main_v8, val_main_cst_2,
    val_main_cst_5, val_main_cst_6, val_main_cst_7]

/-- The gradient of the rows. -/
theorem ref55 (i : Fin 16400) (k : Fin 1024) : val_main_v55 (F := Ideal) H N W d O q v p g a b y s (ix3 0 i k)
    = O (ix3 0 i k) + dnR W d q v p g a b y s i k * N (ix1 k) * rs (fun l => H (ix3 0 i l))
      + H (ix3 0 i k) * co (fun l => H (ix3 0 i l)) (fun l => N (ix1 l)) (fun l => dnR W d q v p g a b y s i l)
      + co (fun l => H (ix3 0 i l)) (fun l => N (ix1 l)) (fun l => dnR W d q v p g a b y s i l) * H (ix3 0 i k) := by
  rw [← ref49, ← ref38, ← ref7 H i 0]
  pointwise [val_main_v55, val_main_v54, val_main_v53, val_main_v52, val_main_v51, val_main_v50, val_main_v45, val_main_v44, val_main_v43]

/-- The gradient of a weight, from one array of gradients `G` of the products. -/
theorem ref32 (k : Fin 1024) (e : Fin 1952) : val_main_v32 (F := Ideal) H N d q v p g a b y s (ix2 k e)
    = ∑ i : Fin 16400, val_main_v30 (F := Ideal) d q v p g a b y s (ix3 0 i e) * (H (ix3 0 i k) * (rs fun k => H (ix3 0 i k)) * N (ix1 k)) := by
  simp only [← ref15]
  pointwise [val_main_v32, val_main_v31]
  exact Fin.sum_univ_one _
end

end Cert.Proof.Bwd

end
-- ==== Proof.BwdRows.lean ====
/-
  A row of the backward projection's arrays, over the arguments: the gate's and the rope's empty lanes leave its sums, and the rows that pad the last
  tile are zero.
-/
module

public import proofs.«01_k».proof.Proof.BwdHostA
public import proofs.«01_k».proof.Proof.BwdHostB
public import proofs.«01_k».proof.Proof.BwdArr
public import proofs.«01_k».proof.Proof.BwdRef

@[expose] public section

set_option maxRecDepth 16384

noncomputable section

namespace Cert.Proof.Bwd

open Cert.GradIdeal Cert.GradIdeal.Gen
open Idealize.ShloMosaic Idealize.ShloMosaic.TcCoe Idealize.SL.Sem
open Idealize.ShloMosaic.Pipeline (Dat)

/-! ## Sums over padded lanes -/

/-- Eight heads of 64 lanes, each padded to 128. -/
theorem sum_gate (f : Fin 1024 → EReal) (f' : Fin 512 → EReal) (lo : ∀ (h : Fin 8) (d : Fin 64), f ⟨h.val * 128 + d.val, by omega⟩ = f' ⟨h.val * 64 + d.val, by omega⟩)
    (hi : ∀ (h : Fin 8) (d : Fin 64), f ⟨h.val * 128 + (64 + d.val), by omega⟩ = 0) : ∑ e, f e = ∑ e, f' e := by
  refine (Fin.sum_univ_tiles 8 128 rfl f).trans (Eq.trans ?_ (Fin.sum_univ_tiles 8 64 rfl f').symm)
  refine Fin.sum_fin_congr fun h => ?_
  refine (Fin.sum_univ_add (a := 64) (b := 64) _).trans ?_
  refine (congrArg₂ (· + ·) (Fin.sum_fin_congr fun d => lo h d) ((Fin.sum_fin_congr fun d => hi h d).trans Finset.sum_const_zero)).trans ?_
  exact add_zero _

/-- 32 lanes, between 64 empty ones and 32 more. -/
theorem sum_rope (f : Fin 128 → EReal) (f' : Fin 32 → EReal) (lo : ∀ d : Fin 64, f ⟨d.val, by omega⟩ = 0)
    (mid : ∀ d : Fin 32, f ⟨64 + d.val, by omega⟩ = f' d) (hi : ∀ d : Fin 32, f ⟨96 + d.val, by omega⟩ = 0) : ∑ e, f e = ∑ e, f' e := by
  refine (Fin.sum_univ_add (a := 64) (b := 64) f).trans ?_
  refine (congrArg₂ (· + ·) ((Fin.sum_fin_congr fun d => lo d).trans Finset.sum_const_zero)
    (Fin.sum_univ_add (a := 32) (b := 32) fun d : Fin 64 => f ⟨64 + d.val, by omega⟩)).trans ?_
  refine (zero_add _).trans ?_
  refine (congrArg₂ (· + ·) (Fin.sum_fin_congr fun d => mid d)
    ((Fin.sum_fin_congr fun d => (congrArg f (Fin.ext (by simp only [Fin.natAdd]; omega))).trans (hi d)).trans Finset.sum_const_zero)).trans ?_
  exact add_zero _

/-- The rows of the argument, when the padding's are zero. -/
theorem sum_rows (f : Fin 16640 → EReal) (h : ∀ s : Fin 240, f ⟨16400 + s.val, by omega⟩ = 0) : ∑ i, f i = ∑ i : Fin 16400, f ⟨i.val, by omega⟩ := by
  refine (Fin.sum_univ_add (a := 16400) (b := 240) f).trans ?_
  refine (congrArg₂ (· + ·) rfl ((Fin.sum_fin_congr fun d => h d).trans Finset.sum_const_zero)).trans ?_
  exact add_zero _

/-! ## The pieces' columns -/

section Cols
variable (g : Fin 1024 → EReal) (u s : Fin 512 → EReal) (q : Fin 256 → EReal) (v p : Fin 128 → EReal)
theorem cols_g (e : Fin 1024) : cols g u s q v p ⟨e.val, by omega⟩ = g e := by
  unfold cols; simp only []; rw [dif_pos e.isLt]
theorem cols_u (e : Fin 512) : cols g u s q v p ⟨1024 + e.val, by omega⟩ = u e := by
  unfold cols; simp only []; rw [dif_neg (by omega), dif_pos (by omega)]; exact congrArg u (Fin.ext (by simp only []; omega))
theorem cols_s (e : Fin 512) : cols g u s q v p ⟨1536 + e.val, by omega⟩ = s e := by
  unfold cols; simp only []; rw [dif_neg (by omega), dif_neg (by omega), dif_pos (by omega)]; exact congrArg s (Fin.ext (by simp only []; omega))
theorem cols_q (e : Fin 256) : cols g u s q v p ⟨2048 + e.val, by omega⟩ = q e := by
  unfold cols; simp only []; rw [dif_neg (by omega), dif_neg (by omega), dif_neg (by omega), dif_pos (by omega)]; exact congrArg q (Fin.ext (by simp only []; omega))
theorem cols_v (e : Fin 128) : cols g u s q v p ⟨2304 + e.val, by omega⟩ = v e := by
  unfold cols; simp only []; rw [dif_neg (by omega), dif_neg (by omega), dif_neg (by omega), dif_neg (by omega), dif_pos (by omega)]; exact congrArg v (Fin.ext (by simp only []; omega))
theorem cols_p (e : Fin 128) : cols g u s q v p ⟨2432 + e.val, by omega⟩ = p e := by
  unfold cols; simp only []; rw [dif_neg (by omega), dif_neg (by omega), dif_neg (by omega), dif_neg (by omega), dif_neg (by omega)]; exact congrArg p (Fin.ext (by simp only []; omega))
end Cols

/-! ## A row -/

variable (m : (ℓ : Loc nD τ sig) → Buf (Elt Ideal) ℓ) (c : Dev nD)

/-- A row of the argument among the padded ones. -/
def I (i : Fin 16400) : Fin 16640 := ⟨i.val, by omega⟩

section Row
variable (i : Fin 16400)

theorem ax_eq (k : Fin 1024) : ax m c (I i) k = iH m c (ix3 0 i k) := (congrFun (V_v7 m c) _).trans (hR1024_apply _ i k)
theorem ax_pad (s : Fin 240) (k : Fin 1024) : ax m c ⟨16400 + s.val, by omega⟩ k = 0 := (congrFun (V_v7 m c) _).trans (hR1024_pad _ s k)
theorem aw_eq (k : Fin 1024) : aw m c k = iN m c (ix1 k) := (congrFun (V_v8 m c) _).trans (hN_apply _ k)
theorem ao_eq (k : Fin 1024) : ao m c (I i) k = iO m c (ix3 0 i k) := (congrFun (V_v10 m c) _).trans (hR1024_apply _ i k)
theorem as_eq (e : Fin 512) : as' m c (I i) e = iS m c (ix3 0 i e) := (congrFun (V_v19 m c) _).trans (hR512_apply _ i e)
theorem aq_eq (e : Fin 256) : aq m c (I i) e = iQ m c (ix3 0 i e) := (congrFun (V_v21 m c) _).trans (hR256_apply _ i e)
theorem av_eq (e : Fin 128) : av m c (I i) e = iV m c (ix3 0 i e) := (congrFun (V_v23 m c) _).trans (hR128_apply _ i e)
theorem ap_eq (e : Fin 32) : ap m c (I i) ⟨64 + e.val, by omega⟩ = iP m c (ix3 0 i e) := (congrFun (V_v5 m c) _).trans (hRp_apply _ i e)
theorem ap_lo (e : Fin 64) : ap m c (I i) ⟨e.val, by omega⟩ = 0 := (congrFun (V_v5 m c) _).trans (hRp_lo _ i e)
theorem ap_hi (e : Fin 32) : ap m c (I i) ⟨96 + e.val, by omega⟩ = 0 := (congrFun (V_v5 m c) _).trans (hRp_hi _ i e)
theorem ag_eq (h : Fin 8) (d : Fin 64) : ag m c (I i) ⟨h.val * 128 + d.val, by omega⟩ = iG m c (ix3 0 i ⟨h.val * 64 + d.val, by omega⟩) :=
  (congrFun (V_v3 m c) _).trans (hGt_apply _ i h d)
theorem ag_hi (h : Fin 8) (d : Fin 64) : ag m c (I i) ⟨h.val * 128 + (64 + d.val), by omega⟩ = 0 := (congrFun (V_v3 m c) _).trans (hGt_hi _ i h d)
theorem au_eq (e : Fin 512) : au m c (I i) e = du (iD m c) (iA m c) (iB m c) (iY m c) i e := by
  have e1 : (show FVec Ideal S16640x512 .f32 from V m c main_v12) (ix2 (I i) e) = iA m c (ix3 0 i e) := (congrFun (V_v12 m c) _).trans (hR512_apply _ i e)
  have e2 : (show FVec Ideal S16640x512 .f32 from V m c main_v14) (ix2 (I i) e) = iB m c (ix3 0 i e) := (congrFun (V_v14 m c) _).trans (hR512_apply _ i e)
  have e3 : (show FVec Ideal S16640x512 .f32 from V m c main_v16) (ix2 (I i) e) = iY m c (ix3 0 i e) := (congrFun (V_v16 m c) _).trans (hR512_apply _ i e)
  have e4 : (show FVec Ideal S1x512 .f32 from V m c main_v17) (ix2 0 e) = iD m c (ix1 e) := (congrFun (V_v17 m c) _).trans (hD_apply _ e)
  exact Ideal.add_congr (Ideal.add_congr e1 e2) ((Ideal.mul_congr e3 e4).trans (mul_comm (G := EReal) _ _))

theorem aW_q (k : Fin 1024) (d : Fin 256) : aW m c ⟨2048 + d.val, by omega⟩ k = iWi m c (ix2 k ⟨d.val, by omega⟩) := (congrFun (V_v36 m c) _).trans (hW_q _ k d)
theorem aW_v (k : Fin 1024) (d : Fin 128) : aW m c ⟨2304 + d.val, by omega⟩ k = iWi m c (ix2 k ⟨256 + d.val, by omega⟩) := (congrFun (V_v36 m c) _).trans (hW_v _ k d)
theorem aW_p (k : Fin 1024) (d : Fin 32) : aW m c ⟨2432 + (64 + d.val), by omega⟩ k = iWi m c (ix2 k ⟨384 + d.val, by omega⟩) := (congrFun (V_v36 m c) _).trans (hW_p _ k d)
theorem aW_g (k : Fin 1024) (h : Fin 8) (d : Fin 64) : aW m c ⟨h.val * 128 + d.val, by omega⟩ k = iWi m c (ix2 k ⟨416 + (h.val * 64 + d.val), by omega⟩) :=
  (congrFun (V_v36 m c) _).trans (hW_g _ k h d)
theorem aW_u (k : Fin 1024) (d : Fin 512) : aW m c ⟨1024 + d.val, by omega⟩ k = iWi m c (ix2 k ⟨928 + d.val, by omega⟩) := (congrFun (V_v36 m c) _).trans (hW_u _ k d)
theorem aW_s (k : Fin 1024) (d : Fin 512) : aW m c ⟨1536 + d.val, by omega⟩ k = iWi m c (ix2 k ⟨1440 + d.val, by omega⟩) := (congrFun (V_v36 m c) _).trans (hW_s _ k d)

/-- The six sums in the argument's order. -/
theorem regroup (g u s q v p : EReal) : 0 + g + u + s + q + v + p = q + (v + (p + (g + (u + s)))) := by
  rw [zero_add]; ac_rfl

/-- The gradient of a normalised row is the reference's. -/
theorem ad_eq (k : Fin 1024) : ad m c (I i) k
    = dnR (iWi m c) (iD m c) (iQ m c) (iV m c) (iP m c) (iG m c) (iA m c) (iB m c) (iY m c) (iS m c) i k := by
  unfold ad dn dnR
  refine Eq.trans ?_ (regroup _ _ _ _ _ _)
  refine congrArg₂ (· + ·) (congrArg₂ (· + ·) (congrArg₂ (· + ·) (congrArg₂ (· + ·) (congrArg₂ (· + ·) (congrArg₂ (· + ·) rfl ?_) ?_) ?_) ?_) ?_) ?_
  · exact sum_gate (fun e => ag m c (I i) e * aW m c ⟨e.val, by omega⟩ k) (fun e => iG m c (ix3 0 i e) * iWi m c (ix2 k ⟨416 + e.val, by omega⟩))
      (fun h d => Ideal.mul_congr (ag_eq m c i h d) (aW_g m c k h d)) (fun h d => (Ideal.mul_congr (ag_hi m c i h d) rfl).trans (zero_mul (M₀ := EReal) _))
  · exact Fin.sum_fin_congr fun e => Ideal.mul_congr (au_eq m c i e) (aW_u m c k e)
  · exact Fin.sum_fin_congr fun e => Ideal.mul_congr (as_eq m c i e) (aW_s m c k e)
  · exact Fin.sum_fin_congr fun e => Ideal.mul_congr (aq_eq m c i e) (aW_q m c k e)
  · exact Fin.sum_fin_congr fun e => Ideal.mul_congr (av_eq m c i e) (aW_v m c k e)
  · exact sum_rope (fun e => ap m c (I i) e * aW m c ⟨2432 + e.val, by omega⟩ k) (fun e => iP m c (ix3 0 i e) * iWi m c (ix2 k ⟨384 + e.val, by omega⟩))
      (fun d => (Ideal.mul_congr (ap_lo m c i d) rfl).trans (zero_mul (M₀ := EReal) _)) (fun d => Ideal.mul_congr (ap_eq m c i d) (aW_p m c k d))
      (fun d => (Ideal.mul_congr (ap_hi m c i d) rfl).trans (zero_mul (M₀ := EReal) _))

theorem rs_eq : rs (ax m c (I i)) = rs fun l => iH m c (ix3 0 i l) := congrArg rs (funext fun l => ax_eq m c i l)

theorem axn_eq (k : Fin 1024) : axn m c (I i) k = iH m c (ix3 0 i k) * (rs fun l => iH m c (ix3 0 i l)) * iN m c (ix1 k) :=
  Ideal.mul_congr (Ideal.mul_congr (ax_eq m c i k) (rs_eq m c i)) (aw_eq m c k)

theorem axn_pad (s : Fin 240) (k : Fin 1024) : axn m c ⟨16400 + s.val, by omega⟩ k = 0 := by
  unfold axn; rw [ax_pad, zero_mul, zero_mul]

end Row

end Cert.Proof.Bwd

end
-- ==== Proof.BwdMatch.lean ====
/-
  The three results of the backward projection are the reference's gradients.
-/
module

public import proofs.«01_k».proof.Proof.BwdRows

@[expose] public section

set_option maxRecDepth 16384

noncomputable section

namespace Cert.Proof.Bwd

open Cert.GradIdeal Cert.GradIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! ## The norm's weights -/

theorem match_norm (k : Fin 1024) : gN ((dats m 0 c).arrAt 15 cfg0.N) (ix1 k)
    = Cert.GradReferenceIdeal.Read.val_main_v39 (F := Ideal) (iH m c) (iWi m c) (iD m c) (iQ m c) (iV m c) (iP m c) (iG m c) (iA m c) (iB m c) (iY m c) (iS m c) (ix1 k) := by
  refine (gN_apply _ k).trans ((arr15 m c k).trans ?_)
  refine (sum_rows _ fun s => ?_).trans (Eq.trans ?_ (ref39 (iH m c) (iWi m c) (iD m c) (iQ m c) (iV m c) (iP m c) (iG m c) (iA m c) (iB m c) (iY m c) (iS m c) k).symm)
  · rw [ax_pad, zero_mul, mul_zero]
  · refine Fin.sum_fin_congr fun i => ?_
    exact (Ideal.mul_congr (ad_eq m c i k) (Ideal.mul_congr (ax_eq m c i k) (rs_eq m c i))).trans (mul_comm (G := EReal) _ _)

/-! ## The projection's weights -/

/-- A column of the weights' gradient, where the kernel's column carries the reference's. -/
theorem match_col (k : Fin 1024) (J : Fin 2560) (E : Fin 1952)
    (h : ∀ i : Fin 16400, ac m c (I i) J
      = Cert.GradReferenceIdeal.Read.val_main_v30 (F := Ideal) (iD m c) (iQ m c) (iV m c) (iP m c) (iG m c) (iA m c) (iB m c) (iY m c) (iS m c) (ix3 0 i E)) :
    (dats m 0 c).arrAt 14 cfg0.N (ix2 k J : S1024x2560.Idx)
      = Cert.GradReferenceIdeal.Read.val_main_v32 (F := Ideal) (iH m c) (iN m c) (iD m c) (iQ m c) (iV m c) (iP m c) (iG m c) (iA m c) (iB m c) (iY m c) (iS m c) (ix2 k E) := by
  refine (arr14 m c k J).trans ?_
  refine (sum_rows _ fun s => ?_).trans (Eq.trans ?_ (ref32 (iH m c) (iN m c) (iD m c) (iQ m c) (iV m c) (iP m c) (iG m c) (iA m c) (iB m c) (iY m c) (iS m c) k E).symm)
  · rw [axn_pad, zero_mul]
  · refine Fin.sum_fin_congr fun i => ?_
    exact (Ideal.mul_congr (axn_eq m c i k) (h i)).trans (mul_comm (G := EReal) _ _)

theorem match_weights (k : Fin 1024) (E : Fin 1952) : gW ((dats m 0 c).arrAt 14 cfg0.N) (ix2 k E)
    = Cert.GradReferenceIdeal.Read.val_main_v32 (F := Ideal) (iH m c) (iN m c) (iD m c) (iQ m c) (iV m c) (iP m c) (iG m c) (iA m c) (iB m c) (iY m c) (iS m c) (ix2 k E) := by
  by_cases h0 : E.val < 256
  · obtain ⟨d, eE⟩ : ∃ d : Fin 256, E = ⟨d.val, by omega⟩ := ⟨⟨E.val, h0⟩, rfl⟩
    rw [eE]
    exact (gW_q _ k d).trans (match_col m c k _ _ fun i => (cols_q _ _ _ _ _ _ d).trans ((aq_eq m c i d).trans (ref30_q _ _ _ _ _ _ _ _ _ i d).symm))
  by_cases h1 : E.val < 384
  · obtain ⟨d, eE⟩ : ∃ d : Fin 128, E = ⟨256 + d.val, by omega⟩ := ⟨⟨E.val - 256, by omega⟩, Fin.ext (by simp only []; omega)⟩
    rw [eE]
    exact (gW_v _ k d).trans (match_col m c k _ _ fun i => (cols_v _ _ _ _ _ _ d).trans ((av_eq m c i d).trans (ref30_v _ _ _ _ _ _ _ _ _ i d).symm))
  by_cases h2 : E.val < 416
  · obtain ⟨d, eE⟩ : ∃ d : Fin 32, E = ⟨384 + d.val, by omega⟩ := ⟨⟨E.val - 384, by omega⟩, Fin.ext (by simp only []; omega)⟩
    rw [eE]
    exact (gW_p _ k d).trans (match_col m c k _ _ fun i => (cols_p _ _ _ _ _ _ ⟨64 + d.val, by omega⟩).trans ((ap_eq m c i d).trans (ref30_p _ _ _ _ _ _ _ _ _ i d).symm))
  by_cases h3 : E.val < 928
  · obtain ⟨h, d, eE⟩ : ∃ (h : Fin 8) (d : Fin 64), E = ⟨416 + (h.val * 64 + d.val), by omega⟩ :=
      ⟨⟨(E.val - 416) / 64, by omega⟩, ⟨(E.val - 416) % 64, by omega⟩, Fin.ext (by simp only []; omega)⟩
    rw [eE]
    exact (gW_g _ k h d).trans (match_col m c k _ _ fun i => (cols_g _ _ _ _ _ _ ⟨h.val * 128 + d.val, by omega⟩).trans
      ((ag_eq m c i h d).trans (ref30_g _ _ _ _ _ _ _ _ _ i ⟨h.val * 64 + d.val, by omega⟩).symm))
  by_cases h4 : E.val < 1440
  · obtain ⟨d, eE⟩ : ∃ d : Fin 512, E = ⟨928 + d.val, by omega⟩ := ⟨⟨E.val - 928, by omega⟩, Fin.ext (by simp only []; omega)⟩
    rw [eE]
    exact (gW_u _ k d).trans (match_col m c k _ _ fun i => (cols_u _ _ _ _ _ _ d).trans ((au_eq m c i d).trans (ref30_u _ _ _ _ _ _ _ _ _ i d).symm))
  · obtain ⟨d, eE⟩ : ∃ d : Fin 512, E = ⟨1440 + d.val, by omega⟩ := ⟨⟨E.val - 1440, by omega⟩, Fin.ext (by simp only []; omega)⟩
    rw [eE]
    exact (gW_s _ k d).trans (match_col m c k _ _ fun i => (cols_s _ _ _ _ _ _ d).trans ((as_eq m c i d).trans (ref30_s _ _ _ _ _ _ _ _ _ i d).symm))

/-! ## The rows -/

theorem match_rows (i : Fin 16400) (k : Fin 1024) : gH ((dats m 0 c).arrAt 13 cfg0.N) (ix3 0 i k)
    = Cert.GradReferenceIdeal.Read.val_main_v55 (F := Ideal) (iH m c) (iN m c) (iWi m c) (iD m c) (iO m c) (iQ m c) (iV m c) (iP m c) (iG m c) (iA m c) (iB m c)
      (iY m c) (iS m c) (ix3 0 i k) := by
  refine (gH_apply _ i k).trans ((congrFun (final13 m c) _).trans ?_)
  refine Eq.trans ?_ (ref55 (iH m c) (iN m c) (iWi m c) (iD m c) (iO m c) (iQ m c) (iV m c) (iP m c) (iG m c) (iA m c) (iB m c) (iY m c) (iS m c) i k).symm
  have ex : ax m c (I i) = fun l => iH m c (ix3 0 i l) := funext fun l => ax_eq m c i l
  have ew : aw m c = fun l => iN m c (ix1 l) := funext fun l => aw_eq m c l
  have eD : ad m c (I i) = fun l => dnR (iWi m c) (iD m c) (iQ m c) (iV m c) (iP m c) (iG m c) (iA m c) (iB m c) (iY m c) (iS m c) i l :=
    funext fun l => ad_eq m c i l
  have e : arr13 m c (ix2 (I i) k) = iO m c (ix3 0 i k) + dx (fun l => iH m c (ix3 0 i l)) (fun l => iN m c (ix1 l))
      (fun l => dnR (iWi m c) (iD m c) (iQ m c) (iV m c) (iP m c) (iG m c) (iA m c) (iB m c) (iY m c) (iS m c) i l) k := by
    rw [← ex, ← ew, ← eD]
    exact Ideal.add_congr (ao_eq m c i k) rfl
  exact e.trans (dx_eq _ _ _ _ k)

/-- The three results. -/
theorem results :
    gH ((dats m 0 c).arrAt 13 cfg0.N) = Cert.GradReferenceIdeal.Read.val_main_v55 (F := Ideal) (iH m c) (iN m c) (iWi m c) (iD m c) (iO m c) (iQ m c) (iV m c) (iP m c)
      (iG m c) (iA m c) (iB m c) (iY m c) (iS m c)
    ∧ gN ((dats m 0 c).arrAt 15 cfg0.N) = Cert.GradReferenceIdeal.Read.val_main_v39 (F := Ideal) (iH m c) (iWi m c) (iD m c) (iQ m c) (iV m c) (iP m c)
      (iG m c) (iA m c) (iB m c) (iY m c) (iS m c)
    ∧ gW ((dats m 0 c).arrAt 14 cfg0.N) = Cert.GradReferenceIdeal.Read.val_main_v32 (F := Ideal) (iH m c) (iN m c) (iD m c) (iQ m c) (iV m c) (iP m c)
      (iG m c) (iA m c) (iB m c) (iY m c) (iS m c) := by
  refine ⟨funext fun x => ?_, funext fun x => ?_, funext fun x => ?_⟩
  · have ex : x = ix3 0 (x 1) (x 2) := by
      funext d
      match d with
      | ⟨0, _⟩ => exact Fin.ext (by have := (x 0).isLt; exact Nat.lt_one_iff.mp this)
      | ⟨1, _⟩ => rfl
      | ⟨2, _⟩ => rfl
    rw [ex]
    exact match_rows m c (x 1) (x 2)
  · have ex : x = ix1 (x 0) := by
      funext d
      match d with
      | ⟨0, _⟩ => rfl
    rw [ex]
    exact match_norm m c (x 0)
  · have ex : x = ix2 (x 0) (x 1) := by
      funext d
      match d with
      | ⟨0, _⟩ => rfl
      | ⟨1, _⟩ => rfl
    rw [ex]
    exact match_weights m c (x 0) (x 1)

end Cert.Proof.Bwd

end
-- ==== Proof.lean ====
/- The claims of `flash_bwd`, of `in_proj_fwd` and of `in_proj_bwd`, each from a run of its program. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Proj
public import proofs.«01_k».proof.Proof.Gen.ProjIdeal
public import proofs.«01_k».proof.Proof.Gen.ProjReferenceIdeal
public import proofs.«01_k».proof.Proof.Gen.Proj.Frame
public import proofs.«01_k».proof.Proof.Gen.ProjIdeal.Frame
public import proofs.«01_k».proof.Proof.Gen.ProjReferenceIdeal.Run
public import proofs.«01_k».proof.Proof.Gen.ProjReferenceIdeal.Read
public import proofs.«01_k».proof.Proof.Gen.Grad
public import proofs.«01_k».proof.Proof.Gen.GradIdeal
public import proofs.«01_k».proof.Proof.Gen.GradReferenceIdeal
public import proofs.«01_k».proof.Proof.Gen.Grad.Frame
public import proofs.«01_k».proof.Proof.Gen.GradIdeal.Frame
public import proofs.«01_k».proof.Proof.Gen.GradReferenceIdeal.Run
public import proofs.«01_k».proof.Proof.Gen.GradReferenceIdeal.Read
public import proofs.«01_k».proof.Proof.Run
public import proofs.«01_k».proof.Proof.KRun
public import proofs.«01_k».proof.Proof.TileSum
public import proofs.«01_k».proof.Proof.HostOut
public import proofs.«01_k».proof.Proof.RefRun
public import proofs.«01_k».proof.Proof.Match
public import proofs.«01_k».proof.Proof.ProjMatch
public import proofs.«01_k».proof.Proof.BwdHostW
public import proofs.«01_k».proof.Proof.BwdMatch
public import Idealize.ShloMosaic.Lib.Claim
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Proof.Kernel.frame m ρ
theorem frame_pi : Cert.quiescent_KernelIdeal := fun m ρ _ => Cert.Proof.KernelIdeal.frame m ρ
set_option maxHeartbeats 1600000 in
theorem frame_ri : Cert.quiescent_ReferenceIdeal := by
  intro m g _
  hlo_run
  · exact fun _ => ⟨trivial, trivial, trivial, trivial⟩
  · refine Idealize.ShloMosaic.sem_eq_zero_of_no_sems ?_ _
    decide
/-- The named constant of the kernel is the logarithm of two. -/
theorem preserves : Cert.preserves_Kernel_KernelIdeal :=
  IdealRules.named_const.statement Cert.KernelIdeal.κ "ln2" .f32 0x3F317218#32 ((Real.log 2 : ℝ) : EReal) rfl

theorem frame_pi_finite [Cert.Pre_finite.Facts] : Cert.quiescent_KernelIdeal_pre_finite := fun m ρ _ => Cert.Proof.KernelIdeal.frame m ρ
theorem frame_ri_finite [Cert.Pre_finite.Facts] : Cert.quiescent_ReferenceIdeal_pre_finite := fun m ρ _ => frame_ri m ρ trivial

/-- What a run of the kernel leaves in the three results. -/
theorem kernel_results (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v67) = KernelIdeal.g67 (F := Ideal) (KernelIdeal.arrQ m c)
      ∧ r.2.mem ((c.tc : Thread Cert.KernelIdeal.nD Cert.KernelIdeal.τ).loc Cert.KernelIdeal.main_v71) = KernelIdeal.g71 (F := Ideal) (KernelIdeal.arrK m c)
      ∧ r.2.mem ((c.tc : Thread Cert.KernelIdeal.nD Cert.KernelIdeal.τ).loc Cert.KernelIdeal.main_v75) = KernelIdeal.g75 (F := Ideal) (KernelIdeal.arrV m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono (fun r h c => ⟨
    ((h.1 c).2 Cert.KernelIdeal.main_v67 (Pipeline.mem_restRefs_of Cert.KernelIdeal.main_v67 (by decide) (by decide))).trans
      ((KernelIdeal.W67 m c).trans (congrArg (KernelIdeal.g67 (F := Ideal)) (KernelIdeal.final8 m c))),
    ((h.1 c).2 Cert.KernelIdeal.main_v71 (Pipeline.mem_restRefs_of Cert.KernelIdeal.main_v71 (by decide) (by decide))).trans
      ((KernelIdeal.W71 m c).trans (congrArg (KernelIdeal.g71 (F := Ideal)) (KernelIdeal.final9 m c))),
    ((h.1 c).2 Cert.KernelIdeal.main_v75 (Pipeline.mem_restRefs_of Cert.KernelIdeal.main_v75 (by decide) (by decide))).trans
      ((KernelIdeal.W75 m c).trans (congrArg (KernelIdeal.g75 (F := Ideal)) (KernelIdeal.final10 m c))),
    ((h.1 c).2 Cert.KernelIdeal.main_arg0 (Pipeline.mem_restRefs_of Cert.KernelIdeal.main_arg0 (by decide) (by decide))).trans (KernelIdeal.W_main_arg0 m (KernelIdeal.dats m) c),
    ((h.1 c).2 Cert.KernelIdeal.main_arg1 (Pipeline.mem_restRefs_of Cert.KernelIdeal.main_arg1 (by decide) (by decide))).trans (KernelIdeal.W_main_arg1 m (KernelIdeal.dats m) c),
    ((h.1 c).2 Cert.KernelIdeal.main_arg2 (Pipeline.mem_restRefs_of Cert.KernelIdeal.main_arg2 (by decide) (by decide))).trans (KernelIdeal.W_main_arg2 m (KernelIdeal.dats m) c),
    ((h.1 c).2 Cert.KernelIdeal.main_arg3 (Pipeline.mem_restRefs_of Cert.KernelIdeal.main_arg3 (by decide) (by decide))).trans (KernelIdeal.W_main_arg3 m (KernelIdeal.dats m) c)⟩)
    (KernelIdeal.run_main m g)

/-- The reference's gradients are the kernel's, of finite arguments. -/
theorem algebraic [Cert.Pre_finite.Facts] : Cert.algebraic_KernelIdeal_ReferenceIdeal_pre_finite := by
  intro m g m' g' hpre hagree
  refine ⟨fun c => KernelIdeal.g67 (F := Ideal) (KernelIdeal.arrQ m c), fun c => KernelIdeal.g71 (F := Ideal) (KernelIdeal.arrK m c),
    fun c => KernelIdeal.g75 (F := Ideal) (KernelIdeal.arrV m c), kernel_results m g, ?_⟩
  refine (θ_run _ _ _).mono (fun r h c => ?_) (ReferenceIdeal.run m' g')
  obtain ⟨e0, e1, e2, e3⟩ := hagree c
  obtain ⟨h0, h1, h2, hargs⟩ := h c
  obtain ⟨rq, rk, rv⟩ := Match.results m c (hpre c)
  refine ⟨h0.trans (Eq.trans ?_ rq.symm), h1.trans (Eq.trans ?_ rk.symm), h2.trans (Eq.trans ?_ rv.symm), hargs⟩
  · rw [e0, e1, e2, e3]
  · rw [e0, e1, e2, e3]
  · rw [e0, e1, e3]

/-! ## The projection -/

theorem frame_proj_p : Cert.quiescent_Proj := fun m ρ _ => Cert.Proj.Gen.frame m ρ
theorem frame_proj_pi : Cert.quiescent_ProjIdeal := fun m ρ _ => Cert.ProjIdeal.Gen.frame m ρ
set_option maxHeartbeats 1600000 in
theorem frame_proj_ri : Cert.quiescent_ProjReferenceIdeal := by
  intro m g _
  hlo_run
  · exact fun _ => ⟨trivial, trivial, trivial⟩
  · refine Idealize.ShloMosaic.sem_eq_zero_of_no_sems ?_ _
    decide
theorem preserves_proj : Cert.preserves_Proj_ProjIdeal := trivial

/-- What a run of the projection leaves in the six results. -/
theorem proj_results (m : (ℓ : Loc Cert.ProjIdeal.nD Cert.ProjIdeal.τ Cert.ProjIdeal.sig) → Buf (Elt Ideal) ℓ) (g : Dev Cert.ProjIdeal.nD → PrngReg) :
    θ_run (Cert.ProjIdeal.defs (F := Ideal)) (onTc (τ := Cert.ProjIdeal.τ) (Cert.ProjIdeal.main (F := Ideal))) ⟨m, fun _ => 0, g⟩ (fun r => ∀ c : Dev Cert.ProjIdeal.nD,
      r.2.mem ((c.tc : Thread Cert.ProjIdeal.nD Cert.ProjIdeal.τ).loc Cert.ProjIdeal.main_v22) = ProjIdeal.g22 (ProjIdeal.arrP m c)
      ∧ r.2.mem ((c.tc : Thread Cert.ProjIdeal.nD Cert.ProjIdeal.τ).loc Cert.ProjIdeal.main_v23) = ProjIdeal.g23 (ProjIdeal.arrP m c)
      ∧ r.2.mem ((c.tc : Thread Cert.ProjIdeal.nD Cert.ProjIdeal.τ).loc Cert.ProjIdeal.main_v24) = ProjIdeal.g24 (ProjIdeal.arrP m c)
      ∧ r.2.mem ((c.tc : Thread Cert.ProjIdeal.nD Cert.ProjIdeal.τ).loc Cert.ProjIdeal.main_v21) = ProjIdeal.g21 (ProjIdeal.arrP m c)
      ∧ r.2.mem ((c.tc : Thread Cert.ProjIdeal.nD Cert.ProjIdeal.τ).loc Cert.ProjIdeal.main_v25) = ProjIdeal.g25 (ProjIdeal.arrP m c)
      ∧ r.2.mem ((c.tc : Thread Cert.ProjIdeal.nD Cert.ProjIdeal.τ).loc Cert.ProjIdeal.main_v26) = ProjIdeal.g26 (ProjIdeal.arrP m c)
      ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)) :=
  (θ_run _ _ _).mono (fun r h c => ⟨
    ((h c).2 Cert.ProjIdeal.main_v22 (Pipeline.mem_restRefs_of Cert.ProjIdeal.main_v22 (by decide) (by decide))).trans
      ((ProjIdeal.W22 m c).trans (congrArg ProjIdeal.g22 (ProjIdeal.final3 m c))),
    ((h c).2 Cert.ProjIdeal.main_v23 (Pipeline.mem_restRefs_of Cert.ProjIdeal.main_v23 (by decide) (by decide))).trans
      ((ProjIdeal.W23 m c).trans (congrArg ProjIdeal.g23 (ProjIdeal.final3 m c))),
    ((h c).2 Cert.ProjIdeal.main_v24 (Pipeline.mem_restRefs_of Cert.ProjIdeal.main_v24 (by decide) (by decide))).trans
      ((ProjIdeal.W24 m c).trans (congrArg ProjIdeal.g24 (ProjIdeal.final3 m c))),
    ((h c).2 Cert.ProjIdeal.main_v21 (Pipeline.mem_restRefs_of Cert.ProjIdeal.main_v21 (by decide) (by decide))).trans
      ((ProjIdeal.W21 m c).trans (congrArg ProjIdeal.g21 (ProjIdeal.final3 m c))),
    ((h c).2 Cert.ProjIdeal.main_v25 (Pipeline.mem_restRefs_of Cert.ProjIdeal.main_v25 (by decide) (by decide))).trans
      ((ProjIdeal.W25 m c).trans (congrArg ProjIdeal.g25 (ProjIdeal.final3 m c))),
    ((h c).2 Cert.ProjIdeal.main_v26 (Pipeline.mem_restRefs_of Cert.ProjIdeal.main_v26 (by decide) (by decide))).trans
      ((ProjIdeal.W26 m c).trans (congrArg ProjIdeal.g26 (ProjIdeal.final3 m c))),
    ((h c).2 Cert.ProjIdeal.main_arg0 (Pipeline.mem_restRefs_of Cert.ProjIdeal.main_arg0 (by decide) (by decide))).trans (Cert.ProjIdeal.Gen.W_main_arg0 m (Cert.ProjIdeal.Gen.dats m) c),
    ((h c).2 Cert.ProjIdeal.main_arg1 (Pipeline.mem_restRefs_of Cert.ProjIdeal.main_arg1 (by decide) (by decide))).trans (Cert.ProjIdeal.Gen.W_main_arg1 m (Cert.ProjIdeal.Gen.dats m) c),
    ((h c).2 Cert.ProjIdeal.main_arg2 (Pipeline.mem_restRefs_of Cert.ProjIdeal.main_arg2 (by decide) (by decide))).trans (Cert.ProjIdeal.Gen.W_main_arg2 m (Cert.ProjIdeal.Gen.dats m) c)⟩)
    (Cert.ProjIdeal.Gen.run_main m g)

/-- The reference's projection is the kernel's. -/
theorem algebraic_proj : Cert.algebraic_ProjIdeal_ProjReferenceIdeal := by
  intro m g m' g' _ hagree
  refine ⟨fun c => ProjIdeal.g22 (ProjIdeal.arrP m c), fun c => ProjIdeal.g23 (ProjIdeal.arrP m c), fun c => ProjIdeal.g24 (ProjIdeal.arrP m c), fun c => ProjIdeal.g21 (ProjIdeal.arrP m c), fun c => ProjIdeal.g25 (ProjIdeal.arrP m c), fun c => ProjIdeal.g26 (ProjIdeal.arrP m c), proj_results m g, ?_⟩
  refine (θ_run _ _ _).mono (fun r h c => ?_) (Cert.ProjReferenceIdeal.Value.run (F := Ideal) m' g')
  obtain ⟨e0, e1, e2⟩ := hagree c
  obtain ⟨h0, h1, h2, h3, h4, h5, hargs⟩ := h c
  obtain ⟨r0, r1, r2, r3, r4, r5⟩ := ProjMatch.results m c
  refine ⟨(h0.trans (Cert.ProjReferenceIdeal.Read.val_main_v14_eq (F := Ideal) _ _ _)).trans (Eq.trans ?_ r0.symm), (h1.trans (Cert.ProjReferenceIdeal.Read.val_main_v15_eq (F := Ideal) _ _ _)).trans (Eq.trans ?_ r1.symm), (h2.trans (Cert.ProjReferenceIdeal.Read.val_main_v16_eq (F := Ideal) _ _ _)).trans (Eq.trans ?_ r2.symm), (h3.trans (Cert.ProjReferenceIdeal.Read.val_main_v17_eq (F := Ideal) _ _ _)).trans (Eq.trans ?_ r3.symm), (h4.trans (Cert.ProjReferenceIdeal.Read.val_main_v18_eq (F := Ideal) _ _ _)).trans (Eq.trans ?_ r4.symm), (h5.trans (Cert.ProjReferenceIdeal.Read.val_main_v19_eq (F := Ideal) _ _ _)).trans (Eq.trans ?_ r5.symm), hargs⟩
  all_goals (rw [e0, e1, e2]; rfl)

/-! ## The projection's gradient -/

theorem frame_grad_p : Cert.quiescent_Grad := fun m ρ _ => Cert.Grad.Gen.frame m ρ
theorem frame_grad_pi : Cert.quiescent_GradIdeal := fun m ρ _ => Cert.GradIdeal.Gen.frame m ρ
set_option maxHeartbeats 1600000 in
theorem frame_grad_ri : Cert.quiescent_GradReferenceIdeal := by
  intro m g _
  hlo_run
  · exact fun _ => ⟨trivial, trivial, trivial, trivial, trivial, trivial, trivial, trivial, trivial, trivial, trivial, trivial, trivial⟩
  · refine Idealize.ShloMosaic.sem_eq_zero_of_no_sems ?_ _
    decide
theorem preserves_grad : Cert.preserves_Grad_GradIdeal := trivial

/-- What a run of the projection's gradient leaves in the three results. -/
theorem grad_results (m : (ℓ : Loc Cert.GradIdeal.nD Cert.GradIdeal.τ Cert.GradIdeal.sig) → Buf (Elt Ideal) ℓ) (g : Dev Cert.GradIdeal.nD → PrngReg) :
    θ_run (Cert.GradIdeal.defs (F := Ideal)) (onTc (τ := Cert.GradIdeal.τ) (Cert.GradIdeal.main (F := Ideal))) ⟨m, fun _ => 0, g⟩ (fun r => ∀ c : Dev Cert.GradIdeal.nD,
      r.2.mem ((c.tc : Thread Cert.GradIdeal.nD Cert.GradIdeal.τ).loc Cert.GradIdeal.main_v49) = Bwd.gH ((Cert.GradIdeal.Gen.dats m 0 c).arrAt 13 Cert.GradIdeal.cfg0.N)
      ∧ r.2.mem ((c.tc : Thread Cert.GradIdeal.nD Cert.GradIdeal.τ).loc Cert.GradIdeal.main_v51) = Bwd.gN ((Cert.GradIdeal.Gen.dats m 0 c).arrAt 15 Cert.GradIdeal.cfg0.N)
      ∧ r.2.mem ((c.tc : Thread Cert.GradIdeal.nD Cert.GradIdeal.τ).loc Cert.GradIdeal.main_v47) = Bwd.gW ((Cert.GradIdeal.Gen.dats m 0 c).arrAt 14 Cert.GradIdeal.cfg0.N)
      ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
      ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
      ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
      ∧ r.2.mem ((c.tc : Thread Cert.GradIdeal.nD Cert.GradIdeal.τ).loc Cert.GradIdeal.main_arg12) = m ((c.tc : Thread Cert.GradIdeal.nD Cert.GradIdeal.τ).loc Cert.GradIdeal.main_arg12)) :=
  (θ_run _ _ _).mono (fun r h c => ⟨
    ((h.1 c).2 Cert.GradIdeal.main_v49 (Pipeline.mem_restRefs_of Cert.GradIdeal.main_v49 (by decide) (by decide))).trans (Bwd.W49 m c),
    ((h.1 c).2 Cert.GradIdeal.main_v51 (Pipeline.mem_restRefs_of Cert.GradIdeal.main_v51 (by decide) (by decide))).trans (Bwd.W51 m c),
    ((h.1 c).2 Cert.GradIdeal.main_v47 (Pipeline.mem_restRefs_of Cert.GradIdeal.main_v47 (by decide) (by decide))).trans (Bwd.W47 m c),
    h.2 c⟩)
    (θ_run_and (Cert.GradIdeal.Gen.run_main m g) (Cert.GradIdeal.Gen.unchanged m g))

set_option maxHeartbeats 1600000 in
/-- The reference's gradients of the projection are the kernel's. -/
theorem algebraic_grad : Cert.algebraic_GradIdeal_GradReferenceIdeal := by
  intro m g m' g' _ hagree
  refine ⟨fun c => Bwd.gH ((Cert.GradIdeal.Gen.dats m 0 c).arrAt 13 Cert.GradIdeal.cfg0.N), fun c => Bwd.gN ((Cert.GradIdeal.Gen.dats m 0 c).arrAt 15 Cert.GradIdeal.cfg0.N), fun c => Bwd.gW ((Cert.GradIdeal.Gen.dats m 0 c).arrAt 14 Cert.GradIdeal.cfg0.N),
    grad_results m g, ?_⟩
  refine (θ_run _ _ _).mono (fun r h c => ?_) (Cert.GradReferenceIdeal.Value.run (F := Ideal) m' g')
  obtain ⟨e0, e1, e2, e3, e4, e5, e6, e7, e8, e9, e10, e11, e12⟩ := hagree c
  have f0 : m' ((c.tc : Thread Cert.GradReferenceIdeal.nD Cert.GradReferenceIdeal.τ).loc Cert.GradReferenceIdeal.main_arg0) = Bwd.iH m c := e0
  have f1 : m' ((c.tc : Thread Cert.GradReferenceIdeal.nD Cert.GradReferenceIdeal.τ).loc Cert.GradReferenceIdeal.main_arg1) = Bwd.iN m c := e1
  have f2 : m' ((c.tc : Thread Cert.GradReferenceIdeal.nD Cert.GradReferenceIdeal.τ).loc Cert.GradReferenceIdeal.main_arg2) = Bwd.iWi m c := e2
  have f3 : m' ((c.tc : Thread Cert.GradReferenceIdeal.nD Cert.GradReferenceIdeal.τ).loc Cert.GradReferenceIdeal.main_arg3) = Bwd.iD m c := e3
  have f4 : m' ((c.tc : Thread Cert.GradReferenceIdeal.nD Cert.GradReferenceIdeal.τ).loc Cert.GradReferenceIdeal.main_arg4) = Bwd.iO m c := e4
  have f5 : m' ((c.tc : Thread Cert.GradReferenceIdeal.nD Cert.GradReferenceIdeal.τ).loc Cert.GradReferenceIdeal.main_arg5) = Bwd.iQ m c := e5
  have f6 : m' ((c.tc : Thread Cert.GradReferenceIdeal.nD Cert.GradReferenceIdeal.τ).loc Cert.GradReferenceIdeal.main_arg6) = Bwd.iV m c := e6
  have f7 : m' ((c.tc : Thread Cert.GradReferenceIdeal.nD Cert.GradReferenceIdeal.τ).loc Cert.GradReferenceIdeal.main_arg7) = Bwd.iP m c := e7
  have f8 : m' ((c.tc : Thread Cert.GradReferenceIdeal.nD Cert.GradReferenceIdeal.τ).loc Cert.GradReferenceIdeal.main_arg8) = Bwd.iG m c := e8
  have f9 : m' ((c.tc : Thread Cert.GradReferenceIdeal.nD Cert.GradReferenceIdeal.τ).loc Cert.GradReferenceIdeal.main_arg9) = Bwd.iA m c := e9
  have f10 : m' ((c.tc : Thread Cert.GradReferenceIdeal.nD Cert.GradReferenceIdeal.τ).loc Cert.GradReferenceIdeal.main_arg10) = Bwd.iB m c := e10
  have f11 : m' ((c.tc : Thread Cert.GradReferenceIdeal.nD Cert.GradReferenceIdeal.τ).loc Cert.GradReferenceIdeal.main_arg11) = Bwd.iY m c := e11
  have f12 : m' ((c.tc : Thread Cert.GradReferenceIdeal.nD Cert.GradReferenceIdeal.τ).loc Cert.GradReferenceIdeal.main_arg12) = Bwd.iS m c := e12
  obtain ⟨h0, h1, h2, hargs⟩ := h c
  obtain ⟨r0, r1, r2⟩ := Bwd.results m c
  refine ⟨(h0.trans (Cert.GradReferenceIdeal.Read.val_main_v55_eq (F := Ideal) m' c)).trans (Eq.trans ?_ r0.symm),
    (h1.trans (Cert.GradReferenceIdeal.Read.val_main_v39_eq (F := Ideal) _ _ _ _ _ _ _ _ _ _ _)).trans (Eq.trans ?_ r1.symm),
    (h2.trans (Cert.GradReferenceIdeal.Read.val_main_v32_eq (F := Ideal) _ _ _ _ _ _ _ _ _ _ _)).trans (Eq.trans ?_ r2.symm), hargs⟩
  · rw [f0, f1, f2, f3, f4, f5, f6, f7, f8, f9, f10, f11, f12]
  · rw [f0, f2, f3, f5, f6, f7, f8, f9, f10, f11, f12]
  · rw [f0, f1, f3, f5, f6, f7, f8, f9, f10, f11, f12]

theorem claim : Cert.Claim :=
  haveI := Cert.Proof.Finite.facts
  ⟨Cert.Kernel.Gen.facts, Cert.KernelIdeal.Gen.facts, Cert.ReferenceIdeal.Gen.facts, Cert.Proj.Gen.facts, Cert.ProjIdeal.Gen.facts, Cert.ProjReferenceIdeal.Gen.facts,
    Cert.Grad.Gen.facts, Cert.GradIdeal.Gen.facts, Cert.GradReferenceIdeal.Gen.facts, Cert.Proof.Finite.facts,
    frame_p, frame_pi, frame_pi_finite, frame_ri, frame_ri_finite, frame_proj_p, frame_proj_pi, frame_proj_ri,
    frame_grad_p, frame_grad_pi, frame_grad_ri, preserves, algebraic, preserves_proj, algebraic_proj, preserves_grad, algebraic_grad⟩

end Cert.Proof

end
